-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Kernel13Ideal_finite13 [hPre_finite13 : Cert.Pre_finite13.Facts] (m : (ℓ : Loc Cert.Kernel13Ideal.nD Cert.Kernel13Ideal.τ Cert.Kernel13Ideal.sig) → Buf (Elt Ideal) ℓ) : Prop :=
  ∀ c : Dev Cert.Kernel13Ideal.nD,
    (Cert.Pre_finite13.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1))) = (fun _ => 1#1)

def Pre_Reference13Ideal (m : (ℓ : Loc Cert.Reference13Ideal.nD Cert.Reference13Ideal.τ Cert.Reference13Ideal.sig) → Buf (Elt Ideal) ℓ) : Prop :=
  True

def Pre_Reference13Ideal_finite13 [hPre_finite13 : Cert.Pre_finite13.Facts] (m : (ℓ : Loc Cert.Reference13Ideal.nD Cert.Reference13Ideal.τ Cert.Reference13Ideal.sig) → Buf (Elt Ideal) ℓ) : Prop :=
  ∀ c : Dev Cert.Reference13Ideal.nD,
    (Cert.Pre_finite13.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1))) = (fun _ => 1#1)

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Kernel13Ideal_pre_finite13 [hKernel13Ideal : Cert.Kernel13Ideal.Facts] [hPre_finite13 : Cert.Pre_finite13.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal_finite13 m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Reference13Ideal_pre_finite13 [hReference13Ideal : Cert.Reference13Ideal.Facts] [hPre_finite13 : Cert.Pre_finite13.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal_finite13 m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def preserves_Kernel_KernelIdeal : Prop :=
  IdealRules.named_const.Statement Cert.KernelIdeal.κ "linear" .f32 0x41A00000#32 ⊤
  ∧ IdealRules.named_const.Statement Cert.KernelIdeal.κ "exhausted" .f32 0x42DC0000#32 ⊤

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v31_0)) (v1 : (c : Dev Cert.KernelIdeal.nD) → Buf (Elt Ideal) ((c.tc : Thread Cert.KernelIdeal.nD Cert.KernelIdeal.τ).loc Cert.KernelIdeal.main_v31_1)) (v2 : (c : Dev Cert.KernelIdeal.nD) → Buf (Elt Ideal) ((c.tc : Thread Cert.KernelIdeal.nD Cert.KernelIdeal.τ).loc Cert.KernelIdeal.main_v31_2)) (v3 : (c : Dev Cert.KernelIdeal.nD) → Buf (Elt Ideal) ((c.tc : Thread Cert.KernelIdeal.nD Cert.KernelIdeal.τ).loc Cert.KernelIdeal.main_v31_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31_0) = v0 c
          ∧ r.2.mem ((c.tc : Thread Cert.KernelIdeal.nD Cert.KernelIdeal.τ).loc Cert.KernelIdeal.main_v31_1) = v1 c
          ∧ r.2.mem ((c.tc : Thread Cert.KernelIdeal.nD Cert.KernelIdeal.τ).loc Cert.KernelIdeal.main_v31_2) = v2 c
          ∧ r.2.mem ((c.tc : Thread Cert.KernelIdeal.nD Cert.KernelIdeal.τ).loc Cert.KernelIdeal.main_v31_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v71) = v1 c
          ∧ r.2.mem ((c.tc : Thread Cert.ReferenceIdeal.nD Cert.ReferenceIdeal.τ).loc Cert.ReferenceIdeal.main_v74) = v2 c
          ∧ r.2.mem ((c.tc : Thread Cert.ReferenceIdeal.nD Cert.ReferenceIdeal.τ).loc Cert.ReferenceIdeal.main_v77) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v8) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v1_0)) (v1 : (c : Dev Cert.Kernel10Ideal.nD) → Buf (Elt Ideal) ((c.tc : Thread Cert.Kernel10Ideal.nD Cert.Kernel10Ideal.τ).loc Cert.Kernel10Ideal.main_v1_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1_0) = v0 c
          ∧ r.2.mem ((c.tc : Thread Cert.Kernel10Ideal.nD Cert.Kernel10Ideal.τ).loc Cert.Kernel10Ideal.main_v1_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_v18) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v2_0)) (v1 : (c : Dev Cert.Kernel11Ideal.nD) → Buf (Elt Ideal) ((c.tc : Thread Cert.Kernel11Ideal.nD Cert.Kernel11Ideal.τ).loc Cert.Kernel11Ideal.main_v2_1)) (v2 : (c : Dev Cert.Kernel11Ideal.nD) → Buf (Elt Ideal) ((c.tc : Thread Cert.Kernel11Ideal.nD Cert.Kernel11Ideal.τ).loc Cert.Kernel11Ideal.main_v2_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2_0) = v0 c
          ∧ r.2.mem ((c.tc : Thread Cert.Kernel11Ideal.nD Cert.Kernel11Ideal.τ).loc Cert.Kernel11Ideal.main_v2_1) = v1 c
          ∧ r.2.mem ((c.tc : Thread Cert.Kernel11Ideal.nD Cert.Kernel11Ideal.τ).loc Cert.Kernel11Ideal.main_v2_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_v18) = v1 c
          ∧ r.2.mem ((c.tc : Thread Cert.Reference11Ideal.nD Cert.Reference11Ideal.τ).loc Cert.Reference11Ideal.main_v32) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  IdealRules.named_const.Statement Cert.Kernel13Ideal.κ "linear" .f32 0x41A00000#32 ⊤
  ∧ IdealRules.named_const.Statement Cert.Kernel13Ideal.κ "exhausted" .f32 0x42DC0000#32 ⊤

def algebraic_Kernel13Ideal_Reference13Ideal_on_written_pre_finite13 [hKernel13Ideal : Cert.Kernel13Ideal.Facts] [hReference13Ideal : Cert.Reference13Ideal.Facts] [hPre_finite13 : Cert.Pre_finite13.Facts] [hOn_written : Cert.On_written.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal_finite13 m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          (∀ i : (⟨2, ![8192, 2048]⟩ : Shape).Idx, (Cert.On_written.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1))).1 i = 1#1 → r.2.mem ((c.tc : Thread Cert.Kernel13Ideal.nD Cert.Kernel13Ideal.τ).loc Cert.Kernel13Ideal.main_v0_0) i = v0 c i)
          ∧ (∀ i : (⟨2, ![8192, 1536]⟩ : Shape).Idx, (Cert.On_written.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1))).2 i = 1#1 → r.2.mem ((c.tc : Thread Cert.Kernel13Ideal.nD Cert.Kernel13Ideal.τ).loc Cert.Kernel13Ideal.main_v0_1) i = v1 c i)
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          (∀ i : (⟨2, ![8192, 2048]⟩ : Shape).Idx, (Cert.On_written.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1))).1 i = 1#1 → r.2.mem ((c.tc : Thread Cert.Reference13Ideal.nD Cert.Reference13Ideal.τ).loc Cert.Reference13Ideal.main_v36) i = v0 c i)
          ∧ (∀ i : (⟨2, ![8192, 1536]⟩ : Shape).Idx, (Cert.On_written.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1))).2 i = 1#1 → r.2.mem ((c.tc : Thread Cert.Reference13Ideal.nD Cert.Reference13Ideal.τ).loc Cert.Reference13Ideal.main_v66) i = v1 c i)
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v1_0)) (v1 : (c : Dev Cert.Kernel14Ideal.nD) → Buf (Elt Ideal) ((c.tc : Thread Cert.Kernel14Ideal.nD Cert.Kernel14Ideal.τ).loc Cert.Kernel14Ideal.main_v1_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1_0) = v0 c
          ∧ r.2.mem ((c.tc : Thread Cert.Kernel14Ideal.nD Cert.Kernel14Ideal.τ).loc Cert.Kernel14Ideal.main_v1_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v36) = v0 c
          ∧ r.2.mem ((c.tc : Thread Cert.Reference14Ideal.nD Cert.Reference14Ideal.τ).loc Cert.Reference14Ideal.main_v37) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v1) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v13) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v4)) (v1 : (c : Dev Cert.Kernel16Ideal.nD) → Buf (Elt Ideal) ((c.tc : Thread Cert.Kernel16Ideal.nD Cert.Kernel16Ideal.τ).loc Cert.Kernel16Ideal.main_v1_0)) (v2 : (c : Dev Cert.Kernel16Ideal.nD) → Buf (Elt Ideal) ((c.tc : Thread Cert.Kernel16Ideal.nD Cert.Kernel16Ideal.τ).loc Cert.Kernel16Ideal.main_v1_1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v4) = v0 c
          ∧ r.2.mem ((c.tc : Thread Cert.Kernel16Ideal.nD Cert.Kernel16Ideal.τ).loc Cert.Kernel16Ideal.main_v1_0) = v1 c
          ∧ r.2.mem ((c.tc : Thread Cert.Kernel16Ideal.nD Cert.Kernel16Ideal.τ).loc Cert.Kernel16Ideal.main_v1_1) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v24) = v0 c
          ∧ r.2.mem ((c.tc : Thread Cert.Reference16Ideal.nD Cert.Reference16Ideal.τ).loc Cert.Reference16Ideal.main_v50) = v1 c
          ∧ r.2.mem ((c.tc : Thread Cert.Reference16Ideal.nD Cert.Reference16Ideal.τ).loc Cert.Reference16Ideal.main_v51) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v1) = v0 c
          ∧ r.2.mem ((c.tc : Thread Cert.Reference17Ideal.nD Cert.Reference17Ideal.τ).loc Cert.Reference17Ideal.main_v25) = v1 c
          ∧ r.2.mem ((c.tc : Thread Cert.Reference17Ideal.nD Cert.Reference17Ideal.τ).loc Cert.Reference17Ideal.main_v6) = v2 c
          ∧ r.2.mem ((c.tc : Thread Cert.Reference17Ideal.nD Cert.Reference17Ideal.τ).loc Cert.Reference17Ideal.main_v12) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hPre_finite : Cert.Pre_finite.Facts) (hPre_finite13 : Cert.Pre_finite13.Facts) (hOn_written : Cert.On_written.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Kernel13Ideal_pre_finite13 (hKernel13Ideal := hKernel13Ideal) (hPre_finite13 := hPre_finite13)
    ∧ quiescent_Reference13Ideal (hReference13Ideal := hReference13Ideal)
    ∧ quiescent_Reference13Ideal_pre_finite13 (hReference13Ideal := hReference13Ideal) (hPre_finite13 := hPre_finite13)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal_on_written_pre_finite13 (hKernel13Ideal := hKernel13Ideal) (hReference13Ideal := hReference13Ideal) (hPre_finite13 := hPre_finite13) (hOn_written := hOn_written)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
-- ==== On_written.lean ====
abbrev S8192x4096 : Shape := ⟨2, ![8192, 4096]⟩
abbrev S8192x3072 : Shape := ⟨2, ![8192, 3072]⟩
abbrev S2048 : Shape := ⟨1, ![2048]⟩
abbrev S_ : Shape := ⟨0, ![]⟩
abbrev S8192x2048 : Shape := ⟨2, ![8192, 2048]⟩
abbrev S8192x1536 : Shape := ⟨2, ![8192, 1536]⟩

class Facts : Prop where
  bcast_S_S2048 : S_.BroadcastsInDim S2048 (![] : Fin 0 → Fin S2048.rank)
  bcast_S2048_S8192x2048_1 : S2048.BroadcastsInDim S8192x2048 (![1] : Fin 1 → Fin S8192x2048.rank)
  bcast_S_S8192x1536 : S_.BroadcastsInDim S8192x1536 (![] : Fin 0 → Fin S8192x1536.rank)

variable [Facts]

def fn {F : FTy → Type} [FloatOps F] (main_arg0 : FVec F S8192x4096 .f32) (main_arg1 : FVec F S8192x3072 .bf16) : IVec S8192x2048 1 × IVec S8192x1536 1 :=
  let main_v0 : IVec S2048 32 := iotaInDim S2048 32 0
  let main_c : IVec S_ 32 := constantI S_ 32 1536#32
  let main_v1 : IVec S2048 32 := broadcastInDim S2048 ![] bcast_S_S2048 main_c
  let main_v2 : IVec S2048 1 := cmpi .slt main_v0 main_v1
  let main_v3 : IVec S8192x2048 1 := broadcastInDim S8192x2048 ![1] bcast_S2048_S8192x2048_1 main_v2
  let main_c_0 : IVec S_ 1 := constantI S_ 1 1#1
  let main_v4 : IVec S8192x1536 1 := broadcastInDim S8192x1536 ![] bcast_S_S8192x1536 main_c_0
  (main_v3, main_v4)
-- ==== Pre_finite.lean ====
abbrev S8192x2048 : Shape := ⟨2, ![8192, 2048]⟩
abbrev S8192x4096 : Shape := ⟨2, ![8192, 4096]⟩
abbrev S8192x3072 : Shape := ⟨2, ![8192, 3072]⟩
abbrev S8192x1536 : Shape := ⟨2, ![8192, 1536]⟩
abbrev S_ : Shape := ⟨0, ![]⟩

class Facts : Prop where
  slices_S8192x2048_S8192x1536_0_0 : S8192x2048.Slices ![0, 0] S8192x1536
  bcast_S_S8192x1536 : S_.BroadcastsInDim S8192x1536 (![] : Fin 0 → Fin S8192x1536.rank)
  reducesTo_S8192x1536_S_d0_1 : S8192x1536.ReducesTo [0, 1] S_
  h_S_ : 0 < S_.numel
  slices_S8192x4096_S8192x3072_0_0 : S8192x4096.Slices ![0, 0] S8192x3072
  bcast_S_S8192x3072 : S_.BroadcastsInDim S8192x3072 (![] : Fin 0 → Fin S8192x3072.rank)
  reducesTo_S8192x3072_S_d0_1 : S8192x3072.ReducesTo [0, 1] S_

variable [Facts]

def fn {F : FTy → Type} [FloatOps F] (main_arg0 : FVec F S8192x2048 .f32) (main_arg1 : FVec F S8192x4096 .f32) (main_arg2 : FVec F S8192x3072 .bf16) : IVec S_ 1 :=
  let main_v0 : FVec F S8192x1536 .f32 := (extractStridedSlice S8192x1536 ![0, 0] · slices_S8192x2048_S8192x1536_0_0) main_arg0
  let main_v1 : FVec F S8192x1536 .f32 := Host.absf main_v0
  let main_cst : FVec F S_ .f32 := constant S_ .f32 0x7F800000#32
  let main_v2 : FVec F S8192x1536 .f32 := broadcastInDim S8192x1536 ![] bcast_S_S8192x1536 main_cst
  let main_v3 : IVec S8192x1536 1 := cmpf .olt main_v1 main_v2
  let main_c : IVec S_ 1 := constantI S_ 1 1#1
  let main_v4 : IVec S_ 1 := (fun x v => Host.reduce IntOp.andi x v reducesTo_S8192x1536_S_d0_1 h_S_) main_v3 main_c
  let main_v5 : FVec F S8192x3072 .f32 := (extractStridedSlice S8192x3072 ![0, 0] · slices_S8192x4096_S8192x3072_0_0) main_arg1
  let main_v6 : FVec F S8192x3072 .f32 := Host.absf main_v5
  let main_cst_0 : FVec F S_ .f32 := constant S_ .f32 0x7F800000#32
  let main_v7 : FVec F S8192x3072 .f32 := broadcastInDim S8192x3072 ![] bcast_S_S8192x3072 main_cst_0
  let main_v8 : IVec S8192x3072 1 := cmpf .olt main_v6 main_v7
  let main_c_1 : IVec S_ 1 := constantI S_ 1 1#1
  let main_v9 : IVec S_ 1 := (fun x v => Host.reduce IntOp.andi x v reducesTo_S8192x3072_S_d0_1 h_S_) main_v8 main_c_1
  let main_v10 : IVec S_ 1 := andi main_v4 main_v9
  let main_v11 : FVec F S8192x3072 .bf16 := Host.absf main_arg2
  let main_cst_2 : FVec F S_ .bf16 := constant S_ .bf16 0x7F80#16
  let main_v12 : FVec F S8192x3072 .bf16 := broadcastInDim S8192x3072 ![] bcast_S_S8192x3072 main_cst_2
  let main_v13 : IVec S8192x3072 1 := cmpf .olt main_v11 main_v12
  let main_c_3 : IVec S_ 1 := constantI S_ 1 1#1
  let main_v14 : IVec S_ 1 := (fun x v => Host.reduce IntOp.andi x v reducesTo_S8192x3072_S_d0_1 h_S_) main_v13 main_c_3
  let main_v15 : IVec S_ 1 := andi main_v10 main_v14
  main_v15
-- ==== Pre_finite13.lean ====
abbrev S8192x4096 : Shape := ⟨2, ![8192, 4096]⟩
abbrev S8192x3072 : Shape := ⟨2, ![8192, 3072]⟩
abbrev S_ : Shape := ⟨0, ![]⟩

class Facts : Prop where
  slices_S8192x4096_S8192x3072_0_0 : S8192x4096.Slices ![0, 0] S8192x3072
  bcast_S_S8192x3072 : S_.BroadcastsInDim S8192x3072 (![] : Fin 0 → Fin S8192x3072.rank)
  reducesTo_S8192x3072_S_d0_1 : S8192x3072.ReducesTo [0, 1] S_
  h_S_ : 0 < S_.numel

variable [Facts]

def fn {F : FTy → Type} [FloatOps F] (main_arg0 : FVec F S8192x4096 .f32) (main_arg1 : FVec F S8192x3072 .bf16) : IVec S_ 1 :=
  let main_v0 : FVec F S8192x3072 .f32 := (extractStridedSlice S8192x3072 ![0, 0] · slices_S8192x4096_S8192x3072_0_0) main_arg0
  let main_v1 : FVec F S8192x3072 .f32 := Host.absf main_v0
  let main_cst : FVec F S_ .f32 := constant S_ .f32 0x7F800000#32
  let main_v2 : FVec F S8192x3072 .f32 := broadcastInDim S8192x3072 ![] bcast_S_S8192x3072 main_cst
  let main_v3 : IVec S8192x3072 1 := cmpf .olt main_v1 main_v2
  let main_c : IVec S_ 1 := constantI S_ 1 1#1
  let main_v4 : IVec S_ 1 := (fun x v => Host.reduce IntOp.andi x v reducesTo_S8192x3072_S_d0_1 h_S_) main_v3 main_c
  let main_v5 : FVec F S8192x3072 .bf16 := Host.absf main_arg1
  let main_cst_0 : FVec F S_ .bf16 := constant S_ .bf16 0x7F80#16
  let main_v6 : FVec F S8192x3072 .bf16 := broadcastInDim S8192x3072 ![] bcast_S_S8192x3072 main_cst_0
  let main_v7 : IVec S8192x3072 1 := cmpf .olt main_v5 main_v6
  let main_c_1 : IVec S_ 1 := constantI S_ 1 1#1
  let main_v8 : IVec S_ 1 := (fun x v => Host.reduce IntOp.andi x v reducesTo_S8192x3072_S_d0_1 h_S_) main_v7 main_c_1
  let main_v9 : IVec S_ 1 := andi main_v4 main_v8
  main_v9
-- ==== Kernel.lean ====
abbrev S8192x2048 : Shape := ⟨2, ![8192, 2048]⟩
abbrev S8192x4096 : Shape := ⟨2, ![8192, 4096]⟩
abbrev S8192x3072 : Shape := ⟨2, ![8192, 3072]⟩
abbrev S8192x1536 : Shape := ⟨2, ![8192, 1536]⟩
abbrev S8192x12x128 : Shape := ⟨3, ![8192, 12, 128]⟩
abbrev S12x8192x128 : Shape := ⟨3, ![12, 8192, 128]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S12x8192x8192 : Shape := ⟨3, ![12, 8192, 8192]⟩
abbrev S_ : Shape := ⟨0, ![]⟩
abbrev S12x32x128x256 : Shape := ⟨4, ![12, 32, 128, 256]⟩
abbrev S512x128 : Shape := ⟨2, ![512, 128]⟩
abbrev S8192x128 : Shape := ⟨2, ![8192, 128]⟩
abbrev S1x32x128x256 : Shape := ⟨4, ![1, 32, 128, 256]⟩
abbrev S32x128x256 : Shape := ⟨3, ![32, 128, 256]⟩
abbrev S128x512 : Shape := ⟨2, ![128, 512]⟩
abbrev S256x256 : Shape := ⟨2, ![256, 256]⟩
abbrev S512 : Shape := ⟨1, ![512]⟩
abbrev S512x1 : Shape := ⟨2, ![512, 1]⟩
abbrev S256x1 : Shape := ⟨2, ![256, 1]⟩
abbrev S256x128 : Shape := ⟨2, ![256, 128]⟩
abbrev S512x256 : Shape := ⟨2, ![512, 256]⟩
abbrev S1x1x128x256 : Shape := ⟨4, ![1, 1, 128, 256]⟩
abbrev S128x256 : Shape := ⟨2, ![128, 256]⟩
abbrev S256 : Shape := ⟨1, ![256]⟩
abbrev S1024x256 : Shape := ⟨2, ![1024, 256]⟩
abbrev S1x256x1 : Shape := ⟨3, ![1, 256, 1]⟩
abbrev S1 : Shape := ⟨1, ![1]⟩
abbrev S1x1x1 : Shape := ⟨3, ![1, 1, 1]⟩

abbrev nBuf : Space → Nat
  | .hbm => 79
  | .vmem => 20
  | .smem => 0
  | _ => 0

abbrev bufTy : (tb : Table) → Fin (tcTables nBuf tb) → BufTy
  | .hbm, ⟨0, _⟩ => ⟨S8192x2048, .f32⟩
  | .hbm, ⟨1, _⟩ => ⟨S8192x4096, .f32⟩
  | .hbm, ⟨2, _⟩ => ⟨S8192x3072, .bf16⟩
  | .hbm, ⟨3, _⟩ => ⟨S8192x3072, .f32⟩
  | .hbm, ⟨4, _⟩ => ⟨S8192x1536, .f32⟩
  | .hbm, ⟨5, _⟩ => ⟨S8192x1536, .f32⟩
  | .hbm, ⟨6, _⟩ => ⟨S8192x1536, .f32⟩
  | .hbm, ⟨7, _⟩ => ⟨S8192x12x128, .f32⟩
  | .hbm, ⟨8, _⟩ => ⟨S12x8192x128, .f32⟩
  | .hbm, ⟨9, _⟩ => ⟨S8192x12x128, .f32⟩
  | .hbm, ⟨10, _⟩ => ⟨S12x8192x128, .f32⟩
  | .hbm, ⟨11, _⟩ => ⟨S8192x12x128, .f32⟩
  | .hbm, ⟨12, _⟩ => ⟨S12x8192x128, .f32⟩
  | .hbm, ⟨13, _⟩ => ⟨S8192, .i32⟩
  | .hbm, ⟨14, _⟩ => ⟨S1x8192, .i32⟩
  | .hbm, ⟨15, _⟩ => ⟨S8192x1, .i32⟩
  | .hbm, ⟨16, _⟩ => ⟨S8192x8192, .i32⟩
  | .hbm, ⟨17, _⟩ => ⟨S8192x8192, .i32⟩
  | .hbm, ⟨18, _⟩ => ⟨S8192x8192, .i1⟩
  | .hbm, ⟨19, _⟩ => ⟨S12x8192x8192, .f32⟩
  | .hbm, ⟨20, _⟩ => ⟨S_, .f32⟩
  | .hbm, ⟨21, _⟩ => ⟨S12x8192x8192, .f32⟩
  | .hbm, ⟨22, _⟩ => ⟨S12x8192x8192, .f32⟩
  | .hbm, ⟨23, _⟩ => ⟨S12x8192x8192, .f32⟩
  | .hbm, ⟨24, _⟩ => ⟨S_, .f32⟩
  | .hbm, ⟨25, _⟩ => ⟨S12x8192x8192, .f32⟩
  | .hbm, ⟨26, _⟩ => ⟨S12x8192x8192, .f32⟩
  | .hbm, ⟨27, _⟩ => ⟨S12x8192x8192, .f32⟩
  | .hbm, ⟨28, _⟩ => ⟨S12x8192x8192, .f32⟩
  | .hbm, ⟨29, _⟩ => ⟨S12x8192x8192, .i1⟩
  | .hbm, ⟨30, _⟩ => ⟨S12x8192x8192, .f32⟩
  | .hbm, ⟨31, _⟩ => ⟨S12x8192x8192, .f32⟩
  | .hbm, ⟨32, _⟩ => ⟨S12x8192x8192, .f32⟩
  | .hbm, ⟨33, _⟩ => ⟨S12x8192x8192, .f32⟩
  | .hbm, ⟨34, _⟩ => ⟨S12x8192x8192, .f32⟩
  | .hbm, ⟨35, _⟩ => ⟨S12x8192x8192, .f32⟩
  | .hbm, ⟨36, _⟩ => ⟨S12x8192x8192, .f32⟩
  | .hbm, ⟨37, _⟩ => ⟨S12x8192x8192, .f32⟩
  | .hbm, ⟨38, _⟩ => ⟨S12x8192x8192, .f32⟩
  | .hbm, ⟨39, _⟩ => ⟨S12x8192x8192, .f32⟩
  | .hbm, ⟨40, _⟩ => ⟨S12x8192x8192, .f32⟩
  | .hbm, ⟨41, _⟩ => ⟨S_, .f32⟩
  | .hbm, ⟨42, _⟩ => ⟨S12x8192x8192, .f32⟩
  | .hbm, ⟨43, _⟩ => ⟨S12x8192x8192, .f32⟩
  | .hbm, ⟨44, _⟩ => ⟨S12x8192x8192, .f32⟩
  | .hbm, ⟨45, _⟩ => ⟨S12x8192x8192, .f32⟩
  | .hbm, ⟨46, _⟩ => ⟨S12x8192x8192, .i1⟩
  | .hbm, ⟨47, _⟩ => ⟨S12x8192x8192, .f32⟩
  | .hbm, ⟨48, _⟩ => ⟨S12x8192x8192, .f32⟩
  | .hbm, ⟨49, _⟩ => ⟨S12x8192x8192, .f32⟩
  | .hbm, ⟨50, _⟩ => ⟨S12x8192x8192, .f32⟩
  | .hbm, ⟨51, _⟩ => ⟨S12x8192x8192, .f32⟩
  | .hbm, ⟨52, _⟩ => ⟨S12x8192x8192, .f32⟩
  | .hbm, ⟨53, _⟩ => ⟨S12x8192x8192, .f32⟩
  | .hbm, ⟨54, _⟩ => ⟨S12x8192x8192, .f32⟩
  | .hbm, ⟨55, _⟩ => ⟨S12x8192x8192, .f32⟩
  | .hbm, ⟨56, _⟩ => ⟨S_, .f32⟩
  | .hbm, ⟨57, _⟩ => ⟨S_, .f32⟩
  | .hbm, ⟨58, _⟩ => ⟨S12x8192x8192, .i1⟩
  | .hbm, ⟨59, _⟩ => ⟨S12x8192x8192, .f32⟩
  | .hbm, ⟨60, _⟩ => ⟨S12x8192x8192, .f32⟩
  | .hbm, ⟨61, _⟩ => ⟨S_, .f32⟩
  | .hbm, ⟨62, _⟩ => ⟨S_, .f32⟩
  | .hbm, ⟨63, _⟩ => ⟨S12x8192x8192, .f32⟩
  | .hbm, ⟨64, _⟩ => ⟨S12x8192x8192, .f32⟩
  | .hbm, ⟨65, _⟩ => ⟨S12x8192x8192, .f32⟩
  | .hbm, ⟨66, _⟩ => ⟨S12x8192x8192, .f32⟩
  | .hbm, ⟨67, _⟩ => ⟨S_, .f32⟩
  | .hbm, ⟨68, _⟩ => ⟨S_, .f32⟩
  | .hbm, ⟨69, _⟩ => ⟨S12x8192x8192, .i1⟩
  | .hbm, ⟨70, _⟩ => ⟨S12x8192x8192, .f32⟩
  | .hbm, ⟨71, _⟩ => ⟨S12x8192x8192, .f32⟩
  | .hbm, ⟨72, _⟩ => ⟨S12x8192x128, .f32⟩
  | .hbm, ⟨73, _⟩ => ⟨S8192x12x128, .f32⟩
  | .hbm, ⟨74, _⟩ => ⟨S8192x1536, .f32⟩
  | .hbm, ⟨75, _⟩ => ⟨S8192x1536, .bf16⟩
  | .hbm, ⟨76, _⟩ => ⟨S8192x1536, .bf16⟩
  | .hbm, ⟨77, _⟩ => ⟨S12x32x128x256, .f32⟩
  | .hbm, ⟨78, _⟩ => ⟨S12x32x128x256, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S8192x128, .bf16⟩
  | .local _ .vmem, ⟨7, _⟩ => ⟨S8192x128, .bf16⟩
  | .local _ .vmem, ⟨8, _⟩ => ⟨S8192x128, .bf16⟩
  | .local _ .vmem, ⟨9, _⟩ => ⟨S8192x128, .bf16⟩
  | .local _ .vmem, ⟨10, _⟩ => ⟨S512x128, .f32⟩
  | .local _ .vmem, ⟨11, _⟩ => ⟨S512x128, .f32⟩
  | .local _ .vmem, ⟨12, _⟩ => ⟨S512x128, .bf16⟩
  | .local _ .vmem, ⟨13, _⟩ => ⟨S512x128, .bf16⟩
  | .local _ .vmem, ⟨14, _⟩ => ⟨S512x128, .bf16⟩
  | .local _ .vmem, ⟨15, _⟩ => ⟨S512x128, .bf16⟩
  | .local _ .vmem, ⟨16, _⟩ => ⟨S1x32x128x256, .f32⟩
  | .local _ .vmem, ⟨17, _⟩ => ⟨S1x32x128x256, .f32⟩
  | .local _ .vmem, ⟨18, _⟩ => ⟨S1x32x128x256, .f32⟩
  | .local _ .vmem, ⟨19, _⟩ => ⟨S1x32x128x256, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_cst : Ref sig .tc := ⟨.hbm, 20, rfl⟩
abbrev main_v17 : Ref sig .tc := ⟨.hbm, 21, rfl⟩
abbrev main_v18 : Ref sig .tc := ⟨.hbm, 22, rfl⟩
abbrev main_call0_v0 : Ref sig .tc := ⟨.hbm, 23, rfl⟩
abbrev main_call0_call0_cst : Ref sig .tc := ⟨.hbm, 24, rfl⟩
abbrev main_call0_call0_v0 : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_v7 : Ref sig .tc := ⟨.hbm, 32, rfl⟩
abbrev main_call0_call0_v8 : Ref sig .tc := ⟨.hbm, 33, rfl⟩
abbrev main_call0_call0_v9 : Ref sig .tc := ⟨.hbm, 34, rfl⟩
abbrev main_call0_call0_v10 : Ref sig .tc := ⟨.hbm, 35, rfl⟩
abbrev main_call0_call0_v11 : Ref sig .tc := ⟨.hbm, 36, rfl⟩
abbrev main_call0_v1 : Ref sig .tc := ⟨.hbm, 37, rfl⟩
abbrev main_v19 : Ref sig .tc := ⟨.hbm, 38, rfl⟩
abbrev main_v20 : Ref sig .tc := ⟨.hbm, 39, rfl⟩
abbrev main_call1_v0 : Ref sig .tc := ⟨.hbm, 40, rfl⟩
abbrev main_call1_call0_cst : Ref sig .tc := ⟨.hbm, 41, rfl⟩
abbrev main_call1_call0_v0 : Ref sig .tc := ⟨.hbm, 42, rfl⟩
abbrev main_call1_call0_v1 : Ref sig .tc := ⟨.hbm, 43, rfl⟩
abbrev main_call1_call0_v2 : Ref sig .tc := ⟨.hbm, 44, rfl⟩
abbrev main_call1_call0_v3 : Ref sig .tc := ⟨.hbm, 45, rfl⟩
abbrev main_call1_call0_v4 : Ref sig .tc := ⟨.hbm, 46, rfl⟩
abbrev main_call1_call0_v5 : Ref sig .tc := ⟨.hbm, 47, rfl⟩
abbrev main_call1_call0_v6 : Ref sig .tc := ⟨.hbm, 48, rfl⟩
abbrev main_call1_call0_v7 : Ref sig .tc := ⟨.hbm, 49, rfl⟩
abbrev main_call1_call0_v8 : Ref sig .tc := ⟨.hbm, 50, rfl⟩
abbrev main_call1_call0_v9 : Ref sig .tc := ⟨.hbm, 51, rfl⟩
abbrev main_call1_call0_v10 : Ref sig .tc := ⟨.hbm, 52, rfl⟩
abbrev main_call1_call0_v11 : Ref sig .tc := ⟨.hbm, 53, rfl⟩
abbrev main_call1_v1 : Ref sig .tc := ⟨.hbm, 54, rfl⟩
abbrev main_v21 : Ref sig .tc := ⟨.hbm, 55, rfl⟩
abbrev main_cst_0 : Ref sig .tc := ⟨.hbm, 56, rfl⟩
abbrev main_call2_v0 : Ref sig .tc := ⟨.hbm, 57, rfl⟩
abbrev main_call2_v1 : Ref sig .tc := ⟨.hbm, 58, rfl⟩
abbrev main_call2_v2 : Ref sig .tc := ⟨.hbm, 59, rfl⟩
abbrev main_v22 : Ref sig .tc := ⟨.hbm, 60, rfl⟩
abbrev main_call3_cst : Ref sig .tc := ⟨.hbm, 61, rfl⟩
abbrev main_call3_v0 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_cst_1 : Ref sig .tc := ⟨.hbm, 67, rfl⟩
abbrev main_call4_v0 : Ref sig .tc := ⟨.hbm, 68, rfl⟩
abbrev main_call4_v1 : Ref sig .tc := ⟨.hbm, 69, rfl⟩
abbrev main_call4_v2 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31_0 : Ref sig .tc := ⟨.hbm, 75, rfl⟩
abbrev main_v31_1 : Ref sig .tc := ⟨.hbm, 76, rfl⟩
abbrev main_v31_2 : Ref sig .tc := ⟨.hbm, 77, rfl⟩
abbrev main_v31_3 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![12, 16], ![false, false]⟩

def k0_mult1 (i : grid0.Coords) : BitVec 32 :=
  let c2_i32 : BitVec 32 := 2#32
  let arg1 : BitVec 32 := BitVec.ofNat 32 (i 1).val
  let v46 : BitVec 32 := Scalar.muli c2_i32 arg1
  let c1_i32 : BitVec 32 := 1#32
  let v47 : BitVec 32 := Scalar.addi v46 c1_i32
  let c256_i32 : BitVec 32 := 256#32
  let v56 : BitVec 32 := Scalar.muli v47 c256_i32
  v56
def k0_off1 (i : grid0.Coords) (c1_i32 : BitVec 32) : Fin 2 → Nat :=
  let c2_i32 : BitVec 32 := 2#32
  let arg1 : BitVec 32 := BitVec.ofNat 32 (i 1).val
  let v46 : BitVec 32 := Scalar.muli c2_i32 arg1
  let v47 : BitVec 32 := Scalar.addi v46 c1_i32
  let c256_i32 : BitVec 32 := 256#32
  let v56 : BitVec 32 := Scalar.muli v47 c256_i32
  let v57 : BitVec 32 := v56
  let v58 : Index := Scalar.indexCast v57
  let c0_19 : Index := 0#32
  ![v58.toNat, 0]
def k0_off2 (i : grid0.Coords) (c1_i32 : BitVec 32) : Fin 4 → Nat :=
  let c0_31 : Index := 0#32
  let c2_i32 : BitVec 32 := 2#32
  let arg1 : BitVec 32 := BitVec.ofNat 32 (i 1).val
  let v46 : BitVec 32 := Scalar.muli c2_i32 arg1
  let v47 : BitVec 32 := Scalar.addi v46 c1_i32
  let v115 : Index := Scalar.indexCast v47
  let c0_32 : Index := 0#32
  let c0_33 : Index := 0#32
  ![0, v115.toNat, 0, 0]
def k0_mult2 (i : grid0.Coords) : BitVec 32 :=
  let c2_i32_49 : BitVec 32 := 2#32
  let arg1 : BitVec 32 := BitVec.ofNat 32 (i 1).val
  let v152 : BitVec 32 := Scalar.muli c2_i32_49 arg1
  let c0_i32_50 : BitVec 32 := 0#32
  let v153 : BitVec 32 := Scalar.addi v152 c0_i32_50
  let c256_i32_52 : BitVec 32 := 256#32
  let v159 : BitVec 32 := Scalar.muli v153 c256_i32_52
  v159
def k0_mult3 (arg12 : BitVec 32) : BitVec 32 :=
  let c256_i32_92 : BitVec 32 := 256#32
  let v270 : BitVec 32 := Scalar.muli arg12 c256_i32_92
  v270

def k0_off3 (arg12 : BitVec 32) : Fin 2 → Nat :=
  let c256_i32_92 : BitVec 32 := 256#32
  let v270 : BitVec 32 := Scalar.muli arg12 c256_i32_92
  let v271 : BitVec 32 := v270
  let v272 : Index := Scalar.indexCast v271
  let c0_93 : Index := 0#32
  ![v272.toNat, 0]
def k0_off4 (arg12 : BitVec 32) : Fin 4 → Nat :=
  let c0_102 : Index := 0#32
  let v320 : Index := Scalar.indexCast arg12
  let c0_103 : Index := 0#32
  let c0_104 : Index := 0#32
  ![0, v320.toNat, 0, 0]

def k0_chk1 (arg12 : BitVec 32) : Prop :=
  (256 ∣ (k0_mult3 arg12).toNat) ∧
  (∀ a, (k0_off3 arg12) a + S256x128.size a ≤ S8192x128.size a) ∧
  (∀ a, (k0_off4 arg12) a + S1x1x128x256.size a ≤ S1x32x128x256.size a)
theorem k0_mult3_dvd : ∀ (arg12 : BitVec 32) (k0_hw1 : k0_chk1 arg12), 256 ∣ (k0_mult3 arg12).toNat := fun arg12 k0_hw1 => k0_hw1.1
theorem k0_off3_inb : ∀ (arg12 : BitVec 32) (k0_hw1 : k0_chk1 arg12), ∀ a, (k0_off3 arg12) a + S256x128.size a ≤ S8192x128.size a := fun arg12 k0_hw1 => k0_hw1.2.1
theorem k0_off4_inb : ∀ (arg12 : BitVec 32) (k0_hw1 : k0_chk1 arg12), ∀ a, (k0_off4 arg12) a + S1x1x128x256.size a ≤ S1x32x128x256.size a := fun arg12 k0_hw1 => k0_hw1.2.2

def k0_mult4 (arg12 : BitVec 32) : BitVec 32 :=
  let c256_i32_92 : BitVec 32 := 256#32
  let v270 : BitVec 32 := Scalar.muli arg12 c256_i32_92
  v270

def k0_off5 (arg12 : BitVec 32) : Fin 2 → Nat :=
  let c256_i32_92 : BitVec 32 := 256#32
  let v270 : BitVec 32 := Scalar.muli arg12 c256_i32_92
  let v271 : BitVec 32 := v270
  let v272 : Index := Scalar.indexCast v271
  let c0_93 : Index := 0#32
  ![v272.toNat, 0]
def k0_off6 (arg12 : BitVec 32) : Fin 4 → Nat :=
  let c0_102 : Index := 0#32
  let v323 : Index := Scalar.indexCast arg12
  let c0_103 : Index := 0#32
  let c0_104 : Index := 0#32
  ![0, v323.toNat, 0, 0]

def k0_chk2 (arg12 : BitVec 32) : Prop :=
  (256 ∣ (k0_mult4 arg12).toNat) ∧
  (∀ a, (k0_off5 arg12) a + S256x128.size a ≤ S8192x128.size a) ∧
  (∀ a, (k0_off6 arg12) a + S1x1x128x256.size a ≤ S1x32x128x256.size a)
theorem k0_mult4_dvd : ∀ (arg12 : BitVec 32) (k0_hw2 : k0_chk2 arg12), 256 ∣ (k0_mult4 arg12).toNat := fun arg12 k0_hw2 => k0_hw2.1
theorem k0_off5_inb : ∀ (arg12 : BitVec 32) (k0_hw2 : k0_chk2 arg12), ∀ a, (k0_off5 arg12) a + S256x128.size a ≤ S8192x128.size a := fun arg12 k0_hw2 => k0_hw2.2.1
theorem k0_off6_inb : ∀ (arg12 : BitVec 32) (k0_hw2 : k0_chk2 arg12), ∀ a, (k0_off6 arg12) a + S1x1x128x256.size a ≤ S1x32x128x256.size a := fun arg12 k0_hw2 => k0_hw2.2.2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8192x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x32x128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x32x128x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== KernelIdeal.lean ====
variable {F : FTy → Type} [FloatOps F] [Named F]
def κ : String → Option EReal := fun
  | "exhausted" => some ⊤
  | "linear" => some ⊤
  | _ => none
-- ==== ReferenceIdeal.lean ====
abbrev S8192x2048 : Shape := ⟨2, ![8192, 2048]⟩
abbrev S8192x4096 : Shape := ⟨2, ![8192, 4096]⟩
abbrev S8192x3072 : Shape := ⟨2, ![8192, 3072]⟩
abbrev S8192x1536 : Shape := ⟨2, ![8192, 1536]⟩
abbrev S8192x12x128 : Shape := ⟨3, ![8192, 12, 128]⟩
abbrev S12x8192x128 : Shape := ⟨3, ![12, 8192, 128]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S12x8192x8192 : Shape := ⟨3, ![12, 8192, 8192]⟩
abbrev S_ : Shape := ⟨0, ![]⟩
abbrev S12x128x8192 : Shape := ⟨3, ![12, 128, 8192]⟩
abbrev S32x256x12x128 : Shape := ⟨4, ![32, 256, 12, 128]⟩
abbrev S12x32x128x256 : Shape := ⟨4, ![12, 32, 128, 256]⟩

abbrev nBuf : Space → Nat
  | .hbm => 220
  | .vmem => 0
  | .smem => 0
  | _ => 0

abbrev hbmTy0_0 (i : Nat) : BufTy := match i % 128 with
  | 0 => ⟨S8192x2048, .f32⟩
  | 1 => ⟨S8192x4096, .f32⟩
  | 2 => ⟨S8192x3072, .bf16⟩
  | 3 => ⟨S8192x3072, .f32⟩
  | 4 => ⟨S8192x1536, .f32⟩
  | 5 => ⟨S8192x1536, .f32⟩
  | 6 => ⟨S8192x1536, .f32⟩
  | 7 => ⟨S8192x1536, .f32⟩
  | 8 => ⟨S8192x12x128, .f32⟩
  | 9 => ⟨S12x8192x128, .f32⟩
  | 10 => ⟨S8192x12x128, .f32⟩
  | 11 => ⟨S12x8192x128, .f32⟩
  | 12 => ⟨S8192x12x128, .f32⟩
  | 13 => ⟨S12x8192x128, .f32⟩
  | 14 => ⟨S8192, .i32⟩
  | 15 => ⟨S1x8192, .i32⟩
  | 16 => ⟨S8192x1, .i32⟩
  | 17 => ⟨S8192x8192, .i32⟩
  | 18 => ⟨S8192x8192, .i32⟩
  | 19 => ⟨S8192x8192, .i1⟩
  | 20 => ⟨S12x8192x8192, .f32⟩
  | 21 => ⟨S_, .f32⟩
  | 22 => ⟨S12x8192x8192, .f32⟩
  | 23 => ⟨S12x8192x8192, .f32⟩
  | 24 => ⟨S12x8192x8192, .f32⟩
  | 25 => ⟨S_, .f32⟩
  | 26 => ⟨S12x8192x8192, .f32⟩
  | 27 => ⟨S12x8192x8192, .f32⟩
  | 28 => ⟨S12x8192x8192, .f32⟩
  | 29 => ⟨S12x8192x8192, .f32⟩
  | 30 => ⟨S12x8192x8192, .i1⟩
  | 31 => ⟨S12x8192x8192, .f32⟩
  | 32 => ⟨S12x8192x8192, .f32⟩
  | 33 => ⟨S12x8192x8192, .f32⟩
  | 34 => ⟨S12x8192x8192, .f32⟩
  | 35 => ⟨S12x8192x8192, .f32⟩
  | 36 => ⟨S12x8192x8192, .f32⟩
  | 37 => ⟨S12x8192x8192, .f32⟩
  | 38 => ⟨S12x8192x8192, .f32⟩
  | 39 => ⟨S_, .f32⟩
  | 40 => ⟨S12x8192x8192, .f32⟩
  | 41 => ⟨S12x8192x8192, .i1⟩
  | 42 => ⟨S_, .f32⟩
  | 43 => ⟨S12x8192x8192, .f32⟩
  | 44 => ⟨S12x8192x8192, .f32⟩
  | 45 => ⟨S_, .f32⟩
  | 46 => ⟨S12x8192x8192, .f32⟩
  | 47 => ⟨S12x8192x8192, .i1⟩
  | 48 => ⟨S_, .f32⟩
  | 49 => ⟨S12x8192x8192, .f32⟩
  | 50 => ⟨S12x8192x8192, .f32⟩
  | 51 => ⟨S12x8192x8192, .f32⟩
  | 52 => ⟨S12x8192x8192, .f32⟩
  | 53 => ⟨S_, .f32⟩
  | 54 => ⟨S_, .f32⟩
  | 55 => ⟨S_, .i1⟩
  | 56 => ⟨S_, .f32⟩
  | 57 => ⟨S_, .f32⟩
  | 58 => ⟨S_, .f32⟩
  | 59 => ⟨S_, .f32⟩
  | 60 => ⟨S12x8192x8192, .f32⟩
  | 61 => ⟨S12x8192x8192, .i1⟩
  | 62 => ⟨S_, .f32⟩
  | 63 => ⟨S12x8192x8192, .f32⟩
  | 64 => ⟨S12x8192x8192, .f32⟩
  | 65 => ⟨S12x8192x8192, .f32⟩
  | 66 => ⟨S12x8192x8192, .f32⟩
  | 67 => ⟨S12x8192x8192, .f32⟩
  | 68 => ⟨S_, .f32⟩
  | 69 => ⟨S12x8192x8192, .f32⟩
  | 70 => ⟨S12x8192x8192, .f32⟩
  | 71 => ⟨S12x8192x8192, .f32⟩
  | 72 => ⟨S12x8192x8192, .f32⟩
  | 73 => ⟨S12x8192x8192, .f32⟩
  | 74 => ⟨S_, .f32⟩
  | 75 => ⟨S12x8192x8192, .f32⟩
  | 76 => ⟨S12x8192x8192, .f32⟩
  | 77 => ⟨S12x8192x8192, .f32⟩
  | 78 => ⟨S12x8192x8192, .f32⟩
  | 79 => ⟨S12x8192x8192, .i1⟩
  | 80 => ⟨S12x8192x8192, .f32⟩
  | 81 => ⟨S12x8192x8192, .f32⟩
  | 82 => ⟨S12x8192x8192, .f32⟩
  | 83 => ⟨S12x8192x8192, .f32⟩
  | 84 => ⟨S12x8192x8192, .f32⟩
  | 85 => ⟨S12x8192x8192, .f32⟩
  | 86 => ⟨S12x8192x8192, .f32⟩
  | 87 => ⟨S12x8192x8192, .f32⟩
  | 88 => ⟨S_, .f32⟩
  | 89 => ⟨S12x8192x8192, .f32⟩
  | 90 => ⟨S12x8192x8192, .i1⟩
  | 91 => ⟨S_, .f32⟩
  | 92 => ⟨S12x8192x8192, .f32⟩
  | 93 => ⟨S12x8192x8192, .f32⟩
  | 94 => ⟨S_, .f32⟩
  | 95 => ⟨S12x8192x8192, .f32⟩
  | 96 => ⟨S12x8192x8192, .i1⟩
  | 97 => ⟨S_, .f32⟩
  | 98 => ⟨S12x8192x8192, .f32⟩
  | 99 => ⟨S12x8192x8192, .f32⟩
  | 100 => ⟨S12x8192x8192, .f32⟩
  | 101 => ⟨S12x8192x8192, .f32⟩
  | 102 => ⟨S_, .f32⟩
  | 103 => ⟨S_, .f32⟩
  | 104 => ⟨S_, .i1⟩
  | 105 => ⟨S_, .f32⟩
  | 106 => ⟨S_, .f32⟩
  | 107 => ⟨S_, .f32⟩
  | 108 => ⟨S_, .f32⟩
  | 109 => ⟨S12x8192x8192, .f32⟩
  | 110 => ⟨S12x8192x8192, .i1⟩
  | 111 => ⟨S_, .f32⟩
  | 112 => ⟨S12x8192x8192, .f32⟩
  | 113 => ⟨S12x8192x8192, .f32⟩
  | 114 => ⟨S12x8192x8192, .f32⟩
  | 115 => ⟨S12x8192x8192, .f32⟩
  | 116 => ⟨S12x8192x8192, .f32⟩
  | 117 => ⟨S_, .f32⟩
  | 118 => ⟨S12x8192x8192, .f32⟩
  | 119 => ⟨S12x8192x8192, .f32⟩
  | 120 => ⟨S12x8192x8192, .f32⟩
  | 121 => ⟨S_, .f32⟩
  | 122 => ⟨S_, .f32⟩
  | 123 => ⟨S12x8192x8192, .i1⟩
  | 124 => ⟨S12x8192x8192, .f32⟩
  | 125 => ⟨S12x8192x8192, .f32⟩
  | 126 => ⟨S_, .f32⟩
  | 127 => ⟨S12x8192x8192, .f32⟩
  | _ => ⟨S8192x2048, .f32⟩

abbrev hbmTy0_1 (i : Nat) : BufTy := match i % 128 with
  | 0 => ⟨S_, .f32⟩
  | 1 => ⟨S_, .f32⟩
  | 2 => ⟨S12x8192x8192, .f32⟩
  | 3 => ⟨S12x8192x8192, .f32⟩
  | 4 => ⟨S12x8192x8192, .f32⟩
  | 5 => ⟨S12x8192x8192, .f32⟩
  | 6 => ⟨S_, .f32⟩
  | 7 => ⟨S_, .f32⟩
  | 8 => ⟨S12x8192x8192, .i1⟩
  | 9 => ⟨S12x8192x8192, .f32⟩
  | 10 => ⟨S12x8192x8192, .f32⟩
  | 11 => ⟨S_, .f32⟩
  | 12 => ⟨S12x8192x8192, .f32⟩
  | 13 => ⟨S12x8192x128, .f32⟩
  | 14 => ⟨S8192x12x128, .f32⟩
  | 15 => ⟨S8192x1536, .f32⟩
  | 16 => ⟨S8192x1536, .f32⟩
  | 17 => ⟨S8192x1536, .f32⟩
  | 18 => ⟨S_, .f32⟩
  | 19 => ⟨S8192x1536, .f32⟩
  | 20 => ⟨S8192x1536, .f32⟩
  | 21 => ⟨S_, .f32⟩
  | 22 => ⟨S8192x1536, .f32⟩
  | 23 => ⟨S8192x1536, .f32⟩
  | 24 => ⟨S_, .f32⟩
  | 25 => ⟨S8192x1536, .f32⟩
  | 26 => ⟨S8192x1536, .f32⟩
  | 27 => ⟨S8192x1536, .f32⟩
  | 28 => ⟨S8192x1536, .f32⟩
  | 29 => ⟨S8192x1536, .f32⟩
  | 30 => ⟨S8192x1536, .f32⟩
  | 31 => ⟨S8192x1536, .f32⟩
  | 32 => ⟨S8192x1536, .f32⟩
  | 33 => ⟨S8192x1536, .f32⟩
  | 34 => ⟨S8192x1536, .f32⟩
  | 35 => ⟨S8192x1536, .f32⟩
  | 36 => ⟨S8192x1536, .f32⟩
  | 37 => ⟨S8192x12x128, .f32⟩
  | 38 => ⟨S12x8192x128, .f32⟩
  | 39 => ⟨S12x128x8192, .f32⟩
  | 40 => ⟨S12x8192x128, .f32⟩
  | 41 => ⟨S12x8192x8192, .f32⟩
  | 42 => ⟨S_, .f32⟩
  | 43 => ⟨S12x8192x8192, .f32⟩
  | 44 => ⟨S12x8192x8192, .f32⟩
  | 45 => ⟨S12x8192x8192, .f32⟩
  | 46 => ⟨S12x8192x8192, .f32⟩
  | 47 => ⟨S_, .f32⟩
  | 48 => ⟨S_, .f32⟩
  | 49 => ⟨S12x8192x8192, .f32⟩
  | 50 => ⟨S12x8192x8192, .f32⟩
  | 51 => ⟨S_, .f32⟩
  | 52 => ⟨S12x8192x8192, .f32⟩
  | 53 => ⟨S12x8192x8192, .f32⟩
  | 54 => ⟨S12x8192x8192, .f32⟩
  | 55 => ⟨S12x8192x8192, .f32⟩
  | 56 => ⟨S12x8192x8192, .f32⟩
  | 57 => ⟨S12x8192x8192, .f32⟩
  | 58 => ⟨S12x8192x8192, .f32⟩
  | 59 => ⟨S12x8192x8192, .f32⟩
  | 60 => ⟨S12x8192x8192, .f32⟩
  | 61 => ⟨S12x8192x8192, .f32⟩
  | 62 => ⟨S_, .f32⟩
  | 63 => ⟨S12x8192x8192, .f32⟩
  | 64 => ⟨S12x8192x8192, .f32⟩
  | 65 => ⟨S12x8192x128, .f32⟩
  | 66 => ⟨S12x8192x128, .f32⟩
  | 67 => ⟨S8192x12x128, .f32⟩
  | 68 => ⟨S8192x1536, .f32⟩
  | 69 => ⟨S8192x12x128, .f32⟩
  | 70 => ⟨S8192x1536, .f32⟩
  | 71 => ⟨S8192x12x128, .f32⟩
  | 72 => ⟨S8192x1536, .f32⟩
  | 73 => ⟨S_, .f32⟩
  | 74 => ⟨S8192x3072, .f32⟩
  | 75 => ⟨S_, .f32⟩
  | 76 => ⟨S8192x3072, .f32⟩
  | 77 => ⟨S8192x3072, .f32⟩
  | 78 => ⟨S_, .f32⟩
  | 79 => ⟨S8192x4096, .f32⟩
  | 80 => ⟨S_, .f32⟩
  | 81 => ⟨S8192x4096, .f32⟩
  | 82 => ⟨S8192x4096, .f32⟩
  | 83 => ⟨S8192x4096, .bf16⟩
  | 84 => ⟨S8192x1536, .bf16⟩
  | 85 => ⟨S8192x1536, .bf16⟩
  | 86 => ⟨S8192x1536, .f32⟩
  | 87 => ⟨S32x256x12x128, .f32⟩
  | 88 => ⟨S12x32x128x256, .f32⟩
  | 89 => ⟨S8192x1536, .f32⟩
  | 90 => ⟨S32x256x12x128, .f32⟩
  | 91 => ⟨S12x32x128x256, .f32⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_cst : Ref sig .tc := ⟨.hbm, 21, rfl⟩
abbrev main_v18 : Ref sig .tc := ⟨.hbm, 22, rfl⟩
abbrev main_v19 : Ref sig .tc := ⟨.hbm, 23, rfl⟩
abbrev main_call0_v0 : Ref sig .tc := ⟨.hbm, 24, rfl⟩
abbrev main_call0_call0_cst : Ref sig .tc := ⟨.hbm, 25, rfl⟩
abbrev main_call0_call0_v0 : Ref sig .tc := ⟨.hbm, 26, rfl⟩
abbrev main_call0_call0_v1 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_v4 : Ref sig .tc := ⟨.hbm, 30, rfl⟩
abbrev main_call0_call0_v5 : Ref sig .tc := ⟨.hbm, 31, rfl⟩
abbrev main_call0_call0_v6 : Ref sig .tc := ⟨.hbm, 32, rfl⟩
abbrev main_call0_call0_v7 : Ref sig .tc := ⟨.hbm, 33, rfl⟩
abbrev main_call0_call0_v8 : Ref sig .tc := ⟨.hbm, 34, rfl⟩
abbrev main_call0_call0_v9 : Ref sig .tc := ⟨.hbm, 35, rfl⟩
abbrev main_call0_call0_v10 : Ref sig .tc := ⟨.hbm, 36, rfl⟩
abbrev main_call0_call0_v11 : Ref sig .tc := ⟨.hbm, 37, rfl⟩
abbrev main_call0_v1_0 : Ref sig .tc := ⟨.hbm, 38, rfl⟩
abbrev main_call0_call0_cst_0 : Ref sig .tc := ⟨.hbm, 39, rfl⟩
abbrev main_call0_call0_v13 : Ref sig .tc := ⟨.hbm, 40, rfl⟩
abbrev main_call0_call0_v14 : Ref sig .tc := ⟨.hbm, 41, rfl⟩
abbrev main_call0_call0_cst_1 : Ref sig .tc := ⟨.hbm, 42, rfl⟩
abbrev main_call0_call0_v15 : Ref sig .tc := ⟨.hbm, 43, rfl⟩
abbrev main_call0_call0_v16 : Ref sig .tc := ⟨.hbm, 44, rfl⟩
abbrev main_call0_call0_cst_2 : Ref sig .tc := ⟨.hbm, 45, rfl⟩
abbrev main_call0_call0_v17 : Ref sig .tc := ⟨.hbm, 46, rfl⟩
abbrev main_call0_call0_v18 : Ref sig .tc := ⟨.hbm, 47, rfl⟩
abbrev main_call0_call0_cst_3 : Ref sig .tc := ⟨.hbm, 48, rfl⟩
abbrev main_call0_call0_v19 : Ref sig .tc := ⟨.hbm, 49, rfl⟩
abbrev main_call0_call0_v20 : Ref sig .tc := ⟨.hbm, 50, rfl⟩
abbrev main_call0_call0_v21 : Ref sig .tc := ⟨.hbm, 51, rfl⟩
abbrev main_v20_1 : Ref sig .tc := ⟨.hbm, 52, rfl⟩
abbrev main_call0_call0_cst_4 : Ref sig .tc := ⟨.hbm, 53, rfl⟩
abbrev main_call0_call0_cst_5 : Ref sig .tc := ⟨.hbm, 54, rfl⟩
abbrev main_call0_call0_v23 : Ref sig .tc := ⟨.hbm, 55, rfl⟩
abbrev main_call0_call0_cst_6 : Ref sig .tc := ⟨.hbm, 56, rfl⟩
abbrev main_call0_call0_cst_7 : Ref sig .tc := ⟨.hbm, 57, rfl⟩
abbrev main_call0_call0_v24 : Ref sig .tc := ⟨.hbm, 58, rfl⟩
abbrev main_call0_call0_cst_8 : Ref sig .tc := ⟨.hbm, 59, rfl⟩
abbrev main_call0_call0_v25 : Ref sig .tc := ⟨.hbm, 60, rfl⟩
abbrev main_call0_call0_v26 : Ref sig .tc := ⟨.hbm, 61, rfl⟩
abbrev main_call0_call0_cst_9 : Ref sig .tc := ⟨.hbm, 62, rfl⟩
abbrev main_call0_call0_v27 : Ref sig .tc := ⟨.hbm, 63, rfl⟩
abbrev main_call0_call0_v28 : Ref sig .tc := ⟨.hbm, 64, rfl⟩
abbrev main_call0_call0_v29 : Ref sig .tc := ⟨.hbm, 65, rfl⟩
abbrev main_call0_call0_v30 : Ref sig .tc := ⟨.hbm, 66, rfl⟩
abbrev main_call0_call0_v31 : Ref sig .tc := ⟨.hbm, 67, rfl⟩
abbrev main_call0_call0_cst_10 : Ref sig .tc := ⟨.hbm, 68, rfl⟩
abbrev main_call0_call0_v32 : Ref sig .tc := ⟨.hbm, 69, rfl⟩
abbrev main_v20_2 : Ref sig .tc := ⟨.hbm, 70, rfl⟩
abbrev main_v20_0 : Ref sig .tc := ⟨.hbm, 71, rfl⟩
abbrev main_v21 : Ref sig .tc := ⟨.hbm, 72, rfl⟩
abbrev main_call1_v0 : Ref sig .tc := ⟨.hbm, 73, rfl⟩
abbrev main_call1_call0_cst : Ref sig .tc := ⟨.hbm, 74, rfl⟩
abbrev main_call1_call0_v0 : Ref sig .tc := ⟨.hbm, 75, rfl⟩
abbrev main_call1_call0_v1 : Ref sig .tc := ⟨.hbm, 76, rfl⟩
abbrev main_call1_call0_v2 : Ref sig .tc := ⟨.hbm, 77, rfl⟩
abbrev main_call1_call0_v3 : Ref sig .tc := ⟨.hbm, 78, rfl⟩
abbrev main_call1_call0_v4 : Ref sig .tc := ⟨.hbm, 79, rfl⟩
abbrev main_call1_call0_v5 : Ref sig .tc := ⟨.hbm, 80, rfl⟩
abbrev main_call1_call0_v6 : Ref sig .tc := ⟨.hbm, 81, rfl⟩
abbrev main_call1_call0_v7 : Ref sig .tc := ⟨.hbm, 82, rfl⟩
abbrev main_call1_call0_v8 : Ref sig .tc := ⟨.hbm, 83, rfl⟩
abbrev main_call1_call0_v9 : Ref sig .tc := ⟨.hbm, 84, rfl⟩
abbrev main_call1_call0_v10 : Ref sig .tc := ⟨.hbm, 85, rfl⟩
abbrev main_call1_call0_v11 : Ref sig .tc := ⟨.hbm, 86, rfl⟩
abbrev main_call1_v1_0 : Ref sig .tc := ⟨.hbm, 87, rfl⟩
abbrev main_call1_call0_cst_0 : Ref sig .tc := ⟨.hbm, 88, rfl⟩
abbrev main_call1_call0_v13 : Ref sig .tc := ⟨.hbm, 89, rfl⟩
abbrev main_call1_call0_v14 : Ref sig .tc := ⟨.hbm, 90, rfl⟩
abbrev main_call1_call0_cst_1 : Ref sig .tc := ⟨.hbm, 91, rfl⟩
abbrev main_call1_call0_v15 : Ref sig .tc := ⟨.hbm, 92, rfl⟩
abbrev main_call1_call0_v16 : Ref sig .tc := ⟨.hbm, 93, rfl⟩
abbrev main_call1_call0_cst_2 : Ref sig .tc := ⟨.hbm, 94, rfl⟩
abbrev main_call1_call0_v17 : Ref sig .tc := ⟨.hbm, 95, rfl⟩
abbrev main_call1_call0_v18 : Ref sig .tc := ⟨.hbm, 96, rfl⟩
abbrev main_call1_call0_cst_3 : Ref sig .tc := ⟨.hbm, 97, rfl⟩
abbrev main_call1_call0_v19 : Ref sig .tc := ⟨.hbm, 98, rfl⟩
abbrev main_call1_call0_v20 : Ref sig .tc := ⟨.hbm, 99, rfl⟩
abbrev main_call1_call0_v21 : Ref sig .tc := ⟨.hbm, 100, rfl⟩
abbrev main_v22_1 : Ref sig .tc := ⟨.hbm, 101, rfl⟩
abbrev main_call1_call0_cst_4 : Ref sig .tc := ⟨.hbm, 102, rfl⟩
abbrev main_call1_call0_cst_5 : Ref sig .tc := ⟨.hbm, 103, rfl⟩
abbrev main_call1_call0_v23 : Ref sig .tc := ⟨.hbm, 104, rfl⟩
abbrev main_call1_call0_cst_6 : Ref sig .tc := ⟨.hbm, 105, rfl⟩
abbrev main_call1_call0_cst_7 : Ref sig .tc := ⟨.hbm, 106, rfl⟩
abbrev main_call1_call0_v24 : Ref sig .tc := ⟨.hbm, 107, rfl⟩
abbrev main_call1_call0_cst_8 : Ref sig .tc := ⟨.hbm, 108, rfl⟩
abbrev main_call1_call0_v25 : Ref sig .tc := ⟨.hbm, 109, rfl⟩
abbrev main_call1_call0_v26 : Ref sig .tc := ⟨.hbm, 110, rfl⟩
abbrev main_call1_call0_cst_9 : Ref sig .tc := ⟨.hbm, 111, rfl⟩
abbrev main_call1_call0_v27 : Ref sig .tc := ⟨.hbm, 112, rfl⟩
abbrev main_call1_call0_v28 : Ref sig .tc := ⟨.hbm, 113, rfl⟩
abbrev main_call1_call0_v29 : Ref sig .tc := ⟨.hbm, 114, rfl⟩
abbrev main_call1_call0_v30 : Ref sig .tc := ⟨.hbm, 115, rfl⟩
abbrev main_call1_call0_v31 : Ref sig .tc := ⟨.hbm, 116, rfl⟩
abbrev main_call1_call0_cst_10 : Ref sig .tc := ⟨.hbm, 117, rfl⟩
abbrev main_call1_call0_v32 : Ref sig .tc := ⟨.hbm, 118, rfl⟩
abbrev main_v22_2 : Ref sig .tc := ⟨.hbm, 119, rfl⟩
abbrev main_v22_0 : Ref sig .tc := ⟨.hbm, 120, rfl⟩
abbrev main_cst_0 : Ref sig .tc := ⟨.hbm, 121, rfl⟩
abbrev main_call2_v0 : Ref sig .tc := ⟨.hbm, 122, rfl⟩
abbrev main_v23_1 : Ref sig .tc := ⟨.hbm, 123, rfl⟩
abbrev main_call2_v2 : Ref sig .tc := ⟨.hbm, 124, rfl⟩
abbrev main_v23_0 : Ref sig .tc := ⟨.hbm, 125, rfl⟩
abbrev main_call2_cst : Ref sig .tc := ⟨.hbm, 126, rfl⟩
abbrev main_v23_2 : Ref sig .tc := ⟨.hbm, 127, rfl⟩
abbrev main_call3_cst : Ref sig .tc := ⟨.hbm, 128, rfl⟩
abbrev main_call3_v0 : Ref sig .tc := ⟨.hbm, 129, rfl⟩
abbrev main_v24 : Ref sig .tc := ⟨.hbm, 130, rfl⟩
abbrev main_v25 : Ref sig .tc := ⟨.hbm, 131, rfl⟩
abbrev main_v26 : Ref sig .tc := ⟨.hbm, 132, rfl⟩
abbrev main_v27 : Ref sig .tc := ⟨.hbm, 133, rfl⟩
abbrev main_cst_1 : Ref sig .tc := ⟨.hbm, 134, rfl⟩
abbrev main_call4_v0 : Ref sig .tc := ⟨.hbm, 135, rfl⟩
abbrev main_v28_1 : Ref sig .tc := ⟨.hbm, 136, rfl⟩
abbrev main_call4_v2 : Ref sig .tc := ⟨.hbm, 137, rfl⟩
abbrev main_v28_0 : Ref sig .tc := ⟨.hbm, 138, rfl⟩
abbrev main_call4_cst : Ref sig .tc := ⟨.hbm, 139, rfl⟩
abbrev main_v28_2 : Ref sig .tc := ⟨.hbm, 140, rfl⟩
abbrev main_v29 : Ref sig .tc := ⟨.hbm, 141, rfl⟩
abbrev main_v30 : Ref sig .tc := ⟨.hbm, 142, rfl⟩
abbrev main_v31 : Ref sig .tc := ⟨.hbm, 143, rfl⟩
abbrev main_call5_v0 : Ref sig .tc := ⟨.hbm, 144, rfl⟩
abbrev main_call5_v1 : Ref sig .tc := ⟨.hbm, 145, rfl⟩
abbrev main_call5_cst : Ref sig .tc := ⟨.hbm, 146, rfl⟩
abbrev main_call5_v2 : Ref sig .tc := ⟨.hbm, 147, rfl⟩
abbrev main_call5_v3 : Ref sig .tc := ⟨.hbm, 148, rfl⟩
abbrev main_call5_cst_0 : Ref sig .tc := ⟨.hbm, 149, rfl⟩
abbrev main_call5_v4 : Ref sig .tc := ⟨.hbm, 150, rfl⟩
abbrev main_v32_2 : Ref sig .tc := ⟨.hbm, 151, rfl⟩
abbrev main_call5_cst_1 : Ref sig .tc := ⟨.hbm, 152, rfl⟩
abbrev main_call5_v6 : Ref sig .tc := ⟨.hbm, 153, rfl⟩
abbrev main_call5_v7 : Ref sig .tc := ⟨.hbm, 154, rfl⟩
abbrev main_v32_1 : Ref sig .tc := ⟨.hbm, 155, rfl⟩
abbrev main_v32_0 : Ref sig .tc := ⟨.hbm, 156, rfl⟩
abbrev main_v33 : Ref sig .tc := ⟨.hbm, 157, rfl⟩
abbrev main_v34 : Ref sig .tc := ⟨.hbm, 158, rfl⟩
abbrev main_v35 : Ref sig .tc := ⟨.hbm, 159, rfl⟩
abbrev main_v36 : Ref sig .tc := ⟨.hbm, 160, rfl⟩
abbrev main_call6_v0 : Ref sig .tc := ⟨.hbm, 161, rfl⟩
abbrev main_call6_v1 : Ref sig .tc := ⟨.hbm, 162, rfl⟩
abbrev main_call6_v2 : Ref sig .tc := ⟨.hbm, 163, rfl⟩
abbrev main_v37 : Ref sig .tc := ⟨.hbm, 164, rfl⟩
abbrev main_v38 : Ref sig .tc := ⟨.hbm, 165, rfl⟩
abbrev main_v39 : Ref sig .tc := ⟨.hbm, 166, rfl⟩
abbrev main_v40 : Ref sig .tc := ⟨.hbm, 167, rfl⟩
abbrev main_v41 : Ref sig .tc := ⟨.hbm, 168, rfl⟩
abbrev main_v42 : Ref sig .tc := ⟨.hbm, 169, rfl⟩
abbrev main_call7_cst : Ref sig .tc := ⟨.hbm, 170, rfl⟩
abbrev main_call7_v0 : Ref sig .tc := ⟨.hbm, 171, rfl⟩
abbrev main_v43 : Ref sig .tc := ⟨.hbm, 172, rfl⟩
abbrev main_v44 : Ref sig .tc := ⟨.hbm, 173, rfl⟩
abbrev main_v45 : Ref sig .tc := ⟨.hbm, 174, rfl⟩
abbrev main_call8_cst : Ref sig .tc := ⟨.hbm, 175, rfl⟩
abbrev main_call8_v0 : Ref sig .tc := ⟨.hbm, 176, rfl⟩
abbrev main_v46 : Ref sig .tc := ⟨.hbm, 177, rfl⟩
abbrev main_v47 : Ref sig .tc := ⟨.hbm, 178, rfl⟩
abbrev main_call9_cst : Ref sig .tc := ⟨.hbm, 179, rfl⟩
abbrev main_call9_v0 : Ref sig .tc := ⟨.hbm, 180, rfl⟩
abbrev main_v48 : Ref sig .tc := ⟨.hbm, 181, rfl⟩
abbrev main_call10_v0 : Ref sig .tc := ⟨.hbm, 182, rfl⟩
abbrev main_call10_v1 : Ref sig .tc := ⟨.hbm, 183, rfl⟩
abbrev main_v49 : Ref sig .tc := ⟨.hbm, 184, rfl⟩
abbrev main_v50 : Ref sig .tc := ⟨.hbm, 185, rfl⟩
abbrev main_call11_v0 : Ref sig .tc := ⟨.hbm, 186, rfl⟩
abbrev main_call11_v1 : Ref sig .tc := ⟨.hbm, 187, rfl⟩
abbrev main_v51 : Ref sig .tc := ⟨.hbm, 188, rfl⟩
abbrev main_v52 : Ref sig .tc := ⟨.hbm, 189, rfl⟩
abbrev main_cst_2 : Ref sig .tc := ⟨.hbm, 190, rfl⟩
abbrev main_v53 : Ref sig .tc := ⟨.hbm, 191, rfl⟩
abbrev main_v54 : Ref sig .tc := ⟨.hbm, 192, rfl⟩
abbrev main_v55 : Ref sig .tc := ⟨.hbm, 193, rfl⟩
abbrev main_v56 : Ref sig .tc := ⟨.hbm, 194, rfl⟩
abbrev main_v57 : Ref sig .tc := ⟨.hbm, 195, rfl⟩
abbrev main_v58 : Ref sig .tc := ⟨.hbm, 196, rfl⟩
abbrev main_v59 : Ref sig .tc := ⟨.hbm, 197, rfl⟩
abbrev main_v60 : Ref sig .tc := ⟨.hbm, 198, rfl⟩
abbrev main_v61 : Ref sig .tc := ⟨.hbm, 199, rfl⟩
abbrev main_v62 : Ref sig .tc := ⟨.hbm, 200, rfl⟩
abbrev main_cst_3 : Ref sig .tc := ⟨.hbm, 201, rfl⟩
abbrev main_v63 : Ref sig .tc := ⟨.hbm, 202, rfl⟩
abbrev main_cst_4 : Ref sig .tc := ⟨.hbm, 203, rfl⟩
abbrev main_v64 : Ref sig .tc := ⟨.hbm, 204, rfl⟩
abbrev main_v65 : Ref sig .tc := ⟨.hbm, 205, rfl⟩
abbrev main_cst_5 : Ref sig .tc := ⟨.hbm, 206, rfl⟩
abbrev main_v66 : Ref sig .tc := ⟨.hbm, 207, rfl⟩
abbrev main_cst_6 : Ref sig .tc := ⟨.hbm, 208, rfl⟩
abbrev main_v67 : Ref sig .tc := ⟨.hbm, 209, rfl⟩
abbrev main_v68 : Ref sig .tc := ⟨.hbm, 210, rfl⟩
abbrev main_v69 : Ref sig .tc := ⟨.hbm, 211, rfl⟩
abbrev main_v70 : Ref sig .tc := ⟨.hbm, 212, rfl⟩
abbrev main_v71 : Ref sig .tc := ⟨.hbm, 213, rfl⟩
abbrev main_v72 : Ref sig .tc := ⟨.hbm, 214, rfl⟩
abbrev main_v73 : Ref sig .tc := ⟨.hbm, 215, rfl⟩
abbrev main_v74 : Ref sig .tc := ⟨.hbm, 216, rfl⟩
abbrev main_v75 : Ref sig .tc := ⟨.hbm, 217, rfl⟩
abbrev main_v76 : Ref sig .tc := ⟨.hbm, 218, rfl⟩
abbrev main_v77 : Ref sig .tc := ⟨.hbm, 219, rfl⟩

abbrev nD : Nat := 1
abbrev τ : Topo := Topo.v7x

variable {F : FTy → Type} [FloatOps F]
-- ==== Kernel2.lean ====
abbrev S8192x4096 : Shape := ⟨2, ![8192, 4096]⟩
abbrev S8x2048x512 : Shape := ⟨3, ![8, 2048, 512]⟩
abbrev S8192x2048 : Shape := ⟨2, ![8192, 2048]⟩
abbrev S1024x4096 : Shape := ⟨2, ![1024, 4096]⟩
abbrev S8x512x512 : Shape := ⟨3, ![8, 512, 512]⟩
abbrev S1024x512 : Shape := ⟨2, ![1024, 512]⟩
abbrev S1x512x512 : Shape := ⟨3, ![1, 512, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S8x2048x512, .bf16⟩
  | .hbm, ⟨2, _⟩ => ⟨S8192x2048, .f32⟩
  | .local _ .vmem, ⟨0, _⟩ => ⟨S1024x4096, .bf16⟩
  | .local _ .vmem, ⟨1, _⟩ => ⟨S1024x4096, .bf16⟩
  | .local _ .vmem, ⟨2, _⟩ => ⟨S8x512x512, .bf16⟩
  | .local _ .vmem, ⟨3, _⟩ => ⟨S8x512x512, .bf16⟩
  | .local _ .vmem, ⟨4, _⟩ => ⟨S1024x512, .f32⟩
  | .local _ .vmem, ⟨5, _⟩ => ⟨S1024x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S8192x4096 : Shape := ⟨2, ![8192, 4096]⟩
abbrev S8x2048x512 : Shape := ⟨3, ![8, 2048, 512]⟩
abbrev S_ : Shape := ⟨0, ![]⟩
abbrev S8192x2048 : Shape := ⟨2, ![8192, 2048]⟩
abbrev S2048x8x512 : Shape := ⟨3, ![2048, 8, 512]⟩
abbrev S2048x4096 : Shape := ⟨2, ![2048, 4096]⟩

abbrev nBuf : Space → Nat
  | .hbm => 10
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8x2048x512, .bf16⟩
  | .hbm, ⟨2, _⟩ => ⟨S_, .f32⟩
  | .hbm, ⟨3, _⟩ => ⟨S8192x2048, .f32⟩
  | .hbm, ⟨4, _⟩ => ⟨S8x2048x512, .f32⟩
  | .hbm, ⟨5, _⟩ => ⟨S2048x8x512, .f32⟩
  | .hbm, ⟨6, _⟩ => ⟨S2048x4096, .f32⟩
  | .hbm, ⟨7, _⟩ => ⟨S8192x4096, .f32⟩
  | .hbm, ⟨8, _⟩ => ⟨S8192x4096, .f32⟩
  | .hbm, ⟨9, _⟩ => ⟨S8192x2048, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel3.lean ====
abbrev S8192x2048 : Shape := ⟨2, ![8192, 2048]⟩
abbrev S8192x4096 : Shape := ⟨2, ![8192, 4096]⟩
abbrev S8x2048x512 : Shape := ⟨3, ![8, 2048, 512]⟩
abbrev S2048x1024 : Shape := ⟨2, ![2048, 1024]⟩
abbrev S2048x512 : Shape := ⟨2, ![2048, 512]⟩
abbrev S1x1024x512 : Shape := ⟨3, ![1, 1024, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x4096, .bf16⟩
  | .hbm, ⟨2, _⟩ => ⟨S8x2048x512, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1024x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x2048 : Shape := ⟨2, ![8192, 2048]⟩
abbrev S8192x4096 : Shape := ⟨2, ![8192, 4096]⟩
abbrev S_ : Shape := ⟨0, ![]⟩
abbrev S2048x4096 : Shape := ⟨2, ![2048, 4096]⟩
abbrev S4096x2048 : Shape := ⟨2, ![4096, 2048]⟩
abbrev S2048x8x512 : Shape := ⟨3, ![2048, 8, 512]⟩
abbrev S8x2048x512 : Shape := ⟨3, ![8, 2048, 512]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x4096, .bf16⟩
  | .hbm, ⟨2, _⟩ => ⟨S_, .f32⟩
  | .hbm, ⟨3, _⟩ => ⟨S2048x4096, .f32⟩
  | .hbm, ⟨4, _⟩ => ⟨S8192x2048, .f32⟩
  | .hbm, ⟨5, _⟩ => ⟨S8192x4096, .f32⟩
  | .hbm, ⟨6, _⟩ => ⟨S8192x4096, .f32⟩
  | .hbm, ⟨7, _⟩ => ⟨S4096x2048, .f32⟩
  | .hbm, ⟨8, _⟩ => ⟨S2048x4096, .f32⟩
  | .hbm, ⟨9, _⟩ => ⟨S2048x4096, .bf16⟩
  | .hbm, ⟨10, _⟩ => ⟨S2048x8x512, .bf16⟩
  | .hbm, ⟨11, _⟩ => ⟨S8x2048x512, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel4.lean ====
abbrev S8192x2048 : Shape := ⟨2, ![8192, 2048]⟩
abbrev S8x2048x512 : Shape := ⟨3, ![8, 2048, 512]⟩
abbrev S8192x4096 : Shape := ⟨2, ![8192, 4096]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S8x2048x512, .bf16⟩
  | .hbm, ⟨2, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1024x512, .f32⟩
  | .local _ .vmem, ⟨5, _⟩ => ⟨S1024x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S8192x2048 : Shape := ⟨2, ![8192, 2048]⟩
abbrev S8x2048x512 : Shape := ⟨3, ![8, 2048, 512]⟩
abbrev S2048x8x512 : Shape := ⟨3, ![2048, 8, 512]⟩
abbrev S2048x4096 : Shape := ⟨2, ![2048, 4096]⟩
abbrev S8192x4096 : Shape := ⟨2, ![8192, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8x2048x512, .bf16⟩
  | .hbm, ⟨2, _⟩ => ⟨S8192x2048, .f32⟩
  | .hbm, ⟨3, _⟩ => ⟨S8x2048x512, .f32⟩
  | .hbm, ⟨4, _⟩ => ⟨S2048x8x512, .f32⟩
  | .hbm, ⟨5, _⟩ => ⟨S2048x4096, .f32⟩
  | .hbm, ⟨6, _⟩ => ⟨S8192x4096, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel5.lean ====
abbrev S8192x2048 : Shape := ⟨2, ![8192, 2048]⟩
abbrev S1x2048x2048 : Shape := ⟨3, ![1, 2048, 2048]⟩
abbrev S512x2048 : Shape := ⟨2, ![512, 2048]⟩
abbrev S2048x2048 : Shape := ⟨2, ![2048, 2048]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S1x2048x2048, .bf16⟩
  | .hbm, ⟨2, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048x2048, .bf16⟩
  | .local _ .vmem, ⟨3, _⟩ => ⟨S512x2048, .f32⟩
  | .local _ .vmem, ⟨4, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S8192x2048 : Shape := ⟨2, ![8192, 2048]⟩
abbrev S1x2048x2048 : Shape := ⟨3, ![1, 2048, 2048]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048x2048, .bf16⟩
  | .hbm, ⟨2, _⟩ => ⟨S_, .f32⟩
  | .hbm, ⟨3, _⟩ => ⟨S8192x2048, .f32⟩
  | .hbm, ⟨4, _⟩ => ⟨S2048x2048, .bf16⟩
  | .hbm, ⟨5, _⟩ => ⟨S2048x2048, .f32⟩
  | .hbm, ⟨6, _⟩ => ⟨S8192x2048, .f32⟩
  | .hbm, ⟨7, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel6.lean ====
abbrev S8192x2048 : Shape := ⟨2, ![8192, 2048]⟩
abbrev S1x2048x2048 : Shape := ⟨3, ![1, 2048, 2048]⟩
abbrev S2048x1024 : Shape := ⟨2, ![2048, 1024]⟩
abbrev S2048x512 : Shape := ⟨2, ![2048, 512]⟩
abbrev S1x1024x512 : Shape := ⟨3, ![1, 1024, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S1x2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .f32⟩
  | .local _ .vmem, ⟨3, _⟩ => ⟨S2048x512, .f32⟩
  | .local _ .vmem, ⟨4, _⟩ => ⟨S1x1024x512, .bf16⟩
  | .local _ .vmem, ⟨5, _⟩ => ⟨S1x1024x512, .bf16⟩
  | .local _ .vmem, ⟨6, _⟩ => ⟨S1024x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x2048 : Shape := ⟨2, ![8192, 2048]⟩
abbrev S_ : Shape := ⟨0, ![]⟩
abbrev S2048x2048 : Shape := ⟨2, ![2048, 2048]⟩
abbrev S1x2048x2048 : Shape := ⟨3, ![1, 2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S_, .f32⟩
  | .hbm, ⟨3, _⟩ => ⟨S2048x2048, .f32⟩
  | .hbm, ⟨4, _⟩ => ⟨S8192x2048, .f32⟩
  | .hbm, ⟨5, _⟩ => ⟨S8192x2048, .f32⟩
  | .hbm, ⟨6, _⟩ => ⟨S2048x2048, .f32⟩
  | .hbm, ⟨7, _⟩ => ⟨S2048x2048, .f32⟩
  | .hbm, ⟨8, _⟩ => ⟨S2048x2048, .bf16⟩
  | .hbm, ⟨9, _⟩ => ⟨S1x2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S8192x3072 : Shape := ⟨2, ![8192, 3072]⟩
abbrev S8x2048x384 : Shape := ⟨3, ![8, 2048, 384]⟩
abbrev S8192x2048 : Shape := ⟨2, ![8192, 2048]⟩
abbrev S1024x3072 : Shape := ⟨2, ![1024, 3072]⟩
abbrev S8x512x384 : Shape := ⟨3, ![8, 512, 384]⟩
abbrev S1024x512 : Shape := ⟨2, ![1024, 512]⟩
abbrev S1024x384 : Shape := ⟨2, ![1024, 384]⟩
abbrev S1x512x384 : Shape := ⟨3, ![1, 512, 384]⟩
abbrev S512x384 : Shape := ⟨2, ![512, 384]⟩

abbrev nBuf : Space → Nat
  | .hbm => 3
  | .vmem => 6
  | .smem => 0
  | _ => 0

abbrev bufTy : (tb : Table) → Fin (tcTables nBuf tb) → BufTy
  | .hbm, ⟨0, _⟩ => ⟨S8192x3072, .bf16⟩
  | .hbm, ⟨1, _⟩ => ⟨S8x2048x384, .bf16⟩
  | .hbm, ⟨2, _⟩ => ⟨S8192x2048, .f32⟩
  | .local _ .vmem, ⟨0, _⟩ => ⟨S1024x3072, .bf16⟩
  | .local _ .vmem, ⟨1, _⟩ => ⟨S1024x3072, .bf16⟩
  | .local _ .vmem, ⟨2, _⟩ => ⟨S8x512x384, .bf16⟩
  | .local _ .vmem, ⟨3, _⟩ => ⟨S8x512x384, .bf16⟩
  | .local _ .vmem, ⟨4, _⟩ => ⟨S1024x512, .f32⟩
  | .local _ .vmem, ⟨5, _⟩ => ⟨S1024x512, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x512x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S8192x3072 : Shape := ⟨2, ![8192, 3072]⟩
abbrev S8x2048x384 : Shape := ⟨3, ![8, 2048, 384]⟩
abbrev S_ : Shape := ⟨0, ![]⟩
abbrev S8192x2048 : Shape := ⟨2, ![8192, 2048]⟩
abbrev S2048x8x384 : Shape := ⟨3, ![2048, 8, 384]⟩
abbrev S2048x3072 : Shape := ⟨2, ![2048, 3072]⟩

abbrev nBuf : Space → Nat
  | .hbm => 10
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S8x2048x384, .bf16⟩
  | .hbm, ⟨2, _⟩ => ⟨S_, .f32⟩
  | .hbm, ⟨3, _⟩ => ⟨S8192x2048, .f32⟩
  | .hbm, ⟨4, _⟩ => ⟨S8x2048x384, .f32⟩
  | .hbm, ⟨5, _⟩ => ⟨S2048x8x384, .f32⟩
  | .hbm, ⟨6, _⟩ => ⟨S2048x3072, .f32⟩
  | .hbm, ⟨7, _⟩ => ⟨S8192x3072, .f32⟩
  | .hbm, ⟨8, _⟩ => ⟨S8192x3072, .f32⟩
  | .hbm, ⟨9, _⟩ => ⟨S8192x2048, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S8192x2048 : Shape := ⟨2, ![8192, 2048]⟩
abbrev S8192x3072 : Shape := ⟨2, ![8192, 3072]⟩
abbrev S8x2048x384 : Shape := ⟨3, ![8, 2048, 384]⟩
abbrev S2048x1024 : Shape := ⟨2, ![2048, 1024]⟩
abbrev S2048x384 : Shape := ⟨2, ![2048, 384]⟩
abbrev S1x1024x384 : Shape := ⟨3, ![1, 1024, 384]⟩
abbrev S1024x384 : Shape := ⟨2, ![1024, 384]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x3072, .bf16⟩
  | .hbm, ⟨2, _⟩ => ⟨S8x2048x384, .bf16⟩
  | .local _ .vmem, ⟨0, _⟩ => ⟨S2048x1024, .bf16⟩
  | .local _ .vmem, ⟨1, _⟩ => ⟨S2048x1024, .bf16⟩
  | .local _ .vmem, ⟨2, _⟩ => ⟨S2048x384, .bf16⟩
  | .local _ .vmem, ⟨3, _⟩ => ⟨S2048x384, .bf16⟩
  | .local _ .vmem, ⟨4, _⟩ => ⟨S1x1024x384, .bf16⟩
  | .local _ .vmem, ⟨5, _⟩ => ⟨S1x1024x384, .bf16⟩
  | .local _ .vmem, ⟨6, _⟩ => ⟨S1024x384, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x2048 : Shape := ⟨2, ![8192, 2048]⟩
abbrev S8192x3072 : Shape := ⟨2, ![8192, 3072]⟩
abbrev S_ : Shape := ⟨0, ![]⟩
abbrev S2048x3072 : Shape := ⟨2, ![2048, 3072]⟩
abbrev S3072x2048 : Shape := ⟨2, ![3072, 2048]⟩
abbrev S2048x8x384 : Shape := ⟨3, ![2048, 8, 384]⟩
abbrev S8x2048x384 : Shape := ⟨3, ![8, 2048, 384]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x3072, .bf16⟩
  | .hbm, ⟨2, _⟩ => ⟨S_, .f32⟩
  | .hbm, ⟨3, _⟩ => ⟨S2048x3072, .f32⟩
  | .hbm, ⟨4, _⟩ => ⟨S8192x2048, .f32⟩
  | .hbm, ⟨5, _⟩ => ⟨S8192x3072, .f32⟩
  | .hbm, ⟨6, _⟩ => ⟨S8192x3072, .f32⟩
  | .hbm, ⟨7, _⟩ => ⟨S3072x2048, .f32⟩
  | .hbm, ⟨8, _⟩ => ⟨S2048x3072, .f32⟩
  | .hbm, ⟨9, _⟩ => ⟨S2048x3072, .bf16⟩
  | .hbm, ⟨10, _⟩ => ⟨S2048x8x384, .bf16⟩
  | .hbm, ⟨11, _⟩ => ⟨S8x2048x384, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel9.lean ====
abbrev S8192x2048 : Shape := ⟨2, ![8192, 2048]⟩
abbrev S8x2048x384 : Shape := ⟨3, ![8, 2048, 384]⟩
abbrev S8192x3072 : Shape := ⟨2, ![8192, 3072]⟩
abbrev S1024x2048 : Shape := ⟨2, ![1024, 2048]⟩
abbrev S1x2048x384 : Shape := ⟨3, ![1, 2048, 384]⟩
abbrev S1024x384 : Shape := ⟨2, ![1024, 384]⟩
abbrev S2048x384 : Shape := ⟨2, ![2048, 384]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S8x2048x384, .bf16⟩
  | .hbm, ⟨2, _⟩ => ⟨S8192x3072, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x384, .bf16⟩
  | .local _ .vmem, ⟨3, _⟩ => ⟨S1x2048x384, .bf16⟩
  | .local _ .vmem, ⟨4, _⟩ => ⟨S1024x384, .bf16⟩
  | .local _ .vmem, ⟨5, _⟩ => ⟨S1024x384, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S8192x2048 : Shape := ⟨2, ![8192, 2048]⟩
abbrev S8x2048x384 : Shape := ⟨3, ![8, 2048, 384]⟩
abbrev S2048x8x384 : Shape := ⟨3, ![2048, 8, 384]⟩
abbrev S2048x3072 : Shape := ⟨2, ![2048, 3072]⟩
abbrev S8192x3072 : Shape := ⟨2, ![8192, 3072]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8x2048x384, .bf16⟩
  | .hbm, ⟨2, _⟩ => ⟨S8192x2048, .f32⟩
  | .hbm, ⟨3, _⟩ => ⟨S8x2048x384, .f32⟩
  | .hbm, ⟨4, _⟩ => ⟨S2048x8x384, .f32⟩
  | .hbm, ⟨5, _⟩ => ⟨S2048x3072, .f32⟩
  | .hbm, ⟨6, _⟩ => ⟨S8192x3072, .f32⟩
  | .hbm, ⟨7, _⟩ => ⟨S8192x3072, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel10.lean ====
abbrev S8192x2048 : Shape := ⟨2, ![8192, 2048]⟩
abbrev S1x2048x2048 : Shape := ⟨3, ![1, 2048, 2048]⟩
abbrev S2048 : Shape := ⟨1, ![2048]⟩
abbrev S1x2048 : Shape := ⟨2, ![1, 2048]⟩
abbrev S512x2048 : Shape := ⟨2, ![512, 2048]⟩
abbrev S2048x2048 : Shape := ⟨2, ![2048, 2048]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S1x2048x2048, .bf16⟩
  | .hbm, ⟨2, _⟩ => ⟨S8192x2048, .f32⟩
  | .hbm, ⟨3, _⟩ => ⟨S2048, .f32⟩
  | .hbm, ⟨4, _⟩ => ⟨S1x2048, .f32⟩
  | .hbm, ⟨5, _⟩ => ⟨S8192x2048, .f32⟩
  | .hbm, ⟨6, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S1x2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference10Ideal.lean ====
abbrev S8192x2048 : Shape := ⟨2, ![8192, 2048]⟩
abbrev S1x2048x2048 : Shape := ⟨3, ![1, 2048, 2048]⟩
abbrev S2048 : Shape := ⟨1, ![2048]⟩
abbrev S2048x2048 : Shape := ⟨2, ![2048, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 26
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x2048, .bf16⟩
  | .hbm, ⟨2, _⟩ => ⟨S8192x2048, .f32⟩
  | .hbm, ⟨3, _⟩ => ⟨S2048, .f32⟩
  | .hbm, ⟨4, _⟩ => ⟨S8192x2048, .f32⟩
  | .hbm, ⟨5, _⟩ => ⟨S2048x2048, .bf16⟩
  | .hbm, ⟨6, _⟩ => ⟨S2048x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x2048, .f32⟩
  | .hbm, ⟨21, _⟩ => ⟨S8192x2048, .f32⟩
  | .hbm, ⟨22, _⟩ => ⟨S1x2048, .f32⟩
  | .hbm, ⟨23, _⟩ => ⟨S8192x2048, .f32⟩
  | .hbm, ⟨24, _⟩ => ⟨S8192x2048, .f32⟩
  | .hbm, ⟨25, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel11.lean ====
abbrev S8192x2048 : Shape := ⟨2, ![8192, 2048]⟩
abbrev S1x2048x2048 : Shape := ⟨3, ![1, 2048, 2048]⟩
abbrev S2048 : Shape := ⟨1, ![2048]⟩
abbrev S1x2048 : Shape := ⟨2, ![1, 2048]⟩
abbrev S512x2048 : Shape := ⟨2, ![512, 2048]⟩
abbrev S2048x2048 : Shape := ⟨2, ![2048, 2048]⟩
abbrev S512 : Shape := ⟨1, ![512]⟩
abbrev S512x1 : Shape := ⟨2, ![512, 1]⟩

abbrev nBuf : Space → Nat
  | .hbm => 10
  | .vmem => 13
  | .smem => 0
  | _ => 0

abbrev bufTy : (tb : Table) → Fin (tcTables nBuf tb) → BufTy
  | .hbm, ⟨0, _⟩ => ⟨S8192x2048, .bf16⟩
  | .hbm, ⟨1, _⟩ => ⟨S1x2048x2048, .bf16⟩
  | .hbm, ⟨2, _⟩ => ⟨S8192x2048, .f32⟩
  | .hbm, ⟨3, _⟩ => ⟨S2048, .f32⟩
  | .hbm, ⟨4, _⟩ => ⟨S2048, .f32⟩
  | .hbm, ⟨5, _⟩ => ⟨S1x2048, .f32⟩
  | .hbm, ⟨6, _⟩ => ⟨S1x2048, .f32⟩
  | .hbm, ⟨7, _⟩ => ⟨S8192x2048, .f32⟩
  | .hbm, ⟨8, _⟩ => ⟨S8192x2048, .bf16⟩
  | .hbm, ⟨9, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S1x2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | .local _ .vmem, ⟨11, _⟩ => ⟨S512x2048, .bf16⟩
  | .local _ .vmem, ⟨12, _⟩ => ⟨S512x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference11Ideal.lean ====
abbrev S8192x2048 : Shape := ⟨2, ![8192, 2048]⟩
abbrev S1x2048x2048 : Shape := ⟨3, ![1, 2048, 2048]⟩
abbrev S2048 : Shape := ⟨1, ![2048]⟩
abbrev S2048x2048 : Shape := ⟨2, ![2048, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 44
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x2048, .bf16⟩
  | .hbm, ⟨2, _⟩ => ⟨S8192x2048, .f32⟩
  | .hbm, ⟨3, _⟩ => ⟨S2048, .f32⟩
  | .hbm, ⟨4, _⟩ => ⟨S2048, .f32⟩
  | .hbm, ⟨5, _⟩ => ⟨S8192x2048, .f32⟩
  | .hbm, ⟨6, _⟩ => ⟨S2048x2048, .bf16⟩
  | .hbm, ⟨7, _⟩ => ⟨S2048x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x2048, .f32⟩
  | .hbm, ⟨22, _⟩ => ⟨S8192x2048, .f32⟩
  | .hbm, ⟨23, _⟩ => ⟨S1x2048, .f32⟩
  | .hbm, ⟨24, _⟩ => ⟨S8192x2048, .f32⟩
  | .hbm, ⟨25, _⟩ => ⟨S8192x2048, .f32⟩
  | .hbm, ⟨26, _⟩ => ⟨S8192x2048, .bf16⟩
  | .hbm, ⟨27, _⟩ => ⟨S8192x2048, .f32⟩
  | .hbm, ⟨28, _⟩ => ⟨S_, .f32⟩
  | .hbm, ⟨29, _⟩ => ⟨S8192, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x1, .f32⟩
  | .hbm, ⟨38, _⟩ => ⟨S8192x2048, .f32⟩
  | .hbm, ⟨39, _⟩ => ⟨S8192x2048, .f32⟩
  | .hbm, ⟨40, _⟩ => ⟨S1x2048, .f32⟩
  | .hbm, ⟨41, _⟩ => ⟨S8192x2048, .f32⟩
  | .hbm, ⟨42, _⟩ => ⟨S8192x2048, .f32⟩
  | .hbm, ⟨43, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== Kernel12.lean ====
abbrev S8192x2048 : Shape := ⟨2, ![8192, 2048]⟩
abbrev S1x2048x2048 : Shape := ⟨3, ![1, 2048, 2048]⟩
abbrev S512x2048 : Shape := ⟨2, ![512, 2048]⟩
abbrev S2048x2048 : Shape := ⟨2, ![2048, 2048]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S1x2048x2048, .bf16⟩
  | .hbm, ⟨2, _⟩ => ⟨S8192x2048, .f32⟩
  | .hbm, ⟨3, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S1x2048x2048, .bf16⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference12Ideal.lean ====
abbrev S8192x2048 : Shape := ⟨2, ![8192, 2048]⟩
abbrev S1x2048x2048 : Shape := ⟨3, ![1, 2048, 2048]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x2048, .bf16⟩
  | .hbm, ⟨2, _⟩ => ⟨S8192x2048, .f32⟩
  | .hbm, ⟨3, _⟩ => ⟨S8192x2048, .f32⟩
  | .hbm, ⟨4, _⟩ => ⟨S2048x2048, .bf16⟩
  | .hbm, ⟨5, _⟩ => ⟨S2048x2048, .f32⟩
  | .hbm, ⟨6, _⟩ => ⟨S8192x2048, .f32⟩
  | .hbm, ⟨7, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel13.lean ====
abbrev S8192x4096 : Shape := ⟨2, ![8192, 4096]⟩
abbrev S8192x3072 : Shape := ⟨2, ![8192, 3072]⟩
abbrev S8192x2048 : Shape := ⟨2, ![8192, 2048]⟩
abbrev S8192x1536 : Shape := ⟨2, ![8192, 1536]⟩
abbrev S512x128 : Shape := ⟨2, ![512, 128]⟩
abbrev S8192x128 : Shape := ⟨2, ![8192, 128]⟩
abbrev S256x256 : Shape := ⟨2, ![256, 256]⟩
abbrev S512x1 : Shape := ⟨2, ![512, 1]⟩
abbrev S256x1 : Shape := ⟨2, ![256, 1]⟩
abbrev S256x128 : Shape := ⟨2, ![256, 128]⟩
abbrev S512x256 : Shape := ⟨2, ![512, 256]⟩
abbrev S256 : Shape := ⟨1, ![256]⟩
abbrev S1024x256 : Shape := ⟨2, ![1024, 256]⟩
abbrev S1024x128 : Shape := ⟨2, ![1024, 128]⟩
abbrev S512 : Shape := ⟨1, ![512]⟩
abbrev S1x256x1 : Shape := ⟨3, ![1, 256, 1]⟩
abbrev S1 : Shape := ⟨1, ![1]⟩
abbrev S1x1x1 : Shape := ⟨3, ![1, 1, 1]⟩

abbrev nBuf : Space → Nat
  | .hbm => 4
  | .vmem => 12
  | .smem => 0
  | _ => 0

abbrev bufTy : (tb : Table) → Fin (tcTables nBuf tb) → BufTy
  | .hbm, ⟨0, _⟩ => ⟨S8192x4096, .f32⟩
  | .hbm, ⟨1, _⟩ => ⟨S8192x3072, .bf16⟩
  | .hbm, ⟨2, _⟩ => ⟨S8192x2048, .bf16⟩
  | .hbm, ⟨3, _⟩ => ⟨S8192x1536, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S8192x128, .bf16⟩
  | .local _ .vmem, ⟨5, _⟩ => ⟨S8192x128, .bf16⟩
  | .local _ .vmem, ⟨6, _⟩ => ⟨S8192x128, .bf16⟩
  | .local _ .vmem, ⟨7, _⟩ => ⟨S8192x128, .bf16⟩
  | .local _ .vmem, ⟨8, _⟩ => ⟨S512x128, .bf16⟩
  | .local _ .vmem, ⟨9, _⟩ => ⟨S512x128, .bf16⟩
  | .local _ .vmem, ⟨10, _⟩ => ⟨S512x128, .f32⟩
  | .local _ .vmem, ⟨11, _⟩ => ⟨S512x128, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![12, 16], ![false, false]⟩

def k0_mult1 (i : grid0.Coords) : BitVec 32 :=
  let c2_i32 : BitVec 32 := 2#32
  let arg1 : BitVec 32 := BitVec.ofNat 32 (i 1).val
  let v10 : BitVec 32 := Scalar.muli c2_i32 arg1
  let c1_i32 : BitVec 32 := 1#32
  let v11 : BitVec 32 := Scalar.addi v10 c1_i32
  let c256_i32 : BitVec 32 := 256#32
  let v19 : BitVec 32 := Scalar.muli v11 c256_i32
  v19
def k0_off1 (i : grid0.Coords) (c1_i32 : BitVec 32) : Fin 2 → Nat :=
  let c2_i32 : BitVec 32 := 2#32
  let arg1 : BitVec 32 := BitVec.ofNat 32 (i 1).val
  let v10 : BitVec 32 := Scalar.muli c2_i32 arg1
  let v11 : BitVec 32 := Scalar.addi v10 c1_i32
  let c256_i32 : BitVec 32 := 256#32
  let v19 : BitVec 32 := Scalar.muli v11 c256_i32
  let v20 : BitVec 32 := v19
  let v21 : Index := Scalar.indexCast v20
  let c0_2 : Index := 0#32
  ![v21.toNat, 0]
def k0_mult2 (i : grid0.Coords) : BitVec 32 :=
  let c2_i32_13 : BitVec 32 := 2#32
  let arg1 : BitVec 32 := BitVec.ofNat 32 (i 1).val
  let v71 : BitVec 32 := Scalar.muli c2_i32_13 arg1
  let c0_i32_14 : BitVec 32 := 0#32
  let v72 : BitVec 32 := Scalar.addi v71 c0_i32_14
  let c256_i32_16 : BitVec 32 := 256#32
  let v78 : BitVec 32 := Scalar.muli v72 c256_i32_16
  v78
def k0_mult3 (arg8 : BitVec 32) : BitVec 32 :=
  let c256_i32_43 : BitVec 32 := 256#32
  let v159 : BitVec 32 := Scalar.muli arg8 c256_i32_43
  v159

def k0_off2 (arg8 : BitVec 32) : Fin 2 → Nat :=
  let c256_i32_43 : BitVec 32 := 256#32
  let v159 : BitVec 32 := Scalar.muli arg8 c256_i32_43
  let v160 : BitVec 32 := v159
  let v161 : Index := Scalar.indexCast v160
  let c0_44 : Index := 0#32
  ![v161.toNat, 0]

def k0_chk1 (arg8 : BitVec 32) : Prop :=
  (256 ∣ (k0_mult3 arg8).toNat) ∧
  (∀ a, (k0_off2 arg8) a + S256x128.size a ≤ S8192x128.size a)
theorem k0_mult3_dvd : ∀ (arg8 : BitVec 32) (k0_hw1 : k0_chk1 arg8), 256 ∣ (k0_mult3 arg8).toNat := fun arg8 k0_hw1 => k0_hw1.1
theorem k0_off2_inb : ∀ (arg8 : BitVec 32) (k0_hw1 : k0_chk1 arg8), ∀ a, (k0_off2 arg8) a + S256x128.size a ≤ S8192x128.size a := fun arg8 k0_hw1 => k0_hw1.2

def k0_mult4 (arg8 : BitVec 32) : BitVec 32 :=
  let c256_i32_43 : BitVec 32 := 256#32
  let v159 : BitVec 32 := Scalar.muli arg8 c256_i32_43
  v159

def k0_off3 (arg8 : BitVec 32) : Fin 2 → Nat :=
  let c256_i32_43 : BitVec 32 := 256#32
  let v159 : BitVec 32 := Scalar.muli arg8 c256_i32_43
  let v160 : BitVec 32 := v159
  let v161 : Index := Scalar.indexCast v160
  let c0_44 : Index := 0#32
  ![v161.toNat, 0]

def k0_chk2 (arg8 : BitVec 32) : Prop :=
  (256 ∣ (k0_mult4 arg8).toNat) ∧
  (∀ a, (k0_off3 arg8) a + S256x128.size a ≤ S8192x128.size a)
theorem k0_mult4_dvd : ∀ (arg8 : BitVec 32) (k0_hw2 : k0_chk2 arg8), 256 ∣ (k0_mult4 arg8).toNat := fun arg8 k0_hw2 => k0_hw2.1
theorem k0_off3_inb : ∀ (arg8 : BitVec 32) (k0_hw2 : k0_chk2 arg8), ∀ a, (k0_off3 arg8) a + S256x128.size a ≤ S8192x128.size a := fun arg8 k0_hw2 => k0_hw2.2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Kernel13Ideal.lean ====
variable {F : FTy → Type} [FloatOps F] [Named F]
def κ : String → Option EReal := fun
  | "exhausted" => some ⊤
  | "linear" => some ⊤
  | _ => none
-- ==== Reference13Ideal.lean ====
abbrev S8192x4096 : Shape := ⟨2, ![8192, 4096]⟩
abbrev S8192x3072 : Shape := ⟨2, ![8192, 3072]⟩
abbrev S8192x1536 : Shape := ⟨2, ![8192, 1536]⟩
abbrev S8192x12x128 : Shape := ⟨3, ![8192, 12, 128]⟩
abbrev S12x8192x128 : Shape := ⟨3, ![12, 8192, 128]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S12x8192x8192 : Shape := ⟨3, ![12, 8192, 8192]⟩
abbrev S_ : Shape := ⟨0, ![]⟩
abbrev S8192x512 : Shape := ⟨2, ![8192, 512]⟩
abbrev S8192x2048 : Shape := ⟨2, ![8192, 2048]⟩

abbrev nBuf : Space → Nat
  | .hbm => 160
  | .vmem => 0
  | .smem => 0
  | _ => 0

abbrev hbmTy0_0 (i : Nat) : BufTy := match i % 128 with
  | 0 => ⟨S8192x4096, .f32⟩
  | 1 => ⟨S8192x3072, .bf16⟩
  | 2 => ⟨S8192x3072, .f32⟩
  | 3 => ⟨S8192x1536, .f32⟩
  | 4 => ⟨S8192x1536, .f32⟩
  | 5 => ⟨S8192x1536, .f32⟩
  | 6 => ⟨S8192x1536, .f32⟩
  | 7 => ⟨S8192x12x128, .f32⟩
  | 8 => ⟨S12x8192x128, .f32⟩
  | 9 => ⟨S8192x12x128, .f32⟩
  | 10 => ⟨S12x8192x128, .f32⟩
  | 11 => ⟨S8192x12x128, .f32⟩
  | 12 => ⟨S12x8192x128, .f32⟩
  | 13 => ⟨S8192, .i32⟩
  | 14 => ⟨S1x8192, .i32⟩
  | 15 => ⟨S8192x1, .i32⟩
  | 16 => ⟨S8192x8192, .i32⟩
  | 17 => ⟨S8192x8192, .i32⟩
  | 18 => ⟨S8192x8192, .i1⟩
  | 19 => ⟨S12x8192x8192, .f32⟩
  | 20 => ⟨S_, .f32⟩
  | 21 => ⟨S12x8192x8192, .f32⟩
  | 22 => ⟨S12x8192x8192, .f32⟩
  | 23 => ⟨S12x8192x8192, .f32⟩
  | 24 => ⟨S_, .f32⟩
  | 25 => ⟨S12x8192x8192, .f32⟩
  | 26 => ⟨S12x8192x8192, .f32⟩
  | 27 => ⟨S12x8192x8192, .f32⟩
  | 28 => ⟨S12x8192x8192, .f32⟩
  | 29 => ⟨S12x8192x8192, .i1⟩
  | 30 => ⟨S12x8192x8192, .f32⟩
  | 31 => ⟨S12x8192x8192, .f32⟩
  | 32 => ⟨S12x8192x8192, .f32⟩
  | 33 => ⟨S12x8192x8192, .f32⟩
  | 34 => ⟨S12x8192x8192, .f32⟩
  | 35 => ⟨S12x8192x8192, .f32⟩
  | 36 => ⟨S12x8192x8192, .f32⟩
  | 37 => ⟨S12x8192x8192, .f32⟩
  | 38 => ⟨S12x8192x8192, .f32⟩
  | 39 => ⟨S12x8192x8192, .f32⟩
  | 40 => ⟨S12x8192x8192, .f32⟩
  | 41 => ⟨S_, .f32⟩
  | 42 => ⟨S12x8192x8192, .f32⟩
  | 43 => ⟨S12x8192x8192, .f32⟩
  | 44 => ⟨S12x8192x8192, .f32⟩
  | 45 => ⟨S12x8192x8192, .f32⟩
  | 46 => ⟨S12x8192x8192, .i1⟩
  | 47 => ⟨S12x8192x8192, .f32⟩
  | 48 => ⟨S12x8192x8192, .f32⟩
  | 49 => ⟨S12x8192x8192, .f32⟩
  | 50 => ⟨S12x8192x8192, .f32⟩
  | 51 => ⟨S12x8192x8192, .f32⟩
  | 52 => ⟨S12x8192x8192, .f32⟩
  | 53 => ⟨S12x8192x8192, .f32⟩
  | 54 => ⟨S12x8192x8192, .f32⟩
  | 55 => ⟨S12x8192x8192, .f32⟩
  | 56 => ⟨S_, .f32⟩
  | 57 => ⟨S_, .f32⟩
  | 58 => ⟨S12x8192x8192, .i1⟩
  | 59 => ⟨S12x8192x8192, .f32⟩
  | 60 => ⟨S12x8192x8192, .f32⟩
  | 61 => ⟨S_, .f32⟩
  | 62 => ⟨S_, .f32⟩
  | 63 => ⟨S12x8192x8192, .f32⟩
  | 64 => ⟨S12x8192x8192, .f32⟩
  | 65 => ⟨S12x8192x8192, .f32⟩
  | 66 => ⟨S12x8192x8192, .f32⟩
  | 67 => ⟨S_, .f32⟩
  | 68 => ⟨S_, .f32⟩
  | 69 => ⟨S12x8192x8192, .i1⟩
  | 70 => ⟨S12x8192x8192, .f32⟩
  | 71 => ⟨S12x8192x8192, .f32⟩
  | 72 => ⟨S12x8192x128, .f32⟩
  | 73 => ⟨S8192x12x128, .f32⟩
  | 74 => ⟨S8192x1536, .f32⟩
  | 75 => ⟨S8192x1536, .f32⟩
  | 76 => ⟨S8192x1536, .f32⟩
  | 77 => ⟨S_, .f32⟩
  | 78 => ⟨S8192x1536, .f32⟩
  | 79 => ⟨S8192x1536, .f32⟩
  | 80 => ⟨S_, .f32⟩
  | 81 => ⟨S8192x1536, .f32⟩
  | 82 => ⟨S8192x1536, .f32⟩
  | 83 => ⟨S8192x1536, .f32⟩
  | 84 => ⟨S8192x1536, .f32⟩
  | 85 => ⟨S8192x1536, .bf16⟩
  | 86 => ⟨S_, .bf16⟩
  | 87 => ⟨S8192x512, .bf16⟩
  | 88 => ⟨S8192x2048, .bf16⟩
  | 89 => ⟨S8192x1536, .f32⟩
  | 90 => ⟨S8192x1536, .f32⟩
  | 91 => ⟨S8192x1536, .f32⟩
  | 92 => ⟨S8192x12x128, .f32⟩
  | 93 => ⟨S12x8192x128, .f32⟩
  | 94 => ⟨S8192x12x128, .f32⟩
  | 95 => ⟨S12x8192x128, .f32⟩
  | 96 => ⟨S8192x12x128, .f32⟩
  | 97 => ⟨S12x8192x128, .f32⟩
  | 98 => ⟨S8192, .i32⟩
  | 99 => ⟨S1x8192, .i32⟩
  | 100 => ⟨S8192x1, .i32⟩
  | 101 => ⟨S8192x8192, .i32⟩
  | 102 => ⟨S8192x8192, .i32⟩
  | 103 => ⟨S8192x8192, .i1⟩
  | 104 => ⟨S12x8192x8192, .f32⟩
  | 105 => ⟨S_, .f32⟩
  | 106 => ⟨S12x8192x8192, .f32⟩
  | 107 => ⟨S12x8192x8192, .f32⟩
  | 108 => ⟨S12x8192x8192, .f32⟩
  | 109 => ⟨S_, .f32⟩
  | 110 => ⟨S12x8192x8192, .f32⟩
  | 111 => ⟨S12x8192x8192, .f32⟩
  | 112 => ⟨S12x8192x8192, .f32⟩
  | 113 => ⟨S12x8192x8192, .f32⟩
  | 114 => ⟨S12x8192x8192, .i1⟩
  | 115 => ⟨S12x8192x8192, .f32⟩
  | 116 => ⟨S12x8192x8192, .f32⟩
  | 117 => ⟨S12x8192x8192, .f32⟩
  | 118 => ⟨S12x8192x8192, .f32⟩
  | 119 => ⟨S12x8192x8192, .f32⟩
  | 120 => ⟨S12x8192x8192, .f32⟩
  | 121 => ⟨S12x8192x8192, .f32⟩
  | 122 => ⟨S12x8192x8192, .f32⟩
  | 123 => ⟨S12x8192x8192, .f32⟩
  | 124 => ⟨S12x8192x8192, .f32⟩
  | 125 => ⟨S12x8192x8192, .f32⟩
  | 126 => ⟨S_, .f32⟩
  | 127 => ⟨S12x8192x8192, .f32⟩
  | _ => ⟨S8192x4096, .f32⟩

abbrev hbmTy0_1 (i : Nat) : BufTy := match i % 128 with
  | 0 => ⟨S12x8192x8192, .f32⟩
  | 1 => ⟨S12x8192x8192, .f32⟩
  | 2 => ⟨S12x8192x8192, .f32⟩
  | 3 => ⟨S12x8192x8192, .i1⟩
  | 4 => ⟨S12x8192x8192, .f32⟩
  | 5 => ⟨S12x8192x8192, .f32⟩
  | 6 => ⟨S12x8192x8192, .f32⟩
  | 7 => ⟨S12x8192x8192, .f32⟩
  | 8 => ⟨S12x8192x8192, .f32⟩
  | 9 => ⟨S12x8192x8192, .f32⟩
  | 10 => ⟨S12x8192x8192, .f32⟩
  | 11 => ⟨S12x8192x8192, .f32⟩
  | 12 => ⟨S12x8192x8192, .f32⟩
  | 13 => ⟨S_, .f32⟩
  | 14 => ⟨S_, .f32⟩
  | 15 => ⟨S12x8192x8192, .i1⟩
  | 16 => ⟨S12x8192x8192, .f32⟩
  | 17 => ⟨S12x8192x8192, .f32⟩
  | 18 => ⟨S_, .f32⟩
  | 19 => ⟨S_, .f32⟩
  | 20 => ⟨S12x8192x8192, .f32⟩
  | 21 => ⟨S12x8192x8192, .f32⟩
  | 22 => ⟨S12x8192x8192, .f32⟩
  | 23 => ⟨S12x8192x8192, .f32⟩
  | 24 => ⟨S_, .f32⟩
  | 25 => ⟨S_, .f32⟩
  | 26 => ⟨S12x8192x8192, .i1⟩
  | 27 => ⟨S12x8192x8192, .f32⟩
  | 28 => ⟨S12x8192x8192, .f32⟩
  | 29 => ⟨S12x8192x128, .f32⟩
  | 30 => ⟨S8192x12x128, .f32⟩
  | 31 => ⟨S8192x1536, .f32⟩
  | _ => ⟨S8192x4096, .f32⟩

abbrev hbmTy (i : Nat) : BufTy := match i / 128 with
  | 0 => hbmTy0_0 i
  | 1 => hbmTy0_1 i
  | _ => ⟨S8192x4096, .f32⟩

abbrev bufTy : (tb : Table) → Fin (tcTables nBuf tb) → BufTy
  | .hbm, ⟨i, _⟩ => hbmTy i
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_cst : Ref sig .tc := ⟨.hbm, 20, rfl⟩
abbrev main_v18 : Ref sig .tc := ⟨.hbm, 21, rfl⟩
abbrev main_v19 : Ref sig .tc := ⟨.hbm, 22, rfl⟩
abbrev main_call0_v0 : Ref sig .tc := ⟨.hbm, 23, rfl⟩
abbrev main_call0_call0_cst : Ref sig .tc := ⟨.hbm, 24, rfl⟩
abbrev main_call0_call0_v0 : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_v7 : Ref sig .tc := ⟨.hbm, 32, rfl⟩
abbrev main_call0_call0_v8 : Ref sig .tc := ⟨.hbm, 33, rfl⟩
abbrev main_call0_call0_v9 : Ref sig .tc := ⟨.hbm, 34, rfl⟩
abbrev main_call0_call0_v10 : Ref sig .tc := ⟨.hbm, 35, rfl⟩
abbrev main_call0_call0_v11 : Ref sig .tc := ⟨.hbm, 36, rfl⟩
abbrev main_call0_v1 : Ref sig .tc := ⟨.hbm, 37, rfl⟩
abbrev main_v20 : Ref sig .tc := ⟨.hbm, 38, rfl⟩
abbrev main_v21 : Ref sig .tc := ⟨.hbm, 39, rfl⟩
abbrev main_call1_v0 : Ref sig .tc := ⟨.hbm, 40, rfl⟩
abbrev main_call1_call0_cst : Ref sig .tc := ⟨.hbm, 41, rfl⟩
abbrev main_call1_call0_v0 : Ref sig .tc := ⟨.hbm, 42, rfl⟩
abbrev main_call1_call0_v1 : Ref sig .tc := ⟨.hbm, 43, rfl⟩
abbrev main_call1_call0_v2 : Ref sig .tc := ⟨.hbm, 44, rfl⟩
abbrev main_call1_call0_v3 : Ref sig .tc := ⟨.hbm, 45, rfl⟩
abbrev main_call1_call0_v4 : Ref sig .tc := ⟨.hbm, 46, rfl⟩
abbrev main_call1_call0_v5 : Ref sig .tc := ⟨.hbm, 47, rfl⟩
abbrev main_call1_call0_v6 : Ref sig .tc := ⟨.hbm, 48, rfl⟩
abbrev main_call1_call0_v7 : Ref sig .tc := ⟨.hbm, 49, rfl⟩
abbrev main_call1_call0_v8 : Ref sig .tc := ⟨.hbm, 50, rfl⟩
abbrev main_call1_call0_v9 : Ref sig .tc := ⟨.hbm, 51, rfl⟩
abbrev main_call1_call0_v10 : Ref sig .tc := ⟨.hbm, 52, rfl⟩
abbrev main_call1_call0_v11 : Ref sig .tc := ⟨.hbm, 53, rfl⟩
abbrev main_call1_v1 : Ref sig .tc := ⟨.hbm, 54, rfl⟩
abbrev main_v22 : Ref sig .tc := ⟨.hbm, 55, rfl⟩
abbrev main_cst_0 : Ref sig .tc := ⟨.hbm, 56, rfl⟩
abbrev main_call2_v0 : Ref sig .tc := ⟨.hbm, 57, rfl⟩
abbrev main_call2_v1 : Ref sig .tc := ⟨.hbm, 58, rfl⟩
abbrev main_call2_v2 : Ref sig .tc := ⟨.hbm, 59, rfl⟩
abbrev main_v23 : Ref sig .tc := ⟨.hbm, 60, rfl⟩
abbrev main_call3_cst : Ref sig .tc := ⟨.hbm, 61, rfl⟩
abbrev main_call3_v0 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_cst_1 : Ref sig .tc := ⟨.hbm, 67, rfl⟩
abbrev main_call4_v0 : Ref sig .tc := ⟨.hbm, 68, rfl⟩
abbrev main_call4_v1 : Ref sig .tc := ⟨.hbm, 69, rfl⟩
abbrev main_call4_v2 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_call5_v0 : Ref sig .tc := ⟨.hbm, 75, rfl⟩
abbrev main_call5_v1 : Ref sig .tc := ⟨.hbm, 76, rfl⟩
abbrev main_call5_cst : Ref sig .tc := ⟨.hbm, 77, rfl⟩
abbrev main_call5_v2 : Ref sig .tc := ⟨.hbm, 78, rfl⟩
abbrev main_call5_v3 : Ref sig .tc := ⟨.hbm, 79, rfl⟩
abbrev main_call5_cst_0 : Ref sig .tc := ⟨.hbm, 80, rfl⟩
abbrev main_call5_v4 : Ref sig .tc := ⟨.hbm, 81, rfl⟩
abbrev main_call5_v5 : Ref sig .tc := ⟨.hbm, 82, rfl⟩
abbrev main_v32 : Ref sig .tc := ⟨.hbm, 83, rfl⟩
abbrev main_v33 : Ref sig .tc := ⟨.hbm, 84, rfl⟩
abbrev main_v34 : Ref sig .tc := ⟨.hbm, 85, rfl⟩
abbrev main_cst_2 : Ref sig .tc := ⟨.hbm, 86, rfl⟩
abbrev main_v35 : Ref sig .tc := ⟨.hbm, 87, rfl⟩
abbrev main_v36 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_cst_3 : Ref sig .tc := ⟨.hbm, 105, rfl⟩
abbrev main_v53 : Ref sig .tc := ⟨.hbm, 106, rfl⟩
abbrev main_v54 : Ref sig .tc := ⟨.hbm, 107, rfl⟩
abbrev main_call6_v0 : Ref sig .tc := ⟨.hbm, 108, rfl⟩
abbrev main_call6_call0_cst : Ref sig .tc := ⟨.hbm, 109, rfl⟩
abbrev main_call6_call0_v0 : Ref sig .tc := ⟨.hbm, 110, rfl⟩
abbrev main_call6_call0_v1 : Ref sig .tc := ⟨.hbm, 111, rfl⟩
abbrev main_call6_call0_v2 : Ref sig .tc := ⟨.hbm, 112, rfl⟩
abbrev main_call6_call0_v3 : Ref sig .tc := ⟨.hbm, 113, rfl⟩
abbrev main_call6_call0_v4 : Ref sig .tc := ⟨.hbm, 114, rfl⟩
abbrev main_call6_call0_v5 : Ref sig .tc := ⟨.hbm, 115, rfl⟩
abbrev main_call6_call0_v6 : Ref sig .tc := ⟨.hbm, 116, rfl⟩
abbrev main_call6_call0_v7 : Ref sig .tc := ⟨.hbm, 117, rfl⟩
abbrev main_call6_call0_v8 : Ref sig .tc := ⟨.hbm, 118, rfl⟩
abbrev main_call6_call0_v9 : Ref sig .tc := ⟨.hbm, 119, rfl⟩
abbrev main_call6_call0_v10 : Ref sig .tc := ⟨.hbm, 120, rfl⟩
abbrev main_call6_call0_v11 : Ref sig .tc := ⟨.hbm, 121, rfl⟩
abbrev main_call6_v1 : Ref sig .tc := ⟨.hbm, 122, rfl⟩
abbrev main_v55 : Ref sig .tc := ⟨.hbm, 123, rfl⟩
abbrev main_v56 : Ref sig .tc := ⟨.hbm, 124, rfl⟩
abbrev main_call7_v0 : Ref sig .tc := ⟨.hbm, 125, rfl⟩
abbrev main_call7_call0_cst : Ref sig .tc := ⟨.hbm, 126, rfl⟩
abbrev main_call7_call0_v0 : Ref sig .tc := ⟨.hbm, 127, rfl⟩
abbrev main_call7_call0_v1 : Ref sig .tc := ⟨.hbm, 128, rfl⟩
abbrev main_call7_call0_v2 : Ref sig .tc := ⟨.hbm, 129, rfl⟩
abbrev main_call7_call0_v3 : Ref sig .tc := ⟨.hbm, 130, rfl⟩
abbrev main_call7_call0_v4 : Ref sig .tc := ⟨.hbm, 131, rfl⟩
abbrev main_call7_call0_v5 : Ref sig .tc := ⟨.hbm, 132, rfl⟩
abbrev main_call7_call0_v6 : Ref sig .tc := ⟨.hbm, 133, rfl⟩
abbrev main_call7_call0_v7 : Ref sig .tc := ⟨.hbm, 134, rfl⟩
abbrev main_call7_call0_v8 : Ref sig .tc := ⟨.hbm, 135, rfl⟩
abbrev main_call7_call0_v9 : Ref sig .tc := ⟨.hbm, 136, rfl⟩
abbrev main_call7_call0_v10 : Ref sig .tc := ⟨.hbm, 137, rfl⟩
abbrev main_call7_call0_v11 : Ref sig .tc := ⟨.hbm, 138, rfl⟩
abbrev main_call7_v1 : Ref sig .tc := ⟨.hbm, 139, rfl⟩
abbrev main_v57 : Ref sig .tc := ⟨.hbm, 140, rfl⟩
abbrev main_cst_4 : Ref sig .tc := ⟨.hbm, 141, rfl⟩
abbrev main_call8_v0 : Ref sig .tc := ⟨.hbm, 142, rfl⟩
abbrev main_call8_v1 : Ref sig .tc := ⟨.hbm, 143, rfl⟩
abbrev main_call8_v2 : Ref sig .tc := ⟨.hbm, 144, rfl⟩
abbrev main_v58 : Ref sig .tc := ⟨.hbm, 145, rfl⟩
abbrev main_call9_cst : Ref sig .tc := ⟨.hbm, 146, rfl⟩
abbrev main_call9_v0 : Ref sig .tc := ⟨.hbm, 147, rfl⟩
abbrev main_v59 : Ref sig .tc := ⟨.hbm, 148, rfl⟩
abbrev main_v60 : Ref sig .tc := ⟨.hbm, 149, rfl⟩
abbrev main_v61 : Ref sig .tc := ⟨.hbm, 150, rfl⟩
abbrev main_v62 : Ref sig .tc := ⟨.hbm, 151, rfl⟩
abbrev main_cst_5 : Ref sig .tc := ⟨.hbm, 152, rfl⟩
abbrev main_call10_v0 : Ref sig .tc := ⟨.hbm, 153, rfl⟩
abbrev main_call10_v1 : Ref sig .tc := ⟨.hbm, 154, rfl⟩
abbrev main_call10_v2 : Ref sig .tc := ⟨.hbm, 155, rfl⟩
abbrev main_v63 : Ref sig .tc := ⟨.hbm, 156, rfl⟩
abbrev main_v64 : Ref sig .tc := ⟨.hbm, 157, rfl⟩
abbrev main_v65 : Ref sig .tc := ⟨.hbm, 158, rfl⟩
abbrev main_v66 : Ref sig .tc := ⟨.hbm, 159, rfl⟩

abbrev nD : Nat := 1
abbrev τ : Topo := Topo.v7x

variable {F : FTy → Type} [FloatOps F]
-- ==== Kernel14.lean ====
abbrev S8192x2048 : Shape := ⟨2, ![8192, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 7
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048, .f32⟩
  | .hbm, ⟨3, _⟩ => ⟨S8192x2048, .f32⟩
  | .hbm, ⟨4, _⟩ => ⟨S1x2048, .f32⟩
  | .hbm, ⟨5, _⟩ => ⟨S8192x2048, .f32⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference14Ideal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 51
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048, .f32⟩
  | .hbm, ⟨3, _⟩ => ⟨S8192x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S1x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S2048, .f32⟩
  | .hbm, ⟨32, _⟩ => ⟨S8192x2048, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192x2048, .f32⟩
  | .hbm, ⟨37, _⟩ => ⟨S8192x2048, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S_, .f32⟩
  | .hbm, ⟨43, _⟩ => ⟨S8192, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Kernel15.lean ====
abbrev S8192x2048 : Shape := ⟨2, ![8192, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048, .f32⟩
  | .hbm, ⟨3, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference15Ideal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S1x2048, .f32⟩
  | .hbm, ⟨16, _⟩ => ⟨S8192x2048, .f32⟩
  | .hbm, ⟨17, _⟩ => ⟨S8192x2048, .f32⟩
  | .hbm, ⟨18, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel16.lean ====
abbrev S8192x2048 : Shape := ⟨2, ![8192, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S_ : Shape := ⟨0, ![]⟩

abbrev nBuf : Space → Nat
  | .hbm => 13
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S1x2048, .f32⟩
  | .hbm, ⟨4, _⟩ => ⟨S8192x2048, .f32⟩
  | .hbm, ⟨5, _⟩ => ⟨S1x2048, .f32⟩
  | .hbm, ⟨6, _⟩ => ⟨S1x2048, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S1x2048, .f32⟩
  | .local _ .vmem, ⟨8, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference16Ideal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 72
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S1x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8192, .f32⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S8192x2048, .f32⟩
  | .hbm, ⟨51, _⟩ => ⟨S8192x2048, .f32⟩
  | .hbm, ⟨52, _⟩ => ⟨S_, .f32⟩
  | .hbm, ⟨53, _⟩ => ⟨S2048, .f32⟩
  | .hbm, ⟨54, _⟩ => ⟨S8192x2048, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x2048, .f32⟩
  | .hbm, ⟨59, _⟩ => ⟨S8192x2048, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S_, .f32⟩
  | .hbm, ⟨65, _⟩ => ⟨S8192, .f32⟩
  | .hbm, ⟨66, _⟩ => ⟨S8192x2048, .f32⟩
  | .hbm, ⟨67, _⟩ => ⟨S8192x2048, .f32⟩
  | .hbm, ⟨68, _⟩ => ⟨S8192x2048, .f32⟩
  | .hbm, ⟨69, _⟩ => ⟨S8192x2048, .f32⟩
  | .hbm, ⟨70, _⟩ => ⟨S8192x2048, .f32⟩
  | .hbm, ⟨71, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩

abbrev nD : Nat := 1
abbrev τ : Topo := Topo.v7x

variable {F : FTy → Type} [FloatOps F]
-- ==== Kernel17.lean ====
abbrev S8x2048x384 : Shape := ⟨3, ![8, 2048, 384]⟩
abbrev S2048x384 : Shape := ⟨2, ![2048, 384]⟩
abbrev S8x128x384 : Shape := ⟨3, ![8, 128, 384]⟩
abbrev S128x384 : Shape := ⟨2, ![128, 384]⟩
abbrev S1x128x384 : Shape := ⟨3, ![1, 128, 384]⟩

abbrev nBuf : Space → Nat
  | .hbm => 8
  | .vmem => 16
  | .smem => 0
  | _ => 0

abbrev bufTy : (tb : Table) → Fin (tcTables nBuf tb) → BufTy
  | .hbm, ⟨0, _⟩ => ⟨S8x2048x384, .bf16⟩
  | .hbm, ⟨1, _⟩ => ⟨S2048x384, .f32⟩
  | .hbm, ⟨2, _⟩ => ⟨S2048x384, .f32⟩
  | .hbm, ⟨3, _⟩ => ⟨S2048x384, .f32⟩
  | .hbm, ⟨4, _⟩ => ⟨S2048x384, .f32⟩
  | .hbm, ⟨5, _⟩ => ⟨S2048x384, .f32⟩
  | .hbm, ⟨6, _⟩ => ⟨S2048x384, .f32⟩
  | .hbm, ⟨7, _⟩ => ⟨S2048x384, .f32⟩
  | .local _ .vmem, ⟨0, _⟩ => ⟨S8x128x384, .bf16⟩
  | .local _ .vmem, ⟨1, _⟩ => ⟨S8x128x384, .bf16⟩
  | .local _ .vmem, ⟨2, _⟩ => ⟨S128x384, .f32⟩
  | .local _ .vmem, ⟨3, _⟩ => ⟨S128x384, .f32⟩
  | .local _ .vmem, ⟨4, _⟩ => ⟨S128x384, .f32⟩
  | .local _ .vmem, ⟨5, _⟩ => ⟨S128x384, .f32⟩
  | .local _ .vmem, ⟨6, _⟩ => ⟨S128x384, .f32⟩
  | .local _ .vmem, ⟨7, _⟩ => ⟨S128x384, .f32⟩
  | .local _ .vmem, ⟨8, _⟩ => ⟨S128x384, .f32⟩
  | .local _ .vmem, ⟨9, _⟩ => ⟨S128x384, .f32⟩
  | .local _ .vmem, ⟨10, _⟩ => ⟨S128x384, .f32⟩
  | .local _ .vmem, ⟨11, _⟩ => ⟨S128x384, .f32⟩
  | .local _ .vmem, ⟨12, _⟩ => ⟨S128x384, .f32⟩
  | .local _ .vmem, ⟨13, _⟩ => ⟨S128x384, .f32⟩
  | .local _ .vmem, ⟨14, _⟩ => ⟨S128x384, .f32⟩
  | .local _ .vmem, ⟨15, _⟩ => ⟨S128x384, .f32⟩
  | _, _ => ⟨S8x2048x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference17Ideal.lean ====
abbrev S8x2048x384 : Shape := ⟨3, ![8, 2048, 384]⟩
abbrev S2048x384 : Shape := ⟨2, ![2048, 384]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x2048x384, .bf16⟩
  | .hbm, ⟨1, _⟩ => ⟨S2048x384, .f32⟩
  | .hbm, ⟨2, _⟩ => ⟨S2048x384, .f32⟩
  | .hbm, ⟨3, _⟩ => ⟨S2048x384, .f32⟩
  | .hbm, ⟨4, _⟩ => ⟨S8x2048x384, .f32⟩
  | .hbm, ⟨5, _⟩ => ⟨S_, .f32⟩
  | .hbm, ⟨6, _⟩ => ⟨S2048x384, .f32⟩
  | .hbm, ⟨7, _⟩ => ⟨S_, .f32⟩
  | .hbm, ⟨8, _⟩ => ⟨S2048x384, .f32⟩
  | .hbm, ⟨9, _⟩ => ⟨S2048x384, .f32⟩
  | .hbm, ⟨10, _⟩ => ⟨S_, .f32⟩
  | .hbm, ⟨11, _⟩ => ⟨S2048x384, .f32⟩
  | .hbm, ⟨12, _⟩ => ⟨S2048x384, .f32⟩
  | .hbm, ⟨13, _⟩ => ⟨S2048x384, .f32⟩
  | .hbm, ⟨14, _⟩ => ⟨S_, .f32⟩
  | .hbm, ⟨15, _⟩ => ⟨S2048x384, .f32⟩
  | .hbm, ⟨16, _⟩ => ⟨S2048x384, .f32⟩
  | .hbm, ⟨17, _⟩ => ⟨S2048x384, .f32⟩
  | .hbm, ⟨18, _⟩ => ⟨S_, .f32⟩
  | .hbm, ⟨19, _⟩ => ⟨S2048x384, .f32⟩
  | .hbm, ⟨20, _⟩ => ⟨S2048x384, .f32⟩
  | .hbm, ⟨21, _⟩ => ⟨S2048x384, .f32⟩
  | .hbm, ⟨22, _⟩ => ⟨S_, .f32⟩
  | .hbm, ⟨23, _⟩ => ⟨S2048x384, .f32⟩
  | .hbm, ⟨24, _⟩ => ⟨S2048x384, .f32⟩
  | .hbm, ⟨25, _⟩ => ⟨S_, .f32⟩
  | .hbm, ⟨26, _⟩ => ⟨S2048x384, .f32⟩
  | .hbm, ⟨27, _⟩ => ⟨S2048x384, .f32⟩
  | .hbm, ⟨28, _⟩ => ⟨S2048x384, .f32⟩
  | .hbm, ⟨29, _⟩ => ⟨S_, .f32⟩
  | .hbm, ⟨30, _⟩ => ⟨S2048x384, .f32⟩
  | .hbm, ⟨31, _⟩ => ⟨S2048x384, .f32⟩
  | .hbm, ⟨32, _⟩ => ⟨S2048x384, .f32⟩
  | .hbm, ⟨33, _⟩ => ⟨S_, .f32⟩
  | .hbm, ⟨34, _⟩ => ⟨S2048x384, .f32⟩
  | .hbm, ⟨35, _⟩ => ⟨S2048x384, .f32⟩
  | .hbm, ⟨36, _⟩ => ⟨S2048x384, .f32⟩
  | .hbm, ⟨37, _⟩ => ⟨S_, .f32⟩
  | .hbm, ⟨38, _⟩ => ⟨S2048x384, .f32⟩
  | .hbm, ⟨39, _⟩ => ⟨S2048x384, .f32⟩
  | _, _ => ⟨S8x2048x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Proof.Sums.lean ====
/-
  Arrays of extended reals given by functions of natural-number coordinates, and the operations the plain products use on
  them.  Addition of extended reals is commutative and associative, so a sum over a whole axis is the sum of its blocks'
  sums whatever the elements are: nothing here asks for a finite element.
-/
module

public import Idealize.ShloMosaic.Lib.VecWindow
public import Idealize.ShloMosaic.Lib.ValueIdx
public import Idealize.ShloMosaic.Lib.ValueIdxCoords
public import Idealize.ShloMosaic.Lib.Pointwise
public import Idealize.ShloMosaic.Lib.Pipeline.Value
public import Idealize.ShloMosaic.Lib.Pipeline.ValueKit
public import Idealize.ShloMosaic.PureOps.Ideal.Laws

@[expose] public section

set_option backward.isDefEq.respectTransparency false

noncomputable section

namespace Cert.Proof.Product

open Idealize.ShloMosaic
open Finset (range)

/-! ## Arrays from functions, functions from arrays -/

def e2 {φ : FTy} {n m : ℕ} (x : ℕ → ℕ → EReal) : FVec Ideal ⟨2, ![n, m]⟩ φ := fun j => x (j 0).val (j 1).val
def e3 {φ : FTy} {a n m : ℕ} (x : ℕ → ℕ → ℕ → EReal) : FVec Ideal ⟨3, ![a, n, m]⟩ φ := fun j => x (j 0).val (j 1).val (j 2).val

/-- The elements of an array by coordinates, `0` outside it. -/
def at2 {φ : FTy} {n m : ℕ} (v : FVec Ideal ⟨2, ![n, m]⟩ φ) (r c : ℕ) : EReal :=
  if h : r < n ∧ c < m then v (ValueIdx.ix2 ⟨r, h.1⟩ ⟨c, h.2⟩) else 0
def at3 {φ : FTy} {a n m : ℕ} (v : FVec Ideal ⟨3, ![a, n, m]⟩ φ) (s r c : ℕ) : EReal :=
  if h : s < a ∧ r < n ∧ c < m then v (ValueIdx.ix3 ⟨s, h.1⟩ ⟨r, h.2.1⟩ ⟨c, h.2.2⟩) else 0

theorem e2_at2 {φ : FTy} {n m : ℕ} (v : FVec Ideal ⟨2, ![n, m]⟩ φ) : e2 (at2 v) = v := by
  funext j
  have h : (j 0).val < n ∧ (j 1).val < m := ⟨(j 0).isLt, (j 1).isLt⟩
  show (if h : (j 0).val < n ∧ (j 1).val < m then _ else _) = _
  rw [dif_pos h]
  exact congrArg v (funext fun a => by fin_cases a <;> rfl)

theorem e3_at3 {φ : FTy} {a n m : ℕ} (v : FVec Ideal ⟨3, ![a, n, m]⟩ φ) : e3 (at3 v) = v := by
  funext j
  have h : (j 0).val < a ∧ (j 1).val < n ∧ (j 2).val < m := ⟨(j 0).isLt, (j 1).isLt, (j 2).isLt⟩
  show (if h : (j 0).val < a ∧ (j 1).val < n ∧ (j 2).val < m then _ else _) = _
  rw [dif_pos h]
  exact congrArg v (funext fun a => by fin_cases a <;> rfl)

theorem e2_congr {φ : FTy} {n m : ℕ} {x y : ℕ → ℕ → EReal} (h : ∀ r < n, ∀ c < m, x r c = y r c) :
    (e2 x : FVec Ideal ⟨2, ![n, m]⟩ φ) = e2 y :=
  funext fun j => h _ (j 0).isLt _ (j 1).isLt

theorem e3_congr {φ : FTy} {a n m : ℕ} {x y : ℕ → ℕ → ℕ → EReal} (h : ∀ s < a, ∀ r < n, ∀ c < m, x s r c = y s r c) :
    (e3 x : FVec Ideal ⟨3, ![a, n, m]⟩ φ) = e3 y :=
  funext fun j => h _ (j 0).isLt _ (j 1).isLt _ (j 2).isLt

/-! ## Blocks and layouts -/

section Layout
variable {φ : FTy}

theorem ld_e2 {A B a b p q : ℕ} (x : ℕ → ℕ → EReal) (inb) :
    View.ld (Val := Elt Ideal) (e' := .bf16) (e2 x : FVec Ideal ⟨2, ![A, B]⟩ .bf16) (Rect.unit (s := ⟨2, ![A, B]⟩) ![p, q] ![a, b] inb) =
      (e2 (fun r c => x (p + r) (q + c)) : FVec Ideal ⟨2, ![a, b]⟩ .bf16) := by
  funext j
  show x (p + 1 * (j 0).val) (q + 1 * (j 1).val) = _
  rw [Nat.one_mul, Nat.one_mul]; rfl

theorem ld_e3 {A B C a b c p q t : ℕ} (x : ℕ → ℕ → ℕ → EReal) (inb) :
    View.ld (Val := Elt Ideal) (e' := .bf16) (e3 x : FVec Ideal ⟨3, ![A, B, C]⟩ .bf16)
      (Rect.unit (s := ⟨3, ![A, B, C]⟩) ![p, q, t] ![a, b, c] inb) =
      (e3 (fun r c d => x (p + r) (q + c) (t + d)) : FVec Ideal ⟨3, ![a, b, c]⟩ .bf16) := by
  funext j
  show x (p + 1 * (j 0).val) (q + 1 * (j 1).val) (t + 1 * (j 2).val) = _
  rw [Nat.one_mul, Nat.one_mul, Nat.one_mul]; rfl

theorem shapeCast_drop_e3 {n m : ℕ} (x : ℕ → ℕ → ℕ → EReal) (h : (⟨3, ![1, n, m]⟩ : Shape).ShapeCasts ⟨2, ![n, m]⟩) :
    shapeCast ⟨2, ![n, m]⟩ (e3 x : FVec Ideal ⟨3, ![1, n, m]⟩ φ) h = (e2 (x 0) : FVec Ideal _ φ) := by
  funext j
  rw [shapeCast_apply _ h j (ValueIdx.ix3 0 (j 0) (j 1)) (by
    rw [Shape.rowMajor_val_three, Shape.rowMajor_val_two]
    show (0 * n + (j 0).val) * m + (j 1).val = (j 0).val * m + (j 1).val
    simp)]
  rfl

theorem shapeCast_add_e2 {n m : ℕ} (x : ℕ → ℕ → EReal) (h : (⟨2, ![n, m]⟩ : Shape).ShapeCasts ⟨3, ![1, n, m]⟩) :
    shapeCast ⟨3, ![1, n, m]⟩ (e2 x : FVec Ideal ⟨2, ![n, m]⟩ φ) h = (e3 (fun _ => x) : FVec Ideal _ φ) := by
  funext j
  rw [shapeCast_apply _ h j (ValueIdx.ix2 (j 1) (j 2)) (by
    rw [Shape.rowMajor_val_three, Shape.rowMajor_val_two]
    have e0 : (j 0).val = 0 := Nat.lt_one_iff.1 (j 0).isLt
    show (j 1).val * m + (j 2).val = ((j 0).val * n + (j 1).val) * m + (j 2).val
    rw [e0]; simp)]
  rfl

/-- A broadcast that adds a leading axis of one. -/
theorem broadcast_add_e2 {n m : ℕ} (x : ℕ → ℕ → EReal) (h : (⟨2, ![n, m]⟩ : Shape).BroadcastsInDim ⟨3, ![1, n, m]⟩ ![1, 2]) :
    broadcastInDim ⟨3, ![1, n, m]⟩ ![1, 2] h (e2 x : FVec Ideal ⟨2, ![n, m]⟩ φ) = (e3 (fun _ => x) : FVec Ideal _ φ) := by
  funext j
  refine (broadcastInDim_apply _ h _ j (ValueIdx.ix2 (j 1) (j 2)) fun a => ?_).trans rfl
  fin_cases a
  · show (j 1).val = if n = 1 then 0 else (j 1).val
    split
    · rename_i hn; exact Nat.lt_one_iff.1 (lt_of_lt_of_eq (j 1).isLt hn)
    · rfl
  · show (j 2).val = if m = 1 then 0 else (j 2).val
    split
    · rename_i hn; exact Nat.lt_one_iff.1 (lt_of_lt_of_eq (j 2).isLt hn)
    · rfl

/-- The last two axes as one. -/
theorem shapeCast_join_e3 {n a b ab : ℕ} (hab : ab = a * b) (hb : 0 < b) (x : ℕ → ℕ → ℕ → EReal)
    (h : (⟨3, ![n, a, b]⟩ : Shape).ShapeCasts ⟨2, ![n, ab]⟩) :
    shapeCast ⟨2, ![n, ab]⟩ (e3 x : FVec Ideal ⟨3, ![n, a, b]⟩ φ) h = (e2 (fun r c => x r (c / b) (c % b)) : FVec Ideal _ φ) := by
  subst hab
  funext j
  have hj : (j 1).val < a * b := (j 1).isLt
  rw [shapeCast_apply _ h j (ValueIdx.ix3 (j 0) ⟨(j 1).val / b, Nat.div_lt_of_lt_mul (lt_of_lt_of_eq hj (Nat.mul_comm a b))⟩ ⟨(j 1).val % b, Nat.mod_lt _ hb⟩) (by
    rw [Shape.rowMajor_val_three, Shape.rowMajor_val_two]
    show ((j 0).val * a + (j 1).val / b) * b + (j 1).val % b = (j 0).val * (a * b) + (j 1).val
    rw [Nat.add_mul, Nat.mul_assoc, Nat.add_assoc, Nat.div_add_mod'])]
  rfl

/-- The last axis as two. -/
theorem shapeCast_split_e2 {n a b ab : ℕ} (hab : ab = a * b) (x : ℕ → ℕ → EReal)
    (h : (⟨2, ![n, ab]⟩ : Shape).ShapeCasts ⟨3, ![n, a, b]⟩) :
    shapeCast ⟨3, ![n, a, b]⟩ (e2 x : FVec Ideal ⟨2, ![n, ab]⟩ φ) h = (e3 (fun r s c => x r (b * s + c)) : FVec Ideal _ φ) := by
  subst hab
  funext j
  have h1 : (j 1).val < a := (j 1).isLt
  have h2 : (j 2).val < b := (j 2).isLt
  have hlt : b * (j 1).val + (j 2).val < a * b := by
    calc b * (j 1).val + (j 2).val < b * (j 1).val + b := by omega
      _ = b * ((j 1).val + 1) := by ring
      _ ≤ b * a := Nat.mul_le_mul_left _ h1
      _ = a * b := Nat.mul_comm _ _
  rw [shapeCast_apply _ h j (ValueIdx.ix2 (j 0) ⟨b * (j 1).val + (j 2).val, hlt⟩) (by
    rw [Shape.rowMajor_val_three, Shape.rowMajor_val_two]
    show (j 0).val * (a * b) + (b * (j 1).val + (j 2).val) = ((j 0).val * a + (j 1).val) * b + (j 2).val
    ring)]
  rfl

/-- The first two axes exchanged. -/
theorem transpose_e3 {a b c : ℕ} (x : ℕ → ℕ → ℕ → EReal) (h : (⟨3, ![a, b, c]⟩ : Shape).Transposes [1, 0, 2] ⟨3, ![b, a, c]⟩) :
    transpose ⟨3, ![b, a, c]⟩ [1, 0, 2] (e3 x : FVec Ideal ⟨3, ![a, b, c]⟩ φ) h = (e3 (fun r s c => x s r c) : FVec Ideal _ φ) := by
  funext j
  rw [transpose_apply [1, 0, 2] _ h j (ValueIdx.ix3 (j 1) (j 0) (j 2)) (fun b => by fin_cases b <;> rfl)]
  rfl

theorem transpose_e2 {n m : ℕ} (x : ℕ → ℕ → EReal) (h : (⟨2, ![n, m]⟩ : Shape).Transposes [1, 0] ⟨2, ![m, n]⟩) :
    transpose ⟨2, ![m, n]⟩ [1, 0] (e2 x : FVec Ideal ⟨2, ![n, m]⟩ φ) h = (e2 (fun r c => x c r) : FVec Ideal _ φ) := by
  funext j
  rw [transpose_apply [1, 0] _ h j (ValueIdx.ix2 (j 1) (j 0)) (fun b => by fin_cases b <;> rfl)]
  rfl

theorem extf_e2 {ψ : FTy} {n m : ℕ} (x : ℕ → ℕ → EReal) (h : φ.bits < ψ.bits) :
    extf ψ (e2 x : FVec Ideal ⟨2, ![n, m]⟩ φ) h = (e2 x : FVec Ideal _ ψ) := rfl
theorem extf_e3 {ψ : FTy} {a n m : ℕ} (x : ℕ → ℕ → ℕ → EReal) (h : φ.bits < ψ.bits) :
    extf ψ (e3 x : FVec Ideal ⟨3, ![a, n, m]⟩ φ) h = (e3 x : FVec Ideal _ ψ) := rfl
theorem truncf_e2 {ψ : FTy} {n m : ℕ} (x : ℕ → ℕ → EReal) (h : ψ.bits < φ.bits) :
    truncf ψ (e2 x : FVec Ideal ⟨2, ![n, m]⟩ φ) h = (e2 x : FVec Ideal _ ψ) := rfl
theorem addf_e2 {n m : ℕ} (x y : ℕ → ℕ → EReal) :
    addf (e2 x : FVec Ideal ⟨2, ![n, m]⟩ φ) (e2 y) = (e2 (fun r c => x r c + y r c) : FVec Ideal _ φ) := rfl

/-- A block of an array, by where it starts. -/
theorem block_e2 {A B a b : ℕ} (x : FVec Ideal ⟨2, ![A, B]⟩ φ) (e : (⟨2, ![a, b]⟩ : Shape).Idx → (⟨2, ![A, B]⟩ : Shape).Idx) (p q : ℕ)
    (h0 : ∀ y, (e y 0).val = p + (y 0).val) (h1 : ∀ y, (e y 1).val = q + (y 1).val) :
    (fun y => x (e y)) = (e2 fun r c => at2 x (p + r) (q + c) : FVec Ideal _ φ) := by
  funext y
  refine (congrFun (e2_at2 x) (e y)).symm.trans ?_
  show at2 x _ _ = _
  rw [h0, h1]; rfl

theorem block_e3 {A B C a b c : ℕ} (x : FVec Ideal ⟨3, ![A, B, C]⟩ φ) (e : (⟨3, ![a, b, c]⟩ : Shape).Idx → (⟨3, ![A, B, C]⟩ : Shape).Idx)
    (p q t : ℕ) (h0 : ∀ y, (e y 0).val = p + (y 0).val) (h1 : ∀ y, (e y 1).val = q + (y 1).val) (h2 : ∀ y, (e y 2).val = t + (y 2).val) :
    (fun y => x (e y)) = (e3 fun s r c => at3 x (p + s) (q + r) (t + c) : FVec Ideal _ φ) := by
  funext y
  refine (congrFun (e3_at3 x) (e y)).symm.trans ?_
  show at3 x _ _ _ = _
  rw [h0, h1, h2]; rfl

end Layout

/-! ## Products -/

section Products
variable {φ : FTy} {n m K : ℕ}

theorem matmul_e2 {sl sr : Shape} (d : DotDims sl sr ⟨2, ![n, m]⟩) (p : Option ContractPrecision) {ax : Fin sl.rank}
    (hc : d.lhsContracting = [ax]) (hK : sl.size ax = K) (u : FVec Ideal sl φ) (v : FVec Ideal sr φ) (A B : ℕ → ℕ → ℕ → EReal)
    (hL : ∀ j k, u (d.lhsIdx j (d.contrIdx₁ hc hK k)) = A (j 0).val (j 1).val k.val)
    (hR : ∀ j k, v (d.rhsIdx j (d.contrIdx₁ hc hK k)) = B (j 0).val (j 1).val k.val) :
    matmul d p u v (constant _ .f32 0x00000000#32) = e2 (fun r c => ∑ k ∈ range K, A r c k * B r c k) := by
  funext j
  simp only [matmul]
  rw [Ideal.matmul_constant_zero_apply, d.sum_contr₁ hc hK]
  exact (Finset.sum_congr rfl fun k _ => congrArg₂ (· * ·) (hL j k) (hR j k)).trans
    (Fin.sum_univ_eq_sum_range (fun k => A (j 0).val (j 1).val k * B (j 0).val (j 1).val k) K)

theorem dotGeneral_e2 {sl sr : Shape} (d : DotDims sl sr ⟨2, ![n, m]⟩) (p : Option ContractPrecision) {ax : Fin sl.rank}
    (hc : d.lhsContracting = [ax]) (hK : sl.size ax = K) (u : FVec Ideal sl .f32) (v : FVec Ideal sr .f32) (A B : ℕ → ℕ → ℕ → EReal)
    (hL : ∀ j k, u (d.lhsIdx j (d.contrIdx₁ hc hK k)) = A (j 0).val (j 1).val k.val)
    (hR : ∀ j k, v (d.rhsIdx j (d.contrIdx₁ hc hK k)) = B (j 0).val (j 1).val k.val) :
    Host.dotGeneral d p u v = (e2 (fun r c => ∑ k ∈ range K, A r c k * B r c k) : FVec Ideal _ .f32) := by
  funext j
  unfold Host.dotGeneral
  rw [Ideal.dotGeneral_apply, d.sum_contr₁ hc hK]
  exact (Finset.sum_congr rfl fun k _ => congrArg₂ (· * ·) (hL j k) (hR j k)).trans
    (Fin.sum_univ_eq_sum_range (fun k => A (j 0).val (j 1).val k * B (j 0).val (j 1).val k) K)

end Products

/-! ## Sums by blocks -/

/-- A sum over `n` blocks of `b`. -/
theorem sum_blocks (b : ℕ) (f : ℕ → EReal) (n : ℕ) : ∑ s ∈ range n, ∑ k ∈ range b, f (b * s + k) = ∑ k ∈ range (b * n), f k := by
  induction n with
  | zero => simp
  | succ n ih => rw [Finset.sum_range_succ, ih, Nat.mul_succ, Finset.sum_range_add]

/-- A contraction whose second operand lies in eight segments of `b`, as the kernel adds it: one segment after the other. -/
theorem sum_segments (b : ℕ) (x : ℕ → EReal) (w : ℕ → ℕ → EReal) :
    ∑ k ∈ range (b * 8), x k * w (k / b) (k % b) =
      (∑ k ∈ range b, x (b * 0 + k) * w 0 k) + (∑ k ∈ range b, x (b * 1 + k) * w 1 k) + (∑ k ∈ range b, x (b * 2 + k) * w 2 k) +
      (∑ k ∈ range b, x (b * 3 + k) * w 3 k) + (∑ k ∈ range b, x (b * 4 + k) * w 4 k) + (∑ k ∈ range b, x (b * 5 + k) * w 5 k) +
      (∑ k ∈ range b, x (b * 6 + k) * w 6 k) + ∑ k ∈ range b, x (b * 7 + k) * w 7 k := by
  have hs : ∀ s, (∑ k ∈ range b, x (b * s + k) * w ((b * s + k) / b) ((b * s + k) % b)) = ∑ k ∈ range b, x (b * s + k) * w s k :=
    fun s => Finset.sum_congr rfl fun k hk => by
      have hk := Finset.mem_range.1 hk
      rw [Nat.mul_add_div (Nat.zero_lt_of_lt hk), Nat.div_eq_of_lt hk, Nat.add_zero, Nat.mul_add_mod, Nat.mod_eq_of_lt hk]
  rw [← sum_blocks b (fun k => x k * w (k / b) (k % b)) 8]
  simp only [Finset.sum_range_succ (n := 7), Finset.sum_range_succ (n := 6), Finset.sum_range_succ (n := 5), Finset.sum_range_succ (n := 4),
    Finset.sum_range_succ (n := 3), Finset.sum_range_succ (n := 2), Finset.sum_range_succ (n := 1), Finset.sum_range_one, hs]

/-- A product with a weight of one segment, added to a residual stream. -/
def residual (x : ℕ → ℕ → EReal) (w : ℕ → ℕ → ℕ → EReal) (h : ℕ → ℕ → EReal) (r c : ℕ) : EReal := (∑ k ∈ range 2048, x r k * w 0 k c) + h r c

/-! ## Products of columns, four blocks of 2048 rows added one after the other -/

section Rows
variable (u g : ℕ → ℕ → EReal)

/-- One block's part: column `p` of `u` with column `q` of `g`. -/
def part (p q : ℕ) : EReal := ∑ k ∈ range 2048, u k p * g k q
/-- The sum of the first `n` blocks. -/
def sumOf (n p q : ℕ) : EReal := ∑ i ∈ range n, ∑ k ∈ range 2048, u (2048 * i + k) p * g (2048 * i + k) q
/-- All the rows. -/
def columns (p q : ℕ) : EReal := ∑ k ∈ range 8192, u k p * g k q

theorem sumOf_one (p q : ℕ) : sumOf u g 1 p q = ∑ k ∈ range 2048, u (2048 * 0 + k) p * g (2048 * 0 + k) q :=
  Finset.sum_range_one _
theorem sumOf_succ (n p q : ℕ) : sumOf u g (n + 1) p q = sumOf u g n p q + ∑ k ∈ range 2048, u (2048 * n + k) p * g (2048 * n + k) q :=
  Finset.sum_range_succ _ _
theorem sumOf_all (p q : ℕ) : sumOf u g 4 p q = columns u g p q := sum_blocks 2048 (fun k => u k p * g k q) 4

end Rows

end Cert.Proof.Product

end
-- ==== Proof.RowNorm.lean ====
/-
  The root-mean-square normalisation of rows, `h · rsqrt(mean h² + ε) · g`: the kernel's operations and the host's read as one
  function of coordinates.  The mean's divisor and `ε` stay the constants the programs write.
-/
module

public import proofs.«01_k».proof.Proof.Sums
public import Idealize.ShloMosaic.Lib.KernelVsHost

@[expose] public section

set_option backward.isDefEq.respectTransparency false

noncomputable section

namespace Cert.Proof.Product

open Idealize.ShloMosaic
open Finset (range)

/-- What row `r` is multiplied by. -/
def scale (h : ℕ → ℕ → EReal) (r : ℕ) : EReal :=
  Ideal.rsqrt (Ideal.div (∑ k ∈ range 2048, h r k * h r k) (Scalar.ofBits (F := Ideal) .f32 0x45000000#32) + Scalar.ofBits (F := Ideal) .f32 0x358637BD#32)
/-- The normalised rows. -/
def normed (h : ℕ → ℕ → EReal) (g : ℕ → EReal) (r c : ℕ) : EReal := h r c * scale h r * g c

theorem scale_congr {h h' : ℕ → ℕ → EReal} {r r' : ℕ} (e : ∀ c < 2048, h r c = h' r' c) : scale h r = scale h' r' := by
  unfold scale
  rw [Finset.sum_congr rfl fun k hk => congrArg₂ (· * ·) (e k (Finset.mem_range.1 hk)) (e k (Finset.mem_range.1 hk))]

theorem mulf_e2 {φ : FTy} {n m : ℕ} (x y : ℕ → ℕ → EReal) :
    mulf (e2 x : FVec Ideal ⟨2, ![n, m]⟩ φ) (e2 y) = (e2 (fun r c => x r c * y r c) : FVec Ideal _ φ) := rfl

/-! ## The kernel's operations -/

theorem rowSum_e2 {n m : ℕ} (x : ℕ → ℕ → EReal) (hr : (⟨2, ![n, m]⟩ : Shape).Reduces [1] ⟨1, ![n]⟩) (hb) (hi)
    (hc : (⟨1, ![n]⟩ : Shape).ShapeCasts ⟨2, ![n, 1]⟩) :
    shapeCast ⟨2, ![n, 1]⟩ (multiReduction .add [1] ⟨1, ![n]⟩ (e2 x : FVec Ideal ⟨2, ![n, m]⟩ .f32) 0x00000000#32 hr hb hi) hc =
      (e2 (fun r _ => ∑ c ∈ range m, x r c) : FVec Ideal _ .f32) := by
  funext j
  rw [shapeCast_apply _ hc j (ValueIdx.ix1 (j 0)) (by
    rw [Shape.rowMajor_val_one, Shape.rowMajor_val_two]
    have h1 := (j 1).isLt
    have e : (⟨2, ![n, 1]⟩ : Shape).size 1 = 1 := rfl
    show (j 0).val = (j 0).val * 1 + (j 1).val
    omega)]
  rw [Ideal.multiReduction_add_single]
  exact Fin.sum_univ_eq_sum_range (fun c => x (j 0).val c) m

theorem broadcastTo_column_e2 {φ : FTy} {n m : ℕ} (hn : n ≠ 1) (x : ℕ → ℕ → EReal) (h : (⟨2, ![n, 1]⟩ : Shape).Broadcasts ⟨2, ![n, m]⟩) :
    broadcastTo ⟨2, ![n, m]⟩ (e2 x : FVec Ideal ⟨2, ![n, 1]⟩ φ) h = (e2 (fun r _ => x r 0) : FVec Ideal _ φ) := by
  funext j
  rw [broadcastTo_apply _ h j (ValueIdx.ix2 (j 0) 0) (fun a => by
    fin_cases a
    · show _ = if n = 1 then 0 else _
      rw [if_neg hn]; rfl
    · rfl)]
  rfl

theorem broadcastTo_row_e2 {φ : FTy} {n m : ℕ} (hm : m ≠ 1) (x : ℕ → ℕ → EReal) (h : (⟨2, ![1, m]⟩ : Shape).Broadcasts ⟨2, ![n, m]⟩) :
    broadcastTo ⟨2, ![n, m]⟩ (e2 x : FVec Ideal ⟨2, ![1, m]⟩ φ) h = (e2 (fun _ c => x 0 c) : FVec Ideal _ φ) := by
  funext j
  rw [broadcastTo_apply _ h j (ValueIdx.ix2 0 (j 1)) (fun a => by
    fin_cases a
    · rfl
    · show _ = if m = 1 then 0 else _
      rw [if_neg hm]; rfl)]
  rfl

theorem scale_e2 {n : ℕ} (h : ℕ → ℕ → EReal) :
    rsqrt (addf (divf (e2 (fun r _ => ∑ c ∈ range 2048, h r c * h r c) : FVec Ideal ⟨2, ![n, 1]⟩ .f32)
      (broadcast ⟨2, ![n, 1]⟩ (Scalar.ofBits .f32 0x45000000#32))) (broadcast ⟨2, ![n, 1]⟩ (Scalar.ofBits .f32 0x358637BD#32))) =
      (e2 (fun r _ => scale h r) : FVec Ideal _ .f32) := rfl

theorem normed_e2 {n : ℕ} (hn : n ≠ 1) (f g : ℕ → ℕ → EReal) (hr : (⟨2, ![n, 2048]⟩ : Shape).Reduces [1] ⟨1, ![n]⟩) (hb) (hi)
    (hc : (⟨1, ![n]⟩ : Shape).ShapeCasts ⟨2, ![n, 1]⟩) (h₁ : (⟨2, ![n, 1]⟩ : Shape).Broadcasts ⟨2, ![n, 2048]⟩)
    (h₂ : (⟨2, ![1, 2048]⟩ : Shape).Broadcasts ⟨2, ![n, 2048]⟩) (h₃ : (⟨2, ![1, 2048]⟩ : Shape).ShapeCasts ⟨2, ![1, 2048]⟩) (h₄) :
    truncf .bf16 (mulf (mulf (e2 f) (broadcastTo ⟨2, ![n, 2048]⟩ (rsqrt (addf (divf (shapeCast ⟨2, ![n, 1]⟩
      (multiReduction .add [1] ⟨1, ![n]⟩ (mulf (e2 f) (e2 f) : FVec Ideal ⟨2, ![n, 2048]⟩ .f32) 0x00000000#32 hr hb hi) hc)
      (broadcast ⟨2, ![n, 1]⟩ (Scalar.ofBits .f32 0x45000000#32))) (broadcast ⟨2, ![n, 1]⟩ (Scalar.ofBits .f32 0x358637BD#32)))) h₁))
      (broadcastTo ⟨2, ![n, 2048]⟩ (shapeCast ⟨2, ![1, 2048]⟩ (e2 g : FVec Ideal ⟨2, ![1, 2048]⟩ .f32) h₃) h₂)) h₄ =
    (e2 (normed f (g 0)) : FVec Ideal ⟨2, ![n, 2048]⟩ .bf16) := by
  rw [mulf_e2, rowSum_e2, scale_e2, broadcastTo_column_e2 hn, mulf_e2, shapeCast_self, broadcastTo_row_e2 (by omega), mulf_e2, truncf_e2]
  rfl

/-! ## The host's -/

theorem hostRowSum_e2 {n m : ℕ} (x : ℕ → ℕ → EReal) (h : (⟨2, ![n, m]⟩ : Shape).ReducesTo [1] ⟨1, ![n]⟩) (hk : (⟨2, ![n, m]⟩ : Shape).Reduces [1] ⟨1, ![n]⟩)
    (hn : n ≠ 1) (hu) (hb : (⟨1, ![n]⟩ : Shape).BroadcastsInDim ⟨2, ![n, 1]⟩ ![0]) :
    broadcastInDim ⟨2, ![n, 1]⟩ ![0] hb (Host.reduceAdd (e2 x : FVec Ideal ⟨2, ![n, m]⟩ .f32) (constant ⟨0, ![]⟩ .f32 0x00000000#32) h hu) =
      (e2 (fun r _ => ∑ c ∈ range m, x r c) : FVec Ideal _ .f32) := by
  funext j
  rw [← multiReduction_add_eq_hostReduceAdd (e2 x : FVec Ideal ⟨2, ![n, m]⟩ .f32) 0x00000000#32 hk (.inl rfl) rfl _ h hu Ideal.ofBits_zero_f32,
    broadcastInDim_apply _ hb _ j (ValueIdx.ix1 (j 0)) (fun a => by
      fin_cases a
      show (j 0).val = if n = 1 then 0 else (j 0).val
      rw [if_neg hn]),
    Ideal.multiReduction_add_single]
  exact Fin.sum_univ_eq_sum_range (fun c => x (j 0).val c) m

theorem broadcastInDim_column_e2 {φ : FTy} {n m : ℕ} (hn : n ≠ 1) (x : ℕ → ℕ → EReal)
    (h : (⟨2, ![n, 1]⟩ : Shape).BroadcastsInDim ⟨2, ![n, m]⟩ ![0, 1]) :
    broadcastInDim ⟨2, ![n, m]⟩ ![0, 1] h (e2 x : FVec Ideal ⟨2, ![n, 1]⟩ φ) = (e2 (fun r _ => x r 0) : FVec Ideal _ φ) := by
  funext j
  rw [broadcastInDim_apply _ h _ j (ValueIdx.ix2 (j 0) 0) (fun a => by
    fin_cases a
    · show _ = if n = 1 then 0 else _
      rw [if_neg hn]; rfl
    · rfl)]
  rfl

/-- A vector as every row. -/
theorem broadcastInDim_row_e2 {φ : FTy} {n m : ℕ} (hm : m ≠ 1) (x : FVec Ideal ⟨1, ![m]⟩ φ) (h' : (⟨1, ![m]⟩ : Shape).BroadcastsInDim ⟨2, ![1, m]⟩ ![1])
    (h : (⟨2, ![1, m]⟩ : Shape).BroadcastsInDim ⟨2, ![n, m]⟩ ![0, 1]) (hc : (⟨1, ![m]⟩ : Shape).ShapeCasts ⟨2, ![1, m]⟩) :
    broadcastInDim ⟨2, ![n, m]⟩ ![0, 1] h (broadcastInDim ⟨2, ![1, m]⟩ ![1] h' x) =
      (e2 (fun _ c => at2 (shapeCast ⟨2, ![1, m]⟩ x hc) 0 c) : FVec Ideal _ φ) := by
  funext j
  rw [broadcastInDim_apply _ h _ j (ValueIdx.ix2 0 (j 1)) (fun a => by
    fin_cases a
    · rfl
    · show _ = if m = 1 then 0 else _
      rw [if_neg hm]; rfl),
    broadcastInDim_apply _ h' _ _ (ValueIdx.ix1 (j 1)) (fun a => by
      fin_cases a
      show (j 1).val = if m = 1 then 0 else (j 1).val
      rw [if_neg hm])]
  show _ = at2 _ 0 (j 1).val
  unfold at2
  rw [dif_pos ⟨Nat.one_pos, (j 1).isLt⟩, shapeCast_apply _ hc _ (ValueIdx.ix1 (j 1)) (by
    rw [Shape.rowMajor_val_one, Shape.rowMajor_val_two]
    show (j 1).val = 0 * m + (j 1).val
    omega)]

theorem hostScale_e2 {n : ℕ} (h : ℕ → ℕ → EReal) (hb) (hb') :
    Host.rsqrt (addf (Host.divf (e2 (fun r _ => ∑ c ∈ range 2048, h r c * h r c) : FVec Ideal ⟨2, ![n, 1]⟩ .f32)
      (broadcastInDim ⟨2, ![n, 1]⟩ ![] hb (constant ⟨0, ![]⟩ .f32 0x45000000#32)))
      (broadcastInDim ⟨2, ![n, 1]⟩ ![] hb' (constant ⟨0, ![]⟩ .f32 0x358637BD#32))) =
      (e2 (fun r _ => scale h r) : FVec Ideal _ .f32) := rfl

theorem hostNormed_e2 {n : ℕ} (hn : n ≠ 1) (f : ℕ → ℕ → EReal) (g : FVec Ideal ⟨1, ![2048]⟩ .f32)
    (hr : (⟨2, ![n, 2048]⟩ : Shape).ReducesTo [1] ⟨1, ![n]⟩) (hk : (⟨2, ![n, 2048]⟩ : Shape).Reduces [1] ⟨1, ![n]⟩) (hu)
    (hb : (⟨1, ![n]⟩ : Shape).BroadcastsInDim ⟨2, ![n, 1]⟩ ![0]) (h₁ h₂)
    (h₃ : (⟨2, ![n, 1]⟩ : Shape).BroadcastsInDim ⟨2, ![n, 2048]⟩ ![0, 1]) (h₄ : (⟨1, ![2048]⟩ : Shape).BroadcastsInDim ⟨2, ![1, 2048]⟩ ![1])
    (h₅ : (⟨2, ![1, 2048]⟩ : Shape).BroadcastsInDim ⟨2, ![n, 2048]⟩ ![0, 1]) (hc : (⟨1, ![2048]⟩ : Shape).ShapeCasts ⟨2, ![1, 2048]⟩) (h₆) :
    truncf .bf16 (mulf (mulf (e2 f) (broadcastInDim ⟨2, ![n, 2048]⟩ ![0, 1] h₃ (Host.rsqrt (addf (Host.divf (broadcastInDim ⟨2, ![n, 1]⟩ ![0] hb
      (Host.reduceAdd (mulf (e2 f) (e2 f) : FVec Ideal ⟨2, ![n, 2048]⟩ .f32) (constant ⟨0, ![]⟩ .f32 0x00000000#32) hr hu))
      (broadcastInDim ⟨2, ![n, 1]⟩ ![] h₁ (constant ⟨0, ![]⟩ .f32 0x45000000#32)))
      (broadcastInDim ⟨2, ![n, 1]⟩ ![] h₂ (constant ⟨0, ![]⟩ .f32 0x358637BD#32))))))
      (broadcastInDim ⟨2, ![n, 2048]⟩ ![0, 1] h₅ (broadcastInDim ⟨2, ![1, 2048]⟩ ![1] h₄ g))) h₆ =
    (e2 (normed f (at2 (shapeCast ⟨2, ![1, 2048]⟩ g hc) 0)) : FVec Ideal ⟨2, ![n, 2048]⟩ .bf16) := by
  rw [mulf_e2, hostRowSum_e2 _ hr hk hn, hostScale_e2, broadcastInDim_column_e2 hn, mulf_e2, broadcastInDim_row_e2 (by omega) g h₄ h₅ hc, mulf_e2, truncf_e2]
  rfl

end Cert.Proof.Product

end
-- ==== Proof.Tiles.lean ====
/-
  What the plain products share: a grid point's tiles read and written by coordinates, a scratch carried over four blocks of
  rows, each product's sum at one tile against the whole, the references' layouts, and the two shapes of run the claims are put
  together from.
-/
module

public import proofs.«01_k».proof.Proof.RowNorm
public import Idealize.ShloMosaic.Lib.Claim
public import Idealize.ShloMosaic.Lib.Quiescent

@[expose] public section

set_option backward.isDefEq.respectTransparency false

noncomputable section

namespace Cert.Proof.Product

open Idealize.ShloMosaic Idealize.SL.Sem
open Finset (range)

theorem hz : (![0, 0] : Fin 2 → Nat) = fun _ => 0 := funext fun a => by fin_cases a <;> rfl
theorem hz3 : (![0, 0, 0] : Fin 3 → Nat) = fun _ => 0 := funext fun a => by fin_cases a <;> rfl

/-! ## Tiles: `i` is the index map's value, `e` where the tile's elements lie in the array -/

section Tiles
variable {φ : FTy} {A B C a b c p q t : ℕ}

theorem tile_e2 (x : FVec Ideal ⟨2, ![A, B]⟩ φ) (e : (⟨2, ![a, b]⟩ : Shape).Idx → (⟨2, ![A, B]⟩ : Shape).Idx) {i : Fin 2 → ℕ} (hi : i = ![p, q])
    (h0 : ∀ y, (e y 0).val = i 0 * a + 1 * (y 0).val) (h1 : ∀ y, (e y 1).val = i 1 * b + 1 * (y 1).val) :
    (fun y => x (e y)) = (e2 fun r k => at2 x (a * p + r) (b * q + k) : FVec Ideal _ φ) := by
  subst hi
  exact block_e2 x e _ _ (fun y => by rw [h0, Nat.one_mul, Nat.mul_comm a p]; rfl) (fun y => by rw [h1, Nat.one_mul, Nat.mul_comm b q]; rfl)

theorem tile_e3 (x : FVec Ideal ⟨3, ![A, B, C]⟩ φ) (e : (⟨3, ![a, b, c]⟩ : Shape).Idx → (⟨3, ![A, B, C]⟩ : Shape).Idx) {i : Fin 3 → ℕ}
    (hi : i = ![p, q, t]) (h0 : ∀ y, (e y 0).val = i 0 * a + 1 * (y 0).val) (h1 : ∀ y, (e y 1).val = i 1 * b + 1 * (y 1).val)
    (h2 : ∀ y, (e y 2).val = i 2 * c + 1 * (y 2).val) :
    (fun y => x (e y)) = (e3 fun s r k => at3 x (a * p + s) (b * q + r) (c * t + k) : FVec Ideal _ φ) := by
  subst hi
  exact block_e3 x e _ _ _ (fun y => by rw [h0, Nat.one_mul, Nat.mul_comm a p]; rfl) (fun y => by rw [h1, Nat.one_mul, Nat.mul_comm b q]; rfl)
    (fun y => by rw [h2, Nat.one_mul, Nat.mul_comm c t]; rfl)

/-- A tile that agrees with a function where it lies. -/
theorem e2_tile {f g : ℕ → ℕ → EReal} (e : (⟨2, ![a, b]⟩ : Shape).Idx → (⟨2, ![A, B]⟩ : Shape).Idx) {i : Fin 2 → ℕ} (hi : i = ![p, q])
    (h0 : ∀ y, (e y 0).val = i 0 * a + 1 * (y 0).val) (h1 : ∀ y, (e y 1).val = i 1 * b + 1 * (y 1).val)
    (h : ∀ r < a, ∀ k < b, g r k = f (a * p + r) (b * q + k)) (y : (⟨2, ![a, b]⟩ : Shape).Idx) :
    (e2 g : FVec Ideal ⟨2, ![a, b]⟩ φ) y = (e2 f : FVec Ideal ⟨2, ![A, B]⟩ φ) (e y) := by
  subst hi
  show g _ _ = f _ _
  rw [h _ (y 0).isLt _ (y 1).isLt, h0, h1, Nat.one_mul, Nat.one_mul, Nat.mul_comm a p, Nat.mul_comm b q]; rfl

theorem e3_tile {f g : ℕ → ℕ → ℕ → EReal} (e : (⟨3, ![a, b, c]⟩ : Shape).Idx → (⟨3, ![A, B, C]⟩ : Shape).Idx) {i : Fin 3 → ℕ} (hi : i = ![p, q, t])
    (h0 : ∀ y, (e y 0).val = i 0 * a + 1 * (y 0).val) (h1 : ∀ y, (e y 1).val = i 1 * b + 1 * (y 1).val)
    (h2 : ∀ y, (e y 2).val = i 2 * c + 1 * (y 2).val)
    (h : ∀ s < a, ∀ r < b, ∀ k < c, g s r k = f (a * p + s) (b * q + r) (c * t + k)) (y : (⟨3, ![a, b, c]⟩ : Shape).Idx) :
    (e3 g : FVec Ideal ⟨3, ![a, b, c]⟩ φ) y = (e3 f : FVec Ideal ⟨3, ![A, B, C]⟩ φ) (e y) := by
  subst hi
  show g _ _ _ = f _ _ _
  rw [h _ (y 0).isLt _ (y 1).isLt _ (y 2).isLt, h0, h1, h2, Nat.one_mul, Nat.one_mul, Nat.one_mul, Nat.mul_comm a p, Nat.mul_comm b q,
    Nat.mul_comm c t]; rfl

end Tiles

/-! ## A scratch carried over four points -/

/-- What every point leaves, if each first point of four leaves it and each other one does whenever the point before did. -/
theorem carried {β : Type} {N : ℕ} (s : (n : ℕ) → n < N → β) (S : ℕ → β) (first : ∀ n h, n % 4 = 0 → s n h = S n)
    (next : ∀ n h, ¬n % 4 = 0 → s (n - 1) (Nat.lt_of_le_of_lt (Nat.sub_le _ _) h) = S (n - 1) → s n h = S n) : ∀ n h, s n h = S n := by
  intro n
  induction n with
  | zero => exact fun h => first 0 h rfl
  | succ n ih =>
    intro h
    by_cases h0 : (n + 1) % 4 = 0
    · exact first _ h h0
    · exact next _ h h0 (ih _)

/-! ## The weight's gradient: columns with columns, the rows by blocks of 2048 -/

section Columns
variable (u g : ℕ → ℕ → EReal)

/-- The tile of the running sum after point `n`: the tiles of the result are `a` by `b`, `d` of them across. -/
def running (a b d n r q : ℕ) : EReal := sumOf u g (n % 4 + 1) (a * (n / (4 * d)) + r) (b * (n / 4 % d) + q)

theorem running_first (a b d n r q : ℕ) (h : n % 4 = 0) :
    part (fun k r => u (2048 * (n % 4) + k) (a * (n / (4 * d)) + r)) (fun k q => g (2048 * (n % 4) + k) (b * (n / 4 % d) + q)) r q =
      running u g a b d n r q := by
  unfold running
  rw [h]
  exact (sumOf_one _ _ _ _).symm

theorem running_next (a b d n r q : ℕ) (h : ¬n % 4 = 0) :
    running u g a b d (n - 1) r q +
        part (fun k r => u (2048 * (n % 4) + k) (a * (n / (4 * d)) + r)) (fun k q => g (2048 * (n % 4) + k) (b * (n / 4 % d) + q)) r q =
      running u g a b d n r q := by
  unfold running
  rw [← Nat.div_div_eq_div_mul, ← Nat.div_div_eq_div_mul, show (n - 1) % 4 + 1 = n % 4 from by omega,
    show (n - 1) / 4 = n / 4 from by omega, sumOf_succ]
  rfl

theorem running_last (a b d n r q : ℕ) (h : n % 4 = 3) :
    running u g a b d n r q = columns u g (a * (n / (4 * d)) + r) (b * (n / 4 % d) + q) := by
  unfold running
  rw [h]
  exact sumOf_all _ _ _ _

/-- The gradient of the weight by segments of `b` columns. -/
def weightGrad (b s r q : ℕ) : EReal := columns u g r (b * s + q)

/-- A tile written at the fourth point, in its segment. -/
theorem weightGrad_tile (a b d n s r q : ℕ) (h : n % 4 = 3) (hs : s < 1) :
    running u g a b d n r q = weightGrad u g b (1 * (n / 4 % d) + s) (a * (n / (4 * d)) + r) (b * 0 + q) := by
  rw [running_last u g a b d n r q h, Nat.lt_one_iff.1 hs]
  unfold weightGrad
  rw [Nat.one_mul, Nat.mul_zero, Nat.zero_add, Nat.add_zero]

end Columns

/-- The reference's: the rows contracted at once, transposed, the columns split by segment. -/
theorem weightGrad_reference {n a b ab : ℕ} (hab : ab = a * b) {d : DotDims ⟨2, ![8192, ab]⟩ ⟨2, ![8192, n]⟩ ⟨2, ![ab, n]⟩}
    (hd : d.lhsContracting = [0])
    (hL : ∀ j k, ((d.lhsIdx j (d.contrIdx₁ hd (K := 8192) rfl k)) 0).val = k.val ∧ ((d.lhsIdx j (d.contrIdx₁ hd (K := 8192) rfl k)) 1).val = (j 0).val)
    (hR : ∀ j k, ((d.rhsIdx j (d.contrIdx₁ hd (K := 8192) rfl k)) 0).val = k.val ∧ ((d.rhsIdx j (d.contrIdx₁ hd (K := 8192) rfl k)) 1).val = (j 1).val)
    (x : FVec Ideal ⟨2, ![8192, n]⟩ .bf16) (g : FVec Ideal ⟨2, ![8192, ab]⟩ .bf16) (h₀ h₁ h₂)
    (ht : (⟨2, ![ab, n]⟩ : Shape).Transposes [1, 0] ⟨2, ![n, ab]⟩) (hc : (⟨2, ![n, ab]⟩ : Shape).ShapeCasts ⟨3, ![n, a, b]⟩)
    (ht' : (⟨3, ![n, a, b]⟩ : Shape).Transposes [1, 0, 2] ⟨3, ![a, n, b]⟩) :
    transpose ⟨3, ![a, n, b]⟩ [1, 0, 2] (shapeCast ⟨3, ![n, a, b]⟩ (truncf .bf16 (transpose ⟨2, ![n, ab]⟩ [1, 0]
      (Host.dotGeneral d none (extf .f32 g h₁) (extf .f32 x h₀)) ht) h₂) hc) ht' =
    (e3 (weightGrad (at2 x) (at2 g) b) : FVec Ideal ⟨3, ![a, n, b]⟩ .bf16) := by
  conv_lhs => rw [← e2_at2 x, ← e2_at2 g]
  rw [extf_e2, extf_e2, dotGeneral_e2 (K := 8192) d none hd rfl _ _ (fun r _ k => at2 g k r) (fun _ c k => at2 x k c)
    (fun j k => by show at2 g _ _ = _; rw [(hL j k).1, (hL j k).2]) (fun j k => by show at2 x _ _ = _; rw [(hR j k).1, (hR j k).2]),
    transpose_e2, truncf_e2, shapeCast_split_e2 (a := a) (b := b) hab, transpose_e3]
  refine e3_congr fun s _ r _ q _ => ?_
  unfold weightGrad columns
  exact Finset.sum_congr rfl fun k _ => mul_comm _ _

/-! ## The gradient carried back: rows with the weight's rows, the weight in eight segments of `b` columns -/

/-- `x` is the gradient, `w` the weight by the segment of its columns. -/
def backward (b : ℕ) (x : ℕ → ℕ → EReal) (w : ℕ → ℕ → ℕ → EReal) (r c : ℕ) : EReal := ∑ k ∈ range (b * 8), x r k * w (k / b) c (k % b)

theorem backward_tile (b p a q d : ℕ) (x : ℕ → ℕ → EReal) (w : ℕ → ℕ → ℕ → EReal) (r c : ℕ) :
    backward b (fun r k => x (a * p + r) (b * 8 * 0 + k)) (fun s c k => w (8 * 0 + s) (d * q + c) (b * 0 + k)) r c =
      backward b x w (a * p + r) (d * q + c) := by
  unfold backward
  simp only [Nat.mul_zero, Nat.zero_add]

theorem backward_reference {n m b K : ℕ} (hK : K = 8 * b) (hb : 0 < b) {d : DotDims ⟨2, ![n, K]⟩ ⟨2, ![m, K]⟩ ⟨2, ![n, m]⟩}
    (hd : d.lhsContracting = [1])
    (hL : ∀ j k, ((d.lhsIdx j (d.contrIdx₁ hd (K := K) rfl k)) 0).val = (j 0).val ∧ ((d.lhsIdx j (d.contrIdx₁ hd (K := K) rfl k)) 1).val = k.val)
    (hR : ∀ j k, ((d.rhsIdx j (d.contrIdx₁ hd (K := K) rfl k)) 0).val = (j 1).val ∧ ((d.rhsIdx j (d.contrIdx₁ hd (K := K) rfl k)) 1).val = k.val)
    (x : FVec Ideal ⟨2, ![n, K]⟩ .bf16) (w : FVec Ideal ⟨3, ![8, m, b]⟩ .bf16) (h₀ h₁)
    (ht : (⟨3, ![8, m, b]⟩ : Shape).Transposes [1, 0, 2] ⟨3, ![m, 8, b]⟩) (hc : (⟨3, ![m, 8, b]⟩ : Shape).ShapeCasts ⟨2, ![m, K]⟩) :
    Host.dotGeneral d none (extf .f32 x h₀) (shapeCast ⟨2, ![m, K]⟩ (transpose ⟨3, ![m, 8, b]⟩ [1, 0, 2] (extf .f32 w h₁) ht) hc) =
    (e2 (backward b (at2 x) (at3 w)) : FVec Ideal ⟨2, ![n, m]⟩ .f32) := by
  conv_lhs => rw [← e2_at2 x, ← e3_at3 w]
  rw [extf_e2, extf_e3, transpose_e3, shapeCast_join_e3 (a := 8) (b := b) hK hb, dotGeneral_e2 (K := K) d none hd rfl _ _
    (fun r _ k => at2 x r k) (fun _ c k => at3 w (k / b) c (k % b))
    (fun j k => by show at2 x _ _ = _; rw [(hL j k).1, (hL j k).2])
    (fun j k => by show at3 w (_ / b) _ (_ % b) = _; rw [(hR j k).1, (hR j k).2])]
  refine e2_congr fun r _ c _ => ?_
  exact congrArg (fun n => ∑ k ∈ range n, at2 x r k * at3 w (k / b) c (k % b)) (hK.trans (Nat.mul_comm 8 b))

/-! ## The forward projection: rows with the weight's columns, the weight in segments of `b` columns -/

/-- `x` is the input, `w` the weight by the segment of its columns. -/
def forward (b : ℕ) (x : ℕ → ℕ → EReal) (w : ℕ → ℕ → ℕ → EReal) (r c : ℕ) : EReal := ∑ k ∈ range 2048, x r k * w (c / b) k (c % b)
/-- One segment's columns. -/
def forwardPart (x : ℕ → ℕ → EReal) (w : ℕ → ℕ → ℕ → EReal) (r c : ℕ) : EReal := ∑ k ∈ range 2048, x r k * w 0 k c

theorem forwardPart_tile (a b p q : ℕ) (x : ℕ → ℕ → EReal) (w : ℕ → ℕ → ℕ → EReal) (r c : ℕ) (hc : c < b) :
    forwardPart (fun r k => x (a * p + r) (2048 * 0 + k)) (fun s k c => w (1 * q + s) (2048 * 0 + k) (b * 0 + c)) r c =
      forward b x w (a * p + r) (b * q + c) := by
  unfold forwardPart forward
  rw [Nat.mul_add_div (Nat.zero_lt_of_lt hc), Nat.div_eq_of_lt hc, Nat.mul_add_mod, Nat.mod_eq_of_lt hc]
  simp only [Nat.mul_zero, Nat.zero_add, Nat.one_mul]

theorem forward_reference {n b m : ℕ} (hm : m = 8 * b) (hb : 0 < b) {d : DotDims ⟨2, ![n, 2048]⟩ ⟨2, ![2048, m]⟩ ⟨2, ![n, m]⟩}
    (hd : d.lhsContracting = [1])
    (hL : ∀ j k, ((d.lhsIdx j (d.contrIdx₁ hd (K := 2048) rfl k)) 0).val = (j 0).val ∧ ((d.lhsIdx j (d.contrIdx₁ hd (K := 2048) rfl k)) 1).val = k.val)
    (hR : ∀ j k, ((d.rhsIdx j (d.contrIdx₁ hd (K := 2048) rfl k)) 0).val = k.val ∧ ((d.rhsIdx j (d.contrIdx₁ hd (K := 2048) rfl k)) 1).val = (j 1).val)
    (x : FVec Ideal ⟨2, ![n, 2048]⟩ .bf16) (w : FVec Ideal ⟨3, ![8, 2048, b]⟩ .bf16) (h₀ h₁)
    (ht : (⟨3, ![8, 2048, b]⟩ : Shape).Transposes [1, 0, 2] ⟨3, ![2048, 8, b]⟩) (hc : (⟨3, ![2048, 8, b]⟩ : Shape).ShapeCasts ⟨2, ![2048, m]⟩) :
    Host.dotGeneral d none (extf .f32 x h₀) (shapeCast ⟨2, ![2048, m]⟩ (transpose ⟨3, ![2048, 8, b]⟩ [1, 0, 2] (extf .f32 w h₁) ht) hc) =
    (e2 (forward b (at2 x) (at3 w)) : FVec Ideal ⟨2, ![n, m]⟩ .f32) := by
  conv_lhs => rw [← e2_at2 x, ← e3_at3 w]
  rw [extf_e2, extf_e3, transpose_e3, shapeCast_join_e3 (a := 8) (b := b) hm hb]
  exact dotGeneral_e2 (K := 2048) d none hd rfl _ _ (fun r _ k => at2 x r k) (fun _ c k => at3 w (c / b) k (c % b))
    (fun j k => by show at2 x _ _ = _; rw [(hL j k).1, (hL j k).2])
    (fun j k => by show at3 w (_ / b) _ (_ % b) = _; rw [(hR j k).1, (hR j k).2])

/-! ## The out-projection: its sum with the stream, and the sum's rows normalised, 512 rows to a tile -/

section Residual
variable (x h : ℕ → ℕ → EReal) (w : ℕ → ℕ → ℕ → EReal)

/-- A tile's sum, from the tiles as the index maps place them. -/
theorem residual_tile (p r c : ℕ) :
    residual (fun r k => x (512 * p + r) (2048 * 0 + k)) (fun s k c => w (1 * 0 + s) (2048 * 0 + k) (2048 * 0 + c))
      (fun r c => h (512 * p + r) (2048 * 0 + c)) r c = residual x w h (512 * p + r) (2048 * 0 + c) := by
  unfold residual
  simp only [Nat.mul_zero, Nat.zero_add]

/-- A tile's normalised rows: a row lies in one tile, so its scale is that of the whole row. -/
theorem normed_tile (g : ℕ → ℕ → EReal) (p r c : ℕ) :
    normed (residual (fun r k => x (512 * p + r) (2048 * 0 + k)) (fun s k c => w (1 * 0 + s) (2048 * 0 + k) (2048 * 0 + c))
      (fun r c => h (512 * p + r) (2048 * 0 + c))) (fun c => g (1 * 0 + 0) (2048 * 0 + c)) r c =
      normed (residual x w h) (g 0) (512 * p + r) (2048 * 0 + c) := by
  unfold normed
  rw [scale_congr (h' := residual x w h) (r' := 512 * p + r) fun k _ => (residual_tile x h w p r k).trans (by rw [Nat.mul_zero, Nat.zero_add]),
    residual_tile]

end Residual

/-- One grid point's sum: its block's product added to its block of the stream. -/
theorem residual_point {n : ℕ} {d : DotDims ⟨2, ![n, 2048]⟩ ⟨2, ![2048, 2048]⟩ ⟨2, ![n, 2048]⟩} (hd : d.lhsContracting = [1])
    (hL : ∀ j k, ((d.lhsIdx j (d.contrIdx₁ hd (K := 2048) rfl k)) 0).val = (j 0).val ∧ ((d.lhsIdx j (d.contrIdx₁ hd (K := 2048) rfl k)) 1).val = k.val)
    (hR : ∀ j k, ((d.rhsIdx j (d.contrIdx₁ hd (K := 2048) rfl k)) 0).val = k.val ∧ ((d.rhsIdx j (d.contrIdx₁ hd (K := 2048) rfl k)) 1).val = (j 1).val)
    (x h : ℕ → ℕ → EReal) (w : ℕ → ℕ → ℕ → EReal) (hc) :
    addf (matmul d none (e2 x : FVec Ideal ⟨2, ![n, 2048]⟩ .bf16)
      (shapeCast ⟨2, ![2048, 2048]⟩ (e3 w : FVec Ideal ⟨3, ![1, 2048, 2048]⟩ .bf16) hc) (constant _ .f32 0x00000000#32))
      (e2 h : FVec Ideal ⟨2, ![n, 2048]⟩ .f32) = (e2 (residual x w h) : FVec Ideal ⟨2, ![n, 2048]⟩ .f32) := by
  rw [shapeCast_drop_e3, matmul_e2 (K := 2048) d none hd rfl _ _ (fun r _ k => x r k) (fun _ c k => w 0 k c)
    (fun j k => by show x _ _ = _; rw [(hL j k).1, (hL j k).2]) (fun j k => by show w 0 _ _ = _; rw [(hR j k).1, (hR j k).2]), addf_e2]
  rfl

theorem residual_reference {d : DotDims ⟨2, ![8192, 2048]⟩ ⟨2, ![2048, 2048]⟩ ⟨2, ![8192, 2048]⟩} (hd : d.lhsContracting = [1])
    (hL : ∀ j k, ((d.lhsIdx j (d.contrIdx₁ hd (K := 2048) rfl k)) 0).val = (j 0).val ∧ ((d.lhsIdx j (d.contrIdx₁ hd (K := 2048) rfl k)) 1).val = k.val)
    (hR : ∀ j k, ((d.rhsIdx j (d.contrIdx₁ hd (K := 2048) rfl k)) 0).val = k.val ∧ ((d.rhsIdx j (d.contrIdx₁ hd (K := 2048) rfl k)) 1).val = (j 1).val)
    (x : FVec Ideal ⟨2, ![8192, 2048]⟩ .bf16) (w : FVec Ideal ⟨3, ![1, 2048, 2048]⟩ .bf16) (h : FVec Ideal ⟨2, ![8192, 2048]⟩ .f32) (h₀ h₁)
    (hc : (⟨3, ![1, 2048, 2048]⟩ : Shape).ShapeCasts ⟨2, ![2048, 2048]⟩) :
    addf h (Host.dotGeneral d none (extf .f32 x h₀) (extf .f32 (shapeCast ⟨2, ![2048, 2048]⟩ w hc) h₁)) =
    (e2 (residual (at2 x) (at3 w) (at2 h)) : FVec Ideal ⟨2, ![8192, 2048]⟩ .f32) := by
  conv_lhs => rw [← e2_at2 x, ← e3_at3 w, ← e2_at2 h]
  rw [shapeCast_drop_e3, extf_e2, extf_e2, dotGeneral_e2 (K := 2048) d none hd rfl _ _ (fun r _ k => at2 x r k) (fun _ c k => at3 w 0 k c)
    (fun j k => by show at2 x _ _ = _; rw [(hL j k).1, (hL j k).2]) (fun j k => by show at3 w _ _ _ = _; rw [(hR j k).1, (hR j k).2]), addf_e2]
  exact e2_congr fun r _ c _ => add_comm _ _

/-! ## Runs -/

section Runs
variable {nD : ℕ} {τ : Topo} {sig : RefSig} {Val : EltTy → Type} {Λ : Labels} {defs : Defs nD τ sig Val Λ}
  {p : (c : Thread nD τ) → Prog (TpuEff nD τ sig Val Λ c.2) PUnit} {s : MemSt nD τ sig Val} {Q : PUnit × MemSt nD τ sig Val → Prop}
  {P P' A : PUnit × MemSt nD τ sig Val → Dev nD → Prop}

/-- A run whose final states have the results `P` and the arguments `A`. -/
theorem run_results (h : θ_run defs p s Q) (ha : θ_run defs p s fun r => ∀ c, A r c) (hq : ∀ r, Q r → ∀ c, P r c) :
    θ_run defs p s fun r => ∀ c, P r c ∧ A r c :=
  (θ_run _ _ _).mono (fun r h c => ⟨hq r h.1 c, h.2 c⟩) (θ_run_and h ha)

/-- Such a run's frame, where the program has no counters. -/
theorem run_frame (h : θ_run defs p s fun r => ∀ c, P r c ∧ A r c) (hs : sig.nSem + sig.nDmaSem = 0) :
    θ_run defs p s fun r => (∀ c, A r c) ∧ r.2.sem = fun _ => 0 :=
  (θ_run _ _ _).mono (fun r h => ⟨fun c => (h c).2, sem_eq_zero_of_no_sems hs r.2⟩) h

end Runs

end Cert.Proof.Product

end
-- ==== Proof.InGradient.lean ====
/-
  The product that carries the in-projection's gradient back to its input, `du = dproj wᵀ`: the kernel adds, for each of its
  blocks, the eight devices' segments of the weight; the reference contracts the whole axis at once.
-/
module

public import proofs.«01_k».proof.Defs
public import proofs.«01_k».proof.Proof.Tiles
public import proofs.«01_k».proof.Proof.Gen.Kernel2Ideal.Frame
public import proofs.«01_k».proof.Proof.Gen.Reference2Ideal.Run
public import Idealize.ShloMosaic.Lib.Pipeline.Covers

@[expose] public section

set_option backward.isDefEq.respectTransparency false

noncomputable section

namespace Cert.Proof.Product.InGradient

open Cert.Kernel2Ideal Cert.Kernel2Ideal.Gen
open Idealize.ShloMosaic Idealize.ShloMosaic.TcCoe
open Finset (range)

theorem segment (x y : ℕ → ℕ → EReal) :
    matmul dot_S1024x512_S512x512_S1024x512_1_1_0_0_n_n none (e2 x : FVec Ideal S1024x512 .bf16) (e2 y : FVec Ideal S512x512 .bf16)
      (constant S1024x512 .f32 0x00000000#32) = e2 (fun r c => ∑ k ∈ range 512, x r k * y c k) :=
  matmul_e2 (K := 512) _ none (ax := 1) rfl rfl _ _ (fun r _ k => x r k) (fun _ c k => y c k) (fun _ _ => rfl) (fun _ _ => rfl)

/-- One grid point's block of the result, from its block of the gradient's rows and of the weight's. -/
theorem out_e2 (x : ℕ → ℕ → EReal) (w : ℕ → ℕ → ℕ → EReal) :
    out0_2 (F := Ideal) (e2 x : FVec Ideal S1024x4096 .bf16) (e3 w : FVec Ideal S8x512x512 .bf16) =
      (e2 (backward 512 x w) : FVec Ideal S1024x512 .f32) := by
  unfold out0_2
  rw [View.canon_unit_zero hz]
  unfold k0_pay1 k0_pay2 r0_0 r0_1 r0_2 r0_3 r0_4 r0_5 r0_6 r0_7 r0_8 r0_9 r0_10 r0_11 r0_12 r0_13 r0_14 r0_15
  simp only [ld_e2, ld_e3, shapeCast_drop_e3, segment, addf_e2, Nat.zero_add, Nat.add_zero]
  exact e2_congr fun r _ c _ => (sum_segments 512 (x r) fun s k => w s c k).symm

/-! ## The array -/

variable (m : (ℓ : Loc nD τ sig) → Buf (Elt Ideal) ℓ) (c : Dev nD)

/-- The two arguments by coordinates. -/
def gradient : ℕ → ℕ → EReal := at2 (n := 8192) (m := 4096) (φ := .bf16) (V m c main_arg0)
def weight : ℕ → ℕ → ℕ → EReal := at3 (a := 8) (n := 2048) (m := 512) (φ := .bf16) (V m c main_arg1)

theorem idx0 : ∀ t : Fin grid0.N, cc0_transform_0 (grid0.coords t) = ![t.val / 4, 0] := by decide +kernel
theorem idx1 : ∀ t : Fin grid0.N, cc0_transform_1 (grid0.coords t) = ![0, t.val % 4, 0] := by decide +kernel
theorem idx2 : ∀ t : Fin grid0.N, cc0_transform_2 (grid0.coords t) = ![t.val / 4, t.val % 4] := by decide +kernel

theorem iblk0_e2 (t : Fin cfg0.N) :
    iblk m c 0 t = (e2 fun r k => gradient m c (1024 * (t.val / 4) + r) (4096 * 0 + k) : FVec Ideal S1024x4096 .bf16) :=
  tile_e2 (V m c main_arg0) (fun y => (cfg0.win 0).blk t |>.view.emb y) (idx0 t) (fun _ => rfl) (fun _ => rfl)

theorem iblk1_e3 (t : Fin cfg0.N) :
    iblk m c 1 t = (e3 fun s r k => weight m c (8 * 0 + s) (512 * (t.val % 4) + r) (512 * 0 + k) : FVec Ideal S8x512x512 .bf16) :=
  tile_e3 (V m c main_arg1) (fun y => (cfg0.win 1).blk t |>.view.emb y) (idx1 t) (fun _ => rfl) (fun _ => rfl) (fun _ => rfl)

theorem covers2 : (cfg0.win 2).Covers := by decide +kernel

theorem arr2 : (dats m 0 c).arrAt 2 cfg0.N = (e2 (backward 512 (gradient m c) (weight m c)) : FVec Ideal S8192x2048 .f32) := by
  refine (dats m 0 c).arrAt_eq_of_covers 2 _ covers2 fun t _ y => ?_
  rw [after0_2, iblk0_e2, iblk1_e3, out_e2]
  exact e2_tile (fun y => (cfg0.win 2).blk t |>.view.emb y) (idx2 t) (fun _ => rfl) (fun _ => rfl)
    (fun r _ k _ => backward_tile 512 (t.val / 4) 1024 (t.val % 4) 512 (gradient m c) (weight m c) r k) y

/-! ## The claims -/

theorem frame_reference : Cert.quiescent_Reference2Ideal (hReference2Ideal := Cert.Reference2Ideal.Gen.facts) := fun m g _ =>
  run_frame (Cert.Reference2Ideal.Value.run (F := Ideal) m g) (by decide)

theorem algebraic : Cert.algebraic_Kernel2Ideal_Reference2Ideal (hKernel2Ideal := facts) (hReference2Ideal := Cert.Reference2Ideal.Gen.facts) :=
  fun m g m' g' _ hag => ⟨fun c => _, run_results (run_main m g) (unchanged m g) fun r h c => ((h c).1 2).trans (arr2 m c),
    (θ_run _ _ _).mono (fun r h c => (h c).imp_left fun h => h.trans (by
      rw [(hag c).1, (hag c).2]
      exact backward_reference (b := 512) (d := Cert.Reference2Ideal.dot_S8192x4096_S2048x4096_S8192x2048_1_1_0_0_n_n) rfl (by decide) rfl
        (fun _ _ => ⟨rfl, rfl⟩) (fun _ _ => ⟨rfl, rfl⟩) _ _ _ _ _ _))
      (Cert.Reference2Ideal.Value.run (F := Ideal) m' g')⟩

end Cert.Proof.Product.InGradient

end
-- ==== Proof.InWeight.lean ====
/-
  The gradient of the in-projection's weight, `uᵀ dproj`: the kernel adds four blocks of rows into a scratch it carries from
  one grid point to the next and writes the block out at the fourth; the reference contracts all the rows at once.
-/
module

public import proofs.«01_k».proof.Defs
public import proofs.«01_k».proof.Proof.Tiles
public import proofs.«01_k».proof.Proof.Gen.Kernel3Ideal.Frame
public import proofs.«01_k».proof.Proof.Gen.Reference3Ideal.Run
public import Idealize.ShloMosaic.Lib.Pipeline.Covers

@[expose] public section

set_option backward.isDefEq.respectTransparency false

noncomputable section

namespace Cert.Proof.Product.InWeight

open Cert.Kernel3Ideal Cert.Kernel3Ideal.Gen
open Idealize.ShloMosaic Idealize.ShloMosaic.TcCoe Idealize.ShloMosaic.Tactic

/-! ## One grid point -/

section Point
variable (c : Dev nD) (i : grid0.Coords) (a0 : Memref sig .tc .vmem S2048x1024 .bf16) (h0 : a0.IsWhole) (a1 : Memref sig .tc .vmem S2048x512 .bf16)
  (h1 : a1.IsWhole) (a2 : Memref sig .tc .vmem S1x1024x512 .bf16) (h2 : a2.IsWhole) (a3 : Memref sig .tc .vmem S1024x512 .f32) (h3 : a3.IsWhole)
  (x : Vec Ideal S2048x1024 .bf16) (y : Vec Ideal S2048x512 .bf16) (acc : Vec Ideal S1024x512 .f32)

/-- The first of a block's points leaves its product in the scratch. -/
theorem scratch_first (hc0 : cond0_0 i) (hc1 : ¬cond0_1 i) (hc2 : ¬cond0_2 i) :
    sout0_A_0 c i a0 h0 a1 h1 a2 h2 a3 h3 hc0 hc1 hc2 x y = k0_pay2 x y := by
  unfold sout0_A_0
  rw [View.read_writes_eq_canon _ _ _ (scover0_A_0 c i a0 h0 a1 h1 a2 h2 a3 h3 hc0 hc1 hc2 x y)]
  dsimp only [kernelRun0_A]
  sl_unfold_words
  rw [View.canon_unit_zero hz]
  simp only [View.readAt_eq_ld, h0.read_unread, h1.read_unread, View.ld_unit_zero (S := S2048x1024) hz, View.ld_unit_zero (S := S2048x512) hz]

/-- A later point adds its product. -/
theorem scratch_middle (hc0 : ¬cond0_0 i) (hc1 : cond0_1 i) (hc2 : ¬cond0_2 i) :
    sout0_B_0 c i a0 h0 a1 h1 a2 h2 a3 h3 hc0 hc1 hc2 x y acc = k0_pay3 x y acc := by
  unfold sout0_B_0
  rw [View.read_writes_eq_canon _ _ _ (scover0_B_0 c i a0 h0 a1 h1 a2 h2 a3 h3 hc0 hc1 hc2 x y acc)]
  dsimp only [kernelRun0_B]
  sl_unfold_words
  rw [View.canon_unit_zero hz]
  simp only [View.readAt_eq_ld, h0.read_unread, h1.read_unread, h3.read_unread, View.ld_unit_zero (S := S2048x1024) hz,
    View.ld_unit_zero (S := S2048x512) hz, View.ld_unit_zero (S := S1024x512) hz]

theorem scratch_last (hc0 : ¬cond0_0 i) (hc1 : cond0_1 i) (hc2 : cond0_2 i) :
    sout0_C_0 c i a0 h0 a1 h1 a2 h2 a3 h3 hc0 hc1 hc2 x y acc = k0_pay3 x y acc := by
  unfold sout0_C_0
  rw [View.read_writes_eq_canon _ _ _ (scover0_C_0 c i a0 h0 a1 h1 a2 h2 a3 h3 hc0 hc1 hc2 x y acc)]
  dsimp only [kernelRun0_C]
  sl_unfold_words
  rw [View.canon_unit_zero hz]
  simp only [View.readAt_eq_ld, h0.read_unread, h1.read_unread, h3.read_unread, View.ld_unit_zero (S := S2048x1024) hz,
    View.ld_unit_zero (S := S2048x512) hz, View.ld_unit_zero (S := S1024x512) hz]

/-- The last point writes the scratch out, rounded. -/
theorem out_last (hc0 : ¬cond0_0 i) (hc1 : cond0_1 i) (hc2 : cond0_2 i) :
    out0_C_2 c i a0 h0 a1 h1 a2 h2 a3 h3 hc0 hc1 hc2 x y acc = k0_pay4 (k0_pay3 x y acc) := by
  unfold out0_C_2
  rw [View.read_writes_eq_canon _ _ _ (cover0_C_2 c i a0 h0 a1 h1 a2 h2 a3 h3 hc0 hc1 hc2 x y acc)]
  dsimp only [kernelRun0_C]
  sl_unfold_words
  rw [View.canon_unit_zero hz3, View.readCov_unit_zero (S := S1024x512) _ hz]
  simp only [View.readAt_eq_ld, h0.read_unread, h1.read_unread, h3.read_unread, View.ld_unit_zero (S := S2048x1024) hz,
    View.ld_unit_zero (S := S2048x512) hz, View.ld_unit_zero (S := S1024x512) hz]

end Point

section Values
variable (x y z : ℕ → ℕ → EReal)

theorem pay1_e2 : k0_pay1 (F := Ideal) (e2 x : FVec Ideal S2048x1024 .bf16) (e2 y : FVec Ideal S2048x512 .bf16) = e2 (part x y) :=
  matmul_e2 (K := 2048) _ none (ax := 0) rfl rfl _ _ (fun r _ k => x k r) (fun _ c k => y k c) (fun _ _ => rfl) (fun _ _ => rfl)
theorem pay2_e2 : k0_pay2 (F := Ideal) (e2 x : FVec Ideal S2048x1024 .bf16) (e2 y : FVec Ideal S2048x512 .bf16) = e2 (part x y) := by
  unfold k0_pay2
  simp only [pay1_e2, shapeCast_self]
theorem pay3_e2 : k0_pay3 (F := Ideal) (e2 x : FVec Ideal S2048x1024 .bf16) (e2 y : FVec Ideal S2048x512 .bf16) (e2 z : FVec Ideal S1024x512 .f32) =
    e2 (fun r c => z r c + part x y r c) := by
  unfold k0_pay3
  simp only [pay1_e2, addf_e2, shapeCast_self]
theorem pay4_e2 : k0_pay4 (F := Ideal) (e2 z : FVec Ideal S1024x512 .f32) = e3 (fun _ => z) := by
  unfold k0_pay4
  simp only [truncf_e2, shapeCast_add_e2]

end Values

/-! ## The array -/

variable (m : (ℓ : Loc nD τ sig) → Buf (Elt Ideal) ℓ) (c : Dev nD)

/-- The two arguments by coordinates. -/
def input : ℕ → ℕ → EReal := at2 (n := 8192) (m := 2048) (φ := .bf16) (V m c main_arg0)
def gradient : ℕ → ℕ → EReal := at2 (n := 8192) (m := 4096) (φ := .bf16) (V m c main_arg1)

theorem idx0 : ∀ t : Fin grid0.N, cc0_transform_0 (grid0.coords t) = ![t.val % 4, t.val / (4 * 8)] := by decide +kernel
theorem idx1 : ∀ t : Fin grid0.N, cc0_transform_1 (grid0.coords t) = ![t.val % 4, t.val / 4 % 8] := by decide +kernel
theorem idx2 : ∀ t : Fin grid0.N, cc0_transform_2 (grid0.coords t) = ![t.val / 4 % 8, t.val / (4 * 8), 0] := by decide +kernel

theorem iblk0_e2 (t : Fin cfg0.N) :
    iblk m c 0 t = (e2 fun k r => input m c (2048 * (t.val % 4) + k) (1024 * (t.val / (4 * 8)) + r) : FVec Ideal S2048x1024 .bf16) :=
  tile_e2 (V m c main_arg0) (fun y => (cfg0.win 0).blk t |>.view.emb y) (idx0 t) (fun _ => rfl) (fun _ => rfl)
theorem iblk1_e2 (t : Fin cfg0.N) :
    iblk m c 1 t = (e2 fun k r => gradient m c (2048 * (t.val % 4) + k) (512 * (t.val / 4 % 8) + r) : FVec Ideal S2048x512 .bf16) :=
  tile_e2 (V m c main_arg1) (fun y => (cfg0.win 1).blk t |>.view.emb y) (idx1 t) (fun _ => rfl) (fun _ => rfl)

/-- What point `n` leaves in the scratch. -/
def scratchAt (n : ℕ) : FVec Ideal S1024x512 .f32 := e2 (running (input m c) (gradient m c) 1024 512 8 n)

theorem part_add (t : Fin cfg0.N) (h : ¬t.val % 4 = 0) :
    k0_pay3 (F := Ideal) (iblk m c 0 t) (iblk m c 1 t) (scratchAt m c (t.val - 1)) = scratchAt m c t.val := by
  unfold scratchAt
  rw [iblk0_e2, iblk1_e2, pay3_e2]
  exact e2_congr fun r _ q _ => running_next (input m c) (gradient m c) 1024 512 8 t.val r q h

theorem scratch_eq (n : ℕ) (hn : n < cfg0.N) : (outsAt0 m c n hn).2 = scratchAt m c n :=
  carried (fun n h => (outsAt0 m c n h).2) (scratchAt m c)
    (fun n h h0 => by
      rw [outsAt0_A m c ⟨n, h⟩ h0 (by dsimp only; omega) (by dsimp only; omega)]
      dsimp only
      rw [scratch_first, iblk0_e2, iblk1_e2, pay2_e2]
      exact e2_congr fun r _ q _ => running_first (input m c) (gradient m c) 1024 512 8 n r q h0)
    (fun n h h0 hp => by
      refine Eq.trans ?_ ((congrArg _ hp).trans (part_add m c ⟨n, h⟩ h0))
      by_cases h2 : n % 4 = 3
      · rw [outsAt0_C m c ⟨n, h⟩ h0 (by dsimp only; omega) h2]
        dsimp only
        rw [scratch_last]
      · rw [outsAt0_B m c ⟨n, h⟩ h0 (by dsimp only; omega) h2]
        dsimp only
        rw [scratch_middle]) n hn

/-- What a block's last point writes out. -/
theorem out_eq (t : Fin cfg0.N) (h : t.val % 4 = 3) : (outsAt0 m c t.val t.isLt).1 = k0_pay4 (F := Ideal) (scratchAt m c t.val) := by
  have hp := scratch_eq m c (t.val - 1) (by omega)
  rw [outsAt0_C m c t (by omega) (by omega) h]
  dsimp only
  rw [out_last, ← part_add m c t (by omega)]
  exact congrArg (fun z => k0_pay4 (F := Ideal) (k0_pay3 (F := Ideal) _ _ z)) hp

theorem covers2 : (cfg0.win 2).Covers := by decide +kernel
theorem flush2 : ∀ t : Fin cfg0.N, (cfg0.win 2).flush t = true → t.val % 4 = 3 := by decide +kernel

theorem arr2 : (dats m 0 c).arrAt 2 cfg0.N = (e3 (weightGrad (input m c) (gradient m c) 512) : FVec Ideal S8x2048x512 .bf16) := by
  refine (dats m 0 c).arrAt_eq_of_covers 2 _ covers2 fun t hf y => ?_
  have hm : t.val % 4 = 3 := flush2 t hf
  rw [after0_2, out_eq m c t hm]
  unfold scratchAt
  rw [pay4_e2]
  exact e3_tile (g := fun _ => running (input m c) (gradient m c) 1024 512 8 t.val) (fun y => (cfg0.win 2).blk t |>.view.emb y) (idx2 t)
    (fun _ => rfl) (fun _ => rfl) (fun _ => rfl)
    (fun s hs r _ q _ => weightGrad_tile (input m c) (gradient m c) 1024 512 8 t.val s r q hm hs) y

/-! ## The claims -/

theorem frame_reference : Cert.quiescent_Reference3Ideal (hReference3Ideal := Cert.Reference3Ideal.Gen.facts) := fun m g _ =>
  run_frame (Cert.Reference3Ideal.Value.run (F := Ideal) m g) (by decide)

theorem algebraic : Cert.algebraic_Kernel3Ideal_Reference3Ideal (hKernel3Ideal := facts) (hReference3Ideal := Cert.Reference3Ideal.Gen.facts) :=
  fun m g m' g' _ hag => ⟨fun c => _, run_results (run_main m g) (unchanged m g) fun r h c => ((h c).1 2).trans (arr2 m c),
    (θ_run _ _ _).mono (fun r h c => (h c).imp_left fun h => h.trans (by
      rw [(hag c).1, (hag c).2]
      exact weightGrad_reference (a := 8) (b := 512) (d := Cert.Reference3Ideal.dot_S8192x4096_S8192x2048_S4096x2048_0_0_1_1_n_n) rfl rfl
        (fun _ _ => ⟨rfl, rfl⟩) (fun _ _ => ⟨rfl, rfl⟩) _ _ _ _ _ _ _ _))
      (Cert.Reference3Ideal.Value.run (F := Ideal) m' g')⟩

end Cert.Proof.Product.InWeight

end
-- ==== Proof.InProjection.lean ====
/-
  The forward in-projection, `u w`: each block of the result is one product of a block of rows with one device's segment of
  the weight, the whole axis at once; the reference multiplies by the weight with its segments put side by side.
-/
module

public import proofs.«01_k».proof.Defs
public import proofs.«01_k».proof.Proof.Tiles
public import proofs.«01_k».proof.Proof.Gen.Kernel4Ideal.Frame
public import proofs.«01_k».proof.Proof.Gen.Reference4Ideal.Run
public import Idealize.ShloMosaic.Lib.Pipeline.Covers

@[expose] public section

set_option backward.isDefEq.respectTransparency false

noncomputable section

namespace Cert.Proof.Product.InProjection

open Cert.Kernel4Ideal Cert.Kernel4Ideal.Gen
open Idealize.ShloMosaic Idealize.ShloMosaic.TcCoe

theorem out_e2 (x : ℕ → ℕ → EReal) (w : ℕ → ℕ → ℕ → EReal) :
    out0_2 (F := Ideal) (e2 x : FVec Ideal S1024x2048 .bf16) (e3 w : FVec Ideal S1x2048x512 .bf16) =
      (e2 (forwardPart x w) : FVec Ideal S1024x512 .f32) := by
  unfold out0_2
  rw [View.canon_unit_zero hz]
  unfold k0_pay1 r0_0 r0_1
  simp only [ld_e2, ld_e3, shapeCast_drop_e3, Nat.zero_add]
  exact matmul_e2 (K := 2048) _ none (ax := 1) rfl rfl _ _ (fun r _ k => x r k) (fun _ c k => w 0 k c) (fun _ _ => rfl) (fun _ _ => rfl)

variable (m : (ℓ : Loc nD τ sig) → Buf (Elt Ideal) ℓ) (c : Dev nD)

/-- The two arguments by coordinates. -/
def input : ℕ → ℕ → EReal := at2 (n := 8192) (m := 2048) (φ := .bf16) (V m c main_arg0)
def weight : ℕ → ℕ → ℕ → EReal := at3 (a := 8) (n := 2048) (m := 512) (φ := .bf16) (V m c main_arg1)

theorem idx0 : ∀ t : Fin grid0.N, cc0_transform_0 (grid0.coords t) = ![t.val / 8, 0] := by decide +kernel
theorem idx1 : ∀ t : Fin grid0.N, cc0_transform_1 (grid0.coords t) = ![t.val % 8, 0, 0] := by decide +kernel
theorem idx2 : ∀ t : Fin grid0.N, cc0_transform_2 (grid0.coords t) = ![t.val / 8, t.val % 8] := by decide +kernel

theorem iblk0_e2 (t : Fin cfg0.N) :
    iblk m c 0 t = (e2 fun r k => input m c (1024 * (t.val / 8) + r) (2048 * 0 + k) : FVec Ideal S1024x2048 .bf16) :=
  tile_e2 (V m c main_arg0) (fun y => (cfg0.win 0).blk t |>.view.emb y) (idx0 t) (fun _ => rfl) (fun _ => rfl)
theorem iblk1_e3 (t : Fin cfg0.N) :
    iblk m c 1 t = (e3 fun s r k => weight m c (1 * (t.val % 8) + s) (2048 * 0 + r) (512 * 0 + k) : FVec Ideal S1x2048x512 .bf16) :=
  tile_e3 (V m c main_arg1) (fun y => (cfg0.win 1).blk t |>.view.emb y) (idx1 t) (fun _ => rfl) (fun _ => rfl) (fun _ => rfl)

theorem covers2 : (cfg0.win 2).Covers := by decide +kernel

theorem arr2 : (dats m 0 c).arrAt 2 cfg0.N = (e2 (forward 512 (input m c) (weight m c)) : FVec Ideal S8192x4096 .f32) := by
  refine (dats m 0 c).arrAt_eq_of_covers 2 _ covers2 fun t _ y => ?_
  rw [after0_2, iblk0_e2, iblk1_e3, out_e2]
  exact e2_tile (fun y => (cfg0.win 2).blk t |>.view.emb y) (idx2 t) (fun _ => rfl) (fun _ => rfl)
    (fun r _ k hk => forwardPart_tile 1024 512 (t.val / 8) (t.val % 8) (input m c) (weight m c) r k hk) y

theorem frame_reference : Cert.quiescent_Reference4Ideal (hReference4Ideal := Cert.Reference4Ideal.Gen.facts) := fun m g _ =>
  run_frame (Cert.Reference4Ideal.Value.run (F := Ideal) m g) (by decide)

theorem algebraic : Cert.algebraic_Kernel4Ideal_Reference4Ideal (hKernel4Ideal := facts) (hReference4Ideal := Cert.Reference4Ideal.Gen.facts) :=
  fun m g m' g' _ hag => ⟨fun c => _, run_results (run_main m g) (unchanged m g) fun r h c => ((h c).1 2).trans (arr2 m c),
    (θ_run _ _ _).mono (fun r h c => (h c).imp_left fun h => h.trans (by
      rw [(hag c).1, (hag c).2]
      exact forward_reference (b := 512) (d := Cert.Reference4Ideal.dot_S8192x2048_S2048x4096_S8192x4096_1_0_0_1_n_n) rfl (by decide) rfl
        (fun _ _ => ⟨rfl, rfl⟩) (fun _ _ => ⟨rfl, rfl⟩) _ _ _ _ _ _))
      (Cert.Reference4Ideal.Value.run (F := Ideal) m' g')⟩

end Cert.Proof.Product.InProjection

end
-- ==== Proof.OutGradient.lean ====
/-
  The product that carries the out-projection's gradient back, `dy = dh wᵀ`, 512 rows to a grid point, the whole weight at each.
-/
module

public import proofs.«01_k».proof.Defs
public import proofs.«01_k».proof.Proof.Tiles
public import proofs.«01_k».proof.Proof.Gen.Kernel5Ideal.Frame
public import proofs.«01_k».proof.Proof.Gen.Reference5Ideal.Run
public import Idealize.ShloMosaic.Lib.Pipeline.Covers

@[expose] public section

set_option backward.isDefEq.respectTransparency false

noncomputable section

namespace Cert.Proof.Product.OutGradient

open Cert.Kernel5Ideal Cert.Kernel5Ideal.Gen
open Idealize.ShloMosaic Idealize.ShloMosaic.TcCoe
open Finset (range)

/-- The result: `x` is the gradient, `w` the weight, one segment of it. -/
def result (x : ℕ → ℕ → EReal) (w : ℕ → ℕ → ℕ → EReal) (r c : ℕ) : EReal := ∑ k ∈ range 2048, x r k * w 0 c k

theorem result_tile (x : ℕ → ℕ → EReal) (w : ℕ → ℕ → ℕ → EReal) (p r c : ℕ) :
    result (fun r k => x (512 * p + r) (2048 * 0 + k)) (fun s c k => w (1 * 0 + s) (2048 * 0 + c) (2048 * 0 + k)) r c =
      result x w (512 * p + r) (2048 * 0 + c) := by
  unfold result
  simp only [Nat.mul_zero, Nat.zero_add]

/-- One grid point's block of the result, from its block of the gradient's rows and the weight. -/
theorem out_e2 (x : ℕ → ℕ → EReal) (w : ℕ → ℕ → ℕ → EReal) :
    out0_2 (F := Ideal) (e2 x : FVec Ideal S512x2048 .f32) (e3 w : FVec Ideal S1x2048x2048 .bf16) = (e2 (result x w) : FVec Ideal S512x2048 .f32) := by
  unfold out0_2
  rw [View.canon_unit_zero hz]
  unfold k0_pay1 r0_0 r0_1
  simp only [View.ld_unit_zero (S := S512x2048) hz, ld_e3, truncf_e2, shapeCast_drop_e3, Nat.zero_add]
  exact matmul_e2 (K := 2048) _ none (ax := 1) rfl rfl _ _ (fun r _ k => x r k) (fun _ c k => w 0 c k) (fun _ _ => rfl) (fun _ _ => rfl)

variable (m : (ℓ : Loc nD τ sig) → Buf (Elt Ideal) ℓ) (c : Dev nD)

/-- The two arguments by coordinates. -/
def gradient : ℕ → ℕ → EReal := at2 (n := 8192) (m := 2048) (φ := .f32) (V m c main_arg0)
def weight : ℕ → ℕ → ℕ → EReal := at3 (a := 1) (n := 2048) (m := 2048) (φ := .bf16) (V m c main_arg1)

theorem idx0 : ∀ t : Fin grid0.N, cc0_transform_0 (grid0.coords t) = ![t.val, 0] := by decide +kernel
theorem idx1 : ∀ t : Fin grid0.N, cc0_transform_1 (grid0.coords t) = ![0, 0, 0] := by decide +kernel
theorem idx2 : ∀ t : Fin grid0.N, cc0_transform_2 (grid0.coords t) = ![t.val, 0] := by decide +kernel

theorem iblk0_e2 (t : Fin cfg0.N) :
    iblk m c 0 t = (e2 fun r k => gradient m c (512 * t.val + r) (2048 * 0 + k) : FVec Ideal S512x2048 .f32) :=
  tile_e2 (V m c main_arg0) (fun y => (cfg0.win 0).blk t |>.view.emb y) (idx0 t) (fun _ => rfl) (fun _ => rfl)
theorem iblk1_e3 (t : Fin cfg0.N) :
    iblk m c 1 t = (e3 fun s r k => weight m c (1 * 0 + s) (2048 * 0 + r) (2048 * 0 + k) : FVec Ideal S1x2048x2048 .bf16) :=
  tile_e3 (V m c main_arg1) (fun y => (cfg0.win 1).blk t |>.view.emb y) (idx1 t) (fun _ => rfl) (fun _ => rfl) (fun _ => rfl)

theorem covers2 : (cfg0.win 2).Covers := by decide +kernel

theorem arr2 : (dats m 0 c).arrAt 2 cfg0.N = (e2 (result (gradient m c) (weight m c)) : FVec Ideal S8192x2048 .f32) := by
  refine (dats m 0 c).arrAt_eq_of_covers 2 _ covers2 fun t _ y => ?_
  rw [after0_2, iblk0_e2, iblk1_e3, out_e2]
  exact e2_tile (fun y => (cfg0.win 2).blk t |>.view.emb y) (idx2 t) (fun _ => rfl) (fun _ => rfl)
    (fun r _ k _ => result_tile (gradient m c) (weight m c) t.val r k) y

theorem frame_reference : Cert.quiescent_Reference5Ideal (hReference5Ideal := Cert.Reference5Ideal.Gen.facts) := fun m g _ =>
  run_frame (Cert.Reference5Ideal.Value.run (F := Ideal) m g) (by decide)

theorem reference_e2 (x : FVec Ideal S8192x2048 .f32) (w : FVec Ideal S1x2048x2048 .bf16) (h hc) :
    Host.dotGeneral Cert.Reference5Ideal.dot_S8192x2048_S2048x2048_S8192x2048_1_1_0_0_n_n none x
      (extf .f32 (shapeCast Cert.Reference5Ideal.S2048x2048 w hc) h) =
    (e2 (result (at2 x) (at3 w)) : FVec Ideal S8192x2048 .f32) := by
  conv_lhs => rw [← e2_at2 x, ← e3_at3 w]
  rw [shapeCast_drop_e3, extf_e2]
  exact dotGeneral_e2 (K := 2048) _ none (ax := 1) rfl rfl _ _ (fun r _ k => at2 x r k) (fun _ c k => at3 w 0 c k)
    (fun _ _ => rfl) (fun _ _ => rfl)

theorem algebraic : Cert.algebraic_Kernel5Ideal_Reference5Ideal (hKernel5Ideal := facts) (hReference5Ideal := Cert.Reference5Ideal.Gen.facts) :=
  fun m g m' g' _ hag => ⟨fun c => _, run_results (run_main m g) (unchanged m g) fun r h c => ((h c).1 2).trans (arr2 m c),
    (θ_run _ _ _).mono (fun r h c => (h c).imp_left fun h => h.trans (by
      rw [(hag c).1, (hag c).2]
      exact reference_e2 _ _ _ _))
      (Cert.Reference5Ideal.Value.run (F := Ideal) m' g')⟩

end Cert.Proof.Product.OutGradient

end
-- ==== Proof.OutWeight.lean ====
/-
  The gradient of the out-projection's weight, `yᵀ dh`: the kernel adds four blocks of rows into a scratch it carries from
  one grid point to the next and writes the block out at the fourth; the reference contracts all the rows at once.
-/
module

public import proofs.«01_k».proof.Defs
public import proofs.«01_k».proof.Proof.Tiles
public import proofs.«01_k».proof.Proof.Gen.Kernel6Ideal.Frame
public import proofs.«01_k».proof.Proof.Gen.Reference6Ideal.Run
public import Idealize.ShloMosaic.Lib.Pipeline.Covers

@[expose] public section

set_option backward.isDefEq.respectTransparency false

noncomputable section

namespace Cert.Proof.Product.OutWeight

open Cert.Kernel6Ideal Cert.Kernel6Ideal.Gen
open Idealize.ShloMosaic Idealize.ShloMosaic.TcCoe Idealize.ShloMosaic.Tactic

/-! ## One grid point -/

section Point
variable (c : Dev nD) (i : grid0.Coords) (a0 : Memref sig .tc .vmem S2048x1024 .bf16) (h0 : a0.IsWhole) (a1 : Memref sig .tc .vmem S2048x512 .f32)
  (h1 : a1.IsWhole) (a2 : Memref sig .tc .vmem S1x1024x512 .bf16) (h2 : a2.IsWhole) (a3 : Memref sig .tc .vmem S1024x512 .f32) (h3 : a3.IsWhole)
  (x : Vec Ideal S2048x1024 .bf16) (y : Vec Ideal S2048x512 .f32) (acc : Vec Ideal S1024x512 .f32)

/-- The first of a block's points leaves its product in the scratch. -/
theorem scratch_first (hc0 : cond0_0 i) (hc1 : ¬cond0_1 i) (hc2 : ¬cond0_2 i) :
    sout0_A_0 c i a0 h0 a1 h1 a2 h2 a3 h3 hc0 hc1 hc2 x y = k0_pay2 x y := by
  unfold sout0_A_0
  rw [View.read_writes_eq_canon _ _ _ (scover0_A_0 c i a0 h0 a1 h1 a2 h2 a3 h3 hc0 hc1 hc2 x y)]
  dsimp only [kernelRun0_A]
  sl_unfold_words
  rw [View.canon_unit_zero hz]
  simp only [View.readAt_eq_ld, h0.read_unread, h1.read_unread, View.ld_unit_zero (S := S2048x1024) hz, View.ld_unit_zero (S := S2048x512) hz]

/-- A later point adds its product. -/
theorem scratch_middle (hc0 : ¬cond0_0 i) (hc1 : cond0_1 i) (hc2 : ¬cond0_2 i) :
    sout0_B_0 c i a0 h0 a1 h1 a2 h2 a3 h3 hc0 hc1 hc2 x y acc = k0_pay3 x y acc := by
  unfold sout0_B_0
  rw [View.read_writes_eq_canon _ _ _ (scover0_B_0 c i a0 h0 a1 h1 a2 h2 a3 h3 hc0 hc1 hc2 x y acc)]
  dsimp only [kernelRun0_B]
  sl_unfold_words
  rw [View.canon_unit_zero hz]
  simp only [View.readAt_eq_ld, h0.read_unread, h1.read_unread, h3.read_unread, View.ld_unit_zero (S := S2048x1024) hz,
    View.ld_unit_zero (S := S2048x512) hz, View.ld_unit_zero (S := S1024x512) hz]

theorem scratch_last (hc0 : ¬cond0_0 i) (hc1 : cond0_1 i) (hc2 : cond0_2 i) :
    sout0_C_0 c i a0 h0 a1 h1 a2 h2 a3 h3 hc0 hc1 hc2 x y acc = k0_pay3 x y acc := by
  unfold sout0_C_0
  rw [View.read_writes_eq_canon _ _ _ (scover0_C_0 c i a0 h0 a1 h1 a2 h2 a3 h3 hc0 hc1 hc2 x y acc)]
  dsimp only [kernelRun0_C]
  sl_unfold_words
  rw [View.canon_unit_zero hz]
  simp only [View.readAt_eq_ld, h0.read_unread, h1.read_unread, h3.read_unread, View.ld_unit_zero (S := S2048x1024) hz,
    View.ld_unit_zero (S := S2048x512) hz, View.ld_unit_zero (S := S1024x512) hz]

/-- The last point writes the scratch out, rounded. -/
theorem out_last (hc0 : ¬cond0_0 i) (hc1 : cond0_1 i) (hc2 : cond0_2 i) :
    out0_C_2 c i a0 h0 a1 h1 a2 h2 a3 h3 hc0 hc1 hc2 x y acc = k0_pay4 (k0_pay3 x y acc) := by
  unfold out0_C_2
  rw [View.read_writes_eq_canon _ _ _ (cover0_C_2 c i a0 h0 a1 h1 a2 h2 a3 h3 hc0 hc1 hc2 x y acc)]
  dsimp only [kernelRun0_C]
  sl_unfold_words
  rw [View.canon_unit_zero hz3, View.readCov_unit_zero (S := S1024x512) _ hz]
  simp only [View.readAt_eq_ld, h0.read_unread, h1.read_unread, h3.read_unread, View.ld_unit_zero (S := S2048x1024) hz,
    View.ld_unit_zero (S := S2048x512) hz, View.ld_unit_zero (S := S1024x512) hz]

end Point

section Values
variable (x y z : ℕ → ℕ → EReal)

theorem pay1_e2 : k0_pay1 (F := Ideal) (e2 x : FVec Ideal S2048x1024 .bf16) (e2 y : FVec Ideal S2048x512 .f32) = e2 (part x y) := by
  unfold k0_pay1
  simp only [truncf_e2]
  exact matmul_e2 (K := 2048) _ none (ax := 0) rfl rfl _ _ (fun r _ k => x k r) (fun _ c k => y k c) (fun _ _ => rfl) (fun _ _ => rfl)
theorem pay2_e2 : k0_pay2 (F := Ideal) (e2 x : FVec Ideal S2048x1024 .bf16) (e2 y : FVec Ideal S2048x512 .f32) = e2 (part x y) := by
  unfold k0_pay2
  simp only [pay1_e2, shapeCast_self]
theorem pay3_e2 : k0_pay3 (F := Ideal) (e2 x : FVec Ideal S2048x1024 .bf16) (e2 y : FVec Ideal S2048x512 .f32) (e2 z : FVec Ideal S1024x512 .f32) =
    e2 (fun r c => z r c + part x y r c) := by
  unfold k0_pay3
  simp only [pay1_e2, addf_e2, shapeCast_self]
theorem pay4_e2 : k0_pay4 (F := Ideal) (e2 z : FVec Ideal S1024x512 .f32) = e3 (fun _ => z) := by
  unfold k0_pay4
  simp only [truncf_e2, shapeCast_add_e2]

end Values

/-! ## The array -/

variable (m : (ℓ : Loc nD τ sig) → Buf (Elt Ideal) ℓ) (c : Dev nD)

/-- The two arguments by coordinates. -/
def input : ℕ → ℕ → EReal := at2 (n := 8192) (m := 2048) (φ := .bf16) (V m c main_arg0)
def gradient : ℕ → ℕ → EReal := at2 (n := 8192) (m := 2048) (φ := .f32) (V m c main_arg1)

theorem idx0 : ∀ t : Fin grid0.N, cc0_transform_0 (grid0.coords t) = ![t.val % 4, t.val / (4 * 4)] := by decide +kernel
theorem idx1 : ∀ t : Fin grid0.N, cc0_transform_1 (grid0.coords t) = ![t.val % 4, t.val / 4 % 4] := by decide +kernel
theorem idx2 : ∀ t : Fin grid0.N, cc0_transform_2 (grid0.coords t) = ![0, t.val / (4 * 4), t.val / 4 % 4] := by decide +kernel

theorem iblk0_e2 (t : Fin cfg0.N) :
    iblk m c 0 t = (e2 fun k r => input m c (2048 * (t.val % 4) + k) (1024 * (t.val / (4 * 4)) + r) : FVec Ideal S2048x1024 .bf16) :=
  tile_e2 (V m c main_arg0) (fun y => (cfg0.win 0).blk t |>.view.emb y) (idx0 t) (fun _ => rfl) (fun _ => rfl)
theorem iblk1_e2 (t : Fin cfg0.N) :
    iblk m c 1 t = (e2 fun k r => gradient m c (2048 * (t.val % 4) + k) (512 * (t.val / 4 % 4) + r) : FVec Ideal S2048x512 .f32) :=
  tile_e2 (V m c main_arg1) (fun y => (cfg0.win 1).blk t |>.view.emb y) (idx1 t) (fun _ => rfl) (fun _ => rfl)

/-- What point `n` leaves in the scratch. -/
def scratchAt (n : ℕ) : FVec Ideal S1024x512 .f32 := e2 (running (input m c) (gradient m c) 1024 512 4 n)

theorem part_add (t : Fin cfg0.N) (h : ¬t.val % 4 = 0) :
    k0_pay3 (F := Ideal) (iblk m c 0 t) (iblk m c 1 t) (scratchAt m c (t.val - 1)) = scratchAt m c t.val := by
  unfold scratchAt
  rw [iblk0_e2, iblk1_e2, pay3_e2]
  exact e2_congr fun r _ q _ => running_next (input m c) (gradient m c) 1024 512 4 t.val r q h

theorem scratch_eq (n : ℕ) (hn : n < cfg0.N) : (outsAt0 m c n hn).2 = scratchAt m c n :=
  carried (fun n h => (outsAt0 m c n h).2) (scratchAt m c)
    (fun n h h0 => by
      rw [outsAt0_A m c ⟨n, h⟩ h0 (by dsimp only; omega) (by dsimp only; omega)]
      dsimp only
      rw [scratch_first, iblk0_e2, iblk1_e2, pay2_e2]
      exact e2_congr fun r _ q _ => running_first (input m c) (gradient m c) 1024 512 4 n r q h0)
    (fun n h h0 hp => by
      refine Eq.trans ?_ ((congrArg _ hp).trans (part_add m c ⟨n, h⟩ h0))
      by_cases h2 : n % 4 = 3
      · rw [outsAt0_C m c ⟨n, h⟩ h0 (by dsimp only; omega) h2]
        dsimp only
        rw [scratch_last]
      · rw [outsAt0_B m c ⟨n, h⟩ h0 (by dsimp only; omega) h2]
        dsimp only
        rw [scratch_middle]) n hn

/-- What a block's last point writes out. -/
theorem out_eq (t : Fin cfg0.N) (h : t.val % 4 = 3) : (outsAt0 m c t.val t.isLt).1 = k0_pay4 (F := Ideal) (scratchAt m c t.val) := by
  have hp := scratch_eq m c (t.val - 1) (by omega)
  rw [outsAt0_C m c t (by omega) (by omega) h]
  dsimp only
  rw [out_last, ← part_add m c t (by omega)]
  exact congrArg (fun z => k0_pay4 (F := Ideal) (k0_pay3 (F := Ideal) _ _ z)) hp

theorem covers2 : (cfg0.win 2).Covers := by decide +kernel
theorem flush2 : ∀ t : Fin cfg0.N, (cfg0.win 2).flush t = true → t.val % 4 = 3 := by decide +kernel

theorem arr2 : (dats m 0 c).arrAt 2 cfg0.N = (e3 (fun _ => columns (input m c) (gradient m c)) : FVec Ideal S1x2048x2048 .bf16) := by
  refine (dats m 0 c).arrAt_eq_of_covers 2 _ covers2 fun t hf y => ?_
  have hm : t.val % 4 = 3 := flush2 t hf
  rw [after0_2, out_eq m c t hm]
  unfold scratchAt
  rw [pay4_e2]
  exact e3_tile (f := fun _ => columns (input m c) (gradient m c)) (g := fun _ => running (input m c) (gradient m c) 1024 512 4 t.val)
    (fun y => (cfg0.win 2).blk t |>.view.emb y) (idx2 t) (fun _ => rfl) (fun _ => rfl) (fun _ => rfl)
    (fun _ _ r _ q _ => running_last (input m c) (gradient m c) 1024 512 4 t.val r q hm) y

/-! ## The claims -/

theorem reference_e3 (x : FVec Ideal S8192x2048 .bf16) (g : FVec Ideal S8192x2048 .f32) (h₀ h₁ h₂ ht) :
    broadcastInDim Cert.Reference6Ideal.S1x2048x2048 ![1, 2] h₁ (truncf .bf16 (transpose Cert.Reference6Ideal.S2048x2048 [1, 0]
      (Host.dotGeneral Cert.Reference6Ideal.dot_S8192x2048_S8192x2048_S2048x2048_0_0_1_1_n_n none g (extf .f32 x h₀)) ht) h₂) =
    (e3 (fun _ => columns (at2 x) (at2 g)) : FVec Ideal S1x2048x2048 .bf16) := by
  conv_lhs => rw [← e2_at2 x, ← e2_at2 g]
  rw [extf_e2, dotGeneral_e2 (K := 8192) Cert.Reference6Ideal.dot_S8192x2048_S8192x2048_S2048x2048_0_0_1_1_n_n none (ax := 0) rfl rfl _ _
    (fun r _ k => at2 g k r) (fun _ c k => at2 x k c) (fun _ _ => rfl) (fun _ _ => rfl),
    transpose_e2, truncf_e2, broadcast_add_e2]
  refine e3_congr fun s _ r _ q _ => ?_
  unfold columns
  exact Finset.sum_congr rfl fun k _ => mul_comm _ _

theorem frame_reference : Cert.quiescent_Reference6Ideal (hReference6Ideal := Cert.Reference6Ideal.Gen.facts) := fun m g _ =>
  run_frame (Cert.Reference6Ideal.Value.run (F := Ideal) m g) (by decide)

theorem algebraic : Cert.algebraic_Kernel6Ideal_Reference6Ideal (hKernel6Ideal := facts) (hReference6Ideal := Cert.Reference6Ideal.Gen.facts) :=
  fun m g m' g' _ hag => ⟨fun c => _, run_results (run_main m g) (unchanged m g) fun r h c => ((h c).1 2).trans (arr2 m c),
    (θ_run _ _ _).mono (fun r h c => (h c).imp_left fun h => h.trans (by
      rw [(hag c).1, (hag c).2]
      exact reference_e3 _ _ _ _ _ _))
      (Cert.Reference6Ideal.Value.run (F := Ideal) m' g')⟩

end Cert.Proof.Product.OutWeight

end
-- ==== Proof.KvGradient.lean ====
/-
  The product that carries the keys' and values' gradient back to the input, `du = dkv wᵀ`, segments of 384 columns.
-/
module

public import proofs.«01_k».proof.Defs
public import proofs.«01_k».proof.Proof.Tiles
public import proofs.«01_k».proof.Proof.Gen.Kernel7Ideal.Frame
public import proofs.«01_k».proof.Proof.Gen.Reference7Ideal.Run
public import Idealize.ShloMosaic.Lib.Pipeline.Covers

@[expose] public section

set_option backward.isDefEq.respectTransparency false

noncomputable section

namespace Cert.Proof.Product.KvGradient

open Cert.Kernel7Ideal Cert.Kernel7Ideal.Gen
open Idealize.ShloMosaic Idealize.ShloMosaic.TcCoe
open Finset (range)

theorem segment (x y : ℕ → ℕ → EReal) :
    matmul dot_S1024x384_S512x384_S1024x512_1_1_0_0_n_n none (e2 x : FVec Ideal S1024x384 .bf16) (e2 y : FVec Ideal S512x384 .bf16)
      (constant S1024x512 .f32 0x00000000#32) = e2 (fun r c => ∑ k ∈ range 384, x r k * y c k) :=
  matmul_e2 (K := 384) _ none (ax := 1) rfl rfl _ _ (fun r _ k => x r k) (fun _ c k => y c k) (fun _ _ => rfl) (fun _ _ => rfl)

theorem out_e2 (x : ℕ → ℕ → EReal) (w : ℕ → ℕ → ℕ → EReal) :
    out0_2 (F := Ideal) (e2 x : FVec Ideal S1024x3072 .bf16) (e3 w : FVec Ideal S8x512x384 .bf16) =
      (e2 (backward 384 x w) : FVec Ideal S1024x512 .f32) := by
  unfold out0_2
  rw [View.canon_unit_zero hz]
  unfold k0_pay1 k0_pay2 r0_0 r0_1 r0_2 r0_3 r0_4 r0_5 r0_6 r0_7 r0_8 r0_9 r0_10 r0_11 r0_12 r0_13 r0_14 r0_15
  simp only [ld_e2, ld_e3, shapeCast_drop_e3, segment, addf_e2, Nat.zero_add, Nat.add_zero]
  exact e2_congr fun r _ c _ => (sum_segments 384 (x r) fun s k => w s c k).symm

variable (m : (ℓ : Loc nD τ sig) → Buf (Elt Ideal) ℓ) (c : Dev nD)

def gradient : ℕ → ℕ → EReal := at2 (n := 8192) (m := 3072) (φ := .bf16) (V m c main_arg0)
def weight : ℕ → ℕ → ℕ → EReal := at3 (a := 8) (n := 2048) (m := 384) (φ := .bf16) (V m c main_arg1)

theorem idx0 : ∀ t : Fin grid0.N, cc0_transform_0 (grid0.coords t) = ![t.val / 4, 0] := by decide +kernel
theorem idx1 : ∀ t : Fin grid0.N, cc0_transform_1 (grid0.coords t) = ![0, t.val % 4, 0] := by decide +kernel
theorem idx2 : ∀ t : Fin grid0.N, cc0_transform_2 (grid0.coords t) = ![t.val / 4, t.val % 4] := by decide +kernel

theorem iblk0_e2 (t : Fin cfg0.N) :
    iblk m c 0 t = (e2 fun r k => gradient m c (1024 * (t.val / 4) + r) (3072 * 0 + k) : FVec Ideal S1024x3072 .bf16) :=
  tile_e2 (V m c main_arg0) (fun y => (cfg0.win 0).blk t |>.view.emb y) (idx0 t) (fun _ => rfl) (fun _ => rfl)
theorem iblk1_e3 (t : Fin cfg0.N) :
    iblk m c 1 t = (e3 fun s r k => weight m c (8 * 0 + s) (512 * (t.val % 4) + r) (384 * 0 + k) : FVec Ideal S8x512x384 .bf16) :=
  tile_e3 (V m c main_arg1) (fun y => (cfg0.win 1).blk t |>.view.emb y) (idx1 t) (fun _ => rfl) (fun _ => rfl) (fun _ => rfl)

theorem covers2 : (cfg0.win 2).Covers := by decide +kernel

theorem arr2 : (dats m 0 c).arrAt 2 cfg0.N = (e2 (backward 384 (gradient m c) (weight m c)) : FVec Ideal S8192x2048 .f32) := by
  refine (dats m 0 c).arrAt_eq_of_covers 2 _ covers2 fun t _ y => ?_
  rw [after0_2, iblk0_e2, iblk1_e3, out_e2]
  exact e2_tile (fun y => (cfg0.win 2).blk t |>.view.emb y) (idx2 t) (fun _ => rfl) (fun _ => rfl)
    (fun r _ k _ => backward_tile 384 (t.val / 4) 1024 (t.val % 4) 512 (gradient m c) (weight m c) r k) y

theorem frame_reference : Cert.quiescent_Reference7Ideal (hReference7Ideal := Cert.Reference7Ideal.Gen.facts) := fun m g _ =>
  run_frame (Cert.Reference7Ideal.Value.run (F := Ideal) m g) (by decide)

theorem algebraic : Cert.algebraic_Kernel7Ideal_Reference7Ideal (hKernel7Ideal := facts) (hReference7Ideal := Cert.Reference7Ideal.Gen.facts) :=
  fun m g m' g' _ hag => ⟨fun c => _, run_results (run_main m g) (unchanged m g) fun r h c => ((h c).1 2).trans (arr2 m c),
    (θ_run _ _ _).mono (fun r h c => (h c).imp_left fun h => h.trans (by
      rw [(hag c).1, (hag c).2]
      exact backward_reference (b := 384) (d := Cert.Reference7Ideal.dot_S8192x3072_S2048x3072_S8192x2048_1_1_0_0_n_n) rfl (by decide) rfl
        (fun _ _ => ⟨rfl, rfl⟩) (fun _ _ => ⟨rfl, rfl⟩) _ _ _ _ _ _))
      (Cert.Reference7Ideal.Value.run (F := Ideal) m' g')⟩

end Cert.Proof.Product.KvGradient

end
-- ==== Proof.KvWeight.lean ====
/-
  The gradient of the key and value projection's weight, `uᵀ dkv`: the kernel adds four blocks of rows into a scratch it carries from
  one grid point to the next and writes the block out at the fourth; the reference contracts all the rows at once.
-/
module

public import proofs.«01_k».proof.Defs
public import proofs.«01_k».proof.Proof.Tiles
public import proofs.«01_k».proof.Proof.Gen.Kernel8Ideal.Frame
public import proofs.«01_k».proof.Proof.Gen.Reference8Ideal.Run
public import Idealize.ShloMosaic.Lib.Pipeline.Covers

@[expose] public section

set_option backward.isDefEq.respectTransparency false

noncomputable section

namespace Cert.Proof.Product.KvWeight

open Cert.Kernel8Ideal Cert.Kernel8Ideal.Gen
open Idealize.ShloMosaic Idealize.ShloMosaic.TcCoe Idealize.ShloMosaic.Tactic

/-! ## One grid point -/

section Point
variable (c : Dev nD) (i : grid0.Coords) (a0 : Memref sig .tc .vmem S2048x1024 .bf16) (h0 : a0.IsWhole) (a1 : Memref sig .tc .vmem S2048x384 .bf16)
  (h1 : a1.IsWhole) (a2 : Memref sig .tc .vmem S1x1024x384 .bf16) (h2 : a2.IsWhole) (a3 : Memref sig .tc .vmem S1024x384 .f32) (h3 : a3.IsWhole)
  (x : Vec Ideal S2048x1024 .bf16) (y : Vec Ideal S2048x384 .bf16) (acc : Vec Ideal S1024x384 .f32)

/-- The first of a block's points leaves its product in the scratch. -/
theorem scratch_first (hc0 : cond0_0 i) (hc1 : ¬cond0_1 i) (hc2 : ¬cond0_2 i) :
    sout0_A_0 c i a0 h0 a1 h1 a2 h2 a3 h3 hc0 hc1 hc2 x y = k0_pay2 x y := by
  unfold sout0_A_0
  rw [View.read_writes_eq_canon _ _ _ (scover0_A_0 c i a0 h0 a1 h1 a2 h2 a3 h3 hc0 hc1 hc2 x y)]
  dsimp only [kernelRun0_A]
  sl_unfold_words
  rw [View.canon_unit_zero hz]
  simp only [View.readAt_eq_ld, h0.read_unread, h1.read_unread, View.ld_unit_zero (S := S2048x1024) hz, View.ld_unit_zero (S := S2048x384) hz]

/-- A later point adds its product. -/
theorem scratch_middle (hc0 : ¬cond0_0 i) (hc1 : cond0_1 i) (hc2 : ¬cond0_2 i) :
    sout0_B_0 c i a0 h0 a1 h1 a2 h2 a3 h3 hc0 hc1 hc2 x y acc = k0_pay3 x y acc := by
  unfold sout0_B_0
  rw [View.read_writes_eq_canon _ _ _ (scover0_B_0 c i a0 h0 a1 h1 a2 h2 a3 h3 hc0 hc1 hc2 x y acc)]
  dsimp only [kernelRun0_B]
  sl_unfold_words
  rw [View.canon_unit_zero hz]
  simp only [View.readAt_eq_ld, h0.read_unread, h1.read_unread, h3.read_unread, View.ld_unit_zero (S := S2048x1024) hz,
    View.ld_unit_zero (S := S2048x384) hz, View.ld_unit_zero (S := S1024x384) hz]

theorem scratch_last (hc0 : ¬cond0_0 i) (hc1 : cond0_1 i) (hc2 : cond0_2 i) :
    sout0_C_0 c i a0 h0 a1 h1 a2 h2 a3 h3 hc0 hc1 hc2 x y acc = k0_pay3 x y acc := by
  unfold sout0_C_0
  rw [View.read_writes_eq_canon _ _ _ (scover0_C_0 c i a0 h0 a1 h1 a2 h2 a3 h3 hc0 hc1 hc2 x y acc)]
  dsimp only [kernelRun0_C]
  sl_unfold_words
  rw [View.canon_unit_zero hz]
  simp only [View.readAt_eq_ld, h0.read_unread, h1.read_unread, h3.read_unread, View.ld_unit_zero (S := S2048x1024) hz,
    View.ld_unit_zero (S := S2048x384) hz, View.ld_unit_zero (S := S1024x384) hz]

/-- The last point writes the scratch out, rounded. -/
theorem out_last (hc0 : ¬cond0_0 i) (hc1 : cond0_1 i) (hc2 : cond0_2 i) :
    out0_C_2 c i a0 h0 a1 h1 a2 h2 a3 h3 hc0 hc1 hc2 x y acc = k0_pay4 (k0_pay3 x y acc) := by
  unfold out0_C_2
  rw [View.read_writes_eq_canon _ _ _ (cover0_C_2 c i a0 h0 a1 h1 a2 h2 a3 h3 hc0 hc1 hc2 x y acc)]
  dsimp only [kernelRun0_C]
  sl_unfold_words
  rw [View.canon_unit_zero hz3, View.readCov_unit_zero (S := S1024x384) _ hz]
  simp only [View.readAt_eq_ld, h0.read_unread, h1.read_unread, h3.read_unread, View.ld_unit_zero (S := S2048x1024) hz,
    View.ld_unit_zero (S := S2048x384) hz, View.ld_unit_zero (S := S1024x384) hz]

end Point

section Values
variable (x y z : ℕ → ℕ → EReal)

theorem pay1_e2 : k0_pay1 (F := Ideal) (e2 x : FVec Ideal S2048x1024 .bf16) (e2 y : FVec Ideal S2048x384 .bf16) = e2 (part x y) :=
  matmul_e2 (K := 2048) _ none (ax := 0) rfl rfl _ _ (fun r _ k => x k r) (fun _ c k => y k c) (fun _ _ => rfl) (fun _ _ => rfl)
theorem pay2_e2 : k0_pay2 (F := Ideal) (e2 x : FVec Ideal S2048x1024 .bf16) (e2 y : FVec Ideal S2048x384 .bf16) = e2 (part x y) := by
  unfold k0_pay2
  simp only [pay1_e2, shapeCast_self]
theorem pay3_e2 : k0_pay3 (F := Ideal) (e2 x : FVec Ideal S2048x1024 .bf16) (e2 y : FVec Ideal S2048x384 .bf16) (e2 z : FVec Ideal S1024x384 .f32) =
    e2 (fun r c => z r c + part x y r c) := by
  unfold k0_pay3
  simp only [pay1_e2, addf_e2, shapeCast_self]
theorem pay4_e2 : k0_pay4 (F := Ideal) (e2 z : FVec Ideal S1024x384 .f32) = e3 (fun _ => z) := by
  unfold k0_pay4
  simp only [truncf_e2, shapeCast_add_e2]

end Values

/-! ## The array -/

variable (m : (ℓ : Loc nD τ sig) → Buf (Elt Ideal) ℓ) (c : Dev nD)

/-- The two arguments by coordinates. -/
def input : ℕ → ℕ → EReal := at2 (n := 8192) (m := 2048) (φ := .bf16) (V m c main_arg0)
def gradient : ℕ → ℕ → EReal := at2 (n := 8192) (m := 3072) (φ := .bf16) (V m c main_arg1)

theorem idx0 : ∀ t : Fin grid0.N, cc0_transform_0 (grid0.coords t) = ![t.val % 4, t.val / (4 * 8)] := by decide +kernel
theorem idx1 : ∀ t : Fin grid0.N, cc0_transform_1 (grid0.coords t) = ![t.val % 4, t.val / 4 % 8] := by decide +kernel
theorem idx2 : ∀ t : Fin grid0.N, cc0_transform_2 (grid0.coords t) = ![t.val / 4 % 8, t.val / (4 * 8), 0] := by decide +kernel

theorem iblk0_e2 (t : Fin cfg0.N) :
    iblk m c 0 t = (e2 fun k r => input m c (2048 * (t.val % 4) + k) (1024 * (t.val / (4 * 8)) + r) : FVec Ideal S2048x1024 .bf16) :=
  tile_e2 (V m c main_arg0) (fun y => (cfg0.win 0).blk t |>.view.emb y) (idx0 t) (fun _ => rfl) (fun _ => rfl)
theorem iblk1_e2 (t : Fin cfg0.N) :
    iblk m c 1 t = (e2 fun k r => gradient m c (2048 * (t.val % 4) + k) (384 * (t.val / 4 % 8) + r) : FVec Ideal S2048x384 .bf16) :=
  tile_e2 (V m c main_arg1) (fun y => (cfg0.win 1).blk t |>.view.emb y) (idx1 t) (fun _ => rfl) (fun _ => rfl)

/-- What point `n` leaves in the scratch. -/
def scratchAt (n : ℕ) : FVec Ideal S1024x384 .f32 := e2 (running (input m c) (gradient m c) 1024 384 8 n)

theorem part_add (t : Fin cfg0.N) (h : ¬t.val % 4 = 0) :
    k0_pay3 (F := Ideal) (iblk m c 0 t) (iblk m c 1 t) (scratchAt m c (t.val - 1)) = scratchAt m c t.val := by
  unfold scratchAt
  rw [iblk0_e2, iblk1_e2, pay3_e2]
  exact e2_congr fun r _ q _ => running_next (input m c) (gradient m c) 1024 384 8 t.val r q h

theorem scratch_eq (n : ℕ) (hn : n < cfg0.N) : (outsAt0 m c n hn).2 = scratchAt m c n :=
  carried (fun n h => (outsAt0 m c n h).2) (scratchAt m c)
    (fun n h h0 => by
      rw [outsAt0_A m c ⟨n, h⟩ h0 (by dsimp only; omega) (by dsimp only; omega)]
      dsimp only
      rw [scratch_first, iblk0_e2, iblk1_e2, pay2_e2]
      exact e2_congr fun r _ q _ => running_first (input m c) (gradient m c) 1024 384 8 n r q h0)
    (fun n h h0 hp => by
      refine Eq.trans ?_ ((congrArg _ hp).trans (part_add m c ⟨n, h⟩ h0))
      by_cases h2 : n % 4 = 3
      · rw [outsAt0_C m c ⟨n, h⟩ h0 (by dsimp only; omega) h2]
        dsimp only
        rw [scratch_last]
      · rw [outsAt0_B m c ⟨n, h⟩ h0 (by dsimp only; omega) h2]
        dsimp only
        rw [scratch_middle]) n hn

/-- What a block's last point writes out. -/
theorem out_eq (t : Fin cfg0.N) (h : t.val % 4 = 3) : (outsAt0 m c t.val t.isLt).1 = k0_pay4 (F := Ideal) (scratchAt m c t.val) := by
  have hp := scratch_eq m c (t.val - 1) (by omega)
  rw [outsAt0_C m c t (by omega) (by omega) h]
  dsimp only
  rw [out_last, ← part_add m c t (by omega)]
  exact congrArg (fun z => k0_pay4 (F := Ideal) (k0_pay3 (F := Ideal) _ _ z)) hp

theorem covers2 : (cfg0.win 2).Covers := by decide +kernel
theorem flush2 : ∀ t : Fin cfg0.N, (cfg0.win 2).flush t = true → t.val % 4 = 3 := by decide +kernel

theorem arr2 : (dats m 0 c).arrAt 2 cfg0.N = (e3 (weightGrad (input m c) (gradient m c) 384) : FVec Ideal S8x2048x384 .bf16) := by
  refine (dats m 0 c).arrAt_eq_of_covers 2 _ covers2 fun t hf y => ?_
  have hm : t.val % 4 = 3 := flush2 t hf
  rw [after0_2, out_eq m c t hm]
  unfold scratchAt
  rw [pay4_e2]
  exact e3_tile (g := fun _ => running (input m c) (gradient m c) 1024 384 8 t.val) (fun y => (cfg0.win 2).blk t |>.view.emb y) (idx2 t)
    (fun _ => rfl) (fun _ => rfl) (fun _ => rfl)
    (fun s hs r _ q _ => weightGrad_tile (input m c) (gradient m c) 1024 384 8 t.val s r q hm hs) y

/-! ## The claims -/

theorem frame_reference : Cert.quiescent_Reference8Ideal (hReference8Ideal := Cert.Reference8Ideal.Gen.facts) := fun m g _ =>
  run_frame (Cert.Reference8Ideal.Value.run (F := Ideal) m g) (by decide)

theorem algebraic : Cert.algebraic_Kernel8Ideal_Reference8Ideal (hKernel8Ideal := facts) (hReference8Ideal := Cert.Reference8Ideal.Gen.facts) :=
  fun m g m' g' _ hag => ⟨fun c => _, run_results (run_main m g) (unchanged m g) fun r h c => ((h c).1 2).trans (arr2 m c),
    (θ_run _ _ _).mono (fun r h c => (h c).imp_left fun h => h.trans (by
      rw [(hag c).1, (hag c).2]
      exact weightGrad_reference (a := 8) (b := 384) (d := Cert.Reference8Ideal.dot_S8192x3072_S8192x2048_S3072x2048_0_0_1_1_n_n) rfl rfl
        (fun _ _ => ⟨rfl, rfl⟩) (fun _ _ => ⟨rfl, rfl⟩) _ _ _ _ _ _ _ _))
      (Cert.Reference8Ideal.Value.run (F := Ideal) m' g')⟩

end Cert.Proof.Product.KvWeight

end
-- ==== Proof.KvProjection.lean ====
/-
  The forward projection to keys and values, `u w`, segments of 384 columns, its result rounded.
-/
module

public import proofs.«01_k».proof.Defs
public import proofs.«01_k».proof.Proof.Tiles
public import proofs.«01_k».proof.Proof.Gen.Kernel9Ideal.Frame
public import proofs.«01_k».proof.Proof.Gen.Reference9Ideal.Run
public import Idealize.ShloMosaic.Lib.Pipeline.Covers

@[expose] public section

set_option backward.isDefEq.respectTransparency false

noncomputable section

namespace Cert.Proof.Product.KvProjection

open Cert.Kernel9Ideal Cert.Kernel9Ideal.Gen
open Idealize.ShloMosaic Idealize.ShloMosaic.TcCoe

theorem out_e2 (x : ℕ → ℕ → EReal) (w : ℕ → ℕ → ℕ → EReal) :
    out0_2 (F := Ideal) (e2 x : FVec Ideal S1024x2048 .bf16) (e3 w : FVec Ideal S1x2048x384 .bf16) =
      (e2 (forwardPart x w) : FVec Ideal S1024x384 .bf16) := by
  unfold out0_2
  rw [View.canon_unit_zero hz]
  unfold k0_pay1 r0_0 r0_1
  simp only [ld_e2, ld_e3, shapeCast_drop_e3, Nat.zero_add]
  rw [matmul_e2 (K := 2048) _ none (ax := 1) rfl rfl _ _ (fun r _ k => x r k) (fun _ c k => w 0 k c) (fun _ _ => rfl) (fun _ _ => rfl)]
  rfl

variable (m : (ℓ : Loc nD τ sig) → Buf (Elt Ideal) ℓ) (c : Dev nD)

def input : ℕ → ℕ → EReal := at2 (n := 8192) (m := 2048) (φ := .bf16) (V m c main_arg0)
def weight : ℕ → ℕ → ℕ → EReal := at3 (a := 8) (n := 2048) (m := 384) (φ := .bf16) (V m c main_arg1)

theorem idx0 : ∀ t : Fin grid0.N, cc0_transform_0 (grid0.coords t) = ![t.val / 8, 0] := by decide +kernel
theorem idx1 : ∀ t : Fin grid0.N, cc0_transform_1 (grid0.coords t) = ![t.val % 8, 0, 0] := by decide +kernel
theorem idx2 : ∀ t : Fin grid0.N, cc0_transform_2 (grid0.coords t) = ![t.val / 8, t.val % 8] := by decide +kernel

theorem iblk0_e2 (t : Fin cfg0.N) :
    iblk m c 0 t = (e2 fun r k => input m c (1024 * (t.val / 8) + r) (2048 * 0 + k) : FVec Ideal S1024x2048 .bf16) :=
  tile_e2 (V m c main_arg0) (fun y => (cfg0.win 0).blk t |>.view.emb y) (idx0 t) (fun _ => rfl) (fun _ => rfl)
theorem iblk1_e3 (t : Fin cfg0.N) :
    iblk m c 1 t = (e3 fun s r k => weight m c (1 * (t.val % 8) + s) (2048 * 0 + r) (384 * 0 + k) : FVec Ideal S1x2048x384 .bf16) :=
  tile_e3 (V m c main_arg1) (fun y => (cfg0.win 1).blk t |>.view.emb y) (idx1 t) (fun _ => rfl) (fun _ => rfl) (fun _ => rfl)

theorem covers2 : (cfg0.win 2).Covers := by decide +kernel

theorem arr2 : (dats m 0 c).arrAt 2 cfg0.N = (e2 (forward 384 (input m c) (weight m c)) : FVec Ideal S8192x3072 .bf16) := by
  refine (dats m 0 c).arrAt_eq_of_covers 2 _ covers2 fun t _ y => ?_
  rw [after0_2, iblk0_e2, iblk1_e3, out_e2]
  exact e2_tile (fun y => (cfg0.win 2).blk t |>.view.emb y) (idx2 t) (fun _ => rfl) (fun _ => rfl)
    (fun r _ k hk => forwardPart_tile 1024 384 (t.val / 8) (t.val % 8) (input m c) (weight m c) r k hk) y

theorem frame_reference : Cert.quiescent_Reference9Ideal (hReference9Ideal := Cert.Reference9Ideal.Gen.facts) := fun m g _ =>
  run_frame (Cert.Reference9Ideal.Value.run (F := Ideal) m g) (by decide)

theorem algebraic : Cert.algebraic_Kernel9Ideal_Reference9Ideal (hKernel9Ideal := facts) (hReference9Ideal := Cert.Reference9Ideal.Gen.facts) :=
  fun m g m' g' _ hag => ⟨fun c => _, run_results (run_main m g) (unchanged m g) fun r h c => ((h c).1 2).trans (arr2 m c),
    (θ_run _ _ _).mono (fun r h c => (h c).imp_left fun h => h.trans (by
      rw [(hag c).1, (hag c).2, forward_reference (b := 384) (d := Cert.Reference9Ideal.dot_S8192x2048_S2048x3072_S8192x3072_1_0_0_1_n_n) rfl
        (by decide) rfl (fun _ _ => ⟨rfl, rfl⟩) (fun _ _ => ⟨rfl, rfl⟩)]
      rfl))
      (Cert.Reference9Ideal.Value.run (F := Ideal) m' g')⟩

end Cert.Proof.Product.KvProjection

end
-- ==== Proof.OutNorm.lean ====
/-
  The out-projection with the next layer's normalisation, `h + y w` and its normalised rows: each grid point holds whole rows,
  so it normalises what it has just added.
-/
module

public import proofs.«01_k».proof.Defs
public import proofs.«01_k».proof.Proof.Tiles
public import proofs.«01_k».proof.Proof.Gen.Kernel10Ideal.Frame
public import proofs.«01_k».proof.Proof.Gen.Reference10Ideal.Run
public import Idealize.ShloMosaic.Lib.Pipeline.Covers

@[expose] public section

set_option backward.isDefEq.respectTransparency false

noncomputable section

namespace Cert.Proof.Product.OutNorm

open Cert.Kernel10Ideal Cert.Kernel10Ideal.Gen
open Idealize.ShloMosaic Idealize.ShloMosaic.TcCoe

section Point
variable (x h g : ℕ → ℕ → EReal) (w : ℕ → ℕ → ℕ → EReal)

theorem sum_e2 :
    k0_pay1 (F := Ideal) (e2 x : FVec Ideal S512x2048 .bf16) (e3 w : FVec Ideal S1x2048x2048 .bf16) (e2 h : FVec Ideal S512x2048 .f32) =
      (e2 (residual x w h) : FVec Ideal S512x2048 .f32) := by
  unfold k0_pay1
  exact residual_point rfl (fun _ _ => ⟨rfl, rfl⟩) (fun _ _ => ⟨rfl, rfl⟩) _ _ _ _

/-- One grid point's block of the sum, from its blocks of the rows and the weight. -/
theorem out4_e2 :
    out0_4 (F := Ideal) (e2 x : FVec Ideal S512x2048 .bf16) (e3 w : FVec Ideal S1x2048x2048 .bf16) (e2 h : FVec Ideal S512x2048 .f32)
      (e2 g : FVec Ideal S1x2048 .f32) = (e2 (residual x w h) : FVec Ideal S512x2048 .f32) := by
  unfold out0_4
  rw [View.canon_unit_zero hz]
  unfold r0_0 r0_1
  simp only [View.ld_unit_zero (S := S512x2048) hz, ld_e3, Nat.zero_add, sum_e2]

/-- Its block of the normalised rows. -/
theorem out5_e2 :
    out0_5 (F := Ideal) (e2 x : FVec Ideal S512x2048 .bf16) (e3 w : FVec Ideal S1x2048x2048 .bf16) (e2 h : FVec Ideal S512x2048 .f32)
      (e2 g : FVec Ideal S1x2048 .f32) = (e2 (normed (residual x w h) (g 0)) : FVec Ideal S512x2048 .bf16) := by
  unfold out0_5
  rw [View.canon_unit_zero hz]
  unfold r0_0 r0_1 r0_2
  simp only [View.ld_unit_zero (S := S512x2048) hz, View.ld_unit_zero (S := S1x2048) hz, ld_e3, Nat.zero_add]
  unfold k0_pay2
  simp only [sum_e2]
  exact normed_e2 (by decide) _ _ _ _ _ _ _ _ _ _

end Point

variable (m : (ℓ : Loc nD τ sig) → Buf (Elt Ideal) ℓ) (c : Dev nD)

/-- The arguments by coordinates. -/
def input : ℕ → ℕ → EReal := at2 (n := 8192) (m := 2048) (φ := .bf16) (V m c main_arg0)
def weight : ℕ → ℕ → ℕ → EReal := at3 (a := 1) (n := 2048) (m := 2048) (φ := .bf16) (V m c main_arg1)
def stream : ℕ → ℕ → EReal := at2 (n := 8192) (m := 2048) (φ := .f32) (V m c main_arg2)
def gain : ℕ → ℕ → EReal := at2 (n := 1) (m := 2048) (φ := .f32) (V m c main_v0)

theorem V_main_v0 : V m c main_v0 = shapeCast S1x2048 (m ((c : Thread nD τ).loc main_arg3)) shapeCasts_S2048_S1x2048 := by
  show StableHlo.after hostOps0 _ _ = _
  simp only [hostOps0]
  after_results_simp
  all_goals rfl

theorem idx0 : ∀ t : Fin grid0.N, cc0_transform_0 (grid0.coords t) = ![t.val, 0] := by decide +kernel
theorem idx1 : ∀ t : Fin grid0.N, cc0_transform_1 (grid0.coords t) = ![0, 0, 0] := by decide +kernel
theorem idx2 : ∀ t : Fin grid0.N, cc0_transform_2 (grid0.coords t) = ![t.val, 0] := by decide +kernel
theorem idx3 : ∀ t : Fin grid0.N, cc0_transform_3 (grid0.coords t) = ![0, 0] := by decide +kernel
theorem idx4 : ∀ t : Fin grid0.N, cc0_transform_4 (grid0.coords t) = ![t.val, 0] := by decide +kernel
theorem idx5 : ∀ t : Fin grid0.N, cc0_transform_5 (grid0.coords t) = ![t.val, 0] := by decide +kernel

theorem iblk0_e2 (t : Fin cfg0.N) :
    iblk m c 0 t = (e2 fun r k => input m c (512 * t.val + r) (2048 * 0 + k) : FVec Ideal S512x2048 .bf16) :=
  tile_e2 (V m c main_arg0) (fun y => (cfg0.win 0).blk t |>.view.emb y) (idx0 t) (fun _ => rfl) (fun _ => rfl)
theorem iblk1_e3 (t : Fin cfg0.N) :
    iblk m c 1 t = (e3 fun s r k => weight m c (1 * 0 + s) (2048 * 0 + r) (2048 * 0 + k) : FVec Ideal S1x2048x2048 .bf16) :=
  tile_e3 (V m c main_arg1) (fun y => (cfg0.win 1).blk t |>.view.emb y) (idx1 t) (fun _ => rfl) (fun _ => rfl) (fun _ => rfl)
theorem iblk2_e2 (t : Fin cfg0.N) :
    iblk m c 2 t = (e2 fun r k => stream m c (512 * t.val + r) (2048 * 0 + k) : FVec Ideal S512x2048 .f32) :=
  tile_e2 (V m c main_arg2) (fun y => (cfg0.win 2).blk t |>.view.emb y) (idx2 t) (fun _ => rfl) (fun _ => rfl)
theorem iblk3_e2 (t : Fin cfg0.N) :
    iblk m c 3 t = (e2 fun r k => gain m c (1 * 0 + r) (2048 * 0 + k) : FVec Ideal S1x2048 .f32) :=
  tile_e2 (V m c main_v0) (fun y => (cfg0.win 3).blk t |>.view.emb y) (idx3 t) (fun _ => rfl) (fun _ => rfl)

theorem covers4 : (cfg0.win 4).Covers := by decide +kernel
theorem covers5 : (cfg0.win 5).Covers := by decide +kernel

theorem arr4 : (dats m 0 c).arrAt 4 cfg0.N = (e2 (residual (input m c) (weight m c) (stream m c)) : FVec Ideal S8192x2048 .f32) := by
  refine (dats m 0 c).arrAt_eq_of_covers 4 _ covers4 fun t _ y => ?_
  rw [after0_4, iblk0_e2, iblk1_e3, iblk2_e2, iblk3_e2, out4_e2]
  exact e2_tile (fun y => (cfg0.win 4).blk t |>.view.emb y) (idx4 t) (fun _ => rfl) (fun _ => rfl)
    (fun r _ k _ => residual_tile (input m c) (stream m c) (weight m c) t.val r k) y

theorem arr5 : (dats m 0 c).arrAt 5 cfg0.N =
    (e2 (normed (residual (input m c) (weight m c) (stream m c)) (gain m c 0)) : FVec Ideal S8192x2048 .bf16) := by
  refine (dats m 0 c).arrAt_eq_of_covers 5 _ covers5 fun t _ y => ?_
  rw [after0_5, iblk0_e2, iblk1_e3, iblk2_e2, iblk3_e2, out5_e2]
  exact e2_tile (fun y => (cfg0.win 5).blk t |>.view.emb y) (idx5 t) (fun _ => rfl) (fun _ => rfl)
    (fun r _ k _ => normed_tile (input m c) (stream m c) (weight m c) (gain m c) t.val r k) y

theorem frame_reference : Cert.quiescent_Reference10Ideal (hReference10Ideal := Cert.Reference10Ideal.Gen.facts) := fun m g _ =>
  run_frame (P := fun r c => _ ∧ _) ((θ_run _ _ _).mono (fun r h c => and_assoc.2 (h c)) (Cert.Reference10Ideal.Value.run (F := Ideal) m g)) (by decide)

/-- The sum in terms of the arguments. -/
theorem sum_args : residual (input m c) (weight m c) (stream m c) =
    residual (at2 (n := 8192) (m := 2048) (φ := .bf16) (m ((c : Thread nD τ).loc main_arg0)))
      (at3 (a := 1) (n := 2048) (m := 2048) (φ := .bf16) (m ((c : Thread nD τ).loc main_arg1)))
      (at2 (n := 8192) (m := 2048) (φ := .f32) (m ((c : Thread nD τ).loc main_arg2))) := by
  unfold input weight stream
  rw [V_main_arg0, V_main_arg1, V_main_arg2]

theorem reference_sum (x : FVec Ideal S8192x2048 .bf16) (w : FVec Ideal S1x2048x2048 .bf16) (h : FVec Ideal S8192x2048 .f32) (h₀ h₁ hc) :
    addf h (Host.dotGeneral Cert.Reference10Ideal.dot_S8192x2048_S2048x2048_S8192x2048_1_0_0_1_n_n none (extf .f32 x h₀)
      (extf .f32 (shapeCast Cert.Reference10Ideal.S2048x2048 w hc) h₁)) =
    (e2 (residual (at2 x) (at3 w) (at2 h)) : FVec Ideal S8192x2048 .f32) :=
  residual_reference rfl (fun _ _ => ⟨rfl, rfl⟩) (fun _ _ => ⟨rfl, rfl⟩) _ _ _ _ _ _

theorem algebraic : Cert.algebraic_Kernel10Ideal_Reference10Ideal (hKernel10Ideal := facts)
    (hReference10Ideal := Cert.Reference10Ideal.Gen.facts) := fun m g m' g' _ hag =>
  ⟨fun c => _, fun c => _,
    (θ_run _ _ _).mono (fun r h c => and_assoc.1 (h c))
      (run_results (run_main m g) (unchanged m g) fun r h c => ⟨((h c).1 4).trans (arr4 m c), ((h c).1 5).trans (arr5 m c)⟩),
    (θ_run _ _ _).mono (fun r h c => ⟨(h c).1.trans (by
        beta_reduce
        rw [(hag c).1, (hag c).2.1, (hag c).2.2.1, sum_args]
        exact reference_sum _ _ _ _ _ _), (h c).2.1.trans (by
        beta_reduce
        rw [(hag c).1, (hag c).2.1, (hag c).2.2.1, (hag c).2.2.2, reference_sum, sum_args]
        unfold gain
        rw [V_main_v0]
        exact hostNormed_e2 (by decide) _ _ _ (by decide) _ _ _ _ _ _ _ _ _), (h c).2.2⟩)
      (Cert.Reference10Ideal.Value.run (F := Ideal) m' g')⟩

end Cert.Proof.Product.OutNorm

end
-- ==== Proof.OutNorms.lean ====
/-
  The out-projection before the attention layer, `h + y w` and its normalised rows with two gains, the queries' and the keys'
  and values': each grid point holds whole rows and normalises what it has just added, once per gain.
-/
module

public import proofs.«01_k».proof.Defs
public import proofs.«01_k».proof.Proof.Tiles
public import proofs.«01_k».proof.Proof.Gen.Kernel11Ideal.Frame
public import proofs.«01_k».proof.Proof.Gen.Reference11Ideal.Run
public import Idealize.ShloMosaic.Lib.Pipeline.Covers

@[expose] public section

set_option backward.isDefEq.respectTransparency false

noncomputable section

namespace Cert.Proof.Product.OutNorms

open Cert.Kernel11Ideal Cert.Kernel11Ideal.Gen
open Idealize.ShloMosaic Idealize.ShloMosaic.TcCoe

section Point
variable (x h g g' : ℕ → ℕ → EReal) (w : ℕ → ℕ → ℕ → EReal)

theorem sum_e2 :
    k0_pay1 (F := Ideal) (e2 x : FVec Ideal S512x2048 .bf16) (e3 w : FVec Ideal S1x2048x2048 .bf16) (e2 h : FVec Ideal S512x2048 .f32) =
      (e2 (residual x w h) : FVec Ideal S512x2048 .f32) := by
  unfold k0_pay1
  exact residual_point rfl (fun _ _ => ⟨rfl, rfl⟩) (fun _ _ => ⟨rfl, rfl⟩) _ _ _ _

/-- One grid point's block of the sum. -/
theorem out5_e2 :
    out0_5 (F := Ideal) (e2 x : FVec Ideal S512x2048 .bf16) (e3 w : FVec Ideal S1x2048x2048 .bf16) (e2 h : FVec Ideal S512x2048 .f32)
      (e2 g : FVec Ideal S1x2048 .f32) (e2 g' : FVec Ideal S1x2048 .f32) = (e2 (residual x w h) : FVec Ideal S512x2048 .f32) := by
  unfold out0_5
  rw [View.canon_unit_zero hz]
  unfold r0_0 r0_1
  simp only [View.ld_unit_zero (S := S512x2048) hz, ld_e3, Nat.zero_add, sum_e2]

/-- Its block of the rows normalised with the first gain. -/
theorem out6_e2 :
    out0_6 (F := Ideal) (e2 x : FVec Ideal S512x2048 .bf16) (e3 w : FVec Ideal S1x2048x2048 .bf16) (e2 h : FVec Ideal S512x2048 .f32)
      (e2 g : FVec Ideal S1x2048 .f32) (e2 g' : FVec Ideal S1x2048 .f32) = (e2 (normed (residual x w h) (g 0)) : FVec Ideal S512x2048 .bf16) := by
  unfold out0_6
  rw [View.canon_unit_zero hz]
  unfold r0_0 r0_1 r0_2 k0_pay3 k0_pay2
  simp only [View.ld_unit_zero (S := S512x2048) hz, View.ld_unit_zero (S := S1x2048) hz, ld_e3, Nat.zero_add, sum_e2]
  exact normed_e2 (by decide) _ _ _ _ _ _ _ _ _ _

/-- Its block of the rows normalised with the second. -/
theorem out7_e2 :
    out0_7 (F := Ideal) (e2 x : FVec Ideal S512x2048 .bf16) (e3 w : FVec Ideal S1x2048x2048 .bf16) (e2 h : FVec Ideal S512x2048 .f32)
      (e2 g : FVec Ideal S1x2048 .f32) (e2 g' : FVec Ideal S1x2048 .f32) = (e2 (normed (residual x w h) (g' 0)) : FVec Ideal S512x2048 .bf16) := by
  unfold out0_7
  rw [View.canon_unit_zero hz]
  unfold r0_0 r0_1 r0_2 k0_pay4 k0_pay2
  simp only [View.ld_unit_zero (S := S512x2048) hz, View.ld_unit_zero (S := S1x2048) hz, ld_e3, Nat.zero_add, sum_e2]
  exact normed_e2 (by decide) _ _ _ _ _ _ _ _ _ _

end Point

variable (m : (ℓ : Loc nD τ sig) → Buf (Elt Ideal) ℓ) (c : Dev nD)

/-- The arguments by coordinates. -/
def input : ℕ → ℕ → EReal := at2 (n := 8192) (m := 2048) (φ := .bf16) (V m c main_arg0)
def weight : ℕ → ℕ → ℕ → EReal := at3 (a := 1) (n := 2048) (m := 2048) (φ := .bf16) (V m c main_arg1)
def stream : ℕ → ℕ → EReal := at2 (n := 8192) (m := 2048) (φ := .f32) (V m c main_arg2)
def gainQ : ℕ → ℕ → EReal := at2 (n := 1) (m := 2048) (φ := .f32) (V m c main_v0)
def gainKv : ℕ → ℕ → EReal := at2 (n := 1) (m := 2048) (φ := .f32) (V m c main_v1)

theorem V_main_v0 : V m c main_v0 = shapeCast S1x2048 (m ((c : Thread nD τ).loc main_arg3)) shapeCasts_S2048_S1x2048 := by
  show StableHlo.after hostOps0 _ _ = _
  simp only [hostOps0]
  after_results_simp
  all_goals rfl
theorem V_main_v1 : V m c main_v1 = shapeCast S1x2048 (m ((c : Thread nD τ).loc main_arg4)) shapeCasts_S2048_S1x2048 := by
  show StableHlo.after hostOps0 _ _ = _
  simp only [hostOps0]
  after_results_simp
  all_goals rfl

theorem idx0 : ∀ t : Fin grid0.N, cc0_transform_0 (grid0.coords t) = ![t.val, 0] := by decide +kernel
theorem idx1 : ∀ t : Fin grid0.N, cc0_transform_1 (grid0.coords t) = ![0, 0, 0] := by decide +kernel
theorem idx2 : ∀ t : Fin grid0.N, cc0_transform_2 (grid0.coords t) = ![t.val, 0] := by decide +kernel
theorem idx3 : ∀ t : Fin grid0.N, cc0_transform_3 (grid0.coords t) = ![0, 0] := by decide +kernel
theorem idx4 : ∀ t : Fin grid0.N, cc0_transform_4 (grid0.coords t) = ![0, 0] := by decide +kernel
theorem idx5 : ∀ t : Fin grid0.N, cc0_transform_5 (grid0.coords t) = ![t.val, 0] := by decide +kernel
theorem idx6 : ∀ t : Fin grid0.N, cc0_transform_6 (grid0.coords t) = ![t.val, 0] := by decide +kernel
theorem idx7 : ∀ t : Fin grid0.N, cc0_transform_7 (grid0.coords t) = ![t.val, 0] := by decide +kernel

theorem iblk0_e2 (t : Fin cfg0.N) :
    iblk m c 0 t = (e2 fun r k => input m c (512 * t.val + r) (2048 * 0 + k) : FVec Ideal S512x2048 .bf16) :=
  tile_e2 (V m c main_arg0) (fun y => (cfg0.win 0).blk t |>.view.emb y) (idx0 t) (fun _ => rfl) (fun _ => rfl)
theorem iblk1_e3 (t : Fin cfg0.N) :
    iblk m c 1 t = (e3 fun s r k => weight m c (1 * 0 + s) (2048 * 0 + r) (2048 * 0 + k) : FVec Ideal S1x2048x2048 .bf16) :=
  tile_e3 (V m c main_arg1) (fun y => (cfg0.win 1).blk t |>.view.emb y) (idx1 t) (fun _ => rfl) (fun _ => rfl) (fun _ => rfl)
theorem iblk2_e2 (t : Fin cfg0.N) :
    iblk m c 2 t = (e2 fun r k => stream m c (512 * t.val + r) (2048 * 0 + k) : FVec Ideal S512x2048 .f32) :=
  tile_e2 (V m c main_arg2) (fun y => (cfg0.win 2).blk t |>.view.emb y) (idx2 t) (fun _ => rfl) (fun _ => rfl)
theorem iblk3_e2 (t : Fin cfg0.N) :
    iblk m c 3 t = (e2 fun r k => gainQ m c (1 * 0 + r) (2048 * 0 + k) : FVec Ideal S1x2048 .f32) :=
  tile_e2 (V m c main_v0) (fun y => (cfg0.win 3).blk t |>.view.emb y) (idx3 t) (fun _ => rfl) (fun _ => rfl)
theorem iblk4_e2 (t : Fin cfg0.N) :
    iblk m c 4 t = (e2 fun r k => gainKv m c (1 * 0 + r) (2048 * 0 + k) : FVec Ideal S1x2048 .f32) :=
  tile_e2 (V m c main_v1) (fun y => (cfg0.win 4).blk t |>.view.emb y) (idx4 t) (fun _ => rfl) (fun _ => rfl)

theorem covers5 : (cfg0.win 5).Covers := by decide +kernel
theorem covers6 : (cfg0.win 6).Covers := by decide +kernel
theorem covers7 : (cfg0.win 7).Covers := by decide +kernel

theorem arr5 : (dats m 0 c).arrAt 5 cfg0.N = (e2 (residual (input m c) (weight m c) (stream m c)) : FVec Ideal S8192x2048 .f32) := by
  refine (dats m 0 c).arrAt_eq_of_covers 5 _ covers5 fun t _ y => ?_
  rw [after0_5, iblk0_e2, iblk1_e3, iblk2_e2, iblk3_e2, iblk4_e2, out5_e2]
  exact e2_tile (fun y => (cfg0.win 5).blk t |>.view.emb y) (idx5 t) (fun _ => rfl) (fun _ => rfl)
    (fun r _ k _ => residual_tile (input m c) (stream m c) (weight m c) t.val r k) y

theorem arr6 : (dats m 0 c).arrAt 6 cfg0.N =
    (e2 (normed (residual (input m c) (weight m c) (stream m c)) (gainQ m c 0)) : FVec Ideal S8192x2048 .bf16) := by
  refine (dats m 0 c).arrAt_eq_of_covers 6 _ covers6 fun t _ y => ?_
  rw [after0_6, iblk0_e2, iblk1_e3, iblk2_e2, iblk3_e2, iblk4_e2, out6_e2]
  exact e2_tile (fun y => (cfg0.win 6).blk t |>.view.emb y) (idx6 t) (fun _ => rfl) (fun _ => rfl)
    (fun r _ k _ => normed_tile (input m c) (stream m c) (weight m c) (gainQ m c) t.val r k) y

theorem arr7 : (dats m 0 c).arrAt 7 cfg0.N =
    (e2 (normed (residual (input m c) (weight m c) (stream m c)) (gainKv m c 0)) : FVec Ideal S8192x2048 .bf16) := by
  refine (dats m 0 c).arrAt_eq_of_covers 7 _ covers7 fun t _ y => ?_
  rw [after0_7, iblk0_e2, iblk1_e3, iblk2_e2, iblk3_e2, iblk4_e2, out7_e2]
  exact e2_tile (fun y => (cfg0.win 7).blk t |>.view.emb y) (idx7 t) (fun _ => rfl) (fun _ => rfl)
    (fun r _ k _ => normed_tile (input m c) (stream m c) (weight m c) (gainKv m c) t.val r k) y

/-! ## The claims -/

theorem frame_reference : Cert.quiescent_Reference11Ideal (hReference11Ideal := Cert.Reference11Ideal.Gen.facts) := fun m g _ =>
  run_frame (P := fun _ _ => True)
    ((θ_run _ _ _).mono (fun r h c => ⟨trivial, (h c).2.2.2⟩) (Cert.Reference11Ideal.Value.run (F := Ideal) m g)) (by decide)

/-- The sum in terms of the arguments. -/
theorem sum_args : residual (input m c) (weight m c) (stream m c) =
    residual (at2 (n := 8192) (m := 2048) (φ := .bf16) (m ((c : Thread nD τ).loc main_arg0)))
      (at3 (a := 1) (n := 2048) (m := 2048) (φ := .bf16) (m ((c : Thread nD τ).loc main_arg1)))
      (at2 (n := 8192) (m := 2048) (φ := .f32) (m ((c : Thread nD τ).loc main_arg2))) := by
  unfold input weight stream
  rw [V_main_arg0, V_main_arg1, V_main_arg2]

theorem reference_sum (x : FVec Ideal S8192x2048 .bf16) (w : FVec Ideal S1x2048x2048 .bf16) (h : FVec Ideal S8192x2048 .f32) (h₀ h₁ hc) :
    addf h (Host.dotGeneral Cert.Reference11Ideal.dot_S8192x2048_S2048x2048_S8192x2048_1_0_0_1_n_n none (extf .f32 x h₀)
      (extf .f32 (shapeCast Cert.Reference11Ideal.S2048x2048 w hc) h₁)) =
    (e2 (residual (at2 x) (at3 w) (at2 h)) : FVec Ideal S8192x2048 .f32) :=
  residual_reference rfl (fun _ _ => ⟨rfl, rfl⟩) (fun _ _ => ⟨rfl, rfl⟩) _ _ _ _ _ _

theorem algebraic : Cert.algebraic_Kernel11Ideal_Reference11Ideal (hKernel11Ideal := facts)
    (hReference11Ideal := Cert.Reference11Ideal.Gen.facts) := fun m g m' g' _ hag =>
  ⟨fun c => (e2 (residual (input m c) (weight m c) (stream m c)) : FVec Ideal S8192x2048 .f32),
    fun c => (e2 (normed (residual (input m c) (weight m c) (stream m c)) (gainQ m c 0)) : FVec Ideal S8192x2048 .bf16),
    fun c => (e2 (normed (residual (input m c) (weight m c) (stream m c)) (gainKv m c 0)) : FVec Ideal S8192x2048 .bf16),
    (θ_run _ _ _).mono (fun r h c => and_assoc.1 (and_assoc.1 (h c)))
      (run_results (run_main m g) (unchanged m g) fun r h c =>
        ⟨⟨((h c).1 5).trans (arr5 m c), ((h c).1 6).trans (arr6 m c)⟩, ((h c).1 7).trans (arr7 m c)⟩),
    (θ_run _ _ _).mono (fun r h c => ⟨(h c).1.trans (by
        beta_reduce
        rw [(hag c).1, (hag c).2.1, (hag c).2.2.1, sum_args]
        exact reference_sum _ _ _ _ _ _), (h c).2.1.trans (by
        beta_reduce
        rw [(hag c).1, (hag c).2.1, (hag c).2.2.1, (hag c).2.2.2.1, reference_sum, sum_args]
        unfold gainQ
        rw [V_main_v0]
        exact hostNormed_e2 (by decide) _ _ _ (by decide) _ _ _ _ _ _ _ _ _), (h c).2.2.1.trans (by
        beta_reduce
        rw [(hag c).1, (hag c).2.1, (hag c).2.2.1, (hag c).2.2.2.2, reference_sum, sum_args]
        unfold gainKv
        rw [V_main_v1]
        exact hostNormed_e2 (by decide) _ _ _ (by decide) _ _ _ _ _ _ _ _ _), (h c).2.2.2⟩)
      (Cert.Reference11Ideal.Value.run (F := Ideal) m' g')⟩

end Cert.Proof.Product.OutNorms

end
-- ==== Proof.OutLast.lean ====
/-
  The last layer's out-projection, `h + y w`, no normalisation after it.
-/
module

public import proofs.«01_k».proof.Defs
public import proofs.«01_k».proof.Proof.Tiles
public import proofs.«01_k».proof.Proof.Gen.Kernel12Ideal.Frame
public import proofs.«01_k».proof.Proof.Gen.Reference12Ideal.Run
public import Idealize.ShloMosaic.Lib.Pipeline.Covers

@[expose] public section

set_option backward.isDefEq.respectTransparency false

noncomputable section

namespace Cert.Proof.Product.OutLast

open Cert.Kernel12Ideal Cert.Kernel12Ideal.Gen
open Idealize.ShloMosaic Idealize.ShloMosaic.TcCoe

/-- One grid point's block of the sum, from its blocks of the rows and the weight. -/
theorem out_e2 (x h : ℕ → ℕ → EReal) (w : ℕ → ℕ → ℕ → EReal) :
    out0_3 (F := Ideal) (e2 x : FVec Ideal S512x2048 .bf16) (e3 w : FVec Ideal S1x2048x2048 .bf16) (e2 h : FVec Ideal S512x2048 .f32) =
      (e2 (residual x w h) : FVec Ideal S512x2048 .f32) := by
  unfold out0_3
  rw [View.canon_unit_zero hz]
  unfold k0_pay1 r0_0 r0_1
  simp only [View.ld_unit_zero (S := S512x2048) hz, ld_e3, Nat.zero_add]
  exact residual_point rfl (fun _ _ => ⟨rfl, rfl⟩) (fun _ _ => ⟨rfl, rfl⟩) _ _ _ _

variable (m : (ℓ : Loc nD τ sig) → Buf (Elt Ideal) ℓ) (c : Dev nD)

/-- The three arguments by coordinates. -/
def input : ℕ → ℕ → EReal := at2 (n := 8192) (m := 2048) (φ := .bf16) (V m c main_arg0)
def weight : ℕ → ℕ → ℕ → EReal := at3 (a := 1) (n := 2048) (m := 2048) (φ := .bf16) (V m c main_arg1)
def stream : ℕ → ℕ → EReal := at2 (n := 8192) (m := 2048) (φ := .f32) (V m c main_arg2)

theorem idx0 : ∀ t : Fin grid0.N, cc0_transform_0 (grid0.coords t) = ![t.val, 0] := by decide +kernel
theorem idx1 : ∀ t : Fin grid0.N, cc0_transform_1 (grid0.coords t) = ![0, 0, 0] := by decide +kernel
theorem idx2 : ∀ t : Fin grid0.N, cc0_transform_2 (grid0.coords t) = ![t.val, 0] := by decide +kernel
theorem idx3 : ∀ t : Fin grid0.N, cc0_transform_3 (grid0.coords t) = ![t.val, 0] := by decide +kernel

theorem iblk0_e2 (t : Fin cfg0.N) :
    iblk m c 0 t = (e2 fun r k => input m c (512 * t.val + r) (2048 * 0 + k) : FVec Ideal S512x2048 .bf16) :=
  tile_e2 (V m c main_arg0) (fun y => (cfg0.win 0).blk t |>.view.emb y) (idx0 t) (fun _ => rfl) (fun _ => rfl)
theorem iblk1_e3 (t : Fin cfg0.N) :
    iblk m c 1 t = (e3 fun s r k => weight m c (1 * 0 + s) (2048 * 0 + r) (2048 * 0 + k) : FVec Ideal S1x2048x2048 .bf16) :=
  tile_e3 (V m c main_arg1) (fun y => (cfg0.win 1).blk t |>.view.emb y) (idx1 t) (fun _ => rfl) (fun _ => rfl) (fun _ => rfl)
theorem iblk2_e2 (t : Fin cfg0.N) :
    iblk m c 2 t = (e2 fun r k => stream m c (512 * t.val + r) (2048 * 0 + k) : FVec Ideal S512x2048 .f32) :=
  tile_e2 (V m c main_arg2) (fun y => (cfg0.win 2).blk t |>.view.emb y) (idx2 t) (fun _ => rfl) (fun _ => rfl)

theorem covers3 : (cfg0.win 3).Covers := by decide +kernel

theorem arr3 : (dats m 0 c).arrAt 3 cfg0.N = (e2 (residual (input m c) (weight m c) (stream m c)) : FVec Ideal S8192x2048 .f32) := by
  refine (dats m 0 c).arrAt_eq_of_covers 3 _ covers3 fun t _ y => ?_
  rw [after0_3, iblk0_e2, iblk1_e3, iblk2_e2, out_e2]
  exact e2_tile (fun y => (cfg0.win 3).blk t |>.view.emb y) (idx3 t) (fun _ => rfl) (fun _ => rfl)
    (fun r _ k _ => residual_tile (input m c) (stream m c) (weight m c) t.val r k) y

theorem frame_reference : Cert.quiescent_Reference12Ideal (hReference12Ideal := Cert.Reference12Ideal.Gen.facts) := fun m g _ =>
  run_frame (Cert.Reference12Ideal.Value.run (F := Ideal) m g) (by decide)

theorem algebraic : Cert.algebraic_Kernel12Ideal_Reference12Ideal (hKernel12Ideal := facts)
    (hReference12Ideal := Cert.Reference12Ideal.Gen.facts) :=
  fun m g m' g' _ hag => ⟨fun c => _, run_results (run_main m g) (unchanged m g) fun r h c => ((h c).1 3).trans (arr3 m c),
    (θ_run _ _ _).mono (fun r h c => (h c).imp_left fun h => h.trans (by
      rw [(hag c).1, (hag c).2.1, (hag c).2.2]
      exact residual_reference (d := Cert.Reference12Ideal.dot_S8192x2048_S2048x2048_S8192x2048_1_0_0_1_n_n) rfl
        (fun _ _ => ⟨rfl, rfl⟩) (fun _ _ => ⟨rfl, rfl⟩) _ _ _ _ _ _))
      (Cert.Reference12Ideal.Value.run (F := Ideal) m' g')⟩

end Cert.Proof.Product.OutLast

end
-- ==== Proof.Fns.lean ====
/-
  What one grid point of the backward pass computes, as plain functions of the blocks it is given.

  The grid is (head, query block).  At a point the kernel walks the key blocks from the query block's own span down to
  block 0 and, for each, adds to `dk` and `dv` of that key block and carries three values per query row: `gone` (the sum of
  the softplus of the logits of the keys already passed), `e` (the sum of the weighted products of the keys already passed)
  and `dq`.  The first loop works on all 512 rows while one of the last 256 has `gone` below the threshold; the second goes on with
  the first 256 rows.
-/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.VecWindow

@[expose] public section

noncomputable section

namespace Cert.Proof.SbBwd

open Cert.KernelIdeal Cert.KernelIdeal.Gen
open Idealize.ShloMosaic Idealize.ShloMosaic.TcCoe

variable {F : FTy → Type} [FloatOps F] [Named F]

/-- One head's key gradients: 32 key blocks, transposed (128 features by 256 keys). -/
abbrev Acc (F : FTy → Type) := Vec F S1x32x128x256 .f32
/-- One head's keys (or values). -/
abbrev Keys (F : FTy → Type) := Vec F S8192x128 .bf16
abbrev KBlk (F : FTy → Type) := Vec F S256x128 .bf16
abbrev ABlk (F : FTy → Type) := Vec F S1x1x128x256 .f32

/-- The offsets of key block `n` (mod 32) among the keys, and in a gradient accumulator. -/
def kofs (n : ℕ) : Fin 2 → ℕ := ![256 * (n % 32), 0]
def aofs (n : ℕ) : Fin 4 → ℕ := ![0, n % 32, 0, 0]

theorem kofs_inb (n : ℕ) : ∀ a, kofs n a + S256x128.size a ≤ S8192x128.size a := by
  have h := Nat.mod_lt n (show 0 < 32 by decide)
  intro a
  fin_cases a
  · show 256 * (n % 32) + 256 ≤ 8192; omega
  · show 0 + 128 ≤ 128; omega

theorem aofs_inb (n : ℕ) : ∀ a, aofs n a + S1x1x128x256.size a ≤ S1x32x128x256.size a := by
  have h := Nat.mod_lt n (show 0 < 32 by decide)
  intro a
  fin_cases a
  · show 0 + 1 ≤ 1; omega
  · show n % 32 + 1 ≤ 32; omega
  · show 0 + 128 ≤ 128; omega
  · show 0 + 256 ≤ 256; omega

/-- Key block `n`, accumulator block `n`, and the accumulator with block `n` replaced. -/
def kblk (K : Keys F) (n : ℕ) : KBlk F := VecWindow.window K (kofs n) S256x128.size (kofs_inb n)
def ablk (A : Acc F) (n : ℕ) : ABlk F := VecWindow.window A (aofs n) S1x1x128x256.size (aofs_inb n)
def aput (A : Acc F) (n : ℕ) (w : ABlk F) : Acc F := VecWindow.put A (aofs n) S1x1x128x256.size w

/-- What a grid point reads, prepared: the query block (and transposed), the triangle of ones, the output's gradient
    (and transposed), its row sums against the output, and the head's keys and values. -/
structure Row (F : FTy → Type) where
  q : FVec F S512x128 .bf16
  qT : FVec F S128x512 .bf16
  up : FVec F S256x256 .bf16
  d : FVec F S512x128 .bf16
  dT : FVec F S128x512 .bf16
  tot : FVec F S512x1 .f32
  k : Keys F
  v : Keys F

/-- The carried values of the loop over 512 rows, -/
structure Tall (F : FTy → Type) where
  alive : BitVec 32
  gone : FVec F S512x1 .f32
  e : FVec F S512x1 .f32
  dq : FVec F S512x128 .f32
  dk : Acc F
  dv : Acc F

/-- and of the loop over the first 256. -/
structure Half (F : FTy → Type) where
  alive : BitVec 32
  gone : FVec F S256x1 .f32
  e : FVec F S256x1 .f32
  dq : FVec F S256x128 .f32
  dk : Acc F
  dv : Acc F

/-- One key block of the first loop. -/
def step1 (R : Row F) (n : ℕ) (s : Tall F) : Tall F where
  alive := Scalar.extui (Scalar.cmpf .olt (k0_pay68 s.gone (k0_pay58 R.q (kblk R.k n))) (Named.named κ "exhausted" 0x42DC0000#32))
  gone := k0_pay65 s.gone (k0_pay58 R.q (kblk R.k n))
  e := k0_pay66 s.e (k0_pay60 R.q R.up R.d s.gone (kblk R.k n) (kblk R.v n))
  dq := k0_pay67 s.dq (kblk R.k n) (k0_pay61 R.q R.up R.d R.tot s.gone s.e (kblk R.k n) (kblk R.v n))
  dk := aput s.dk n (k0_pay63 R.qT (k0_pay61 R.q R.up R.d R.tot s.gone s.e (kblk R.k n) (kblk R.v n)) (ablk s.dk n))
  dv := aput s.dv n (k0_pay64 R.dT (k0_pay59 R.q R.up s.gone (kblk R.k n)) (ablk s.dv n))

/-- The first loop with `n` key blocks left: it stops at 0 or when no row is alive, and says how many are left. -/
def loop1 (R : Row F) : ℕ → Tall F → ℕ × Tall F
  | 0, s => (0, s)
  | n + 1, s => if Scalar.cmpi .sgt s.alive 0#32 = 1#1 then loop1 R n (step1 R n s) else (n + 1, s)

/-- One key block of the second loop. -/
def step2 (R : Row F) (n : ℕ) (s : Half F) : Half F where
  alive := Scalar.extui (Scalar.cmpf .olt (k0_pay3 (k0_pay81 s.gone (k0_pay70 R.q (kblk R.k n)))) (Named.named κ "exhausted" 0x42DC0000#32))
  gone := k0_pay78 s.gone (k0_pay70 R.q (kblk R.k n))
  e := k0_pay79 s.e (k0_pay72 R.q R.up R.d s.gone (kblk R.k n) (kblk R.v n))
  dq := k0_pay80 s.dq (kblk R.k n) (k0_pay72 R.q R.up R.d s.gone (kblk R.k n) (kblk R.v n))
    (k0_pay73 R.q R.up R.d R.tot s.gone s.e (kblk R.k n) (kblk R.v n)) (k0_pay74 R.q (kblk R.k n))
  dk := aput s.dk n (k0_pay76 R.qT (k0_pay72 R.q R.up R.d s.gone (kblk R.k n) (kblk R.v n))
    (k0_pay73 R.q R.up R.d R.tot s.gone s.e (kblk R.k n) (kblk R.v n)) (k0_pay74 R.q (kblk R.k n)) (ablk s.dk n))
  dv := aput s.dv n (k0_pay77 R.dT (k0_pay71 R.q R.up s.gone (kblk R.k n)) (ablk s.dv n))

def loop2 (R : Row F) : ℕ → Half F → ℕ × Half F
  | 0, s => (0, s)
  | n + 1, s => if Scalar.cmpi .sgt s.alive 0#32 = 1#1 then loop2 R n (step2 R n s) else (n + 1, s)

/-- The loop counter's word with `n` key blocks left: the next block is `n - 1`. -/
def ctr (n : ℕ) : BitVec 32 := Scalar.subi (BitVec.ofNat 32 n) 1#32

/-! ## The query block's own span: key blocks `2i + 1` (its last 256 rows only) and `2i`, under the causal mask -/

/-- The own span's later key block: weights, products, row gradients (256 rows), -/
def own1w (R : Row F) (n : ℕ) : FVec F S256x256 .f32 :=
  k0_pay29 (k0_pay19 (F := F)) k0_pay22 (k0_pay23 R.q (kblk R.k n)) (k0_pay24 R.q (kblk R.k n))
    (k0_pay27 R.q R.up (kblk R.k n)) (k0_pay28 R.q R.up (kblk R.k n))
def own1e (R : Row F) (n : ℕ) : FVec F S256x256 .f32 :=
  k0_pay30 R.d (k0_pay19 (F := F)) k0_pay22 (kblk R.v n) (k0_pay23 R.q (kblk R.k n)) (k0_pay24 R.q (kblk R.k n))
    (k0_pay27 R.q R.up (kblk R.k n)) (k0_pay28 R.q R.up (kblk R.k n))
def own1z (R : Row F) (n : ℕ) : FVec F S256x256 .bf16 :=
  k0_pay31 R.up R.d R.tot (k0_pay19 (F := F)) (k0_pay20 (F := F)) k0_pay22 (kblk R.v n) (k0_pay23 R.q (kblk R.k n))
    (k0_pay24 R.q (kblk R.k n)) (k0_pay27 R.q R.up (kblk R.k n)) (k0_pay28 R.q R.up (kblk R.k n))
def own1dk (R : Row F) (n : ℕ) (A : ABlk F) : ABlk F :=
  k0_pay32 R.qT R.up R.d R.tot (k0_pay19 (F := F)) (k0_pay20 (F := F)) k0_pay22 (kblk R.v n) (k0_pay23 R.q (kblk R.k n))
    (k0_pay24 R.q (kblk R.k n)) (k0_pay27 R.q R.up (kblk R.k n)) (k0_pay28 R.q R.up (kblk R.k n)) A

/-- the carried values after it (all 512 rows: the first 256 at zero). -/
def own1 (R : Row F) (n : ℕ) (dk dv : Acc F) : Tall F where
  alive := 1#32
  gone := k0_pay34 (k0_pay16 (F := F)) (k0_pay19 (F := F)) (k0_pay25 R.q (kblk R.k n))
  e := k0_pay35 (k0_pay17 (F := F)) (k0_pay20 (F := F)) (own1e R n)
  dq := k0_pay36 (k0_pay18 (F := F)) (k0_pay21 (F := F)) (kblk R.k n) (own1z R n)
  dk := aput dk n (own1dk R n (ablk dk n))
  dv := aput dv n (k0_pay33 R.dT (own1w R n) (ablk dv n))

/-- The own span's earlier key block, all 512 rows under the mask. -/
def own0 (R : Row F) (n : ℕ) (s : Tall F) : Tall F where
  alive := Scalar.extui (Scalar.cmpf .olt
    (k0_pay52 s.gone (k0_pay41 k0_pay37 (k0_pay38 R.q (kblk R.k n)) (k0_pay39 R.q (kblk R.k n)))) (Named.named κ "exhausted" 0x42DC0000#32))
  gone := k0_pay49 s.gone (k0_pay41 k0_pay37 (k0_pay38 R.q (kblk R.k n)) (k0_pay39 R.q (kblk R.k n)))
  e := k0_pay50 s.e (k0_pay43 R.up R.d s.gone k0_pay37 (kblk R.v n) (k0_pay38 R.q (kblk R.k n)) (k0_pay39 R.q (kblk R.k n)))
  dq := k0_pay51 s.dq (kblk R.k n)
    (k0_pay44 R.up R.d R.tot s.gone s.e k0_pay37 (kblk R.v n) (k0_pay38 R.q (kblk R.k n)) (k0_pay39 R.q (kblk R.k n)))
  dk := aput s.dk n (k0_pay47 (k0_pay45 (ablk s.dk n))
    (k0_pay46 R.qT R.up R.d R.tot s.gone s.e k0_pay37 (kblk R.v n) (k0_pay38 R.q (kblk R.k n)) (k0_pay39 R.q (kblk R.k n))))
  dv := aput s.dv n (k0_pay48 R.dT (k0_pay42 R.up s.gone k0_pay37 (k0_pay38 R.q (kblk R.k n)) (k0_pay39 R.q (kblk R.k n))) (ablk s.dv n))

/-- The first 256 rows of the carried values, going on alone. -/
def lower (s : Tall F) : Half F where
  alive := Scalar.extui (Scalar.cmpf .olt (k0_pay1 (k0_pay56 s.gone)) (Named.named κ "exhausted" 0x42DC0000#32))
  gone := k0_pay53 s.gone
  e := k0_pay54 s.e
  dq := k0_pay55 s.dq
  dk := s.dk
  dv := s.dv

/-! ## The grid point -/

/-- The point's prepared operands from its blocks: the output's gradient `dy`, the query and gate blocks, the head's keys
    and values, the forward pass's attention output. -/
def rowOf (dy q g : Vec F S512x128 .f32) (k v : Keys F) (o : Vec F S512x128 .f32) : Row F where
  q := k0_pay6 q
  qT := k0_pay7 q
  up := k0_pay8 (F := F)
  d := k0_pay13 g dy
  dT := k0_pay14 g dy
  tot := k0_pay15 (k0_pay10 o) (k0_pay13 g dy)
  k := k
  v := v

/-- What a point leaves: the query block's gradient and the head's two accumulators. -/
structure Out (F : FTy → Type) where
  dq : Vec F S512x128 .bf16
  dk : Acc F
  dv : Acc F

/-- The accumulators a point starts from: zero at the head's first query block. -/
def start (i : ℕ) (z A : Acc F) : Acc F := if i = 0 then z else A

/-- Query block `i` of a head, from the accumulators `dk` and `dv` the head's earlier query blocks left. -/
def point (R : Row F) (i : ℕ) (dk dv : Acc F) : Out F :=
  let s := own0 R (2 * i) (own1 R (2 * i + 1) (start i (k0_pay4 (F := F)) dk) (start i (k0_pay5 (F := F)) dv))
  let a := loop1 R (2 * i) s
  let b := loop2 R a.1 (lower a.2)
  { dq := k0_pay2 a.2.dq b.2.dq, dk := b.2.dk, dv := b.2.dv }

/-- At the head's first query block what the accumulators held does not matter. -/
theorem point_zero (R : Row F) (dk dv dk' dv' : Acc F) : point R 0 dk dv = point R 0 dk' dv' := rfl

/-- The gate gradient's block. -/
def gateOf (dy g o : Vec F S512x128 .f32) : Vec F S512x128 .bf16 := k0_pay11 g dy o

end Cert.Proof.SbBwd

end
-- ==== Proof.Body.lean ====
/-
  The kernel body's triple: from its ten staging buffers, read at given contents, a grid point runs, keeps its six inputs
  and leaves the query gradient, the gate gradient and the two accumulators at `Fns.lean`'s functions of what it read.
  Each of the body's two loops is a label; it is answered through a specification with the number of key blocks left
  (`spec1`, `spec2`), met by induction on that number.
-/
module

public import proofs.«01_k».proof.Proof.Fns
public import Idealize.ShloMosaic.Lib.Tactic
public import Idealize.ShloMosaic.Lib.Pipeline.Kit
public import Idealize.ShloMosaic.Lib.Pipeline.Frame
public import Idealize.ShloMosaic.Lib.Pipeline.FrameBody

@[expose] public section

noncomputable section

namespace Cert.Proof.SbBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The loops' variants: the number of key blocks left. -/
abbrev 𝒱₀ : Variants := Variants.nat

/-! ## Loads and stores of owned memrefs -/

section Access

variable {s : Shape} {e : EltTy} (c : Dev nD) (bd : Option 𝒱₀.V) (E : Set ℕ)

/-- A load of a block of an owned memref reads that block of its contents. -/
theorem wp_load_owned {α : Type} {Q : α → sProp 𝕄} {M : Memref sig .tc .vmem s e} {q : PosShare TreeShare} {X : s.Idx → Elt F e}
    {off off' size : Fin s.rank → ℕ} (inb : ∀ a, off a + size a ≤ s.size a) (h : off = off') (inb' : ∀ a, off' a + size a ≤ s.size a)
    {hl : M.view.LoadsAt (Rect.unit off size inb).toLoadRect}
    {k : ((Rect.unit off size inb).shape.Idx → Elt F e) → Prog (TpuEff nD τ sig (Elt F) (Λ₀ F) .tc) α} :
    (owns (c : Thread nD τ) M q X : sProp 𝕄)
      ⊢ iprop((owns (c : Thread nD τ) M q X
          -∗ wp frame (wpE (defs₀ (F := F)) 𝒱₀ (c : Thread nD τ) bd) E (k (VecWindow.window X off' size inb')) Q)
        -∗ wp frame (wpE (defs₀ (F := F)) 𝒱₀ (c : Thread nD τ) bd) E (.op (.load M (Rect.unit off size inb).toLoadRect hl) k) Q) := by
  unfold owns
  iintro ⟨%f, %hf, H⟩
  iintro Hk
  iapply (wp_load 𝒱₀ (c : Thread nD τ) bd E (m := M) (View.setOn_subset_set _ _)) $$ H
  iintro H
  rw [View.readAt_unit M.view f inb h inb', hf]
  iapply Hk
  iexists f
  isplitr
  · ipureintro; exact hf
  · iexact H

/-- A load of all of an owned memref reads its contents. -/
theorem wp_load_owned_full {α : Type} {Q : α → sProp 𝕄} {M : Memref sig .tc .vmem s e} {q : PosShare TreeShare} {X : s.Idx → Elt F e}
    {off : Fin s.rank → ℕ} (inb : ∀ a, off a + s.size a ≤ s.size a)
    {hl : M.view.LoadsAt (Rect.unit off s.size inb).toLoadRect}
    {k : ((Rect.unit off s.size inb).shape.Idx → Elt F e) → Prog (TpuEff nD τ sig (Elt F) (Λ₀ F) .tc) α} :
    (owns (c : Thread nD τ) M q X : sProp 𝕄)
      ⊢ iprop((owns (c : Thread nD τ) M q X
          -∗ wp frame (wpE (defs₀ (F := F)) 𝒱₀ (c : Thread nD τ) bd) E (k X) Q)
        -∗ wp frame (wpE (defs₀ (F := F)) 𝒱₀ (c : Thread nD τ) bd) E (.op (.load M (Rect.unit off s.size inb).toLoadRect hl) k) Q) := by
  unfold owns
  iintro ⟨%f, %hf, H⟩
  iintro Hk
  iapply (wp_load 𝒱₀ (c : Thread nD τ) bd E (m := M) (View.setOn_subset_set _ _)) $$ H
  iintro H
  rw [View.readAt_full M.view f inb, hf]
  iapply Hk
  iexists f
  isplitr
  · ipureintro; exact hf
  · iexact H

/-- A store of a block over an owned memref puts the block into its contents. -/
theorem wp_store_owned {α : Type} {Q : α → sProp 𝕄} {M : Memref sig .tc .vmem s e} {X : s.Idx → Elt F e}
    {off off' size : Fin s.rank → ℕ} (inb : ∀ a, off a + size a ≤ s.size a) (h : off = off')
    {w : (Rect.unit off size inb).shape.Idx → Elt F e} {hx : (M.access (Rect.unit off size inb)).Stores Finset.univ}
    {hm : Finset.univ = Finset.univ ∨ ∀ a, (Rect.unit off size inb).stride a = 1}
    {k : PUnit → Prog (TpuEff nD τ sig (Elt F) (Λ₀ F) .tc) α} :
    (owns (c : Thread nD τ) M fullShare X : sProp 𝕄)
      ⊢ iprop((owns (c : Thread nD τ) M fullShare (VecWindow.put X off' size w)
          -∗ wp frame (wpE (defs₀ (F := F)) 𝒱₀ (c : Thread nD τ) bd) E (k ⟨⟩) Q)
        -∗ wp frame (wpE (defs₀ (F := F)) 𝒱₀ (c : Thread nD τ) bd) E (.op (.store M (Rect.unit off size inb) w Finset.univ hx hm) k) Q) := by
  unfold owns
  iintro ⟨%f, %hf, H⟩
  iintro Hk
  iapply (wp_store_writes₀ 𝒱₀ (c : Thread nD τ) bd E (m := M) (View.set_slice_subset _ _)) $$ H
  iintro H
  iapply Hk
  iexists _
  isplitr
  · ipureintro
    exact (View.read_writes_cons_put M.view f inb w [] h).trans (by rw [View.writes_nil, hf])
  · iexact H

/-- A store over all of an owned memref. -/
theorem wp_store_owned_full {α : Type} {Q : α → sProp 𝕄} {M : Memref sig .tc .vmem s e} {X : s.Idx → Elt F e}
    {off : Fin s.rank → ℕ} (inb : ∀ a, off a + s.size a ≤ s.size a)
    {w : (Rect.unit off s.size inb).shape.Idx → Elt F e} {hx : (M.access (Rect.unit off s.size inb)).Stores Finset.univ}
    {hm : Finset.univ = Finset.univ ∨ ∀ a, (Rect.unit off s.size inb).stride a = 1}
    {k : PUnit → Prog (TpuEff nD τ sig (Elt F) (Λ₀ F) .tc) α} :
    (owns (c : Thread nD τ) M fullShare X : sProp 𝕄)
      ⊢ iprop((owns (c : Thread nD τ) M fullShare w
          -∗ wp frame (wpE (defs₀ (F := F)) 𝒱₀ (c : Thread nD τ) bd) E (k ⟨⟩) Q)
        -∗ wp frame (wpE (defs₀ (F := F)) 𝒱₀ (c : Thread nD τ) bd) E (.op (.store M (Rect.unit off s.size inb) w Finset.univ hx hm) k) Q) := by
  unfold owns
  iintro ⟨%f, %hf, H⟩
  iintro Hk
  iapply (wp_store_writes₀ 𝒱₀ (c : Thread nD τ) bd E (m := M) (View.set_slice_subset _ _)) $$ H
  iintro H
  iapply Hk
  iexists _
  isplitr
  · ipureintro
    exact View.read_writes_full M.view f inb w []
  · iexact H

end Access

/-! ## The loop counters and the blocks they address -/

theorem ctr_zero_test (x : BitVec 32) : ¬Scalar.andi (Scalar.cmpi .sge (ctr 0) 0#32) (Scalar.cmpi .sgt x 0#32) = 1#1 := by
  have h : Scalar.cmpi .sge (ctr 0) 0#32 = 0#1 := by decide
  rw [h]
  generalize Scalar.cmpi .sgt x 0#32 = y
  revert y; decide

theorem ctr_succ (n : ℕ) (hn : n < 32) : ctr (n + 1) = BitVec.ofNat 32 n :=
  (by decide : ∀ n : Fin 32, ctr (n.val + 1) = BitVec.ofNat 32 n.val) ⟨n, hn⟩

theorem sub_one (n : ℕ) : Scalar.subi (BitVec.ofNat 32 n) 1#32 = ctr n := rfl

theorem ctr_succ_test (n : ℕ) (hn : n < 32) (x : BitVec 32) :
    (Scalar.andi (Scalar.cmpi .sge (BitVec.ofNat 32 n) 0#32) (Scalar.cmpi .sgt x 0#32) = 1#1) ↔ Scalar.cmpi .sgt x 0#32 = 1#1 := by
  have h : Scalar.cmpi .sge (BitVec.ofNat 32 n) 0#32 = 1#1 :=
    (by decide : ∀ n : Fin 32, Scalar.cmpi .sge (BitVec.ofNat 32 n.val) 0#32 = 1#1) ⟨n, hn⟩
  rw [h]
  generalize Scalar.cmpi .sgt x 0#32 = y
  revert y; decide

theorem off3_eq (n : ℕ) (hn : n < 32) : k0_off3 (BitVec.ofNat 32 n) = kofs n :=
  (by decide : ∀ n : Fin 32, k0_off3 (BitVec.ofNat 32 n.val) = kofs n.val) ⟨n, hn⟩
theorem off4_eq (n : ℕ) (hn : n < 32) : k0_off4 (BitVec.ofNat 32 n) = aofs n :=
  (by decide : ∀ n : Fin 32, k0_off4 (BitVec.ofNat 32 n.val) = aofs n.val) ⟨n, hn⟩
theorem off5_eq (n : ℕ) (hn : n < 32) : k0_off5 (BitVec.ofNat 32 n) = kofs n :=
  (by decide : ∀ n : Fin 32, k0_off5 (BitVec.ofNat 32 n.val) = kofs n.val) ⟨n, hn⟩
theorem off6_eq (n : ℕ) (hn : n < 32) : k0_off6 (BitVec.ofNat 32 n) = aofs n :=
  (by decide : ∀ n : Fin 32, k0_off6 (BitVec.ofNat 32 n.val) = aofs n.val) ⟨n, hn⟩

theorem chk1 (n : ℕ) (hn : n < 32) : k0_chk1 (BitVec.ofNat 32 n) :=
  (by decide : ∀ n : Fin 32, k0_chk1 (BitVec.ofNat 32 n.val)) ⟨n, hn⟩
theorem chk2 (n : ℕ) (hn : n < 32) : k0_chk2 (BitVec.ofNat 32 n) :=
  (by decide : ∀ n : Fin 32, k0_chk2 (BitVec.ofNat 32 n.val)) ⟨n, hn⟩

theorem off1_1 (i : grid0.Coords) : k0_off1 i 1#32 = kofs (2 * (i 1).val + 1) := by
  have h : ∀ j : Fin 16, k0_off1 (fun | 0 => (0 : Fin 12) | 1 => j) 1#32 = kofs (2 * j.val + 1) := by decide
  exact h (i 1)
theorem off1_0 (i : grid0.Coords) : k0_off1 i 0#32 = kofs (2 * (i 1).val) := by
  have h : ∀ j : Fin 16, k0_off1 (fun | 0 => (0 : Fin 12) | 1 => j) 0#32 = kofs (2 * j.val) := by decide
  exact h (i 1)
theorem off2_1 (i : grid0.Coords) : k0_off2 i 1#32 = aofs (2 * (i 1).val + 1) := by
  have h : ∀ j : Fin 16, k0_off2 (fun | 0 => (0 : Fin 12) | 1 => j) 1#32 = aofs (2 * j.val + 1) := by decide
  exact h (i 1)
theorem off2_0 (i : grid0.Coords) : k0_off2 i 0#32 = aofs (2 * (i 1).val) := by
  have h : ∀ j : Fin 16, k0_off2 (fun | 0 => (0 : Fin 12) | 1 => j) 0#32 = aofs (2 * j.val) := by decide
  exact h (i 1)

/-- The first loop's counter starts at the key block before the own span. -/
theorem ctr_start (i : grid0.Coords) : Scalar.subi (Scalar.muli 2#32 (BitVec.ofNat 32 (i 1).val)) 1#32 = ctr (2 * (i 1).val) := by
  have h : ∀ j : Fin 16, Scalar.subi (Scalar.muli 2#32 (BitVec.ofNat 32 j.val)) 1#32 = ctr (2 * j.val) := by decide
  exact h (i 1)

/-- The first query block's test. -/
theorem first_test (i : grid0.Coords) :
    (Scalar.cmpi .ne (Scalar.extui (Scalar.cmpi .eq (BitVec.ofNat 32 (i 1).val) 0#32)) 0#32 = 1#1) ↔ (i 1).val = 0 := by
  have h : ∀ j : Fin 16, (Scalar.cmpi .ne (Scalar.extui (Scalar.cmpi .eq (BitVec.ofNat 32 j.val) 0#32)) 0#32 = 1#1) ↔ j.val = 0 := by decide
  exact h (i 1)

/-! ## The loops' labels -/

section Labels

variable (c : Dev nD) (E : Set ℕ) (i : grid0.Coords)
  (arg5 : Memref sig .tc .vmem S8192x128 .bf16) (harg5 : arg5.IsWhole) (arg6 : Memref sig .tc .vmem S8192x128 .bf16) (harg6 : arg6.IsWhole)
  (arg10 : Memref sig .tc .vmem S1x32x128x256 .f32) (harg10 : arg10.IsWhole) (arg11 : Memref sig .tc .vmem S1x32x128x256 .f32) (harg11 : arg11.IsWhole)
  (R : Row F)

/-- The four buffers a loop reads or writes: the head's keys and values, the two accumulators. -/
def held (dk dv : Acc F) : sProp 𝕄 :=
  iprop(owns (c : Thread nD τ) arg5 fullShare R.k ∗ owns (c : Thread nD τ) arg6 fullShare R.v
    ∗ owns (c : Thread nD τ) arg10 fullShare dk ∗ owns (c : Thread nD τ) arg11 fullShare dv)

/-- The first loop's specification with `n` key blocks left. -/
def spec1 (n : ℕ) (s : Tall F) : sWPT 𝕄 (BitVec 32 × BitVec 32 × FVec F S512x1 .f32 × FVec F S512x1 .f32 × FVec F S512x128 .f32) := do
  sWPT.consume (held c arg5 arg6 arg10 arg11 R s.dk s.dv)
  sWPT.produce (held c arg5 arg6 arg10 arg11 R (loop1 R n s).2.dk (loop1 R n s).2.dv)
  pure (ctr (loop1 R n s).1, (loop1 R n s).2.alive, (loop1 R n s).2.gone, (loop1 R n s).2.e, (loop1 R n s).2.dq)

theorem spec1_apply (n : ℕ) (s : Tall F) (K) :
    spec1 c arg5 arg6 arg10 arg11 R n s K
      = iprop(held c arg5 arg6 arg10 arg11 R s.dk s.dv ∗ (held c arg5 arg6 arg10 arg11 R (loop1 R n s).2.dk (loop1 R n s).2.dv
          -∗ K (ctr (loop1 R n s).1, (loop1 R n s).2.alive, (loop1 R n s).2.gone, (loop1 R n s).2.e, (loop1 R n s).2.dq))) := rfl

/-- The second loop's. -/
def spec2 (n : ℕ) (s : Half F) : sWPT 𝕄 (BitVec 32 × BitVec 32 × FVec F S256x1 .f32 × FVec F S256x1 .f32 × FVec F S256x128 .f32) := do
  sWPT.consume (held c arg5 arg6 arg10 arg11 R s.dk s.dv)
  sWPT.produce (held c arg5 arg6 arg10 arg11 R (loop2 R n s).2.dk (loop2 R n s).2.dv)
  pure (ctr (loop2 R n s).1, (loop2 R n s).2.alive, (loop2 R n s).2.gone, (loop2 R n s).2.e, (loop2 R n s).2.dq)

theorem spec2_apply (n : ℕ) (s : Half F) (K) :
    spec2 c arg5 arg6 arg10 arg11 R n s K
      = iprop(held c arg5 arg6 arg10 arg11 R s.dk s.dv ∗ (held c arg5 arg6 arg10 arg11 R (loop2 R n s).2.dk (loop2 R n s).2.dv
          -∗ K (ctr (loop2 R n s).1, (loop2 R n s).2.alive, (loop2 R n s).2.gone, (loop2 R n s).2.e, (loop2 R n s).2.dq))) := rfl

/-- The first loop's label meets its specification, by induction on the key blocks left. -/
theorem spec1_le : ∀ (n : ℕ), n ≤ 32 → ∀ (s : Tall F) (K), spec1 c arg5 arg6 arg10 arg11 R n s K
      ⊢ wp frame (wpE (defs₀ (F := F)) 𝒱₀ (c : Thread nD τ) (some n)) E
          (defs₀ (F := F) .tc 1 ⟨i, arg5, harg5, arg6, harg6, R.q, R.up, R.d, R.tot, arg10, harg10, R.qT, arg11, harg11, R.dT,
            ctr n, s.alive, s.gone, s.e, s.dq⟩) K := by
  intro n
  induction n with
  | zero =>
    intro _ s K
    rw [spec1_apply]
    show _ ⊢ wp frame (wpE (defs₀ (F := F)) 𝒱₀ (c : Thread nD τ) (some 0)) E
      (cc0_while1 i arg5 harg5 arg6 harg6 R.q R.up R.d R.tot arg10 harg10 R.qT arg11 harg11 R.dT (ctr 0) s.alive s.gone s.e s.dq) K
    simp only [cc0_while1_eq_skeleton]; unfold cc0_while1_skel
    simp only [ctr_zero_test s.alive, ↓reduceIte, Prog.pure_eq_ret]
    have e : loop1 R 0 s = (0, s) := rfl
    rw [e]
    iintro ⟨H, Hk⟩
    rw [wp_ret]; imodintro
    iapply Hk
    iexact H
  | succ n ih =>
    intro hn s K
    have hn' : n < 32 := hn
    rw [spec1_apply]
    show _ ⊢ wp frame (wpE (defs₀ (F := F)) 𝒱₀ (c : Thread nD τ) (some (n + 1))) E
      (cc0_while1 i arg5 harg5 arg6 harg6 R.q R.up R.d R.tot arg10 harg10 R.qT arg11 harg11 R.dT (ctr (n + 1)) s.alive s.gone s.e s.dq) K
    rw [ctr_succ n hn']
    simp only [cc0_while1_eq_skeleton]; unfold cc0_while1_skel
    by_cases ha : Scalar.cmpi .sgt s.alive 0#32 = 1#1
    · simp only [(ctr_succ_test n hn' s.alive).mpr ha, ↓reduceIte, k0_part7_eq_skeleton, k0_part8_eq_skeleton]
      unfold k0_part7_skel k0_part8_skel
      simp only [Prog.lift, Prog.bind_op, Prog.bind_ret, Prog.pure_eq_ret, sub_one]
      have e : loop1 R (n + 1) s = loop1 R n (step1 R n s) := by rw [loop1, if_pos ha]
      rw [e]
      unfold held
      iintro ⟨⟨H5, H6, HA, HB⟩, Hk⟩
      iapply (wp_assume 𝒱₀ (c : Thread nD τ) (some (n + 1)) E (chk1 n hn'))
      iapply (wp_load_owned c (some (n + 1)) E _ (off3_eq n hn') (kofs_inb n)) $$ H5; iintro H5
      iapply (wp_load_owned c (some (n + 1)) E _ (off3_eq n hn') (kofs_inb n)) $$ H6; iintro H6
      iapply (wp_load_owned c (some (n + 1)) E _ (off4_eq n hn') (aofs_inb n)) $$ HA; iintro HA
      iapply (wp_load_owned c (some (n + 1)) E _ (off4_eq n hn') (aofs_inb n)) $$ HA; iintro HA
      iapply (wp_store_owned c (some (n + 1)) E _ (off4_eq n hn')) $$ HA; iintro HA
      iapply (wp_load_owned c (some (n + 1)) E _ (off4_eq n hn') (aofs_inb n)) $$ HB; iintro HB
      iapply (wp_load_owned c (some (n + 1)) E _ (off4_eq n hn') (aofs_inb n)) $$ HB; iintro HB
      iapply (wp_store_owned c (some (n + 1)) E _ (off4_eq n hn')) $$ HB; iintro HB
      iapply (wp_call_spec 𝒱₀ (c : Thread nD τ) (some (n + 1)) E (spec1 c arg5 arg6 arg10 arg11 R n (step1 R n s)) n
        (fun u hu => by cases hu; exact Nat.lt_succ_self n) (ih (by omega) (step1 R n s)))
      rw [spec1_apply]; unfold held
      isplitl [H5 H6 HA HB]
      · isplitl [H5]; · iexact H5
        isplitl [H6]; · iexact H6
        isplitl [HA]; · iexact HA
        iexact HB
      iintro H
      rw [wp_ret]; imodintro
      iapply Hk
      iexact H
    · have ht := (ctr_succ_test n hn' s.alive).not.mpr ha
      simp only [ht, ↓reduceIte, Prog.pure_eq_ret]
      have e : loop1 R (n + 1) s = (n + 1, s) := by rw [loop1, if_neg ha]
      rw [e]
      iintro ⟨H, Hk⟩
      rw [wp_ret]; imodintro
      simp only [ctr_succ n hn']
      iapply Hk
      iexact H

/-- The second loop's label meets its specification. -/
theorem spec2_le : ∀ (n : ℕ), n ≤ 32 → ∀ (s : Half F) (K), spec2 c arg5 arg6 arg10 arg11 R n s K
      ⊢ wp frame (wpE (defs₀ (F := F)) 𝒱₀ (c : Thread nD τ) (some n)) E
          (defs₀ (F := F) .tc 2 ⟨i, arg5, harg5, arg6, harg6, R.q, R.up, R.d, R.tot, arg10, harg10, R.qT, arg11, harg11, R.dT,
            ctr n, s.alive, s.gone, s.e, s.dq⟩) K := by
  intro n
  induction n with
  | zero =>
    intro _ s K
    rw [spec2_apply]
    show _ ⊢ wp frame (wpE (defs₀ (F := F)) 𝒱₀ (c : Thread nD τ) (some 0)) E
      (cc0_while2 i arg5 harg5 arg6 harg6 R.q R.up R.d R.tot arg10 harg10 R.qT arg11 harg11 R.dT (ctr 0) s.alive s.gone s.e s.dq) K
    simp only [cc0_while2_eq_skeleton]; unfold cc0_while2_skel
    simp only [ctr_zero_test s.alive, ↓reduceIte, Prog.pure_eq_ret]
    have e : loop2 R 0 s = (0, s) := rfl
    rw [e]
    iintro ⟨H, Hk⟩
    rw [wp_ret]; imodintro
    iapply Hk
    iexact H
  | succ n ih =>
    intro hn s K
    have hn' : n < 32 := hn
    rw [spec2_apply]
    show _ ⊢ wp frame (wpE (defs₀ (F := F)) 𝒱₀ (c : Thread nD τ) (some (n + 1))) E
      (cc0_while2 i arg5 harg5 arg6 harg6 R.q R.up R.d R.tot arg10 harg10 R.qT arg11 harg11 R.dT (ctr (n + 1)) s.alive s.gone s.e s.dq) K
    rw [ctr_succ n hn']
    simp only [cc0_while2_eq_skeleton]; unfold cc0_while2_skel
    by_cases ha : Scalar.cmpi .sgt s.alive 0#32 = 1#1
    · simp only [(ctr_succ_test n hn' s.alive).mpr ha, ↓reduceIte, k0_part9_eq_skeleton, k0_part10_eq_skeleton]
      unfold k0_part9_skel k0_part10_skel
      simp only [Prog.lift, Prog.bind_op, Prog.bind_ret, Prog.pure_eq_ret, sub_one]
      have e : loop2 R (n + 1) s = loop2 R n (step2 R n s) := by rw [loop2, if_pos ha]
      rw [e]
      unfold held
      iintro ⟨⟨H5, H6, HA, HB⟩, Hk⟩
      iapply (wp_assume 𝒱₀ (c : Thread nD τ) (some (n + 1)) E (chk2 n hn'))
      iapply (wp_load_owned c (some (n + 1)) E _ (off5_eq n hn') (kofs_inb n)) $$ H5; iintro H5
      iapply (wp_load_owned c (some (n + 1)) E _ (off5_eq n hn') (kofs_inb n)) $$ H6; iintro H6
      iapply (wp_load_owned c (some (n + 1)) E _ (off6_eq n hn') (aofs_inb n)) $$ HA; iintro HA
      iapply (wp_load_owned c (some (n + 1)) E _ (off6_eq n hn') (aofs_inb n)) $$ HA; iintro HA
      iapply (wp_store_owned c (some (n + 1)) E _ (off6_eq n hn')) $$ HA; iintro HA
      iapply (wp_load_owned c (some (n + 1)) E _ (off6_eq n hn') (aofs_inb n)) $$ HB; iintro HB
      iapply (wp_load_owned c (some (n + 1)) E _ (off6_eq n hn') (aofs_inb n)) $$ HB; iintro HB
      iapply (wp_store_owned c (some (n + 1)) E _ (off6_eq n hn')) $$ HB; iintro HB
      iapply (wp_call_spec 𝒱₀ (c : Thread nD τ) (some (n + 1)) E (spec2 c arg5 arg6 arg10 arg11 R n (step2 R n s)) n
        (fun u hu => by cases hu; exact Nat.lt_succ_self n) (ih (by omega) (step2 R n s)))
      rw [spec2_apply]; unfold held
      isplitl [H5 H6 HA HB]
      · isplitl [H5]; · iexact H5
        isplitl [H6]; · iexact H6
        isplitl [HA]; · iexact HA
        iexact HB
      iintro H
      rw [wp_ret]; imodintro
      iapply Hk
      iexact H
    · have ht := (ctr_succ_test n hn' s.alive).not.mpr ha
      simp only [ht, ↓reduceIte, Prog.pure_eq_ret]
      have e : loop2 R (n + 1) s = (n + 1, s) := by rw [loop2, if_neg ha]
      rw [e]
      iintro ⟨H, Hk⟩
      rw [wp_ret]; imodintro
      simp only [ctr_succ n hn']
      iapply Hk
      iexact H

end Labels

/-- The loops leave at most the key blocks they were given. -/
theorem loop1_le (R : Row F) : ∀ (n : ℕ) (s : Tall F), (loop1 R n s).1 ≤ n
  | 0, _ => le_rfl
  | n + 1, s => by
    rw [loop1]; split
    · exact (loop1_le R n _).trans (Nat.le_succ n)
    · exact le_rfl

/-! ## The body -/

/-- A grid point's triple. -/
theorem sound_kernel (c : Dev nD) (E : Set ℕ) (i : grid0.Coords)
    (arg2 : Memref sig .tc .vmem S512x128 .f32) (harg2 : arg2.IsWhole) (arg3 : Memref sig .tc .vmem S512x128 .f32) (harg3 : arg3.IsWhole)
    (arg4 : Memref sig .tc .vmem S512x128 .f32) (harg4 : arg4.IsWhole) (arg5 : Memref sig .tc .vmem S8192x128 .bf16) (harg5 : arg5.IsWhole)
    (arg6 : Memref sig .tc .vmem S8192x128 .bf16) (harg6 : arg6.IsWhole) (arg7 : Memref sig .tc .vmem S512x128 .f32) (harg7 : arg7.IsWhole)
    (arg8 : Memref sig .tc .vmem S512x128 .bf16) (harg8 : arg8.IsWhole) (arg9 : Memref sig .tc .vmem S512x128 .bf16) (harg9 : arg9.IsWhole)
    (arg10 : Memref sig .tc .vmem S1x32x128x256 .f32) (harg10 : arg10.IsWhole) (arg11 : Memref sig .tc .vmem S1x32x128x256 .f32) (harg11 : arg11.IsWhole)
    (dy q g o : Vec F S512x128 .f32) (k v : Keys F) (X8 X9 : Vec F S512x128 .bf16) (dk dv : Acc F) :
    iprop(owns (c : Thread nD τ) arg2 fullShare dy ∗ owns (c : Thread nD τ) arg3 fullShare q ∗ owns (c : Thread nD τ) arg4 fullShare g
        ∗ owns (c : Thread nD τ) arg5 fullShare k ∗ owns (c : Thread nD τ) arg6 fullShare v ∗ owns (c : Thread nD τ) arg7 fullShare o
        ∗ owns (c : Thread nD τ) arg8 fullShare X8 ∗ owns (c : Thread nD τ) arg9 fullShare X9
        ∗ owns (c : Thread nD τ) arg10 fullShare dk ∗ owns (c : Thread nD τ) arg11 fullShare dv : sProp 𝕄)
      ⊢ wp frame (wpE (defs₀ (F := F)) 𝒱₀ (c : Thread nD τ) none) E
          (cc0_sb_bwd (F := F) i arg2 harg2 arg3 harg3 arg4 harg4 arg5 harg5 arg6 harg6 arg7 harg7 arg8 harg8 arg9 harg9 arg10 harg10 arg11 harg11)
          (fun _ => iprop(owns (c : Thread nD τ) arg2 fullShare dy ∗ owns (c : Thread nD τ) arg3 fullShare q ∗ owns (c : Thread nD τ) arg4 fullShare g
            ∗ owns (c : Thread nD τ) arg5 fullShare k ∗ owns (c : Thread nD τ) arg6 fullShare v ∗ owns (c : Thread nD τ) arg7 fullShare o
            ∗ owns (c : Thread nD τ) arg8 fullShare (point (rowOf dy q g k v o) (i 1).val dk dv).dq
            ∗ owns (c : Thread nD τ) arg9 fullShare (gateOf dy g o)
            ∗ owns (c : Thread nD τ) arg10 fullShare (point (rowOf dy q g k v o) (i 1).val dk dv).dk
            ∗ owns (c : Thread nD τ) arg11 fullShare (point (rowOf dy q g k v o) (i 1).val dk dv).dv)) := by
  have hi : (i 1).val < 16 := (i 1).isLt
  obtain ⟨A, B, hA, hB, hp⟩ : ∃ A B : Acc F, A = start (i 1).val (k0_pay4 (F := F)) dk ∧ B = start (i 1).val (k0_pay5 (F := F)) dv
      ∧ ∀ R, point R (i 1).val dk dv = (let s := own0 R (2 * (i 1).val) (own1 R (2 * (i 1).val + 1) A B)
        let a := loop1 R (2 * (i 1).val) s
        let b := loop2 R a.1 (lower a.2)
        { dq := k0_pay2 a.2.dq b.2.dq, dk := b.2.dk, dv := b.2.dv }) := ⟨_, _, rfl, rfl, fun _ => rfl⟩
  simp only [hp]
  simp only [cc0_sb_bwd_eq_skeleton]; unfold cc0_sb_bwd_skel
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  iintro ⟨H2, H3, H4, H5, H6, H7, H8, H9, HA, HB⟩
  by_cases h0 : (i 1).val = 0
  on_goal 1 =>
    simp only [dif_pos ((first_test i).mpr h0), Prog.lift, Prog.bind_op, Prog.bind_ret, Prog.pure_eq_ret, ctr_start]
    iapply (wp_load_owned_full c none E _) $$ HA; iintro HA
    iapply (wp_store_owned_full c none E _) $$ HA; iintro HA
    iapply (wp_load_owned_full c none E _) $$ HB; iintro HB
    iapply (wp_store_owned_full c none E _) $$ HB; iintro HB
    have hA' : A = k0_pay4 (F := F) := hA.trans (if_pos h0)
    have hB' : B = k0_pay5 (F := F) := hB.trans (if_pos h0)
    rw [← hA', ← hB']
  on_goal 2 =>
    simp only [dif_neg ((first_test i).not.mpr h0), Prog.lift, Prog.bind_op, Prog.bind_ret, Prog.pure_eq_ret, ctr_start]
    have hA' : A = dk := hA.trans (if_neg h0)
    have hB' : B = dv := hB.trans (if_neg h0)
    rw [← hA', ← hB']
  all_goals
    iapply (wp_load_owned_full c none E _) $$ H3; iintro H3
    iapply (wp_load_owned_full c none E _) $$ H4; iintro H4
    iapply (wp_load_owned_full c none E _) $$ H2; iintro H2
    iapply (wp_load_owned_full c none E _) $$ H7; iintro H7
    iapply (wp_load_owned_full c none E _) $$ H9; iintro H9
    iapply (wp_store_owned_full c none E _) $$ H9; iintro H9
    iapply (wp_load_owned c none E _ (off1_1 i) (kofs_inb _)) $$ H5; iintro H5
    iapply (wp_load_owned c none E _ (off1_1 i) (kofs_inb _)) $$ H6; iintro H6
    iapply (wp_load_owned c none E _ (off2_1 i) (aofs_inb _)) $$ HA; iintro HA
    iapply (wp_load_owned c none E _ (off2_1 i) (aofs_inb _)) $$ HA; iintro HA
    iapply (wp_store_owned c none E _ (off2_1 i)) $$ HA; iintro HA
    iapply (wp_load_owned c none E _ (off2_1 i) (aofs_inb _)) $$ HB; iintro HB
    iapply (wp_load_owned c none E _ (off2_1 i) (aofs_inb _)) $$ HB; iintro HB
    iapply (wp_store_owned c none E _ (off2_1 i)) $$ HB; iintro HB
    iapply (wp_load_owned c none E _ (off1_0 i) (kofs_inb _)) $$ H5; iintro H5
    iapply (wp_load_owned c none E _ (off1_0 i) (kofs_inb _)) $$ H6; iintro H6
    iapply (wp_load_owned c none E _ (off2_0 i) (aofs_inb _)) $$ HA; iintro HA
    iapply (wp_load_owned c none E _ (off2_0 i) (aofs_inb _)) $$ HA; iintro HA
    iapply (wp_store_owned c none E _ (off2_0 i)) $$ HA; iintro HA
    iapply (wp_load_owned c none E _ (off2_0 i) (aofs_inb _)) $$ HB; iintro HB
    iapply (wp_load_owned c none E _ (off2_0 i) (aofs_inb _)) $$ HB; iintro HB
    iapply (wp_store_owned c none E _ (off2_0 i)) $$ HB; iintro HB
    iapply (wp_call_spec 𝒱₀ (c : Thread nD τ) none E (spec1 c arg5 arg6 arg10 arg11 (rowOf dy q g k v o) (2 * (i 1).val)
      (own0 (rowOf dy q g k v o) (2 * (i 1).val) (own1 (rowOf dy q g k v o) (2 * (i 1).val + 1) A B))) (2 * (i 1).val)
      (fun u hu => nomatch hu) (spec1_le c E i arg5 harg5 arg6 harg6 arg10 harg10 arg11 harg11 (rowOf dy q g k v o) (2 * (i 1).val) (by omega)
        (own0 (rowOf dy q g k v o) (2 * (i 1).val) (own1 (rowOf dy q g k v o) (2 * (i 1).val + 1) A B))))
    rw [spec1_apply]; unfold held
    isplitl [H5 H6 HA HB]
    · isplitl [H5]; · iexact H5
      isplitl [H6]; · iexact H6
      isplitl [HA]; · iexact HA
      iexact HB
    iintro ⟨H5, H6, HA, HB⟩
    obtain ⟨a, ha⟩ : ∃ a, a = loop1 (rowOf dy q g k v o) (2 * (i 1).val)
      (own0 (rowOf dy q g k v o) (2 * (i 1).val) (own1 (rowOf dy q g k v o) (2 * (i 1).val + 1) A B)) := ⟨_, rfl⟩
    have hle : a.1 ≤ 32 := ha ▸ (loop1_le _ _ _).trans (by omega)
    rw [← ha]
    iapply (wp_call_spec 𝒱₀ (c : Thread nD τ) none E (spec2 c arg5 arg6 arg10 arg11 (rowOf dy q g k v o) a.1 (lower a.2)) a.1
      (fun u hu => nomatch hu) (spec2_le c E i arg5 harg5 arg6 harg6 arg10 harg10 arg11 harg11 (rowOf dy q g k v o) a.1 hle (lower a.2)))
    rw [spec2_apply]; unfold held
    isplitl [H5 H6 HA HB]
    · isplitl [H5]; · iexact H5
      isplitl [H6]; · iexact H6
      isplitl [HA]; · iexact HA
      iexact HB
    iintro ⟨H5, H6, HA, HB⟩
    iapply (wp_load_owned_full c none E _) $$ H8; iintro H8
    iapply (wp_store_owned_full c none E _) $$ H8; iintro H8
    rw [wp_ret]; imodintro
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HA]; · iexact HA
    iexact HB

end Cert.Proof.SbBwd

end
-- ==== Proof.Run.lean ====
/-
  The launch: the pipeline's proof data (what every staging buffer holds after each grid point), the body obligation, the
  run of `main` and the frame, over any float semantics.
-/
module

public import proofs.«01_k».proof.Proof.Body
public import Idealize.ShloMosaic.Lib.Pipeline.FrameSuffix
public import Idealize.ShloMosaic.Lib.Claim

@[expose] public section

noncomputable section

namespace Cert.Proof.SbBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The host operations before the kernel -/

/-- `main`'s host stretches. -/
abbrev stretches : List (List (HloOp τ sig (Elt F))) :=
  [hostOps0, hostOps0_1, hostOps0_2, hostOps0_3, hostOps0_4, hostOps0_5, hostOps0_6, hostOps0_7, hostOps0_8, hostOps0_9]

theorem stretches_sub : (stretches (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub,
    hostOps0_8_sub, hostOps0_9_sub⟩

theorem stretches_fresh : (stretches (F := F)).Forall fun ops => ops.Forall fun op => op.fresh = ∅ := by
  simp only [List.Forall]
  repeat' apply And.intro
  all_goals rfl

/-- A buffer's contents when the kernel starts. -/
def V (c : Dev nD) (b : Ref sig .tc) : Buf (Elt F) ((c.tc : Thread nD τ).loc b) :=
  StableHlo.after (stretches (F := F)).flatten (fun b => m (c, b)) b

/-- No host operation writes an argument. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [List.Forall, stretches, List.flatten_cons, List.flatten_nil, List.cons_append, List.nil_append, List.append_nil]
    repeat' apply And.intro
    all_goals exact fun hm => StableHlo.devRef_ne_of_ne (fun h => by cases h) (Finset.mem_singleton.mp hm)))
theorem V_main_arg1 (c : Dev nD) : V m c main_arg1 = m ((c : Thread nD τ).loc main_arg1) :=
  StableHlo.after_of_forall_not_mem (b := Proc.devRef .tc main_arg1) _ _ (List.forall_iff_forall_mem.mp (by
    simp only [List.Forall, stretches, List.flatten_cons, List.flatten_nil, List.cons_append, List.nil_append, List.append_nil]
    repeat' apply And.intro
    all_goals exact fun hm => StableHlo.devRef_ne_of_ne (fun h => by cases h) (Finset.mem_singleton.mp hm)))
theorem V_main_arg2 (c : Dev nD) : V m c main_arg2 = m ((c : Thread nD τ).loc main_arg2) :=
  StableHlo.after_of_forall_not_mem (b := Proc.devRef .tc main_arg2) _ _ (List.forall_iff_forall_mem.mp (by
    simp only [List.Forall, stretches, List.flatten_cons, List.flatten_nil, List.cons_append, List.nil_append, List.append_nil]
    repeat' apply And.intro
    all_goals exact fun hm => StableHlo.devRef_ne_of_ne (fun h => by cases h) (Finset.mem_singleton.mp hm)))

theorem hmain : Pipeline.HMain (Ix := Unit) (Name := ℕ) (U := UR sig nD τ) (Lvl := ℕ) (cfgs (F := F)) 0 (defs₀ (F := F)) 𝒱₀ m main (V m) :=
  Pipeline.hmain_prefixes (cfgs (F := F)) 0 (defs₀ (F := F)) 𝒱₀ m main (stretches (F := F)) stretches_sub stretches_fresh main_chain

/-! ## What the windows hold -/

/-- Window `w`'s block at point `t`, read off its array as the kernel finds it. -/
def iblk (c : Dev nD) (w : Fin (cfg0 (F := F)).W) (t : Fin (cfg0 (F := F)).N) :
    (((cfg0 (F := F)).win w).xblock ((cfg0 (F := F)).grid.coords t)).Idx → Elt F ((cfg0 (F := F)).win w).elt :=
  (((cfg0 (F := F)).win w).blk t).view.read (Elt F) (V m c (Pipeline.arrRef spec0 w))

/-- Point `t`'s prepared operands. -/
def rowAt (c : Dev nD) (t : Fin (cfg0 (F := F)).N) : Row F :=
  rowOf (iblk m c 0 t) (iblk m c 1 t) (iblk m c 2 t) (iblk m c 3 t) (iblk m c 4 t) (iblk m c 5 t)

/-- Point `t` from given accumulators. -/
def pointAt (c : Dev nD) (t : Fin (cfg0 (F := F)).N) (A : Acc F × Acc F) : Out F :=
  point (rowAt m c t) (grid0.coords t 1).val A.1 A.2

/-- The accumulators after point `n`. -/
def accs (c : Dev nD) : ℕ → Acc F × Acc F
  | 0 => if h : 0 < (cfg0 (F := F)).N then
      ((pointAt m c ⟨0, h⟩ (k0_pay4, k0_pay5)).dk, (pointAt m c ⟨0, h⟩ (k0_pay4, k0_pay5)).dv) else (k0_pay4, k0_pay5)
  | n + 1 => if h : n + 1 < (cfg0 (F := F)).N then
      ((pointAt m c ⟨n + 1, h⟩ (accs c n)).dk, (pointAt m c ⟨n + 1, h⟩ (accs c n)).dv) else (k0_pay4, k0_pay5)

/-- The accumulators point `t` starts from, read at the point before. -/
def prev (c : Dev nD) (t : Fin (cfg0 (F := F)).N) : Acc F × Acc F := accs m c (t.val - 1)

theorem coord1 : ∀ t : Fin (cfg0 (F := F)).N, (grid0.coords t 1).val = t.val % 16 :=
  (by decide +kernel : ∀ t : Fin grid0.N, (grid0.coords t 1).val = t.val % 16)

/-- A point's accumulators from any `A` that agrees with the point before when the point is not its head's first. -/
theorem accs_eq (c : Dev nD) (t : Fin (cfg0 (F := F)).N) (A : Acc F × Acc F) (hA : t.val % 16 ≠ 0 → A = prev m c t) :
    accs m c t.val = ((pointAt m c t A).dk, (pointAt m c t A).dv) := by
  have key : ∀ B : Acc F × Acc F, (t.val % 16 ≠ 0 → A = B) → pointAt m c t B = pointAt m c t A := by
    intro B hB
    by_cases h : t.val % 16 = 0
    · unfold pointAt
      rw [(coord1 (F := F) t).trans h]
      exact point_zero _ _ _ _ _
    · rw [hB h]
  obtain ⟨n, hn⟩ := t
  cases n with
  | zero =>
    show accs m c 0 = _
    rw [accs, dif_pos hn, key (k0_pay4, k0_pay5) (fun h => absurd rfl h)]
  | succ n =>
    show accs m c (n + 1) = _
    rw [accs, dif_pos hn, key (accs m c n) (fun h => hA h)]

/-- The query gradient point `t` writes. -/
def dqAt (c : Dev nD) (t : Fin (cfg0 (F := F)).N) : Vec F S512x128 .bf16 := (pointAt m c t (prev m c t)).dq

theorem dqAt_eq (c : Dev nD) (t : Fin (cfg0 (F := F)).N) (A : Acc F × Acc F) (hA : t.val % 16 ≠ 0 → A = prev m c t) :
    (pointAt m c t A).dq = dqAt m c t := by
  unfold dqAt
  by_cases h : t.val % 16 = 0
  · unfold pointAt
    rw [(coord1 (F := F) t).trans h]
    rfl
  · rw [hA h]

/-! ## The pipeline's proof data -/

/-- After the body at point `t`: every input at its block, the outputs at the functions above. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => dqAt m c t
    | ⟨7, _⟩ => gateOf (iblk m c 0 t) (iblk m c 2 t) (iblk m c 5 t)
    | ⟨8, _⟩ => (accs m c t.val).1
    | ⟨9, _⟩ => (accs m c t.val).2
  Φ _ := Pipeline.ΦA spec0 c
  q w := Pipeline.shareOf spec0 w
  owed _ := 0

theorem A_eq (c : Dev nD) (w : Fin (cfg0 (F := F)).W) : (dats m 0 c).A w = V m c (Pipeline.arrRef spec0 w) := by
  dsimp only [dats]

theorem after0_0 (c : Dev nD) (t : Fin (cfg0 (F := F)).N) : (dats m 0 c).after 0 t = iblk m c 0 t := by dsimp only [dats]; rfl
theorem after0_1 (c : Dev nD) (t : Fin (cfg0 (F := F)).N) : (dats m 0 c).after 1 t = iblk m c 1 t := by dsimp only [dats]; rfl
theorem after0_2 (c : Dev nD) (t : Fin (cfg0 (F := F)).N) : (dats m 0 c).after 2 t = iblk m c 2 t := by dsimp only [dats]; rfl
theorem after0_3 (c : Dev nD) (t : Fin (cfg0 (F := F)).N) : (dats m 0 c).after 3 t = iblk m c 3 t := by dsimp only [dats]; rfl
theorem after0_4 (c : Dev nD) (t : Fin (cfg0 (F := F)).N) : (dats m 0 c).after 4 t = iblk m c 4 t := by dsimp only [dats]; rfl
theorem after0_5 (c : Dev nD) (t : Fin (cfg0 (F := F)).N) : (dats m 0 c).after 5 t = iblk m c 5 t := by dsimp only [dats]; rfl
theorem after0_6 (c : Dev nD) (t : Fin (cfg0 (F := F)).N) : (dats m 0 c).after 6 t = dqAt m c t := by dsimp only [dats]; rfl
theorem after0_7 (c : Dev nD) (t : Fin (cfg0 (F := F)).N) :
    (dats m 0 c).after 7 t = gateOf (iblk m c 0 t) (iblk m c 2 t) (iblk m c 5 t) := by dsimp only [dats]; rfl
theorem after0_8 (c : Dev nD) (t : Fin (cfg0 (F := F)).N) : (dats m 0 c).after 8 t = (accs m c t.val).1 := by dsimp only [dats]; rfl
theorem after0_9 (c : Dev nD) (t : Fin (cfg0 (F := F)).N) : (dats m 0 c).after 9 t = (accs m c t.val).2 := by dsimp only [dats]; rfl

/-- An input's buffer holds its block at every point. -/
theorem before_in (c : Dev nD) (w : Fin (cfg0 (F := F)).W) (hw : ((cfg0 (F := F)).win w).isOut = false)
    (hlive : ∀ i, (cfg0 (F := F)).idle w i = false)
    (hclip : ∀ t t' : Fin (cfg0 (F := F)).N, ((cfg0 (F := F)).win w).index t = ((cfg0 (F := F)).win w).index t' →
      ((cfg0 (F := F)).win w).clip ((cfg0 (F := F)).grid.coords t) = ((cfg0 (F := F)).win w).clip ((cfg0 (F := F)).grid.coords t'))
    (hkeep : ∀ t, ((cfg0 (F := F)).win w).cut ((cfg0 (F := F)).grid.coords t) ((dats m 0 c).after w t) = (dats m 0 c).blockOf w t)
    (t : Fin (cfg0 (F := F)).N) (d) : (dats m 0 c).before w t d = (dats m 0 c).fetched w t d :=
  (dats m 0 c).before_in_eq_fetched w hw hlive hclip hkeep t d

theorem before0_0 (c : Dev nD) (t : Fin (cfg0 (F := F)).N) (d) : (dats m 0 c).before 0 t d = iblk m c 0 t :=
  (before_in m c 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin (cfg0 (F := F)).N) (d) : (dats m 0 c).before 1 t d = iblk m c 1 t :=
  (before_in m c 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin (cfg0 (F := F)).N) (d) : (dats m 0 c).before 2 t d = iblk m c 2 t :=
  (before_in m c 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin (cfg0 (F := F)).N) (d) : (dats m 0 c).before 3 t d = iblk m c 3 t :=
  (before_in m c 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin (cfg0 (F := F)).N) (d) : (dats m 0 c).before 4 t d = iblk m c 4 t :=
  (before_in m c 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin (cfg0 (F := F)).N) (d) : (dats m 0 c).before 5 t d = iblk m c 5 t :=
  (before_in m c 5 rfl (fun _ => rfl) (fun _ _ _ => rfl) (fun t => by rw [after0_5]; unfold Dat.blockOf iblk; rw [A_eq]; try rfl) t d).trans
    (by unfold Dat.fetched Dat.blockOf iblk; rw [A_eq]; try rfl)

/-- Away from its head's first point an accumulator's buffer holds what the point before left. -/
theorem before0_8 (c : Dev nD) (t : Fin (cfg0 (F := F)).N) (ht : t.val % 16 ≠ 0) (d) :
    (dats m 0 c).before 8 t d = (prev m c t).1 := by
  have h0 : t.val ≠ 0 := fun h => ht (by rw [h])
  refine ((dats m 0 c).before_out_kept 8 rfl t h0 ?_ (fun _ => rfl) (fun _ _ => rfl) d).trans (after0_8 m c _)
  rw [← Bool.not_eq_true]
  exact fun h => by have h := (flush0_8 (F := F) _).mp h; dsimp only at h; omega
theorem before0_9 (c : Dev nD) (t : Fin (cfg0 (F := F)).N) (ht : t.val % 16 ≠ 0) (d) :
    (dats m 0 c).before 9 t d = (prev m c t).2 := by
  have h0 : t.val ≠ 0 := fun h => ht (by rw [h])
  refine ((dats m 0 c).before_out_kept 9 rfl t h0 ?_ (fun _ => rfl) (fun _ _ => rfl) d).trans (after0_9 m c _)
  rw [← Bool.not_eq_true]
  exact fun h => by have h := (flush0_9 (F := F) _).mp h; dsimp only at h; omega

/-! ## The body obligation -/

/-- What the body is called with at point `t`, -/
def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin (cfg0 (F := F)).N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

theorem sound_body (c : Dev nD) (t : Fin (cfg0 (F := F)).N) :
    bodyPre m c t ⊢ wp frame (wpE (defs₀ (F := F)) 𝒱₀ c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  obtain ⟨dk, hdk⟩ : ∃ dk : Acc F, dk = (dats m 0 c).before 8 t d8 := ⟨_, rfl⟩
  obtain ⟨dv, hdv⟩ : ∃ dv : Acc F, dv = (dats m 0 c).before 9 t d9 := ⟨_, rfl⟩
  have hA : t.val % 16 ≠ 0 → ((dk, dv) : Acc F × Acc F) = prev m c t := fun h => by
    rw [hdk, hdv, before0_8 m c t h, before0_9 m c t h]
  rw [accs_eq m c t (dk, dv) hA, ← dqAt_eq m c t (dk, dv) hA, ← hdk, ← hdv]
  iapply (wp_wand_r frame (wpE (defs₀ (F := F)) 𝒱₀ (c : Thread nD τ) none) Set.univ)
  isplitl [H0 H1 H2 H3 H4 H5 H6 H7 H8 H9]
  · iapply (sound_kernel c Set.univ (grid0.coords t) _ _ _ _ _ _ _ _ _ _ _ _ _ _ _ _ _ _ _ _
      (iblk m c 0 t) (iblk m c 1 t) (iblk m c 2 t) (iblk m c 5 t) (iblk m c 3 t) (iblk m c 4 t) _ _ dk dv)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  iintro %r ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at point `t`'s slots is the body as `bodyAt0` spells it. -/
theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

/-! ## The run and the frame -/

set_option backward.isDefEq.respectTransparency.types false in
/-- The launch: every execution ends with every window's array at what the proof data says, every other buffer as the kernel
    found it, and every semaphore at zero. -/
theorem run_quiescent : θ_run defs (onTc (τ := τ) (main (F := F))) (s₀ m ρ)
    (fun r => (Pipeline.FramePost cfgs (dats m) 0 (V m)) r ∧ r.2.sem = fun _ => 0) :=
  Pipeline.θ_run_frame_shared (Q' := _) cfgs (dats m) (0 : Fin 1) launch₀0 defs₀ 𝒱₀ m ρ main
    (hbody := fun c => (body_obligation m c).loose) (hq := fun _ _ _ => rfl)
    (howed := fun _ _ => rfl) (V := V m) (hmain := hmain m) (hA := A_eq m) (hΦ := fun _ _ => rfl)

/-- The argument arrays end as they were. -/
theorem args_kept {r : PUnit × MemSt nD τ sig (Elt F)} (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 3).trans (((dats m 0 c).arrAt_in 3 rfl _).trans ((A_eq m c 3).trans (V_main_arg2 m c)))⟩

/-- The frame. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨args_kept m h.1, h.2⟩) (run_quiescent m ρ)

end Cert.Proof.SbBwd

end
-- ==== Proof.Prefix.lean ====
/-
  The forward pass's output the kernel is launched with, as one composed term: `reference.py`'s lines, which both programs
  run on the host.  The terms are over any float semantics, and the reference's own values are the same terms.
-/
module

public import proofs.«01_k».proof.Proof.Run
public import Idealize.ShloMosaic.Lib.StableHlo.Run

@[expose] public section

noncomputable section

namespace Cert.Proof.SbBwd

open Cert.KernelIdeal Cert.KernelIdeal.Gen
open Idealize.ShloMosaic Idealize.ShloMosaic.TcCoe Idealize.ShloMosaic.StableHlo
open Idealize.SL.Sem

variable {F : FTy → Type} [FloatOps F] [Named F]

/-- Columns `[1536 i, 1536 i + 1536)` of an array, split into heads. -/
def heads (x : FVec F S8192x1536 .f32) : FVec F S12x8192x128 .f32 :=
  transpose S12x8192x128 [1, 0, 2] (shapeCast S8192x12x128 x shapeCasts_S8192x1536_S8192x12x128) transposes_S8192x12x128_S12x8192x128_1_0_2
/-- The heads side by side again. -/
def unheads (x : FVec F S12x8192x128 .f32) : FVec F S8192x1536 .f32 :=
  shapeCast S8192x1536 (transpose S8192x12x128 [1, 0, 2] x transposes_S12x8192x128_S8192x12x128_1_0_2) shapeCasts_S8192x12x128_S8192x1536

/-- A constant everywhere. -/
def whole (b : BitVec 32) : FVec F S12x8192x8192 .f32 :=
  broadcastInDim S12x8192x8192 ![] bcast_S_S12x8192x8192 (constant S_ .f32 b)

/-- Which keys a query sees: the earlier ones. -/
def seen : IVec S12x8192x8192 1 :=
  broadcastInDim S12x8192x8192 ![1, 2] bcast_S8192x8192_S12x8192x8192_1_2
    (cmpi .slt
      (broadcastInDim S8192x8192 ![0, 1] bcast_S1x8192_S8192x8192_0_1 (broadcastInDim S1x8192 ![1] bcast_S8192_S1x8192_1 (iotaInDim S8192 32 0)))
      (broadcastInDim S8192x8192 ![0, 1] bcast_S8192x1_S8192x8192_0_1 (broadcastInDim S8192x1 ![0] bcast_S8192_S8192x1_0 (iotaInDim S8192 32 0))))

/-- The logits. -/
def logits (q k : FVec F S12x8192x128 .f32) : FVec F S12x8192x8192 .f32 :=
  mulf (Host.dotGeneral dot_S12x8192x128_S12x8192x128_S12x8192x8192_2_2_1_1_0_0 none q k) (whole 0x3DB504F3#32)

/-- The softplus. -/
def splus (a : FVec F S12x8192x8192 .f32) : FVec F S12x8192x8192 .f32 :=
  select (cmpf .une (subf a (whole 0x00000000#32)) (subf a (whole 0x00000000#32))) (addf a (whole 0x00000000#32))
    (addf (maximumf a (whole 0x00000000#32)) (Host.log1p (Host.exp (Host.negf (Host.absf (subf a (whole 0x00000000#32)))))))

/-- What the seen keys' logarithms of not stopping are, -/
def skips (z : FVec F S12x8192x8192 .f32) : FVec F S12x8192x8192 .f32 :=
  select seen (Host.negf (splus (Host.negf (Host.negf z)))) (whole 0x00000000#32)
/-- their sums from each key on, -/
def sumsFrom (x : FVec F S12x8192x8192 .f32) : FVec F S12x8192x8192 .f32 :=
  Host.reduceWindowAdd ![1, 1, 8192] ![1, 1, 1] ![0, 0, 0] ![0, 0, 8191] x (broadcastInDim S_ ![] bcast_S_S_ (constant S_ .f32 0x00000000#32))
    reduceWindows_S12x8192x8192_S12x8192x8192_w1s1p0_0_w1s1p0_0_w8192s1p0_8191 h_S_
/-- the probability of stopping at a key, -/
def stops (z : FVec F S12x8192x8192 .f32) : FVec F S12x8192x8192 .f32 :=
  Host.exp (addf (Host.negf (splus (Host.negf z))) (subf (sumsFrom (skips z)) (skips z)))
/-- and the weights. -/
def weights (z : FVec F S12x8192x8192 .f32) : FVec F S12x8192x8192 .f32 :=
  select seen (stops z) (whole 0x00000000#32)

/-- The forward pass. -/
def attended (q k v : FVec F S12x8192x128 .f32) : FVec F S8192x1536 .f32 :=
  unheads (Host.dotGeneral dot_S12x8192x8192_S12x8192x128_S12x8192x128_2_1_1_2_0_0 none (weights (logits q k)) v)

/-! ## The stretches, one at a time -/

section Stretches
variable (W : Valuation τ sig (Elt F))

theorem after0_v9 : after hostOps0 W (no_index (Proc.devRef .tc main_v9)) =
    heads (extractStridedSlice S8192x1536 ![0, 1536] (extf .f32 (W (Proc.devRef .tc main_arg2)) bitsLt_bf16_f32) slices_S8192x3072_S8192x1536_0_1536) := by
  simp only [hostOps0]
  after_results_simp
  all_goals rfl
theorem after0_v18 : after hostOps0 W (no_index (Proc.devRef .tc main_v18)) =
    logits (heads (extractStridedSlice S8192x1536 ![0, 0] (W (Proc.devRef .tc main_arg1)) slices_S8192x4096_S8192x1536_0_0))
      (heads (extractStridedSlice S8192x1536 ![0, 0] (extf .f32 (W (Proc.devRef .tc main_arg2)) bitsLt_bf16_f32) slices_S8192x3072_S8192x1536_0_0)) := by
  simp only [hostOps0]
  after_results_simp
  all_goals rfl
/-- The mask before it is repeated for the heads. -/
theorem after0_v15 : broadcastInDim S12x8192x8192 ![1, 2] bcast_S8192x8192_S12x8192x8192_1_2 (after hostOps0 W (no_index (Proc.devRef .tc main_v15))) = seen := by
  simp only [hostOps0]
  after_results_simp
  all_goals rfl

theorem after1_v19 : after hostOps0_1 W (no_index (Proc.devRef .tc main_v19)) = Host.negf (splus (Host.negf (W (Proc.devRef .tc main_v18)))) := by
  simp only [hostOps0_1, TRef.binary, TRef.nullary, TRef.ternary, TRef.unary, TRef.toBuf, TRef.ofBuf, cast_eq]
  after_results_simp
  all_goals rfl
theorem after1_keep (r : Ref sig .tc) (h : r = main_v9 ∨ r = main_v15 ∨ r = main_v18) :
    after hostOps0_1 W (Proc.devRef .tc r) = W (Proc.devRef .tc r) := by
  rcases h with rfl | rfl | rfl <;> simp only [hostOps0_1, TRef.binary, TRef.nullary, TRef.ternary, TRef.unary] <;> after_results_simp

theorem after2_v20 : after hostOps0_2 W (no_index (Proc.devRef .tc main_v20)) = Host.negf (W (Proc.devRef .tc main_v18)) := by
  simp only [hostOps0_2]
  after_results_simp
  all_goals rfl
theorem after2_keep (r : Ref sig .tc) (h : r = main_v9 ∨ r = main_v15 ∨ r = main_v19) :
    after hostOps0_2 W (Proc.devRef .tc r) = W (Proc.devRef .tc r) := by
  rcases h with rfl | rfl | rfl <;> simp only [hostOps0_2] <;> after_results_simp

theorem after3_v21 : after hostOps0_3 W (no_index (Proc.devRef .tc main_v21)) = Host.negf (splus (Host.negf (W (Proc.devRef .tc main_v20)))) := by
  simp only [hostOps0_3, TRef.binary, TRef.nullary, TRef.ternary, TRef.unary, TRef.toBuf, TRef.ofBuf, cast_eq]
  after_results_simp
  all_goals rfl
theorem after3_keep (r : Ref sig .tc) (h : r = main_v9 ∨ r = main_v15 ∨ r = main_v19) :
    after hostOps0_3 W (Proc.devRef .tc r) = W (Proc.devRef .tc r) := by
  rcases h with rfl | rfl | rfl <;> simp only [hostOps0_3, TRef.binary, TRef.nullary, TRef.ternary, TRef.unary] <;> after_results_simp

theorem after45_v22 : after hostOps0_5 (after hostOps0_4 W) (no_index (Proc.devRef .tc main_v22)) =
    select (broadcastInDim S12x8192x8192 ![1, 2] bcast_S8192x8192_S12x8192x8192_1_2 (W (Proc.devRef .tc main_v15))) (W (Proc.devRef .tc main_v21)) (whole 0x00000000#32) := by
  simp only [hostOps0_4, hostOps0_5, TRef.binary, TRef.nullary, TRef.ternary, TRef.unary, TRef.toBuf, TRef.ofBuf, cast_eq]
  after_results_simp
  all_goals rfl
theorem after45_keep (r : Ref sig .tc) (h : r = main_v9 ∨ r = main_v15 ∨ r = main_v19) :
    after hostOps0_5 (after hostOps0_4 W) (Proc.devRef .tc r) = W (Proc.devRef .tc r) := by
  rcases h with rfl | rfl | rfl <;> simp only [hostOps0_4, hostOps0_5, TRef.binary, TRef.nullary, TRef.ternary, TRef.unary] <;> after_results_simp

theorem after6_v23 : after hostOps0_6 W (no_index (Proc.devRef .tc main_v23)) = sumsFrom (W (Proc.devRef .tc main_v22)) := by
  simp only [hostOps0_6, TRef.binary, TRef.nullary, TRef.ternary, TRef.unary, TRef.toBuf, TRef.ofBuf, cast_eq]
  after_results_simp
  all_goals rfl
theorem after6_keep (r : Ref sig .tc) (h : r = main_v9 ∨ r = main_v15 ∨ r = main_v19 ∨ r = main_v22) :
    after hostOps0_6 W (Proc.devRef .tc r) = W (Proc.devRef .tc r) := by
  rcases h with rfl | rfl | rfl | rfl <;> simp only [hostOps0_6, TRef.binary, TRef.nullary, TRef.ternary, TRef.unary] <;> after_results_simp

theorem after78_v27 : after hostOps0_8 (after hostOps0_7 W) (no_index (Proc.devRef .tc main_v27)) =
    select (broadcastInDim S12x8192x8192 ![1, 2] bcast_S8192x8192_S12x8192x8192_1_2 (W (Proc.devRef .tc main_v15)))
      (Host.exp (addf (W (Proc.devRef .tc main_v19)) (subf (W (Proc.devRef .tc main_v23)) (W (Proc.devRef .tc main_v22))))) (whole 0x00000000#32) := by
  simp only [hostOps0_7, hostOps0_8, TRef.binary, TRef.nullary, TRef.ternary, TRef.unary, TRef.toBuf, TRef.ofBuf, cast_eq]
  after_results_simp
  all_goals rfl
theorem after78_keep : after hostOps0_8 (after hostOps0_7 W) (no_index (Proc.devRef .tc main_v9)) = W (Proc.devRef .tc main_v9) := by
  simp only [hostOps0_7, hostOps0_8, TRef.binary, TRef.nullary, TRef.ternary, TRef.unary]
  after_results_simp

theorem after9_v30 : after hostOps0_9 W (no_index (Proc.devRef .tc main_v30)) =
    unheads (Host.dotGeneral dot_S12x8192x8192_S12x8192x128_S12x8192x128_2_1_1_2_0_0 none (W (Proc.devRef .tc main_v27)) (W (Proc.devRef .tc main_v9))) := by
  simp only [hostOps0_9]
  after_results_simp
  all_goals rfl

end Stretches

/-- The forward pass's output, from the arguments. -/
theorem V_main_v30 (m : (ℓ : Loc nD τ sig) → Buf (Elt F) ℓ) (c : Dev nD) : V m c main_v30 =
    attended (heads (extractStridedSlice S8192x1536 ![0, 0] (m ((c.tc : Thread nD τ).loc main_arg1)) slices_S8192x4096_S8192x1536_0_0))
      (heads (extractStridedSlice S8192x1536 ![0, 0] (extf .f32 (m ((c.tc : Thread nD τ).loc main_arg2)) bitsLt_bf16_f32) slices_S8192x3072_S8192x1536_0_0))
      (heads (extractStridedSlice S8192x1536 ![0, 1536] (extf .f32 (m ((c.tc : Thread nD τ).loc main_arg2)) bitsLt_bf16_f32) slices_S8192x3072_S8192x1536_0_1536)) := by
  unfold V
  simp only [stretches, List.flatten_cons, List.flatten_nil, List.append_nil, after_append]
  rw [after9_v30, after78_v27, after78_keep, after6_v23, after6_keep _ main_v15 (by simp), after6_keep _ main_v19 (by simp),
    after6_keep _ main_v22 (by simp), after6_keep _ main_v9 (by simp), after45_v22, after45_keep _ main_v15 (by simp),
    after45_keep _ main_v19 (by simp), after45_keep _ main_v9 (by simp), after3_v21, after3_keep _ main_v15 (by simp),
    after3_keep _ main_v19 (by simp), after3_keep _ main_v9 (by simp), after2_v20, after2_keep _ main_v15 (by simp),
    after2_keep _ main_v19 (by simp), after2_keep _ main_v9 (by simp), after1_v19, after1_keep _ main_v15 (by simp),
    after1_keep _ main_v18 (by simp), after1_keep _ main_v9 (by simp), after0_v15, after0_v18, after0_v9]
  rfl

end Cert.Proof.SbBwd

end
-- ==== Proof.Up.lean ====
/-
  Arrays of real numbers, given by functions of natural-number coordinates, and what each operation of the kernel does to
  them at the ideal values.  A coordinate is a plain number, so a block of an array is the array's function at shifted
  coordinates, and every lemma reads `operation (up2 x) = up2 (the real operation on x)`.
-/
module

public import proofs.«01_k».proof.Proof.Gen.KernelIdeal.Skeleton
public import Idealize.ShloMosaic.Lib.VecWindow
public import Idealize.ShloMosaic.Lib.ValueIdx
public import Idealize.ShloMosaic.Lib.ValueIdxCoords
public import Idealize.ShloMosaic.Lib.Pointwise
public import Idealize.ShloMosaic.Lib.Pipeline.Value
public import Idealize.ShloMosaic.PureOps.Ideal.Laws

@[expose] public section

noncomputable section

namespace Cert.Proof.SbBwd

open Idealize.ShloMosaic
open Finset (range Ico)

/-- The array whose element at `(r, c)` is the real number `x r c`, and the same with four coordinates. -/
def up2 {φ : FTy} {n m : ℕ} (x : ℕ → ℕ → ℝ) : FVec Ideal ⟨2, ![n, m]⟩ φ :=
  fun j => ((x (j 0).val (j 1).val : ℝ) : EReal)
def up4 {φ : FTy} {a b c d : ℕ} (x : ℕ → ℕ → ℕ → ℕ → ℝ) : FVec Ideal ⟨4, ![a, b, c, d]⟩ φ :=
  fun j => ((x (j 0).val (j 1).val (j 2).val (j 3).val : ℝ) : EReal)

/-- The mask of the elements whose column is less than their row. -/
def low {n m : ℕ} : IVec ⟨2, ![n, m]⟩ 1 := fun j => if (j 1).val < (j 0).val then 1#1 else 0#1

theorem up2_congr {φ : FTy} {n m : ℕ} {x y : ℕ → ℕ → ℝ} (h : ∀ r < n, ∀ c < m, x r c = y r c) :
    (up2 x : FVec Ideal ⟨2, ![n, m]⟩ φ) = up2 y :=
  funext fun j => congrArg _ (h _ (j 0).isLt _ (j 1).isLt)

theorem up4_congr {φ : FTy} {a b c d : ℕ} {x y : ℕ → ℕ → ℕ → ℕ → ℝ}
    (h : ∀ i < a, ∀ j < b, ∀ k < c, ∀ l < d, x i j k l = y i j k l) :
    (up4 x : FVec Ideal ⟨4, ![a, b, c, d]⟩ φ) = up4 y :=
  funext fun j => congrArg _ (h _ (j 0).isLt _ (j 1).isLt _ (j 2).isLt _ (j 3).isLt)

/-! ## The constants -/

/-- The logits' scale, the kernel's and the reference's constant `128 ^ (-1/2)` as `f32` has it. -/
def scale : ℝ := (Ideal.ofBits .f32 0x3DB504F3#32).toReal

theorem ofBits_scale : (Scalar.ofBits .f32 0x3DB504F3#32 : Ideal .f32) = ((scale : ℝ) : EReal) := by
  show Ideal.ofBits .f32 0x3DB504F3#32 = _
  unfold scale
  refine (EReal.coe_toReal ?_ ?_).symm <;> simp [Ideal.ofBits, Ideal.ieee, ← EReal.coe_mul, -EReal.coe_mul]
theorem ofBits_zero : (Scalar.ofBits .f32 0x00000000#32 : Ideal .f32) = ((0 : ℝ) : EReal) := Ideal.ofBits_zero_f32
theorem ofBits_one : (Scalar.ofBits .f32 0x3F800000#32 : Ideal .f32) = ((1 : ℝ) : EReal) := by
  show Ideal.ofBits .f32 0x3F800000#32 = _
  simp [Ideal.ofBits, Ideal.ieee, ← EReal.coe_mul, -EReal.coe_mul]
  norm_num
theorem ofBits_half : (Scalar.ofBits .f32 0x3F000000#32 : Ideal .f32) = ((1 / 2 : ℝ) : EReal) := by
  show Ideal.ofBits .f32 0x3F000000#32 = _
  simp [Ideal.ofBits, Ideal.ieee, ← EReal.coe_mul, -EReal.coe_mul]
  norm_num
theorem ofBits_inf : (Ideal.ofBits .f32 0x7F800000#32 : EReal) = ⊤ := by
  simp [Ideal.ofBits, Ideal.ieee]

theorem named_exhausted :
    (Named.named Cert.KernelIdeal.κ "exhausted" (φ := .f32) 0x42DC0000#32 : Ideal .f32) = (⊤ : EReal) :=
  IdealRules.named_const.ideal_named_scalar _ _ _ _ rfl
theorem named_linear :
    (Named.named Cert.KernelIdeal.κ "linear" (φ := .f32) 0x41A00000#32 : Ideal .f32) = (⊤ : EReal) :=
  IdealRules.named_const.ideal_named_scalar _ _ _ _ rfl

theorem coe_sum {ι : Type*} (t : Finset ι) (f : ι → ℝ) : ((∑ k ∈ t, f k : ℝ) : EReal) = ∑ k ∈ t, (f k : EReal) :=
  map_sum (⟨⟨fun r : ℝ => (r : EReal), rfl⟩, EReal.coe_add⟩ : ℝ →+ EReal) f t

theorem sum_up {K : ℕ} (f : Fin K → EReal) (g : ℕ → ℝ) (h : ∀ k : Fin K, f k = ((g k.val : ℝ) : EReal)) :
    ∑ k, f k = ((∑ k ∈ range K, g k : ℝ) : EReal) := by
  rw [Finset.sum_range, coe_sum]
  exact Finset.sum_congr rfl fun k _ => h k

/-! ## Elementwise operations -/

section Elementwise
variable {φ : FTy} {n m : ℕ} (x y : ℕ → ℕ → ℝ)

theorem mulf_up2 : mulf (up2 x : FVec Ideal ⟨2, ![n, m]⟩ φ) (up2 y) = up2 (fun r c => x r c * y r c) :=
  funext fun _ => (EReal.coe_mul _ _).symm
theorem addf_up2 : addf (up2 x : FVec Ideal ⟨2, ![n, m]⟩ φ) (up2 y) = up2 (fun r c => x r c + y r c) :=
  funext fun _ => (EReal.coe_add _ _).symm
theorem subf_up2 : subf (up2 x : FVec Ideal ⟨2, ![n, m]⟩ φ) (up2 y) = up2 (fun r c => x r c - y r c) :=
  funext fun _ => (EReal.coe_sub _ _).symm
theorem exp_up2 : Idealize.ShloMosaic.exp (up2 x : FVec Ideal ⟨2, ![n, m]⟩ φ) = up2 (fun r c => Real.exp (x r c)) := rfl
theorem tanh_up2 : Idealize.ShloMosaic.tanh (up2 x : FVec Ideal ⟨2, ![n, m]⟩ φ) = up2 (fun r c => Real.tanh (x r c)) := rfl
theorem truncf_up2 {ψ : FTy} (h : ψ.bits < φ.bits) :
    (truncf ψ (up2 x : FVec Ideal ⟨2, ![n, m]⟩ φ) h : FVec Ideal ⟨2, ![n, m]⟩ ψ) = up2 x := rfl
theorem extf_up2 {ψ : FTy} (h : φ.bits < ψ.bits) :
    (extf ψ (up2 x : FVec Ideal ⟨2, ![n, m]⟩ φ) h : FVec Ideal ⟨2, ![n, m]⟩ ψ) = up2 x := rfl
theorem broadcast_coe (a : ℝ) : (broadcast ⟨2, ![n, m]⟩ ((a : ℝ) : EReal) : FVec Ideal ⟨2, ![n, m]⟩ φ) = up2 (fun _ _ => a) := rfl

/-- A logarithm of positive numbers. -/
theorem log_up2 (h : ∀ r c, 0 < x r c) :
    Idealize.ShloMosaic.log (up2 x : FVec Ideal ⟨2, ![n, m]⟩ φ) = up2 (fun r c => Real.log (x r c)) :=
  funext fun j => by
    show (if x (j 0).val (j 1).val ≤ 0 then (⊥ : EReal) else (Real.log (x (j 0).val (j 1).val) : EReal)) = _
    rw [if_neg (not_le.2 (h _ _))]; rfl

/-- Nothing real is above `⊤`. -/
theorem cmpf_ogt_top : cmpf .ogt (up2 x : FVec Ideal ⟨2, ![n, m]⟩ φ) (broadcast ⟨2, ![n, m]⟩ (⊤ : EReal)) = fun _ => 0#1 :=
  funext fun j => by
    rw [ValueIdx.cmpf_apply, Ideal.cmpf_def]
    show BitVec.ofBool (decide ((⊤ : EReal) < up2 (φ := φ) x j)) = _
    rw [decide_eq_false not_top_lt]; rfl

theorem select_none (a b : FVec Ideal ⟨2, ![n, m]⟩ φ) : select (fun _ => 0#1) a b = b := rfl
theorem select_low : select low (up2 x : FVec Ideal ⟨2, ![n, m]⟩ φ) (up2 y) = up2 (fun r c => if c < r then x r c else y r c) :=
  funext fun j => by
    show Scalar.select (if _ then _ else _) _ _ = (((if _ then _ else _) : ℝ) : EReal)
    by_cases h : (j 1).val < (j 0).val
    · rw [if_pos h, if_pos h]; rfl
    · rw [if_neg h, if_neg h]; rfl

end Elementwise

/-! ## Layout operations -/

section Layout
variable {φ : FTy} (x y : ℕ → ℕ → ℝ)

theorem slice_up2 {n m n' m' a b : ℕ} (h : (⟨2, ![n, m]⟩ : Shape).Slices ![a, b] ⟨2, ![n', m']⟩) :
    extractStridedSlice ⟨2, ![n', m']⟩ ![a, b] (up2 x : FVec Ideal ⟨2, ![n, m]⟩ φ) h = (up2 (fun r c => x (a + r) (b + c)) : FVec Ideal _ φ) := rfl

theorem transpose_up2 {n m : ℕ} (h : (⟨2, ![n, m]⟩ : Shape).Transposes [1, 0] ⟨2, ![m, n]⟩) :
    transpose ⟨2, ![m, n]⟩ [1, 0] (up2 x : FVec Ideal ⟨2, ![n, m]⟩ φ) h = (up2 (fun r c => x c r) : FVec Ideal _ φ) := by
  funext j
  rw [transpose_apply [1, 0] _ h j (ValueIdx.ix2 (j 1) (j 0)) (fun b => by fin_cases b <;> rfl)]
  rfl

theorem broadcastTo_up2 {n m : ℕ} (hm : m ≠ 1) (hn : n ≠ 1) (h : (⟨2, ![n, 1]⟩ : Shape).Broadcasts ⟨2, ![n, m]⟩) :
    broadcastTo ⟨2, ![n, m]⟩ (up2 x : FVec Ideal ⟨2, ![n, 1]⟩ φ) h = (up2 (fun r _ => x r 0) : FVec Ideal _ φ) := by
  funext j
  rw [broadcastTo_apply _ h j (ValueIdx.ix2 (j 0) 0) (fun a => by
    fin_cases a
    · show _ = if n = 1 then 0 else _
      rw [if_neg hn]; rfl
    · rfl)]
  rfl

theorem concat_up2 {n n₁ n₂ m : ℕ} (h : Shape.Concatenates [⟨2, ![n₁, m]⟩, ⟨2, ![n₂, m]⟩] ⟨2, ![n, m]⟩ 0) :
    concatenate ⟨2, ![n, m]⟩ 0 [⟨⟨2, ![n₁, m]⟩, (up2 x : FVec Ideal _ φ)⟩, ⟨⟨2, ![n₂, m]⟩, (up2 y : FVec Ideal _ φ)⟩] h =
      (up2 (fun r c => if r < n₁ then x r c else y (r - n₁) c) : FVec Ideal ⟨2, ![n, m]⟩ φ) := by
  have hsz : n₁ + n₂ = n := by
    have := h.2.2
    simpa using this
  funext j
  by_cases hj : (j 0).val < n₁
  · rw [concatenate_pair_apply_left 0 _ _ h j rfl (ValueIdx.ix2 ⟨(j 0).val, hj⟩ (j 1)) (fun b => by fin_cases b <;> rfl)]
    show _ = (((if _ then _ else _) : ℝ) : EReal)
    rw [if_pos hj]; rfl
  · have hj' : (j 0).val - n₁ < n₂ := by have := (j 0).isLt; have e : (⟨2, ![n, m]⟩ : Shape).size 0 = n := rfl; omega
    rw [concatenate_pair_apply_right 0 _ _ h j rfl rfl (ValueIdx.ix2 ⟨(j 0).val - n₁, hj'⟩ (j 1)) (fun b hb => by
      fin_cases b
      · exact absurd rfl hb
      · rfl) (by show (j 0).val - n₁ + n₁ = (j 0).val; omega)]
    show _ = (((if _ then _ else _) : ℝ) : EReal)
    rw [if_neg hj]; rfl

/-- A row vector's sums as a column. -/
theorem rowSum_up2 {n m : ℕ} (hr : (⟨2, ![n, m]⟩ : Shape).Reduces [1] ⟨1, ![n]⟩) (hb) (hi)
    (hc : (⟨1, ![n]⟩ : Shape).ShapeCasts ⟨2, ![n, 1]⟩) :
    shapeCast ⟨2, ![n, 1]⟩ (multiReduction .add [1] ⟨1, ![n]⟩ (up2 x : FVec Ideal ⟨2, ![n, m]⟩ .f32) 0x00000000#32 hr hb hi) hc =
      (up2 (fun r _ => ∑ c ∈ range m, x r c) : FVec Ideal _ .f32) := by
  funext j
  rw [shapeCast_apply _ hc j (ValueIdx.ix1 (j 0)) (by
    rw [Shape.rowMajor_val_one, Shape.rowMajor_val_two]
    have h1 := (j 1).isLt
    have e : (⟨2, ![n, 1]⟩ : Shape).size 1 = 1 := rfl
    show (j 0).val = (j 0).val * 1 + (j 1).val
    omega)]
  rw [Ideal.multiReduction_add_single]
  exact sum_up _ (fun c => x (j 0).val c) fun k => rfl

theorem shapeCast_drop_up4 {n m : ℕ} (z : ℕ → ℕ → ℕ → ℕ → ℝ) (h : (⟨4, ![1, 1, n, m]⟩ : Shape).ShapeCasts ⟨2, ![n, m]⟩) :
    shapeCast ⟨2, ![n, m]⟩ (up4 z : FVec Ideal ⟨4, ![1, 1, n, m]⟩ φ) h = (up2 (z 0 0) : FVec Ideal _ φ) := by
  funext j
  rw [shapeCast_apply _ h j (ValueIdx.ix4 0 0 (j 0) (j 1)) (by
    rw [Shape.rowMajor_val_four, Shape.rowMajor_val_two]
    show ((0 * 1 + 0) * n + (j 0).val) * m + (j 1).val = (j 0).val * m + (j 1).val
    simp)]
  rfl

theorem shapeCast_add_up2 {n m : ℕ} (h : (⟨2, ![n, m]⟩ : Shape).ShapeCasts ⟨4, ![1, 1, n, m]⟩) :
    shapeCast ⟨4, ![1, 1, n, m]⟩ (up2 x : FVec Ideal ⟨2, ![n, m]⟩ φ) h = (up4 (fun _ _ => x) : FVec Ideal _ φ) := by
  funext j
  rw [shapeCast_apply _ h j (ValueIdx.ix2 (j 2) (j 3)) (by
    rw [Shape.rowMajor_val_four, Shape.rowMajor_val_two]
    have h0 := (j 0).isLt
    have h1 := (j 1).isLt
    have e0 : (j 0).val = 0 := Nat.lt_one_iff.1 h0
    have e1 : (j 1).val = 0 := Nat.lt_one_iff.1 h1
    show (j 2).val * m + (j 3).val = (((j 0).val * 1 + (j 1).val) * n + (j 2).val) * m + (j 3).val
    rw [e0, e1]; simp)]
  rfl

end Layout

/-! ## Products -/

section Products
variable {φ : FTy} (x y : ℕ → ℕ → ℝ)

/-- `n × K` by `K × m`. -/
theorem matmul_nn {n K m : ℕ} (d : DotDims ⟨2, ![n, K]⟩ ⟨2, ![K, m]⟩ ⟨2, ![n, m]⟩) (p : Option ContractPrecision)
    (hc : d.lhsContracting = [1]) (hL : ∀ j k, d.lhsIdx j (d.contrIdx₁ hc (K := K) rfl k) = ValueIdx.ix2 (j 0) k)
    (hR : ∀ j k, d.rhsIdx j (d.contrIdx₁ hc (K := K) rfl k) = ValueIdx.ix2 k (j 1)) :
    matmul d p (up2 x : FVec Ideal _ φ) (up2 y : FVec Ideal _ φ) (constant _ .f32 0x00000000#32) =
      up2 (fun r c => ∑ k ∈ range K, x r k * y k c) := by
  funext j
  simp only [matmul]
  rw [Ideal.matmul_constant_zero_apply, d.sum_contr₁ hc rfl]
  refine sum_up _ (fun k => x (j 0).val k * y k (j 1).val) fun k => ?_
  refine Eq.trans (congrArg₂ (· * ·) (congrArg (up2 x) (hL j k)) (congrArg (up2 y) (hR j k))) ?_
  exact (EReal.coe_mul _ _).symm

/-- `n × K` by the transpose of `m × K`. -/
theorem matmul_nt {n K m : ℕ} (d : DotDims ⟨2, ![n, K]⟩ ⟨2, ![m, K]⟩ ⟨2, ![n, m]⟩) (p : Option ContractPrecision)
    (hc : d.lhsContracting = [1]) (hL : ∀ j k, d.lhsIdx j (d.contrIdx₁ hc (K := K) rfl k) = ValueIdx.ix2 (j 0) k)
    (hR : ∀ j k, d.rhsIdx j (d.contrIdx₁ hc (K := K) rfl k) = ValueIdx.ix2 (j 1) k) :
    matmul d p (up2 x : FVec Ideal _ φ) (up2 y : FVec Ideal _ φ) (constant _ .f32 0x00000000#32) =
      up2 (fun r c => ∑ k ∈ range K, x r k * y c k) := by
  funext j
  simp only [matmul]
  rw [Ideal.matmul_constant_zero_apply, d.sum_contr₁ hc rfl]
  refine sum_up _ (fun k => x (j 0).val k * y (j 1).val k) fun k => ?_
  refine Eq.trans (congrArg₂ (· * ·) (congrArg (up2 x) (hL j k)) (congrArg (up2 y) (hR j k))) ?_
  exact (EReal.coe_mul _ _).symm

end Products

end Cert.Proof.SbBwd

end
-- ==== Proof.Host3.lean ====
/-
  Arrays of real numbers with three coordinates, and what the host's operations do to them at the ideal values.
-/
module

public import proofs.«01_k».proof.Proof.Up
public import Idealize.ShloMosaic.Lib.KernelVsHost
public import Idealize.ShloMosaic.Lib.IdealHost

@[expose] public section

set_option backward.isDefEq.respectTransparency false

noncomputable section

namespace Cert.Proof.SbBwd

open Idealize.ShloMosaic
open Finset (range Ico)

def up3 {φ : FTy} {a b c : ℕ} (x : ℕ → ℕ → ℕ → ℝ) : FVec Ideal ⟨3, ![a, b, c]⟩ φ :=
  fun j => ((x (j 0).val (j 1).val (j 2).val : ℝ) : EReal)

/-- The mask of the elements whose last coordinate is less than the one before. -/
def low3 {a b c : ℕ} : IVec ⟨3, ![a, b, c]⟩ 1 := fun j => if (j 2).val < (j 1).val then 1#1 else 0#1

theorem up3_congr {φ : FTy} {a b c : ℕ} {x y : ℕ → ℕ → ℕ → ℝ} (h : ∀ i < a, ∀ j < b, ∀ k < c, x i j k = y i j k) :
    (up3 x : FVec Ideal ⟨3, ![a, b, c]⟩ φ) = up3 y :=
  funext fun j => congrArg _ (h _ (j 0).isLt _ (j 1).isLt _ (j 2).isLt)

theorem coe_max (x y : ℝ) : ((max x y : ℝ) : EReal) = max (x : EReal) (y : EReal) := EReal.coe_strictMono.monotone.map_max

/-! ## Elementwise operations -/

section Elementwise
variable {φ : FTy} {a b c : ℕ} (x y : ℕ → ℕ → ℕ → ℝ)

theorem mulf_up3 : mulf (up3 x : FVec Ideal ⟨3, ![a, b, c]⟩ φ) (up3 y) = up3 (fun h r c => x h r c * y h r c) :=
  funext fun _ => (EReal.coe_mul _ _).symm
theorem addf_up3 : addf (up3 x : FVec Ideal ⟨3, ![a, b, c]⟩ φ) (up3 y) = up3 (fun h r c => x h r c + y h r c) :=
  funext fun _ => (EReal.coe_add _ _).symm
theorem subf_up3 : subf (up3 x : FVec Ideal ⟨3, ![a, b, c]⟩ φ) (up3 y) = up3 (fun h r c => x h r c - y h r c) :=
  funext fun _ => (EReal.coe_sub _ _).symm
theorem negf_up3 : Host.negf (up3 x : FVec Ideal ⟨3, ![a, b, c]⟩ φ) = up3 (fun h r c => -x h r c) :=
  funext fun _ => (EReal.coe_neg _).symm
theorem exp_up3 : Host.exp (up3 x : FVec Ideal ⟨3, ![a, b, c]⟩ φ) = up3 (fun h r c => Real.exp (x h r c)) := rfl
theorem maximumf_up3 : maximumf (up3 x : FVec Ideal ⟨3, ![a, b, c]⟩ φ) (up3 y) = up3 (fun h r c => max (x h r c) (y h r c)) :=
  funext fun _ => (coe_max _ _).symm
theorem absf_up3 : Host.absf (up3 x : FVec Ideal ⟨3, ![a, b, c]⟩ φ) = up3 (fun h r c => |x h r c|) :=
  funext fun j => by
    show max (_ : EReal) (-_) = _
    rw [show (up3 x : FVec Ideal ⟨3, ![a, b, c]⟩ φ) j = ((x (j 0).val (j 1).val (j 2).val : ℝ) : EReal) from rfl, ← EReal.coe_neg,
      ← coe_max]
    rfl
theorem log1p_up3 (h : ∀ i r c, 0 < 1 + x i r c) :
    Host.log1p (up3 x : FVec Ideal ⟨3, ![a, b, c]⟩ φ) = up3 (fun h r c => Real.log (1 + x h r c)) :=
  funext fun j => by
    show Ideal.log (1 + ((x (j 0).val (j 1).val (j 2).val : ℝ) : EReal)) = _
    rw [← EReal.coe_one, ← EReal.coe_add]
    show (if 1 + x (j 0).val (j 1).val (j 2).val ≤ 0 then (⊥ : EReal) else (Real.log (1 + x (j 0).val (j 1).val (j 2).val) : EReal)) = _
    rw [if_neg (not_le.2 (h _ _ _))]; rfl
theorem select_low3 : select low3 (up3 x : FVec Ideal ⟨3, ![a, b, c]⟩ φ) (up3 y) = up3 (fun h r c => if c < r then x h r c else y h r c) :=
  funext fun j => by
    show Scalar.select (if _ then _ else _) _ _ = (((if _ then _ else _) : ℝ) : EReal)
    by_cases h : (j 2).val < (j 1).val
    · rw [if_pos h, if_pos h]; rfl
    · rw [if_neg h, if_neg h]; rfl

/-- Nothing differs from itself, -/
theorem select_une (u v w : FVec Ideal ⟨3, ![a, b, c]⟩ φ) : select (cmpf .une u u) v w = w :=
  funext fun j => by
    show Scalar.select (cmpf .une u u j) _ _ = _
    rw [ValueIdx.cmpf_apply, Ideal.cmpf_def]
    show Scalar.select (BitVec.ofBool (decide (u j ≠ u j))) _ _ = _
    rw [decide_eq_false (fun h => h rfl)]; rfl
/-- and nothing real is `⊤`. -/
theorem select_oeq (v w : FVec Ideal ⟨3, ![a, b, c]⟩ φ) : select (cmpf .oeq (up3 x : FVec Ideal ⟨3, ![a, b, c]⟩ φ) (fun _ => (⊤ : EReal))) v w = w :=
  funext fun j => by
    show Scalar.select (cmpf .oeq (up3 x : FVec Ideal ⟨3, ![a, b, c]⟩ φ) (fun _ => (⊤ : EReal)) j) _ _ = _
    rw [ValueIdx.cmpf_apply, Ideal.cmpf_def]
    show Scalar.select (BitVec.ofBool (decide (((x (j 0).val (j 1).val (j 2).val : ℝ) : EReal) = ⊤))) _ _ = _
    rw [decide_eq_false (EReal.coe_ne_top _)]; rfl

end Elementwise

section Elementwise2
variable {φ : FTy} {n m : ℕ} (x y : ℕ → ℕ → ℝ)

theorem host_negf_up2 : Host.negf (up2 x : FVec Ideal ⟨2, ![n, m]⟩ φ) = up2 (fun r c => -x r c) :=
  funext fun _ => (EReal.coe_neg _).symm
theorem host_exp_up2 : Host.exp (up2 x : FVec Ideal ⟨2, ![n, m]⟩ φ) = up2 (fun r c => Real.exp (x r c)) := rfl
theorem host_divf_up2 (h : ∀ r c, y r c ≠ 0) :
    Host.divf (up2 x : FVec Ideal ⟨2, ![n, m]⟩ φ) (up2 y) = up2 (fun r c => x r c / y r c) :=
  funext fun j => by
    show Ideal.div ((x (j 0).val (j 1).val : ℝ) : EReal) ((y (j 0).val (j 1).val : ℝ) : EReal) = ((_ / _ : ℝ) : EReal)
    unfold Ideal.div
    rw [if_neg (by rw [EReal.coe_eq_zero]; exact h _ _), EReal.coe_div]
    rfl

end Elementwise2

/-! ## Layout operations -/

section Layout
variable {φ : FTy} (x : ℕ → ℕ → ℝ) (y : ℕ → ℕ → ℕ → ℝ)

/-- Columns split into heads of 128, the head first, -/
theorem heads_up2 {T H W : ℕ} (hW : H * 128 = W) (h : (⟨2, ![T, W]⟩ : Shape).ShapeCasts ⟨3, ![T, H, 128]⟩) (h' : (⟨3, ![T, H, 128]⟩ : Shape).Transposes [1, 0, 2] ⟨3, ![H, T, 128]⟩) :
    transpose ⟨3, ![H, T, 128]⟩ [1, 0, 2] (shapeCast ⟨3, ![T, H, 128]⟩ (up2 x : FVec Ideal ⟨2, ![T, W]⟩ φ) h) h' =
      (up3 (fun h t f => x t (128 * h + f)) : FVec Ideal _ φ) := by
  funext j
  have h0 : (j 0).val < H := (j 0).isLt
  have h2 : (j 2).val < 128 := (j 2).isLt
  rw [transpose_apply [1, 0, 2] _ h' j (ValueIdx.ix3 (j 1) (j 0) (j 2)) (fun b => by fin_cases b <;> rfl),
    shapeCast_apply _ h _ (ValueIdx.ix2 (j 1) ⟨128 * (j 0).val + (j 2).val, by omega⟩) (by
      rw [Shape.rowMajor_val_two, Shape.rowMajor_val_three]
      show (j 1).val * W + (128 * (j 0).val + (j 2).val) = ((j 1).val * H + (j 0).val) * 128 + (j 2).val
      rw [← hW]; ring)]
  rfl
/-- and back. -/
theorem unheads_up3 {T H W : ℕ} (hW : H * 128 = W) (h' : (⟨3, ![H, T, 128]⟩ : Shape).Transposes [1, 0, 2] ⟨3, ![T, H, 128]⟩) (h : (⟨3, ![T, H, 128]⟩ : Shape).ShapeCasts ⟨2, ![T, W]⟩) :
    shapeCast ⟨2, ![T, W]⟩ (transpose ⟨3, ![T, H, 128]⟩ [1, 0, 2] (up3 y : FVec Ideal ⟨3, ![H, T, 128]⟩ φ) h') h =
      (up2 (fun t c => y (c / 128) t (c % 128)) : FVec Ideal _ φ) := by
  funext j
  have h1 : (j 1).val < W := (j 1).isLt
  rw [shapeCast_apply _ h j (ValueIdx.ix3 (j 0) ⟨(j 1).val / 128, by omega⟩ ⟨(j 1).val % 128, by omega⟩) (by
      rw [Shape.rowMajor_val_two, Shape.rowMajor_val_three]
      show ((j 0).val * H + (j 1).val / 128) * 128 + (j 1).val % 128 = (j 0).val * W + (j 1).val
      have := Nat.div_add_mod (j 1).val 128
      have e : (j 0).val * W = ((j 0).val * H) * 128 := by rw [← hW]; ring
      rw [e]; linarith),
    transpose_apply [1, 0, 2] _ h' _ (ValueIdx.ix3 ⟨(j 1).val / 128, by omega⟩ (j 0) ⟨(j 1).val % 128, by omega⟩) (fun b => by fin_cases b <;> rfl)]
  rfl

theorem transpose_up3 {a b c : ℕ} (h : (⟨3, ![a, b, c]⟩ : Shape).Transposes [0, 2, 1] ⟨3, ![a, c, b]⟩) :
    transpose ⟨3, ![a, c, b]⟩ [0, 2, 1] (up3 y : FVec Ideal ⟨3, ![a, b, c]⟩ φ) h = (up3 (fun i r c => y i c r) : FVec Ideal _ φ) := by
  funext j
  rw [transpose_apply [0, 2, 1] _ h j (ValueIdx.ix3 (j 0) (j 2) (j 1)) (fun b => by fin_cases b <;> rfl)]
  rfl

/-- Rows split into blocks and columns into heads, as the kernel lays the keys' and values' gradients out. -/
theorem blocks_up2 {T N B H W : ℕ} (hW : H * 128 = W) (hT : N * B = T) (h : (⟨2, ![T, W]⟩ : Shape).ShapeCasts ⟨4, ![N, B, H, 128]⟩)
    (h' : (⟨4, ![N, B, H, 128]⟩ : Shape).Transposes [2, 0, 3, 1] ⟨4, ![H, N, 128, B]⟩) :
    transpose ⟨4, ![H, N, 128, B]⟩ [2, 0, 3, 1] (shapeCast ⟨4, ![N, B, H, 128]⟩ (up2 x : FVec Ideal ⟨2, ![T, W]⟩ φ) h) h' =
      (up4 (fun h n f b => x (B * n + b) (128 * h + f)) : FVec Ideal _ φ) := by
  funext j
  have h0 : (j 0).val < H := (j 0).isLt
  have h1 : (j 1).val < N := (j 1).isLt
  have h2 : (j 2).val < 128 := (j 2).isLt
  have h3 : (j 3).val < B := (j 3).isLt
  have hr : B * (j 1).val + (j 3).val < T := by
    calc B * (j 1).val + (j 3).val < B * (j 1).val + B := by omega
      _ = B * ((j 1).val + 1) := by ring
      _ ≤ B * N := Nat.mul_le_mul_left _ h1
      _ = T := by rw [← hT, Nat.mul_comm]
  rw [transpose_apply [2, 0, 3, 1] _ h' j (ValueIdx.ix4 (j 1) (j 3) (j 0) (j 2)) (fun b => by fin_cases b <;> rfl),
    shapeCast_apply _ h _ (ValueIdx.ix2 ⟨B * (j 1).val + (j 3).val, hr⟩ ⟨128 * (j 0).val + (j 2).val, by omega⟩) (by
      rw [Shape.rowMajor_val_two, Shape.rowMajor_val_four]
      show (B * (j 1).val + (j 3).val) * W + (128 * (j 0).val + (j 2).val) =
        (((j 1).val * B + (j 3).val) * H + (j 0).val) * 128 + (j 2).val
      rw [← hW]; ring)]
  rfl

/-- Zero columns before and after. -/
theorem pad_up2 {T W W' l : ℕ} (u : ℕ) {su : Shape} (v : FVec Ideal su φ) (hu : 0 < su.numel) (hv : v = fun _ => ((0 : ℝ) : EReal))
    (h : (⟨2, ![T, W]⟩ : Shape).Pads ![0, l] ![0, u] ![0, 0] ⟨2, ![T, W']⟩) :
    pad ⟨2, ![T, W']⟩ ![0, l] ![0, u] ![0, 0] (up2 x : FVec Ideal ⟨2, ![T, W]⟩ φ) v h hu =
      (up2 (fun t c => if l ≤ c ∧ c - l < W then x t (c - l) else 0) : FVec Ideal _ φ) := by
  funext j
  by_cases hj : l ≤ (j 1).val ∧ (j 1).val - l < W
  · rw [pad_apply_of_inside _ _ _ _ _ h hu j (ValueIdx.ix2 (j 0) ⟨(j 1).val - l, hj.2⟩) (fun a => by
      fin_cases a
      · show (j 0).val = 0 + (j 0).val * (0 + 1); omega
      · show (j 1).val = l + ((j 1).val - l) * (0 + 1); omega)]
    show _ = (((if _ then _ else _) : ℝ) : EReal)
    rw [if_pos hj]; rfl
  · rw [pad_apply_of_not_inside _ _ _ _ _ h hu j 1 (by
      show ¬(l ≤ (j 1).val ∧ ((j 1).val - l) % (0 + 1) = 0 ∧ ((j 1).val - l) / (0 + 1) < W)
      rw [Nat.div_one]; exact fun hh => hj ⟨hh.1, hh.2.2⟩), hv]
    show _ = (((if _ then _ else _) : ℝ) : EReal)
    rw [if_neg hj]

end Layout

/-! ## Products -/

/-- A batched product, one axis of `K` contracted. -/
theorem dot_up3 {sl sr : Shape} {a b c K : ℕ} (d : DotDims sl sr ⟨3, ![a, b, c]⟩) (p : Option ContractPrecision) {ax : Fin sl.rank}
    (hc : d.lhsContracting = [ax]) (hK : sl.size ax = K) (u : FVec Ideal sl .f32) (v : FVec Ideal sr .f32) (A B : ℕ → ℕ → ℕ → ℕ → ℝ)
    (hL : ∀ j k, u (d.lhsIdx j (d.contrIdx₁ hc hK k)) = ((A (j 0).val (j 1).val (j 2).val k.val : ℝ) : EReal))
    (hR : ∀ j k, v (d.rhsIdx j (d.contrIdx₁ hc hK k)) = ((B (j 0).val (j 1).val (j 2).val k.val : ℝ) : EReal)) :
    Host.dotGeneral d p u v = (up3 (fun h r c => ∑ k ∈ range K, A h r c k * B h r c k) : FVec Ideal ⟨3, ![a, b, c]⟩ .f32) := by
  funext j
  unfold Host.dotGeneral
  rw [Ideal.dotGeneral_apply, d.sum_contr₁ hc hK]
  refine sum_up _ (fun k => A (j 0).val (j 1).val (j 2).val k * B (j 0).val (j 1).val (j 2).val k) fun k => ?_
  rw [hL, hR]
  exact (EReal.coe_mul _ _).symm

/-! ## Running sums -/

theorem foldl_sum {M ι : Type*} [AddCommMonoid M] (g : ι → M) (v : M) (l : List ι) :
    l.foldl (fun r n => r + g n) v = v + (l.map g).sum := by
  induction l generalizing v with
  | nil => simp
  | cons a l ih => rw [List.foldl_cons, ih, List.map_cons, List.sum_cons, add_assoc]

/-- A window of a row's length, padded with `lo` zeros before the row. -/
theorem rowSums_up3 {a b N : ℕ} (lo hi : ℕ) (x : ℕ → ℕ → ℕ → ℝ) {su : Shape} (v : FVec Ideal su .f32) (hu : 0 < su.numel)
    (hv : v = fun _ => ((0 : ℝ) : EReal))
    (h : (⟨3, ![a, b, N]⟩ : Shape).ReduceWindows ![1, 1, N] ![1, 1, 1] ![0, 0, lo] ![0, 0, hi] ⟨3, ![a, b, N]⟩) :
    Host.reduceWindowAdd ![1, 1, N] ![1, 1, 1] ![0, 0, lo] ![0, 0, hi] (up3 x : FVec Ideal ⟨3, ![a, b, N]⟩ .f32) v h hu =
      (up3 (fun i t s => ∑ k ∈ range N, if lo ≤ s + k ∧ s + k - lo < N then x i t (s + k - lo) else 0) : FVec Ideal ⟨3, ![a, b, N]⟩ .f32) := by
  funext j
  subst hv
  unfold Host.reduceWindowAdd
  rw [Ideal.hostReduceWindowAdd_def]
  unfold Ideal.hostReduceWindowAdd Host.reduceWindow
  dsimp only
  rw [foldl_sum, ← Fin.sum_univ_def]
  rw [← Equiv.sum_comp (Shape.rowMajor ⟨3, ![1, 1, N]⟩)]
  simp only [Equiv.symm_apply_apply]
  rw [← Fintype.sum_equiv (⟨fun k => ValueIdx.ix3 0 0 k, fun i => i 2, fun k => rfl, fun i => by
      funext a
      fin_cases a
      · exact Fin.ext (Nat.lt_one_iff.1 (i 0).isLt).symm
      · exact Fin.ext (Nat.lt_one_iff.1 (i 1).isLt).symm
      · rfl⟩ : Fin N ≃ (⟨3, ![1, 1, N]⟩ : Shape).Idx) _ _ (fun k => rfl)]
  rw [EReal.coe_zero, zero_add]
  refine sum_up _ (fun k => if lo ≤ (j 2).val + k ∧ (j 2).val + k - lo < N then x (j 0).val (j 1).val ((j 2).val + k - lo) else 0) fun k => ?_
  by_cases hk : lo ≤ (j 2).val + k.val ∧ (j 2).val + k.val - lo < N
  · rw [if_pos hk, dif_pos (fun ax => by
      fin_cases ax
      · exact ⟨Nat.zero_le _, by show (j 0).val * 1 + 0 - 0 < a; have : (j 0).val < a := (j 0).isLt; omega⟩
      · exact ⟨Nat.zero_le _, by show (j 1).val * 1 + 0 - 0 < b; have : (j 1).val < b := (j 1).isLt; omega⟩
      · show lo ≤ (j 2).val * 1 + k.val ∧ (j 2).val * 1 + k.val - lo < N
        rw [Nat.mul_one]; exact hk)]
    show ((x ((j 0).val * 1 + 0 - 0) ((j 1).val * 1 + 0 - 0) ((j 2).val * 1 + k.val - lo) : ℝ) : EReal) = _
    simp only [Nat.mul_one, Nat.add_zero, Nat.sub_zero]
  · rw [if_neg hk, dif_neg (fun hin => hk (by
      have h2 := hin 2
      revert h2
      show lo ≤ (j 2).val * 1 + k.val ∧ (j 2).val * 1 + k.val - lo < N → _
      rw [Nat.mul_one]; exact id))]
    exact EReal.coe_zero.symm

/-- The sums from each place on, -/
theorem sum_from (N : ℕ) (x : ℕ → ℝ) (s : ℕ) (hs : s < N) :
    (∑ k ∈ range N, if 0 ≤ s + k ∧ s + k - 0 < N then x (s + k - 0) else 0) = ∑ s' ∈ Ico s N, x s' := by
  rw [Finset.sum_Ico_eq_sum_range, ← Finset.sum_filter]
  refine Finset.sum_congr ?_ fun k _ => rfl
  ext k
  simp only [Finset.mem_filter, Finset.mem_range]
  omega
/-- and up to each place. -/
theorem sum_upTo (N : ℕ) (x : ℕ → ℝ) (s : ℕ) (hs : s < N + 1) :
    (∑ k ∈ range (N + 1), if N ≤ s + k ∧ s + k - N < N + 1 then x (s + k - N) else 0) = ∑ s' ∈ range (s + 1), x s' := by
  rw [← Finset.sum_filter]
  refine Finset.sum_nbij' (fun k => s + k - N) (fun s' => s' + N - s) ?_ ?_ ?_ ?_ (fun _ _ => rfl) <;>
    (intro k hk; simp only [Finset.mem_filter, Finset.mem_range] at hk ⊢; omega)

end Cert.Proof.SbBwd

end
-- ==== Proof.Tile.lean ====
/-
  What the kernel's block computations are at the ideal values, on real operands: one key block against a query block.
  Each theorem reads a payload of `Fns.lean` as a real function of the row and the key.
-/
module

public import proofs.«01_k».proof.Proof.Fns
public import proofs.«01_k».proof.Proof.Up

@[expose] public section

set_option backward.isDefEq.respectTransparency false

noncomputable section

namespace Cert.Proof.SbBwd

open Cert.KernelIdeal Cert.KernelIdeal.Gen
open Idealize.ShloMosaic Idealize.ShloMosaic.TcCoe
open Finset (range Ico)

/-! ## The real functions of a tile -/

/-- Row `r` of `x` against row `c` of `y`, 128 features. -/
def prod (x y : ℕ → ℕ → ℝ) (r c : ℕ) : ℝ := ∑ f ∈ range 128, x r f * y c f

/-- The logits, -/
def zf (q k : ℕ → ℕ → ℝ) (r c : ℕ) : ℝ := prod q k r c * scale
/-- their softplus, -/
def spf (q k : ℕ → ℕ → ℝ) (r c : ℕ) : ℝ := Real.log (1 + Real.exp (zf q k r c))
/-- and `1` strictly below the diagonal. -/
def tri (r c : ℕ) : ℝ := if c < r then 1 else 0
/-- The sum of a row's entries at the block's later keys. -/
def inner (x : ℕ → ℕ → ℝ) (r c : ℕ) : ℝ := ∑ s ∈ range 256, x r s * tri s c

/-! ## The masks and the products at the kernel's shapes -/

theorem slt_small {a b : ℕ} (ha : a < 1024) (hb : b < 1024) :
    IntOp.cmpi .slt (IntOp.addi (BitVec.ofNat 32 a) 0#32) (BitVec.ofNat 32 b) = if a < b then 1#1 else 0#1 := by
  have e : ∀ n, n < 1024 → (BitVec.ofNat 32 n).toInt = n := fun n hn => by
    rw [BitVec.toInt_eq_toNat_of_lt] <;> rw [BitVec.toNat_ofNat, Nat.mod_eq_of_lt (by omega)]; omega
  by_cases h : a < b <;> simp [IntOp.cmpi, IntOp.addi, BitVec.slt, e a ha, e b hb, h]

theorem pay22_low : (k0_pay22 : IVec S256x256 1) = low := by
  funext j
  show IntOp.cmpi .slt (IntOp.addi (iota .tc S256x256 32 [1] _ j) 0#32) (iota .tc S256x256 32 [0] _ j) = low j
  rw [iota_single_apply, iota_single_apply]
  have h0 := (j 0).isLt
  have h1 := (j 1).isLt
  have e0 : S256x256.size 0 = 256 := rfl
  have e1 : S256x256.size 1 = 256 := rfl
  exact slt_small (a := (j 1).val) (b := (j 0).val) (by omega) (by omega)

theorem pay37_low : (k0_pay37 : IVec S512x256 1) = low := by
  funext j
  show IntOp.cmpi .slt (IntOp.addi (iota .tc S512x256 32 [1] _ j) 0#32) (iota .tc S512x256 32 [0] _ j) = low j
  rw [iota_single_apply, iota_single_apply]
  have h0 := (j 0).isLt
  have h1 := (j 1).isLt
  have e0 : S512x256.size 0 = 512 := rfl
  have e1 : S512x256.size 1 = 256 := rfl
  exact slt_small (a := (j 1).val) (b := (j 0).val) (by omega) (by omega)

theorem pay8_tri : k0_pay8 (F := Ideal) = up2 tri := by
  funext j
  have h0 := (j 0).isLt
  have h1 := (j 1).isLt
  have e0 : S256x256.size 0 = 256 := rfl
  have e1 : S256x256.size 1 = 256 := rfl
  have h := slt_small (a := (j 1).val) (b := (j 0).val) (by omega) (by omega)
  have hs : IntOp.cmpi .sgt (BitVec.ofNat 32 (j 0).val) (BitVec.ofNat 32 (j 1).val) =
      if (j 1).val < (j 0).val then 1#1 else 0#1 := by
    rw [← h]
    simp [IntOp.cmpi, IntOp.addi]
  show ((((IntOp.cmpi .sgt (iota .tc S256x256 32 [0] _ j) (iota .tc S256x256 32 [1] _ j)).setWidth 32).toInt : ℝ) : EReal) = _
  rw [iota_single_apply, iota_single_apply]
  show ((((IntOp.cmpi .sgt (BitVec.ofNat 32 (j 0).val) (BitVec.ofNat 32 (j 1).val)).setWidth 32).toInt : ℝ) : EReal) =
    ((tri (j 0).val (j 1).val : ℝ) : EReal)
  rw [hs]
  unfold tri
  by_cases hj : (j 1).val < (j 0).val
  · rw [if_pos hj, if_pos hj]; norm_num
  · rw [if_neg hj, if_neg hj]; norm_num

theorem low_part {n m : ℕ} (x : ℕ → ℕ → ℝ) (h₁ h₂) :
    (truncf .bf16 (subf (up2 x) (extf .f32 (truncf .bf16 (up2 x : FVec Ideal ⟨2, ![n, m]⟩ .f32) h₁) h₂)) h₁ : FVec Ideal ⟨2, ![n, m]⟩ .bf16) =
      up2 (fun r c => x r c - x r c) := subf_up2 x x

section Products
variable {φ : FTy} (p : Option ContractPrecision) (x y : ℕ → ℕ → ℝ)

theorem mm_half_keys : matmul dot_S256x128_S256x128_S256x256_1_1_0_0_n_n p (up2 x : FVec Ideal _ φ) (up2 y : FVec Ideal _ φ)
    (constant _ .f32 0x00000000#32) = up2 (prod x y) :=
  matmul_nt x y _ p rfl (fun j k => funext fun a => by fin_cases a <;> rfl) (fun j k => funext fun a => by fin_cases a <;> rfl)
theorem mm_full_keys : matmul dot_S512x128_S256x128_S512x256_1_1_0_0_n_n p (up2 x : FVec Ideal _ φ) (up2 y : FVec Ideal _ φ)
    (constant _ .f32 0x00000000#32) = up2 (prod x y) :=
  matmul_nt x y _ p rfl (fun j k => funext fun a => by fin_cases a <;> rfl) (fun j k => funext fun a => by fin_cases a <;> rfl)
theorem mm_half_tri : matmul dot_S512x256_S256x256_S512x256_1_0_0_1_n_n p (up2 x : FVec Ideal _ φ) (up2 y : FVec Ideal _ φ)
    (constant _ .f32 0x00000000#32) = up2 (fun r c => ∑ k ∈ range 256, x r k * y k c) :=
  matmul_nn x y _ p rfl (fun j k => funext fun a => by fin_cases a <;> rfl) (fun j k => funext fun a => by fin_cases a <;> rfl)
theorem mm_full_tri : matmul dot_S1024x256_S256x256_S1024x256_1_0_0_1_n_n p (up2 x : FVec Ideal _ φ) (up2 y : FVec Ideal _ φ)
    (constant _ .f32 0x00000000#32) = up2 (fun r c => ∑ k ∈ range 256, x r k * y k c) :=
  matmul_nn x y _ p rfl (fun j k => funext fun a => by fin_cases a <;> rfl) (fun j k => funext fun a => by fin_cases a <;> rfl)
theorem mm_half_acc : matmul dot_S128x256_S256x256_S128x256_1_0_0_1_n_n p (up2 x : FVec Ideal _ φ) (up2 y : FVec Ideal _ φ)
    (constant _ .f32 0x00000000#32) = up2 (fun r c => ∑ k ∈ range 256, x r k * y k c) :=
  matmul_nn x y _ p rfl (fun j k => funext fun a => by fin_cases a <;> rfl) (fun j k => funext fun a => by fin_cases a <;> rfl)
theorem mm_full_acc : matmul dot_S128x512_S512x256_S128x256_1_0_0_1_n_n p (up2 x : FVec Ideal _ φ) (up2 y : FVec Ideal _ φ)
    (constant _ .f32 0x00000000#32) = up2 (fun r c => ∑ k ∈ range 512, x r k * y k c) :=
  matmul_nn x y _ p rfl (fun j k => funext fun a => by fin_cases a <;> rfl) (fun j k => funext fun a => by fin_cases a <;> rfl)
theorem mm_half_dq : matmul dot_S256x256_S256x128_S256x128_1_0_0_1_n_n p (up2 x : FVec Ideal _ φ) (up2 y : FVec Ideal _ φ)
    (constant _ .f32 0x00000000#32) = up2 (fun r c => ∑ k ∈ range 256, x r k * y k c) :=
  matmul_nn x y _ p rfl (fun j k => funext fun a => by fin_cases a <;> rfl) (fun j k => funext fun a => by fin_cases a <;> rfl)
theorem mm_full_dq : matmul dot_S512x256_S256x128_S512x128_1_0_0_1_n_n p (up2 x : FVec Ideal _ φ) (up2 y : FVec Ideal _ φ)
    (constant _ .f32 0x00000000#32) = up2 (fun r c => ∑ k ∈ range 256, x r k * y k c) :=
  matmul_nn x y _ p rfl (fun j k => funext fun a => by fin_cases a <;> rfl) (fun j k => funext fun a => by fin_cases a <;> rfl)

/-- The sum over a block's later keys: the kernel splits its operand into a high and a low `bf16` part, stacks the two,
    multiplies the stack by the triangle of ones and adds the two halves; with no rounding the low part is zero. -/
theorem tri_full (h₁ h₂ hc s₀ s₁) :
    addf (extractStridedSlice S512x256 ![0, 0] (matmul dot_S1024x256_S256x256_S1024x256_1_0_0_1_n_n none
        (concatenate S1024x256 0 [⟨S512x256, truncf .bf16 (up2 x : FVec Ideal S512x256 .f32) h₁⟩,
          ⟨S512x256, truncf .bf16 (subf (up2 x) (extf .f32 (truncf .bf16 (up2 x : FVec Ideal S512x256 .f32) h₁) h₂)) h₁⟩] hc)
        (up2 (φ := .bf16) tri) (constant S1024x256 .f32 0x00000000#32)) s₀)
      (extractStridedSlice S512x256 ![512, 0] (matmul dot_S1024x256_S256x256_S1024x256_1_0_0_1_n_n none
        (concatenate S1024x256 0 [⟨S512x256, truncf .bf16 (up2 x : FVec Ideal S512x256 .f32) h₁⟩,
          ⟨S512x256, truncf .bf16 (subf (up2 x) (extf .f32 (truncf .bf16 (up2 x : FVec Ideal S512x256 .f32) h₁) h₂)) h₁⟩] hc)
        (up2 (φ := .bf16) tri) (constant S1024x256 .f32 0x00000000#32)) s₁) = (up2 (inner x) : FVec Ideal S512x256 .f32) := by
  rw [low_part x h₁ h₂]
  rw [truncf_up2, concat_up2, mm_full_tri, slice_up2, slice_up2, addf_up2]
  refine up2_congr fun r hr c hc => ?_
  simp [hr, inner]

theorem tri_half (h₁ h₂ hc s₀ s₁) :
    addf (extractStridedSlice S256x256 ![0, 0] (matmul dot_S512x256_S256x256_S512x256_1_0_0_1_n_n none
        (concatenate S512x256 0 [⟨S256x256, truncf .bf16 (up2 x : FVec Ideal S256x256 .f32) h₁⟩,
          ⟨S256x256, truncf .bf16 (subf (up2 x) (extf .f32 (truncf .bf16 (up2 x : FVec Ideal S256x256 .f32) h₁) h₂)) h₁⟩] hc)
        (up2 (φ := .bf16) tri) (constant S512x256 .f32 0x00000000#32)) s₀)
      (extractStridedSlice S256x256 ![256, 0] (matmul dot_S512x256_S256x256_S512x256_1_0_0_1_n_n none
        (concatenate S512x256 0 [⟨S256x256, truncf .bf16 (up2 x : FVec Ideal S256x256 .f32) h₁⟩,
          ⟨S256x256, truncf .bf16 (subf (up2 x) (extf .f32 (truncf .bf16 (up2 x : FVec Ideal S256x256 .f32) h₁) h₂)) h₁⟩] hc)
        (up2 (φ := .bf16) tri) (constant S512x256 .f32 0x00000000#32)) s₁) = (up2 (inner x) : FVec Ideal S256x256 .f32) := by
  rw [low_part x h₁ h₂]
  rw [truncf_up2, concat_up2, mm_half_tri, slice_up2, slice_up2, addf_up2]
  refine up2_congr fun r hr c hc => ?_
  simp [hr, inner]

end Products

/-! ## A key block before the query block's own span (all 512 rows, no mask) -/

/-! ## The real functions of a key block against a query block -/

section Real
variable (b : Bool) (q k d v g e t : ℕ → ℕ → ℝ)

/-- `x`, or, under the causal mask (`b` false), `x` at the keys before the row and `0` elsewhere. -/
def keep (x : ℕ → ℕ → ℝ) (r c : ℕ) : ℝ := if b = true ∨ c < r then x r c else 0

/-- The softplus of the keys that count, -/
def spm : ℕ → ℕ → ℝ := keep b (spf q k)
/-- the weights, from the sums `g` of the keys already passed, -/
def wf : ℕ → ℕ → ℝ := keep b fun r c => Real.exp (zf q k r c - spf q k r c - (inner (spm b q k) r c + g r 0))
/-- the products of the weights with their gradients, -/
def ef (r c : ℕ) : ℝ := prod d v r c * wf b q k g r c
/-- and the logits' gradients, from the sums `e` of the products already passed and the rows' totals `t`. -/
def dzf : ℕ → ℕ → ℝ := keep b fun r c =>
  ef b q k d v g r c - (t r 0 - (inner (ef b q k d v g) r c + e r 0)) * Real.exp (zf q k r c - spf q k r c)

theorem keep_true (x : ℕ → ℕ → ℝ) : keep true x = x := by funext r c; simp [keep]
theorem keep_false (x : ℕ → ℕ → ℝ) : keep false x = fun r c => if c < r then x r c else 0 := by funext r c; simp [keep]

theorem one_add_exp_pos (a : ℝ) : 0 < 1 + Real.exp a := by positivity

end Real

/-- The carried minimum is below `⊤`: so the loop's test never fails. -/
theorem min_lt_top (src : FVec Ideal S1x256x1 .f32) (hs : ∀ i, src i < (⊤ : EReal)) (h : S1x256x1.Reduces [1, 2] S1) (hb hi) (j) :
    (multiReduction .minimumf [1, 2] S1 src 0x7F800000#32 h hb hi j : EReal) < ⊤ := by
  rw [multiReduction_minimumf_eq_fold]
  refine (Finset.fold_min_lt _).2 (Or.inr ⟨ValueIdx.ix3 0 0 0, ?_, hs _⟩)
  exact Finset.mem_filter.2 ⟨Finset.mem_univ _, (ValueIdx.eq_ix1_u0 _).trans (ValueIdx.eq_ix1_u0 j).symm⟩

theorem min_scalar_lt_top (x : ℕ → ℕ → ℝ) (h' : S256x1.ShapeCasts S1x256x1) (h : S1x256x1.Reduces [1, 2] S1) (hb hi)
    (hc : S1.ShapeCasts S1x1x1) (hp) :
    (extractAt ![0, 0, 0] (shapeCast S1x1x1 (multiReduction .minimumf [1, 2] S1
      (shapeCast S1x256x1 (up2 x : FVec Ideal S256x1 .f32) h') 0x7F800000#32 h hb hi) hc) hp : EReal) < ⊤ := by
  unfold extractAt shapeCast
  exact min_lt_top _ (fun i => EReal.coe_lt_top _) h hb hi _

theorem alive_one (a : Ideal .f32) (h : (a : EReal) < ⊤) :
    (Scalar.extui (Scalar.cmpf .olt a (Named.named κ "exhausted" 0x42DC0000#32)) : BitVec 32) = 1#32 := by
  rw [named_exhausted]
  have e : Scalar.cmpf .olt a (⊤ : EReal) = 1#1 := by
    show BitVec.ofBool (decide ((a : EReal) < ⊤)) = _
    rw [decide_eq_true h]; rfl
  rw [e]; rfl

/-! ## A key block before the query block's own span (all 512 rows, no mask) -/

section Step
variable (q k d v g e t x y : ℕ → ℕ → ℝ)

theorem pay57_up : k0_pay57 (F := Ideal) (up2 (φ := .bf16) q) (up2 (φ := .bf16) k) = up2 (zf q k) := by
  simp only [k0_pay57, mm_full_keys, ofBits_scale, broadcast_coe, mulf_up2]
  rfl

theorem pay58_up : k0_pay58 (F := Ideal) (up2 (φ := .bf16) q) (up2 (φ := .bf16) k) = up2 (spm true q k) := by
  simp only [k0_pay58, pay57_up, named_linear, cmpf_ogt_top, select_none, exp_up2, ofBits_one, broadcast_coe, addf_up2]
  rw [log_up2 _ (fun r c => one_add_exp_pos _), spm, keep_true]
  rfl

theorem pay59_up : k0_pay59 (F := Ideal) (up2 (φ := .bf16) q) (up2 (φ := .bf16) tri) (up2 (φ := .f32) g) (up2 (φ := .bf16) k) =
    up2 (wf true q k g) := by
  simp only [k0_pay59]
  rw [pay57_up, pay58_up, tri_full]
  simp only [subf_up2, addf_up2, broadcastTo_up2 _ (show 256 ≠ 1 by decide) (show 512 ≠ 1 by decide), exp_up2]
  simp only [wf, spm, keep_true]

theorem pay60_up : k0_pay60 (F := Ideal) (up2 (φ := .bf16) q) (up2 (φ := .bf16) tri) (up2 (φ := .bf16) d) (up2 (φ := .f32) g)
    (up2 (φ := .bf16) k) (up2 (φ := .bf16) v) = up2 (ef true q k d v g) := by
  simp only [k0_pay60, pay59_up, mm_full_keys, mulf_up2]
  rfl

theorem pay61_up : k0_pay61 (F := Ideal) (up2 (φ := .bf16) q) (up2 (φ := .bf16) tri) (up2 (φ := .bf16) d) (up2 (φ := .f32) t) (up2 (φ := .f32) g) (up2 (φ := .f32) e)
    (up2 (φ := .bf16) k) (up2 (φ := .bf16) v) = up2 (dzf true q k d v g e t) := by
  simp only [k0_pay61]
  rw [pay57_up, pay58_up, pay60_up, tri_full]
  simp only [subf_up2, addf_up2, mulf_up2, broadcastTo_up2 _ (show 256 ≠ 1 by decide) (show 512 ≠ 1 by decide), exp_up2]
  simp only [dzf, spm, keep_true]

theorem pay63_up (A : ℕ → ℕ → ℕ → ℕ → ℝ) : k0_pay63 (F := Ideal) (up2 (φ := .bf16) x) (up2 (φ := .f32) y) (up4 (φ := .f32) A) =
    up4 (fun _ _ f c => A 0 0 f c + (∑ r ∈ range 512, x f r * y r c) * scale) := by
  simp only [k0_pay63, k0_pay62, shapeCast_drop_up4, truncf_up2, mm_full_acc, ofBits_scale, broadcast_coe, mulf_up2, addf_up2,
    shapeCast_add_up2]

theorem pay64_up (A : ℕ → ℕ → ℕ → ℕ → ℝ) : k0_pay64 (F := Ideal) (up2 (φ := .bf16) x) (up2 (φ := .f32) y) (up4 (φ := .f32) A) =
    up4 (fun _ _ f c => A 0 0 f c + ∑ r ∈ range 512, x f r * y r c) := by
  simp only [k0_pay64, shapeCast_drop_up4, truncf_up2, mm_full_acc, addf_up2, shapeCast_add_up2]

theorem pay65_up : k0_pay65 (F := Ideal) (up2 (φ := .f32) g) (up2 (φ := .f32) x) = up2 (fun r c => g r c + ∑ s ∈ range 256, x r s) := by
  simp only [k0_pay65]
  rw [rowSum_up2, addf_up2]

theorem pay66_up : k0_pay66 (F := Ideal) (up2 (φ := .f32) g) (up2 (φ := .f32) x) = up2 (fun r c => g r c + ∑ s ∈ range 256, x r s) := by
  simp only [k0_pay66]
  rw [rowSum_up2, addf_up2]

theorem pay67_up : k0_pay67 (F := Ideal) (up2 (φ := .f32) g) (up2 (φ := .bf16) k) (up2 (φ := .f32) x) =
    up2 (fun r f => g r f + ∑ s ∈ range 256, x r s * k s f) := by
  simp only [k0_pay67, k0_pay62, truncf_up2, mm_full_dq, addf_up2]

theorem pay68_lt : (k0_pay68 (F := Ideal) (up2 (φ := .f32) g) (up2 (φ := .f32) x) : EReal) < ⊤ := by
  simp only [k0_pay68, pay65_up, slice_up2]
  exact min_scalar_lt_top _ _ _ _ _ _ _

end Step

/-! ## The own span's earlier key block (all 512 rows, under the mask) -/

section Own0
variable (q k d v g e t x y : ℕ → ℕ → ℝ)

theorem pay38_up : k0_pay38 (F := Ideal) (up2 (φ := .bf16) q) (up2 (φ := .bf16) k) = up2 (zf q k) := by
  simp only [k0_pay38, mm_full_keys, ofBits_scale, broadcast_coe, mulf_up2]
  rfl

theorem pay39_up : k0_pay39 (F := Ideal) (up2 (φ := .bf16) q) (up2 (φ := .bf16) k) = fun _ => 0#1 := by
  simp only [k0_pay39, pay38_up, named_linear, cmpf_ogt_top]

theorem pay40_up : k0_pay40 (F := Ideal) (up2 (φ := .f32) (zf q k)) (fun _ => 0#1) = up2 (spf q k) := by
  simp only [k0_pay40, select_none, exp_up2, ofBits_one, broadcast_coe, addf_up2]
  rw [log_up2 _ (fun r c => one_add_exp_pos _)]
  rfl

theorem pay41_up : k0_pay41 (F := Ideal) low (up2 (φ := .f32) (zf q k)) (fun _ => 0#1) = up2 (spm false q k) := by
  simp only [k0_pay41, pay40_up, ofBits_zero, broadcast_coe, select_low, spm, keep_false]

theorem pay42_up : k0_pay42 (F := Ideal) (up2 (φ := .bf16) tri) (up2 (φ := .f32) g) low (up2 (φ := .f32) (zf q k)) (fun _ => 0#1) = up2 (wf false q k g) := by
  simp only [k0_pay42]
  rw [pay41_up, pay40_up, tri_full]
  simp only [subf_up2, addf_up2, broadcastTo_up2 _ (show 256 ≠ 1 by decide) (show 512 ≠ 1 by decide), exp_up2, ofBits_zero,
    broadcast_coe, select_low]
  simp only [wf, keep_false]

theorem pay43_up : k0_pay43 (F := Ideal) (up2 (φ := .bf16) tri) (up2 (φ := .bf16) d) (up2 (φ := .f32) g) low (up2 (φ := .bf16) v) (up2 (φ := .f32) (zf q k))
    (fun _ => 0#1) = up2 (ef false q k d v g) := by
  simp only [k0_pay43, pay42_up, mm_full_keys, mulf_up2]
  rfl

theorem pay44_up : k0_pay44 (F := Ideal) (up2 (φ := .bf16) tri) (up2 (φ := .bf16) d) (up2 (φ := .f32) t) (up2 (φ := .f32) g) (up2 (φ := .f32) e) low
    (up2 (φ := .bf16) v) (up2 (φ := .f32) (zf q k)) (fun _ => 0#1) = up2 (dzf false q k d v g e t) := by
  simp only [k0_pay44]
  rw [pay40_up, pay43_up, tri_full]
  simp only [subf_up2, addf_up2, mulf_up2, broadcastTo_up2 _ (show 256 ≠ 1 by decide) (show 512 ≠ 1 by decide), exp_up2,
    ofBits_zero, broadcast_coe, select_low, truncf_up2]
  simp only [dzf, keep_false]

theorem pay47_up (A : ℕ → ℕ → ℕ → ℕ → ℝ) : k0_pay47 (F := Ideal) (k0_pay45 (F := Ideal) (up4 (φ := .f32) A))
    (k0_pay46 (F := Ideal) (up2 (φ := .bf16) x) (up2 (φ := .bf16) tri) (up2 (φ := .bf16) d) (up2 (φ := .f32) t) (up2 (φ := .f32) g) (up2 (φ := .f32) e) low
      (up2 (φ := .bf16) v) (up2 (φ := .f32) (zf q k)) (fun _ => 0#1)) =
    up4 (fun _ _ f c => A 0 0 f c + (∑ r ∈ range 512, x f r * dzf false q k d v g e t r c) * scale) := by
  simp only [k0_pay45, k0_pay46, k0_pay47, pay44_up, shapeCast_drop_up4, mm_full_acc, ofBits_scale, broadcast_coe, mulf_up2, addf_up2,
    shapeCast_add_up2]

theorem pay48_up (A : ℕ → ℕ → ℕ → ℕ → ℝ) : k0_pay48 (F := Ideal) (up2 (φ := .bf16) x) (up2 (φ := .f32) y) (up4 (φ := .f32) A) =
    up4 (fun _ _ f c => A 0 0 f c + ∑ r ∈ range 512, x f r * y r c) := by
  simp only [k0_pay48, shapeCast_drop_up4, truncf_up2, mm_full_acc, addf_up2, shapeCast_add_up2]

theorem pay49_up : k0_pay49 (F := Ideal) (up2 (φ := .f32) g) (up2 (φ := .f32) x) = up2 (fun r c => g r c + ∑ s ∈ range 256, x r s) := by
  simp only [k0_pay49]
  rw [rowSum_up2, addf_up2]

theorem pay50_up : k0_pay50 (F := Ideal) (up2 (φ := .f32) g) (up2 (φ := .f32) x) = up2 (fun r c => g r c + ∑ s ∈ range 256, x r s) := by
  simp only [k0_pay50]
  rw [rowSum_up2, addf_up2]

theorem pay51_up : k0_pay51 (F := Ideal) (up2 (φ := .f32) g) (up2 (φ := .bf16) k) (up2 (φ := .bf16) x) =
    up2 (fun r f => g r f + ∑ s ∈ range 256, x r s * k s f) := by
  simp only [k0_pay51, mm_full_dq, addf_up2]

theorem pay52_lt : (k0_pay52 (F := Ideal) (up2 (φ := .f32) g) (up2 (φ := .f32) x) : EReal) < ⊤ := by
  simp only [k0_pay52, pay49_up, slice_up2]
  exact min_scalar_lt_top _ _ _ _ _ _ _

end Own0

/-! ## The own span's later key block (the last 256 rows, under the mask) -/

section Own1
variable (q k d v g e t x y : ℕ → ℕ → ℝ)

/-- The rows from 256 on. -/
def hi (x : ℕ → ℕ → ℝ) (r c : ℕ) : ℝ := x (256 + r) c
/-- Zero on the first 256 rows and `x` after. -/
def below (x : ℕ → ℕ → ℝ) (r c : ℕ) : ℝ := if r < 256 then 0 else x (r - 256) c
/-- No sum yet. -/
def nil (_ _ : ℕ) : ℝ := 0

theorem pay16_up : k0_pay16 (F := Ideal) = up2 nil := by simp only [k0_pay16, ofBits_zero, broadcast_coe]; rfl
theorem pay17_up : k0_pay17 (F := Ideal) = up2 nil := by simp only [k0_pay17, ofBits_zero, broadcast_coe]; rfl
theorem pay18_up : k0_pay18 (F := Ideal) = up2 nil := by simp only [k0_pay18, ofBits_zero, broadcast_coe]; rfl
theorem pay19_up : k0_pay19 (F := Ideal) = up2 nil := by simp only [k0_pay19, pay16_up, slice_up2]; rfl
theorem pay20_up : k0_pay20 (F := Ideal) = up2 nil := by simp only [k0_pay20, pay17_up, slice_up2]; rfl
theorem pay21_up : k0_pay21 (F := Ideal) = up2 nil := by simp only [k0_pay21, pay18_up, slice_up2]; rfl

theorem slice_hi {φ : FTy} {n m : ℕ} (h : (⟨2, ![n, m]⟩ : Shape).Slices ![256, 0] ⟨2, ![256, m]⟩) :
    extractStridedSlice ⟨2, ![256, m]⟩ ![256, 0] (up2 x : FVec Ideal ⟨2, ![n, m]⟩ φ) h = (up2 (hi x) : FVec Ideal _ φ) := by
  rw [slice_up2]
  exact up2_congr fun r _ c _ => by rw [Nat.zero_add]; rfl

theorem pay23_up : k0_pay23 (F := Ideal) (up2 (φ := .bf16) q) (up2 (φ := .bf16) k) = up2 (zf (hi q) k) := by
  simp only [k0_pay23, slice_hi, mm_half_keys, ofBits_scale, broadcast_coe, mulf_up2]
  rfl

theorem pay24_up : k0_pay24 (F := Ideal) (up2 (φ := .bf16) q) (up2 (φ := .bf16) k) = up2 (spf (hi q) k) := by
  simp only [k0_pay24, pay23_up, named_linear, cmpf_ogt_top, select_none, exp_up2, ofBits_one, broadcast_coe, addf_up2]
  rw [log_up2 _ (fun r c => one_add_exp_pos _)]
  rfl

theorem pay25_up : k0_pay25 (F := Ideal) (up2 (φ := .bf16) q) (up2 (φ := .bf16) k) = up2 (spm false (hi q) k) := by
  simp only [k0_pay25, pay22_low, pay24_up, ofBits_zero, broadcast_coe, select_low, spm, keep_false]

theorem pay27_28_up : addf (k0_pay27 (F := Ideal) (up2 (φ := .bf16) q) (up2 (φ := .bf16) tri) (up2 (φ := .bf16) k))
    (k0_pay28 (F := Ideal) (up2 (φ := .bf16) q) (up2 (φ := .bf16) tri) (up2 (φ := .bf16) k)) = up2 (inner (spm false (hi q) k)) := by
  simp only [k0_pay27, k0_pay28, k0_pay26]
  rw [pay25_up, tri_half]

theorem own1w_up (R : Row Ideal) (n : ℕ) (hq : R.q = up2 q) (hu : R.up = up2 tri) (hk : kblk R.k n = up2 (φ := .bf16) k) :
    own1w R n = up2 (wf false (hi q) k nil) := by
  simp only [own1w, k0_pay29, hq, hu, hk, pay27_28_up, pay22_low, pay23_up, pay24_up, pay19_up]
  simp only [subf_up2, addf_up2, broadcastTo_up2 _ (show 256 ≠ 1 by decide) (show 256 ≠ 1 by decide), exp_up2, ofBits_zero,
    broadcast_coe, select_low]
  simp only [wf, keep_false]

theorem own1e_up (R : Row Ideal) (n : ℕ) (hq : R.q = up2 q) (hu : R.up = up2 tri) (hk : kblk R.k n = up2 (φ := .bf16) k) (hd : R.d = up2 d)
    (hv : kblk R.v n = up2 (φ := .bf16) v) : own1e R n = up2 (ef false (hi q) k (hi d) v nil) := by
  have h := own1w_up q k R n hq hu hk
  simp only [own1w] at h
  simp only [own1e, k0_pay30]
  rw [h, hd, hv]
  simp only [slice_hi, mm_half_keys, mulf_up2]
  rfl

theorem own1z_up (R : Row Ideal) (n : ℕ) (hq : R.q = up2 q) (hu : R.up = up2 tri) (hk : kblk R.k n = up2 (φ := .bf16) k) (hd : R.d = up2 d)
    (hv : kblk R.v n = up2 (φ := .bf16) v) (ht : R.tot = up2 t) : own1z R n = up2 (dzf false (hi q) k (hi d) v nil nil (hi t)) := by
  have h := own1e_up q k d v R n hq hu hk hd hv
  simp only [own1e] at h
  simp only [own1z, k0_pay31]
  rw [h, hu, tri_half, ht, hq, hk]
  simp only [pay22_low, pay23_up, pay24_up, pay20_up, slice_hi, subf_up2, addf_up2, mulf_up2,
    broadcastTo_up2 _ (show 256 ≠ 1 by decide) (show 256 ≠ 1 by decide), exp_up2, ofBits_zero,
    broadcast_coe, select_low, truncf_up2]
  simp only [dzf, keep_false]

theorem own1dk_up (R : Row Ideal) (n : ℕ) (A : ℕ → ℕ → ℕ → ℕ → ℝ) (hq : R.q = up2 q) (hu : R.up = up2 tri) (hk : kblk R.k n = up2 (φ := .bf16) k)
    (hd : R.d = up2 d) (hv : kblk R.v n = up2 (φ := .bf16) v) (ht : R.tot = up2 t) (hx : R.qT = up2 x) : own1dk R n (up4 (φ := .f32) A) =
    up4 (φ := .f32) (fun _ _ f c => A 0 0 f c +
      (∑ r ∈ range 256, x f (256 + r) * dzf false (hi q) k (hi d) v nil nil (hi t) r c) * scale) := by
  have h := own1z_up q k d v t R n hq hu hk hd hv ht
  simp only [own1z] at h
  simp only [own1dk, k0_pay32]
  rw [h, hx]
  simp only [slice_up2, Nat.zero_add, shapeCast_drop_up4, mm_half_acc, ofBits_scale, broadcast_coe, mulf_up2, addf_up2, shapeCast_add_up2]

theorem pay33_up (A : ℕ → ℕ → ℕ → ℕ → ℝ) : k0_pay33 (F := Ideal) (up2 (φ := .bf16) x) (up2 (φ := .f32) y) (up4 (φ := .f32) A) =
    up4 (fun _ _ f c => A 0 0 f c + ∑ r ∈ range 256, x f (256 + r) * y r c) := by
  simp only [k0_pay33, slice_up2, Nat.zero_add, shapeCast_drop_up4, truncf_up2, mm_half_acc, addf_up2, shapeCast_add_up2]

theorem pay34_up : k0_pay34 (F := Ideal) (up2 (φ := .f32) nil) (up2 (φ := .f32) nil) (up2 (φ := .f32) x) = up2 (below fun r _ => ∑ s ∈ range 256, x r s) := by
  simp only [k0_pay34]
  rw [rowSum_up2, slice_up2, addf_up2, concat_up2]
  exact up2_congr fun r _ c _ => by simp only [below, nil, zero_add]

theorem pay35_up : k0_pay35 (F := Ideal) (up2 (φ := .f32) nil) (up2 (φ := .f32) nil) (up2 (φ := .f32) x) = up2 (below fun r _ => ∑ s ∈ range 256, x r s) := by
  simp only [k0_pay35]
  rw [rowSum_up2, slice_up2, addf_up2, concat_up2]
  exact up2_congr fun r _ c _ => by simp only [below, nil, zero_add]

theorem pay36_up : k0_pay36 (F := Ideal) (up2 (φ := .f32) nil) (up2 (φ := .f32) nil) (up2 (φ := .bf16) k) (up2 (φ := .bf16) x) =
    up2 (below fun r f => ∑ s ∈ range 256, x r s * k s f) := by
  simp only [k0_pay36]
  rw [mm_half_dq, slice_up2, addf_up2, concat_up2]
  exact up2_congr fun r _ c _ => by simp only [below, nil, zero_add]

end Own1

/-! ## A grid point's preparation and its end -/

section Point
variable (q g dy o x y : ℕ → ℕ → ℝ)

/-- The logistic function as the kernel computes it. -/
def sgf (g : ℕ → ℕ → ℝ) (r f : ℕ) : ℝ := 1 / 2 * Real.tanh (1 / 2 * g r f) + 1 / 2

theorem pay9_up : k0_pay9 (F := Ideal) (up2 (φ := .f32) g) = up2 (sgf g) := by
  simp only [k0_pay9, ofBits_half, broadcast_coe, mulf_up2, tanh_up2, addf_up2]
  rfl

theorem pay12_up : k0_pay12 (F := Ideal) (up2 (φ := .f32) g) (up2 (φ := .f32) dy) = up2 (fun r f => dy r f * (g r f * sgf g r f)) := by
  simp only [k0_pay12, pay9_up, mulf_up2]

theorem pay13_up : k0_pay13 (F := Ideal) (up2 (φ := .f32) g) (up2 (φ := .f32) dy) = up2 (fun r f => dy r f * (g r f * sgf g r f)) := by
  simp only [k0_pay13, pay12_up, truncf_up2]

theorem pay14_up : k0_pay14 (F := Ideal) (up2 (φ := .f32) g) (up2 (φ := .f32) dy) = up2 (fun f r => dy r f * (g r f * sgf g r f)) := by
  simp only [k0_pay14, pay12_up]
  rw [transpose_up2, truncf_up2]

theorem pay10_up : k0_pay10 (F := Ideal) (up2 (φ := .f32) o) = up2 o := shapeCast_self _ _

theorem pay11_up : k0_pay11 (F := Ideal) (up2 (φ := .f32) g) (up2 (φ := .f32) dy) (up2 (φ := .f32) o) =
    up2 (fun r f => dy r f * o r f * (sgf g r f * (1 + g r f * (1 - sgf g r f)))) := by
  simp only [k0_pay11, pay9_up, pay10_up, ofBits_one, broadcast_coe, mulf_up2, addf_up2, subf_up2, truncf_up2]

theorem pay15_up : k0_pay15 (F := Ideal) (up2 (φ := .f32) o) (up2 (φ := .bf16) x) = up2 (fun r _ => ∑ f ∈ range 128, x r f * o r f) := by
  simp only [k0_pay15, extf_up2, mulf_up2]
  rw [rowSum_up2]

theorem pay6_up : k0_pay6 (F := Ideal) (up2 (φ := .f32) q) = up2 q := by simp only [k0_pay6, truncf_up2]
theorem pay7_up : k0_pay7 (F := Ideal) (up2 (φ := .f32) q) = up2 (fun f r => q r f) := by
  simp only [k0_pay7]
  rw [transpose_up2, truncf_up2]

theorem pay2_up : k0_pay2 (F := Ideal) (up2 (φ := .f32) x) (up2 (φ := .f32) y) = up2 (fun r f => (if r < 256 then y r f else x r f) * scale) := by
  simp only [k0_pay2]
  rw [slice_up2, concat_up2]
  simp only [ofBits_scale, broadcast_coe, mulf_up2, truncf_up2]
  refine up2_congr fun r hr f hf => ?_
  by_cases h : r < 256
  · rw [if_pos h, if_pos h]
  · rw [if_neg h, if_neg h, Nat.zero_add, Nat.add_sub_cancel' (not_lt.1 h)]

theorem pay55_up : k0_pay55 (F := Ideal) (up2 (φ := .f32) x) = up2 x := by
  simp only [k0_pay55, slice_up2, Nat.zero_add]

end Point

end Cert.Proof.SbBwd

end
-- ==== Proof.Model.lean ====
/-
  The backward pass of stick-breaking attention for one head, over the reals, and its sums cut into key blocks.

  `later`: the softplus of the logits at the keys strictly between `s` and the row `t`; `wt`: the weights; `er`: the weights
  times their gradients; `dz`: the gradient of a logit (before the scale).
-/
module

public import proofs.«01_k».proof.Proof.Tile

@[expose] public section

noncomputable section

namespace Cert.Proof.SbBwd

open Finset (range Ico)

/-- One head: queries, keys, values, the forward pass's output and the gradient of it. -/
structure Head where
  q : ℕ → ℕ → ℝ
  k : ℕ → ℕ → ℝ
  v : ℕ → ℕ → ℝ
  o : ℕ → ℕ → ℝ
  d : ℕ → ℕ → ℝ

namespace Head
variable (H : Head)

def sp : ℕ → ℕ → ℝ := spf H.q H.k
def later (t s : ℕ) : ℝ := ∑ s' ∈ Ico (s + 1) t, H.sp t s'
def wt (t s : ℕ) : ℝ := if s < t then Real.exp (zf H.q H.k t s - H.sp t s - H.later t s) else 0
def er (t s : ℕ) : ℝ := prod H.d H.v t s * H.wt t s
def tot (t : ℕ) : ℝ := ∑ f ∈ range 128, H.d t f * H.o t f
def dz (t s : ℕ) : ℝ := if s < t then
  H.er t s - (H.tot t - ∑ s' ∈ Ico (s + 1) t, H.er t s') * Real.exp (zf H.q H.k t s - H.sp t s) else 0

theorem wt_of_le {t s : ℕ} (h : t ≤ s) : H.wt t s = 0 := if_neg (not_lt.2 h)
theorem dz_of_le {t s : ℕ} (h : t ≤ s) : H.dz t s = 0 := if_neg (not_lt.2 h)
theorem er_of_le {t s : ℕ} (h : t ≤ s) : H.er t s = 0 := by unfold er; rw [H.wt_of_le h, mul_zero]

end Head

/-! ## Sums by key blocks -/

theorem sum_Ico_mask (x : ℕ → ℝ) (t a L : ℕ) :
    ∑ s ∈ Ico a t, x s = ∑ c ∈ range L, (if a + c < t then x (a + c) else 0) + ∑ s ∈ Ico (a + L) t, x s := by
  induction L with
  | zero => simp
  | succ L ih =>
    rw [ih, Finset.sum_range_succ, add_assoc]
    congr 1
    by_cases h : a + L < t
    · rw [if_pos h, Finset.sum_eq_sum_Ico_succ_bot h]; rfl
    · rw [if_neg h, Finset.Ico_eq_empty h, Finset.Ico_eq_empty (by omega)]; simp

/-- Key block `n` and the keys after it. -/
theorem sum_block (x : ℕ → ℝ) (t n : ℕ) :
    ∑ s ∈ Ico (256 * n) t, x s =
      ∑ c ∈ range 256, (if 256 * n + c < t then x (256 * n + c) else 0) + ∑ s ∈ Ico (256 * (n + 1)) t, x s := by
  rw [sum_Ico_mask x t (256 * n) 256]
  rfl

theorem sum_tri (y : ℕ → ℝ) {c : ℕ} (hc : c < 256) : ∑ s ∈ range 256, y s * tri s c = ∑ s ∈ range (255 - c), y (c + 1 + s) := by
  have e : 256 = (c + 1) + (255 - c) := by omega
  rw [e, Finset.sum_range_add]
  rw [Finset.sum_eq_zero (s := range (c + 1)), zero_add]
  · refine Finset.sum_congr rfl fun s _ => ?_
    unfold tri
    rw [if_pos (by omega), mul_one]
  · intro s hs
    have := Finset.mem_range.1 hs
    unfold tri
    rw [if_neg (by omega), mul_zero]

/-- The keys after key `c` of block `n`: the block's later ones and the keys after the block. -/
theorem sum_later (x : ℕ → ℝ) (t n : ℕ) {c : ℕ} (hc : c < 256) :
    ∑ s ∈ Ico (256 * n + c + 1) t, x s =
      ∑ s ∈ range 256, (if 256 * n + s < t then x (256 * n + s) else 0) * tri s c + ∑ s ∈ Ico (256 * (n + 1)) t, x s := by
  rw [sum_tri (fun s => if 256 * n + s < t then x (256 * n + s) else 0) hc, sum_Ico_mask x t _ (255 - c)]
  rw [show 256 * n + c + 1 + (255 - c) = 256 * (n + 1) from by omega]
  simp only [Nat.add_assoc]

/-! ## A tile of the head

  Row `r` of a query block is row `t` of the head, key `c` of key block `n` is key `256 n + c`, and the mask `b` keeps the keys before
  the row. -/

section Tile
variable (H : Head) (b : Bool) (n r t : ℕ) (q k d v g e τ : ℕ → ℕ → ℝ)

/-- What the operands of a tile are. -/
structure IsTile : Prop where
  mask : ∀ c < 256, (b = true ∨ c < r) ↔ 256 * n + c < t
  q : ∀ f, q r f = H.q t f
  d : ∀ f, d r f = H.d t f
  k : ∀ c f, k c f = H.k (256 * n + c) f
  v : ∀ c f, v c f = H.v (256 * n + c) f
  g : g r 0 = ∑ s ∈ Ico (256 * (n + 1)) t, H.sp t s
  e : e r 0 = ∑ s ∈ Ico (256 * (n + 1)) t, H.er t s
  τ : τ r 0 = H.tot t

variable {H b n r t q k d v g e τ} (h : IsTile H b n r t q k d v g e τ)
include h

theorem tile_z (c : ℕ) : zf q k r c = zf H.q H.k t (256 * n + c) := by
  unfold zf prod
  simp only [h.q, h.k]

theorem tile_spf (c : ℕ) : spf q k r c = H.sp t (256 * n + c) := by
  unfold Head.sp spf
  rw [tile_z h]

theorem tile_spm {c : ℕ} (hc : c < 256) : spm b q k r c = if 256 * n + c < t then H.sp t (256 * n + c) else 0 := by
  unfold spm keep
  rw [tile_spf h]
  exact if_congr (h.mask c hc) rfl rfl

theorem tile_gone : g r 0 + ∑ c ∈ range 256, spm b q k r c = ∑ s ∈ Ico (256 * n) t, H.sp t s := by
  rw [sum_block, h.g, add_comm]
  congr 1
  exact Finset.sum_congr rfl fun c hc => tile_spm h (Finset.mem_range.1 hc)

theorem tile_later {c : ℕ} (hc : c < 256) : inner (spm b q k) r c + g r 0 = H.later t (256 * n + c) := by
  unfold Head.later inner
  rw [sum_later _ _ _ hc, h.g]
  congr 1
  exact Finset.sum_congr rfl fun s hs => by rw [tile_spm h (Finset.mem_range.1 hs)]

theorem tile_w {c : ℕ} (hc : c < 256) : wf b q k g r c = H.wt t (256 * n + c) := by
  unfold wf keep Head.wt
  beta_reduce
  rw [tile_later h hc, tile_z h, tile_spf h]
  exact if_congr (h.mask c hc) rfl rfl

theorem tile_er {c : ℕ} (hc : c < 256) : ef b q k d v g r c = H.er t (256 * n + c) := by
  unfold ef Head.er prod
  rw [tile_w h hc]
  simp only [h.d, h.v]

theorem er_mask (c : ℕ) : H.er t (256 * n + c) = if 256 * n + c < t then H.er t (256 * n + c) else 0 := by
  by_cases hc : 256 * n + c < t
  · rw [if_pos hc]
  · rw [if_neg hc, H.er_of_le (not_lt.1 hc)]

theorem tile_e : e r 0 + ∑ c ∈ range 256, ef b q k d v g r c = ∑ s ∈ Ico (256 * n) t, H.er t s := by
  rw [sum_block, h.e, add_comm]
  congr 1
  exact Finset.sum_congr rfl fun c hc => (tile_er h (Finset.mem_range.1 hc)).trans (er_mask h c)

theorem tile_passed {c : ℕ} (hc : c < 256) :
    inner (ef b q k d v g) r c + e r 0 = ∑ s ∈ Ico (256 * n + c + 1) t, H.er t s := by
  unfold inner
  rw [sum_later _ _ _ hc, h.e]
  congr 1
  exact Finset.sum_congr rfl fun s hs =>
    congrArg (· * tri s c) ((tile_er h (Finset.mem_range.1 hs)).trans (er_mask h s))

theorem tile_dz {c : ℕ} (hc : c < 256) : dzf b q k d v g e τ r c = H.dz t (256 * n + c) := by
  unfold dzf keep Head.dz
  beta_reduce
  rw [tile_passed h hc, tile_er h hc, tile_z h, tile_spf h, h.τ]
  exact if_congr (h.mask c hc) rfl rfl

theorem tile_dq (f : ℕ) : ∑ s ∈ Ico (256 * (n + 1)) t, H.dz t s * H.k s f + ∑ c ∈ range 256, dzf b q k d v g e τ r c * k c f =
    ∑ s ∈ Ico (256 * n) t, H.dz t s * H.k s f := by
  rw [sum_block (fun s => H.dz t s * H.k s f) t n, add_comm]
  congr 1
  refine Finset.sum_congr rfl fun c hc => ?_
  rw [tile_dz h (Finset.mem_range.1 hc), h.k]
  by_cases hm : 256 * n + c < t
  · rw [if_pos hm]
  · rw [if_neg hm, H.dz_of_le (not_lt.1 hm), zero_mul]

end Tile

end Cert.Proof.SbBwd

end
-- ==== Proof.Attended.lean ====
/-
  The forward pass on real arrays: the host's weights are the model's, and its output the sum of the values by weight.
-/
module

public import proofs.«01_k».proof.Proof.Prefix
public import proofs.«01_k».proof.Proof.Host3
public import proofs.«01_k».proof.Proof.Model

@[expose] public section

set_option backward.isDefEq.respectTransparency false

noncomputable section

namespace Cert.Proof.SbBwd

open Cert.KernelIdeal Cert.KernelIdeal.Gen
open Idealize.ShloMosaic
open Finset (range Ico)

/-! ## Softplus and the logistic function -/

theorem softplus_eq (x : ℝ) : max x 0 + Real.log (1 + Real.exp (-|x|)) = Real.log (1 + Real.exp x) := by
  rcases le_total 0 x with h | h
  · rw [max_eq_left h, abs_of_nonneg h]
    have : 1 + Real.exp x = Real.exp x * (1 + Real.exp (-x)) := by
      rw [mul_add, ← Real.exp_add, add_neg_cancel, Real.exp_zero]; ring
    rw [this, Real.log_mul (Real.exp_ne_zero _) (by positivity), Real.log_exp]
  · rw [max_eq_right h, abs_of_nonpos h, neg_neg, zero_add]
theorem softplus_neg (x : ℝ) : Real.log (1 + Real.exp (-x)) = Real.log (1 + Real.exp x) - x := by
  have : 1 + Real.exp x = Real.exp x * (1 + Real.exp (-x)) := by
    rw [mul_add, ← Real.exp_add, add_neg_cancel, Real.exp_zero]; ring
  rw [this, Real.log_mul (Real.exp_ne_zero _) (by positivity), Real.log_exp]; ring
/-- The logistic function as the kernel has it, -/
theorem exp_sub_softplus (x : ℝ) : Real.exp (x - Real.log (1 + Real.exp x)) = Real.exp x / (1 + Real.exp x) := by
  rw [Real.exp_sub, Real.exp_log (by positivity)]
/-- and its complement. -/
theorem exp_neg_softplus (x : ℝ) : Real.exp (-Real.log (1 + Real.exp x)) = 1 - Real.exp (x - Real.log (1 + Real.exp x)) := by
  rw [exp_sub_softplus, Real.exp_neg, Real.exp_log (by positivity)]
  field_simp; ring

/-! ## The host's terms -/

theorem whole_eq (b : BitVec 32) (r : ℝ) (h : (Scalar.ofBits .f32 b : Ideal .f32) = ((r : ℝ) : EReal)) :
    (whole b : FVec Ideal S12x8192x8192 .f32) = up3 (fun _ _ _ => r) :=
  funext fun _ => h
theorem whole_zero : (whole 0x00000000#32 : FVec Ideal S12x8192x8192 .f32) = up3 (fun _ _ _ => 0) := whole_eq _ _ ofBits_zero
theorem whole_scale : (whole 0x3DB504F3#32 : FVec Ideal S12x8192x8192 .f32) = up3 (fun _ _ _ => scale) := whole_eq _ _ ofBits_scale
theorem whole_inf : (whole 0x7F800000#32 : FVec Ideal S12x8192x8192 .f32) = fun _ => (⊤ : EReal) := funext fun _ => ofBits_inf

theorem slt_words (x y : ℕ) (hx : x < 8192) (hy : y < 8192) :
    IntOp.cmpi .slt (BitVec.ofNat 32 x) (BitVec.ofNat 32 y) = if x < y then 1#1 else 0#1 := by
  have e : ∀ n, n < 8192 → (BitVec.ofNat 32 n).toInt = n := fun n hn => by
    rw [BitVec.toInt_eq_toNat_of_lt] <;> rw [BitVec.toNat_ofNat, Nat.mod_eq_of_lt (by omega)]; omega
  by_cases h : x < y <;> simp [IntOp.cmpi, BitVec.slt, e x hx, e y hy, h]

theorem seen_eq : seen = low3 := by
  funext j
  unfold seen
  rw [broadcastInDim_apply _ _ _ j (ValueIdx.ix2 (j 1) (j 2)) (fun a => by fin_cases a <;> rfl)]
  show IntOp.cmpi .slt (broadcastInDim _ _ _ _ _) (broadcastInDim _ _ _ _ _) = _
  rw [broadcastInDim_apply _ bcast_S1x8192_S8192x8192_0_1 _ _ (ValueIdx.ix2 0 (j 2)) (fun a => by fin_cases a <;> rfl),
    broadcastInDim_apply _ bcast_S8192x1_S8192x8192_0_1 _ _ (ValueIdx.ix2 (j 1) 0) (fun a => by fin_cases a <;> rfl),
    broadcastInDim_apply _ bcast_S8192_S1x8192_1 _ _ (ValueIdx.ix1 (j 2)) (fun a => by fin_cases a; rfl),
    broadcastInDim_apply _ bcast_S8192_S8192x1_0 _ _ (ValueIdx.ix1 (j 1)) (fun a => by fin_cases a; rfl)]
  exact slt_words _ _ (j 2).isLt (j 1).isLt

section Values
variable (q k v : ℕ → ℕ → ℕ → ℝ) (z : ℕ → ℕ → ℕ → ℝ)

theorem dot_keys : Host.dotGeneral dot_S12x8192x128_S12x8192x128_S12x8192x8192_2_2_1_1_0_0 none (up3 q : FVec Ideal S12x8192x128 .f32)
    (up3 k : FVec Ideal S12x8192x128 .f32) = (up3 (fun h => prod (q h) (k h)) : FVec Ideal S12x8192x8192 .f32) :=
  dot_up3 (K := 128) _ none rfl rfl _ _ (fun h r _ f => q h r f) (fun h _ c f => k h c f)
    (fun j e => congrArg (up3 q) (show _ = ValueIdx.ix3 (j 0) (j 1) e from funext fun a => by fin_cases a <;> rfl))
    (fun j e => congrArg (up3 k) (show _ = ValueIdx.ix3 (j 0) (j 2) e from funext fun a => by fin_cases a <;> rfl))
theorem dot_values (w : ℕ → ℕ → ℕ → ℝ) : Host.dotGeneral dot_S12x8192x8192_S12x8192x128_S12x8192x128_2_1_1_2_0_0 none
    (up3 w : FVec Ideal S12x8192x8192 .f32) (up3 v : FVec Ideal S12x8192x128 .f32) =
      (up3 (fun h t f => ∑ s ∈ range 8192, w h t s * v h s f) : FVec Ideal S12x8192x128 .f32) :=
  dot_up3 (K := 8192) _ none rfl rfl _ _ (fun h t _ s => w h t s) (fun h _ f s => v h s f)
    (fun j e => congrArg (up3 w) (show _ = ValueIdx.ix3 (j 0) (j 1) e from funext fun a => by fin_cases a <;> rfl))
    (fun j e => congrArg (up3 v) (show _ = ValueIdx.ix3 (j 0) e (j 2) from funext fun a => by fin_cases a <;> rfl))

theorem logits_up3 : logits (up3 q : FVec Ideal S12x8192x128 .f32) (up3 k) = up3 (fun h => zf (q h) (k h)) := by
  unfold logits
  rw [dot_keys, whole_scale, mulf_up3]
  rfl

theorem splus_up3 : splus (up3 z : FVec Ideal S12x8192x8192 .f32) = up3 (fun h t s => Real.log (1 + Real.exp (z h t s))) := by
  unfold splus
  rw [whole_zero, select_une]
  simp only [subf_up3, sub_zero, absf_up3, negf_up3, exp_up3, maximumf_up3]
  rw [log1p_up3 _ (fun _ _ _ => by positivity), addf_up3]
  simp only [softplus_eq]

theorem skips_up3 : skips (up3 z : FVec Ideal S12x8192x8192 .f32) =
    up3 (fun h t s => if s < t then -Real.log (1 + Real.exp (z h t s)) else 0) := by
  unfold skips
  rw [whole_zero, seen_eq, negf_up3, negf_up3, splus_up3, negf_up3, select_low3]
  simp only [neg_neg]

theorem zero_init : (broadcastInDim S_ ![] bcast_S_S_ (constant S_ .f32 0x00000000#32) : FVec Ideal S_ .f32) = fun _ => ((0 : ℝ) : EReal) :=
  funext fun _ => ofBits_zero

theorem sumsFrom_up3 : sumsFrom (up3 z : FVec Ideal S12x8192x8192 .f32) = up3 (fun h t s => ∑ s' ∈ Ico s 8192, z h t s') := by
  unfold sumsFrom
  rw [rowSums_up3 0 8191 z _ _ zero_init]
  exact up3_congr fun h _ t _ s hs => sum_from 8192 (z h t) s hs

/-- The probabilities of stopping. -/
def stopf (h t s : ℕ) : ℝ :=
  Real.exp (z h t s - Real.log (1 + Real.exp (z h t s)) - ∑ s' ∈ Ico (s + 1) t, Real.log (1 + Real.exp (z h t s')))

theorem stops_up3 : stops (up3 z : FVec Ideal S12x8192x8192 .f32) = up3 (stopf z) := by
  unfold stops
  rw [skips_up3, sumsFrom_up3, negf_up3, splus_up3, negf_up3, subf_up3, addf_up3, exp_up3]
  refine up3_congr fun h _ t ht s hs => ?_
  unfold stopf
  congr 1
  rw [softplus_neg, Finset.sum_eq_sum_Ico_succ_bot hs, ← Finset.sum_filter, Finset.sum_neg_distrib]
  rw [show (Ico (s + 1) 8192).filter (fun s' => s' < t) = Ico (s + 1) t from by
    ext s'; simp only [Finset.mem_filter, Finset.mem_Ico]; omega]
  ring

theorem weights_up3 : weights (up3 z : FVec Ideal S12x8192x8192 .f32) = up3 (fun h t s => if s < t then stopf z h t s else 0) := by
  unfold weights
  rw [whole_zero, seen_eq, stops_up3, select_low3]

theorem unheads_up : unheads (up3 v : FVec Ideal S12x8192x128 .f32) = up2 (fun t c => v (c / 128) t (c % 128)) :=
  unheads_up3 (W := 1536) v rfl _ _
theorem heads_up (x : ℕ → ℕ → ℝ) : heads (up2 x : FVec Ideal S8192x1536 .f32) = up3 (fun h t f => x t (128 * h + f)) :=
  heads_up2 (W := 1536) x rfl _ _

theorem attended_up3 : attended (up3 q : FVec Ideal S12x8192x128 .f32) (up3 k) (up3 v) =
    up2 (fun t c => ∑ s ∈ range 8192, (if s < t then stopf (fun h => zf (q h) (k h)) (c / 128) t s else 0) * v (c / 128) s (c % 128)) := by
  unfold attended
  rw [logits_up3, weights_up3, dot_values, unheads_up]

end Values

end Cert.Proof.SbBwd

end
-- ==== Proof.Walk.lean ====
/-
  The walk of one grid point over the key blocks, at the ideal values.  With `n` key blocks left the carried values are the sums
  over the keys from block `n` on, and the accumulators have received the query block's share of every key block from `n` on; no
  row is ever found exhausted, so the walk ends at block 0 with the whole sums.
-/
module

public import proofs.«01_k».proof.Proof.Model

@[expose] public section

noncomputable section

namespace Cert.Proof.SbBwd

open Cert.KernelIdeal Cert.KernelIdeal.Gen
open Idealize.ShloMosaic Idealize.ShloMosaic.TcCoe
open Finset (range Ico)

/-! ## Blocks of the keys and of an accumulator -/

theorem kblk_up (x : ℕ → ℕ → ℝ) {n : ℕ} (hn : n < 32) :
    kblk (F := Ideal) (up2 (φ := .bf16) x) n = up2 (φ := .bf16) (fun c f => x (256 * n + c) f) := by
  funext y
  show ((x (256 * (n % 32) + 1 * (y 0).val) (0 + 1 * (y 1).val) : ℝ) : EReal) = ((x (256 * n + (y 0).val) (y 1).val : ℝ) : EReal)
  rw [Nat.mod_eq_of_lt hn, Nat.one_mul, Nat.one_mul, Nat.zero_add]

/-- An accumulator from its blocks. -/
def upA (A : ℕ → ℕ → ℕ → ℝ) : Acc Ideal := up4 (φ := .f32) fun _ => A

theorem upA_congr {A B : ℕ → ℕ → ℕ → ℝ} (h : ∀ j < 32, ∀ f < 128, ∀ c < 256, A j f c = B j f c) : upA A = upA B :=
  up4_congr fun _ _ j hj f hf c hc => h j hj f hf c hc

theorem ablk_up (A : ℕ → ℕ → ℕ → ℝ) {n : ℕ} (hn : n < 32) :
    ablk (F := Ideal) (upA A) n = up4 (φ := .f32) (fun _ _ => A n) := by
  funext y
  have h1 : (y 1).val = 0 := Nat.lt_one_iff.1 (y 1).isLt
  show ((A (n % 32 + 1 * (y 1).val) (0 + 1 * (y 2).val) (0 + 1 * (y 3).val) : ℝ) : EReal) = ((A n (y 2).val (y 3).val : ℝ) : EReal)
  rw [h1, Nat.mod_eq_of_lt hn, Nat.one_mul, Nat.one_mul, Nat.zero_add, Nat.zero_add, Nat.add_zero, Nat.one_mul]

theorem aput_up (A : ℕ → ℕ → ℕ → ℝ) (B : ℕ → ℕ → ℝ) {n : ℕ} (hn : n < 32) :
    aput (F := Ideal) (upA A) n (up4 (φ := .f32) (fun _ _ => B)) = upA (fun j f c => if j = n then B f c else A j f c) := by
  funext y
  have h0 : (y 0).val < 1 := (y 0).isLt
  have h2 : (y 2).val < 128 := (y 2).isLt
  have h3 : (y 3).val < 256 := (y 3).isLt
  have hm : n % 32 = n := Nat.mod_eq_of_lt hn
  unfold aput VecWindow.put
  by_cases hy : (y 1).val = n
  · have hin : ∀ a, aofs n a ≤ (y a).val ∧ (y a).val < aofs n a + S1x1x128x256.size a := by
      intro a
      fin_cases a
      · show 0 ≤ (y 0).val ∧ (y 0).val < 0 + 1; omega
      · show n % 32 ≤ (y 1).val ∧ (y 1).val < n % 32 + 1; omega
      · show 0 ≤ (y 2).val ∧ (y 2).val < 0 + 128; omega
      · show 0 ≤ (y 3).val ∧ (y 3).val < 0 + 256; omega
    rw [dif_pos hin]
    show ((B ((y 2).val - 0) ((y 3).val - 0) : ℝ) : EReal) = (((if (y 1).val = n then B (y 2).val (y 3).val else _) : ℝ) : EReal)
    rw [if_pos hy]; rfl
  · rw [dif_neg]
    · show _ = (((if (y 1).val = n then B (y 2).val (y 3).val else A (y 1).val (y 2).val (y 3).val) : ℝ) : EReal)
      rw [if_neg hy]; rfl
    · intro hin
      have h := hin 1
      have e : aofs n 1 = n % 32 := rfl
      have e' : S1x1x128x256.size 1 = 1 := rfl
      rw [e, e', hm] at h
      omega

/-! ## The prepared operands and the carried values -/

/-- The prepared operands of query block `i` of a head. -/
def rowReal (H : Head) (i : ℕ) : Row Ideal where
  q := up2 fun r f => H.q (512 * i + r) f
  qT := up2 fun f r => H.q (512 * i + r) f
  up := up2 tri
  d := up2 fun r f => H.d (512 * i + r) f
  dT := up2 fun f r => H.d (512 * i + r) f
  tot := up2 fun r _ => H.tot (512 * i + r)
  k := up2 (φ := .bf16) H.k
  v := up2 (φ := .bf16) H.v

theorem tall_mk {a a' : BitVec 32} {g g' e e' : FVec Ideal S512x1 .f32} {q q' : FVec Ideal S512x128 .f32} {k k' v v' : Acc Ideal}
    (ha : a = a') (hg : g = g') (he : e = e') (hq : q = q') (hk : k = k') (hv : v = v') :
    Tall.mk a g e q k v = Tall.mk a' g' e' q' k' v' := by rw [ha, hg, he, hq, hk, hv]

/-- The query block's share of a key's gradient, and of a value's. -/
def dkPart (H : Head) (i j f c : ℕ) : ℝ := (∑ r ∈ range 512, H.q (512 * i + r) f * H.dz (512 * i + r) (256 * j + c)) * scale
def dvPart (H : Head) (i j f c : ℕ) : ℝ := ∑ r ∈ range 512, H.d (512 * i + r) f * H.wt (512 * i + r) (256 * j + c)

/-- The carried sums with `n` key blocks left. -/
def goneAt (H : Head) (i n r : ℕ) : ℝ := ∑ s ∈ Ico (256 * n) (512 * i + r), H.sp (512 * i + r) s
def erAt (H : Head) (i n r : ℕ) : ℝ := ∑ s ∈ Ico (256 * n) (512 * i + r), H.er (512 * i + r) s
def dqAt' (H : Head) (i n r f : ℕ) : ℝ := ∑ s ∈ Ico (256 * n) (512 * i + r), H.dz (512 * i + r) s * H.k s f

/-- The carried values with `n` key blocks left, from accumulators `A` and `B`. -/
def stateAt (H : Head) (i n : ℕ) (A B : ℕ → ℕ → ℕ → ℝ) : Tall Ideal where
  alive := 1#32
  gone := up2 fun r _ => goneAt H i n r
  e := up2 fun r _ => erAt H i n r
  dq := up2 fun r f => dqAt' H i n r f
  dk := upA fun j f c => A j f c + if n ≤ j then dkPart H i j f c else 0
  dv := upA fun j f c => B j f c + if n ≤ j then dvPart H i j f c else 0

/-- The accumulator's next block. -/
theorem acc_step (A D : ℕ → ℕ → ℕ → ℝ) (n : ℕ) :
    (upA fun j f c => if j = n then (A j f c + (if n + 1 ≤ j then D j f c else 0)) + D n f c
      else A j f c + if n + 1 ≤ j then D j f c else 0) = upA fun j f c => A j f c + if n ≤ j then D j f c else 0 := by
  refine upA_congr fun j _ f _ c _ => ?_
  by_cases hj : j = n
  · subst hj
    rw [if_pos rfl, if_neg (by omega), if_pos le_rfl, add_zero]
  · rw [if_neg hj]
    by_cases h : n ≤ j
    · rw [if_pos h, if_pos (by omega)]
    · rw [if_neg h, if_neg (by omega)]

section Steps
variable (H : Head) (i : ℕ) (A B : ℕ → ℕ → ℕ → ℝ)

/-- The operands of the tile of key block `n`, the rows counted from `512 i`. -/
theorem isTile_full (b : Bool) (n r : ℕ) (hm : ∀ c < 256, (b = true ∨ c < r) ↔ 256 * n + c < 512 * i + r) :
    IsTile H b n r (512 * i + r) (fun r f => H.q (512 * i + r) f) (fun c f => H.k (256 * n + c) f) (fun r f => H.d (512 * i + r) f)
      (fun c f => H.v (256 * n + c) f) (fun r _ => goneAt H i (n + 1) r) (fun r _ => erAt H i (n + 1) r)
      (fun r _ => H.tot (512 * i + r)) where
  mask := hm
  q _ := rfl
  d _ := rfl
  k _ _ := rfl
  v _ _ := rfl
  g := rfl
  e := rfl
  τ := rfl

theorem step1_state {n : ℕ} (hn : n < 2 * i) (hi : i < 16) :
    step1 (rowReal H i) n (stateAt H i (n + 1) A B) = stateAt H i n A B := by
  have hn' : n < 32 := by omega
  have ht : ∀ r, IsTile H true n r (512 * i + r) (fun r f => H.q (512 * i + r) f) (fun c f => H.k (256 * n + c) f)
      (fun r f => H.d (512 * i + r) f) (fun c f => H.v (256 * n + c) f) (fun r _ => goneAt H i (n + 1) r)
      (fun r _ => erAt H i (n + 1) r) (fun r _ => H.tot (512 * i + r)) := fun r =>
    isTile_full H i true n r fun c hc => ⟨fun _ => by omega, fun _ => Or.inl rfl⟩
  unfold step1
  simp only [stateAt, rowReal, kblk_up _ hn', pay58_up, pay59_up, pay60_up, pay61_up, pay65_up, pay66_up, pay67_up, ablk_up _ hn',
    pay63_up, pay64_up, aput_up _ _ hn']
  refine tall_mk ?_ ?_ ?_ ?_ ?_ ?_
  · exact alive_one _ (pay68_lt _ _)
  · exact up2_congr fun r _ c _ => tile_gone (ht r)
  · exact up2_congr fun r _ c _ => tile_e (ht r)
  · exact up2_congr fun r _ f _ => tile_dq (ht r) f
  · refine Eq.trans (upA_congr fun j _ f _ c hc => ?_) (acc_step A (dkPart H i) n)
    by_cases hj : j = n
    · rw [if_pos hj, if_pos hj, hj]
      refine congrArg₂ (· + ·) rfl (congrArg (· * scale) (Finset.sum_congr rfl fun r _ => ?_))
      rw [tile_dz (ht r) hc]
    · rw [if_neg hj, if_neg hj]
  · refine Eq.trans (upA_congr fun j _ f _ c hc => ?_) (acc_step B (dvPart H i) n)
    by_cases hj : j = n
    · rw [if_pos hj, if_pos hj, hj]
      refine congrArg₂ (· + ·) rfl (Finset.sum_congr rfl fun r _ => ?_)
      rw [tile_w (ht r) hc]
    · rw [if_neg hj, if_neg hj]

theorem own0_state (hi : i < 16) : own0 (rowReal H i) (2 * i) (stateAt H i (2 * i + 1) A B) = stateAt H i (2 * i) A B := by
  have hn' : 2 * i < 32 := by omega
  have ht : ∀ r, IsTile H false (2 * i) r (512 * i + r) (fun r f => H.q (512 * i + r) f) (fun c f => H.k (256 * (2 * i) + c) f)
      (fun r f => H.d (512 * i + r) f) (fun c f => H.v (256 * (2 * i) + c) f) (fun r _ => goneAt H i (2 * i + 1) r)
      (fun r _ => erAt H i (2 * i + 1) r) (fun r _ => H.tot (512 * i + r)) := fun r =>
    isTile_full H i false (2 * i) r fun c hc => ⟨fun h => by have := h.resolve_left (by decide); omega, fun h => Or.inr (by omega)⟩
  unfold own0
  simp only [stateAt, rowReal, kblk_up _ hn', pay37_low, pay38_up, pay39_up, pay41_up, pay42_up, pay43_up, pay44_up, pay47_up, pay48_up,
    pay49_up, pay50_up, pay51_up, ablk_up _ hn', aput_up _ _ hn']
  refine tall_mk ?_ ?_ ?_ ?_ ?_ ?_
  · exact alive_one _ (pay52_lt _ _)
  · exact up2_congr fun r _ c _ => tile_gone (ht r)
  · exact up2_congr fun r _ c _ => tile_e (ht r)
  · exact up2_congr fun r _ f _ => tile_dq (ht r) f
  · refine Eq.trans (upA_congr fun j _ f _ c hc => ?_) (acc_step A (dkPart H i) (2 * i))
    by_cases hj : j = 2 * i
    · rw [if_pos hj, if_pos hj, hj]
      refine congrArg₂ (· + ·) rfl (congrArg (· * scale) (Finset.sum_congr rfl fun r _ => ?_))
      rw [tile_dz (ht r) hc]
    · rw [if_neg hj, if_neg hj]
  · refine Eq.trans (upA_congr fun j _ f _ c hc => ?_) (acc_step B (dvPart H i) (2 * i))
    by_cases hj : j = 2 * i
    · rw [if_pos hj, if_pos hj, hj]
      refine congrArg₂ (· + ·) rfl (Finset.sum_congr rfl fun r _ => ?_)
      rw [tile_w (ht r) hc]
    · rw [if_neg hj, if_neg hj]

/-- Before the own span nothing has been added: the query block's rows come before every key from block `2i + 2` on. -/
theorem dkPart_late {j : ℕ} (hj : 2 * i + 2 ≤ j) (f c : ℕ) : dkPart H i j f c = 0 := by
  unfold dkPart
  rw [Finset.sum_eq_zero, zero_mul]
  intro r hr
  rw [H.dz_of_le (by have := Finset.mem_range.1 hr; omega), mul_zero]

theorem dvPart_late {j : ℕ} (hj : 2 * i + 2 ≤ j) (f c : ℕ) : dvPart H i j f c = 0 := by
  unfold dvPart
  rw [Finset.sum_eq_zero]
  intro r hr
  rw [H.wt_of_le (by have := Finset.mem_range.1 hr; omega), mul_zero]

theorem start_acc (A D : ℕ → ℕ → ℕ → ℝ) (n : ℕ) (hD : ∀ j, n ≤ j → ∀ f c, D j f c = 0) :
    upA A = upA fun j f c => A j f c + if n ≤ j then D j f c else 0 := by
  refine upA_congr fun j _ f _ c _ => ?_
  by_cases h : n ≤ j
  · rw [if_pos h, hD j h, add_zero]
  · rw [if_neg h, add_zero]

/-- The last 256 rows' share is the whole share of block `2i + 1`. -/
theorem dkPart_own1 (f c : ℕ) : dkPart H i (2 * i + 1) f c =
    (∑ r ∈ range 256, H.q (512 * i + (256 + r)) f * H.dz (512 * i + (256 + r)) (256 * (2 * i + 1) + c)) * scale := by
  unfold dkPart
  rw [show 512 = 256 + 256 from rfl, Finset.sum_range_add, Finset.sum_eq_zero (s := range 256), zero_add]
  intro r hr
  rw [H.dz_of_le (by have := Finset.mem_range.1 hr; omega), mul_zero]

theorem dvPart_own1 (f c : ℕ) : dvPart H i (2 * i + 1) f c =
    ∑ r ∈ range 256, H.d (512 * i + (256 + r)) f * H.wt (512 * i + (256 + r)) (256 * (2 * i + 1) + c) := by
  unfold dvPart
  rw [show 512 = 256 + 256 from rfl, Finset.sum_range_add, Finset.sum_eq_zero (s := range 256), zero_add]
  intro r hr
  rw [H.wt_of_le (by have := Finset.mem_range.1 hr; omega), mul_zero]

/-- A row's sum is empty on the first 256 rows. -/
theorem below_sum {m : ℕ} (x : ℕ → ℕ → ℕ → ℝ) (y : ℕ → ℕ → ℝ)
    (h : ∀ r < 256, ∀ f, y r f = ∑ s ∈ Ico (256 * (2 * i + 1)) (512 * i + (256 + r)), x f (512 * i + (256 + r)) s) :
    (up2 (below y) : FVec Ideal ⟨2, ![512, m]⟩ .f32) = up2 fun r f => ∑ s ∈ Ico (256 * (2 * i + 1)) (512 * i + r), x f (512 * i + r) s := by
  refine up2_congr fun r hr f _ => ?_
  unfold below
  by_cases h' : r < 256
  · rw [if_pos h', Finset.Ico_eq_empty (by omega), Finset.sum_empty]
  · rw [if_neg h', h _ (by omega), show 256 + (r - 256) = r from by omega]

theorem own1_state (hi' : i < 16) : own1 (rowReal H i) (2 * i + 1) (upA A) (upA B) = stateAt H i (2 * i + 1) A B := by
  have hn' : 2 * i + 1 < 32 := by omega
  have ht : ∀ r < 256, IsTile H false (2 * i + 1) r (512 * i + (256 + r)) (hi fun r f => H.q (512 * i + r) f)
      (fun c f => H.k (256 * (2 * i + 1) + c) f) (hi fun r f => H.d (512 * i + r) f) (fun c f => H.v (256 * (2 * i + 1) + c) f)
      nil nil (hi fun r _ => H.tot (512 * i + r)) := fun r hr =>
    { mask := fun c _ => ⟨fun h => by have := h.resolve_left (by decide); omega, fun h => Or.inr (by omega)⟩
      q := fun _ => rfl
      d := fun _ => rfl
      k := fun _ _ => rfl
      v := fun _ _ => rfl
      g := by rw [Finset.Ico_eq_empty (by omega)]; rfl
      e := by rw [Finset.Ico_eq_empty (by omega)]; rfl
      τ := rfl }
  have hk := kblk_up H.k hn'
  have hv := kblk_up H.v hn'
  have ew := own1w_up (fun r f => H.q (512 * i + r) f) (fun c f => H.k (256 * (2 * i + 1) + c) f) (rowReal H i) (2 * i + 1) rfl rfl hk
  have ee := own1e_up (fun r f => H.q (512 * i + r) f) (fun c f => H.k (256 * (2 * i + 1) + c) f)
    (fun r f => H.d (512 * i + r) f) (fun c f => H.v (256 * (2 * i + 1) + c) f) (rowReal H i) (2 * i + 1) rfl rfl hk rfl hv
  have ez := own1z_up (fun r f => H.q (512 * i + r) f) (fun c f => H.k (256 * (2 * i + 1) + c) f)
    (fun r f => H.d (512 * i + r) f) (fun c f => H.v (256 * (2 * i + 1) + c) f) (fun r _ => H.tot (512 * i + r)) (rowReal H i) (2 * i + 1) rfl rfl hk rfl hv rfl
  have ek := own1dk_up (fun r f => H.q (512 * i + r) f) (fun c f => H.k (256 * (2 * i + 1) + c) f)
    (fun r f => H.d (512 * i + r) f) (fun c f => H.v (256 * (2 * i + 1) + c) f) (fun r _ => H.tot (512 * i + r)) (fun f r => H.q (512 * i + r) f) (rowReal H i) (2 * i + 1) (fun _ _ => A (2 * i + 1)) rfl rfl hk rfl hv rfl rfl
  unfold own1
  rw [ew, ee, ez, ablk_up _ hn', ablk_up _ hn', ek]
  simp only [stateAt, rowReal, hk, pay16_up, pay17_up, pay18_up, pay19_up, pay20_up, pay21_up, pay25_up, pay33_up, pay34_up, pay35_up, pay36_up,
    aput_up _ _ hn']
  refine tall_mk rfl ?_ ?_ ?_ ?_ ?_
  · exact below_sum i (fun _ => H.sp) _ fun r hr _ => (zero_add _).symm.trans (tile_gone (ht r hr))
  · exact below_sum i (fun _ => H.er) _ fun r hr _ => (zero_add _).symm.trans (tile_e (ht r hr))
  · refine below_sum i (fun f t s => H.dz t s * H.k s f) _ fun r hr f => ?_
    have h := tile_dq (ht r hr) f
    rw [Finset.Ico_eq_empty (by omega), Finset.sum_empty, zero_add] at h
    exact h
  · refine Eq.trans (upA_congr fun j _ f _ c hc => ?_) (acc_step A (dkPart H i) (2 * i + 1))
    by_cases hj : j = 2 * i + 1
    · rw [if_pos hj, if_pos hj, hj, if_neg (by omega), add_zero, dkPart_own1]
      refine congrArg₂ (· + ·) rfl (congrArg (· * scale) (Finset.sum_congr rfl fun r hr => ?_))
      rw [tile_dz (ht r (Finset.mem_range.1 hr)) hc]
    · rw [if_neg hj, if_neg hj]
      by_cases h : 2 * i + 1 + 1 ≤ j
      · rw [if_pos h, dkPart_late H i h, add_zero]
      · rw [if_neg h, add_zero]
  · refine Eq.trans (upA_congr fun j _ f _ c hc => ?_) (acc_step B (dvPart H i) (2 * i + 1))
    by_cases hj : j = 2 * i + 1
    · rw [if_pos hj, if_pos hj, hj, if_neg (by omega), add_zero, dvPart_own1]
      refine congrArg₂ (· + ·) rfl (Finset.sum_congr rfl fun r hr => ?_)
      rw [tile_w (ht r (Finset.mem_range.1 hr)) hc]
    · rw [if_neg hj, if_neg hj]
      by_cases h : 2 * i + 1 + 1 ≤ j
      · rw [if_pos h, dvPart_late H i h, add_zero]
      · rw [if_neg h, add_zero]

/-- No row is exhausted: the first loop reaches block 0. -/
theorem loop1_state (hi : i < 16) : ∀ n, n ≤ 2 * i → loop1 (rowReal H i) n (stateAt H i n A B) = (0, stateAt H i 0 A B)
  | 0, _ => rfl
  | n + 1, hn => by
    have h : Scalar.cmpi .sgt (stateAt H i (n + 1) A B).alive 0#32 = 1#1 := rfl
    unfold loop1
    rw [if_pos h, step1_state H i A B (by omega) hi]
    exact loop1_state hi n (by omega)

end Steps

/-! ## The grid point -/

theorem pay4_up : k0_pay4 (F := Ideal) = upA fun _ _ _ => 0 := by
  simp only [k0_pay4, ofBits_zero]; rfl
theorem pay5_up : k0_pay5 (F := Ideal) = upA fun _ _ _ => 0 := by
  simp only [k0_pay5, ofBits_zero]; rfl

/-- What the accumulators hold at the start of a point. -/
def startOf (i : ℕ) (A : ℕ → ℕ → ℕ → ℝ) (j f c : ℕ) : ℝ := if i = 0 then 0 else A j f c

theorem start_up (i : ℕ) (A : ℕ → ℕ → ℕ → ℝ) : start i (upA fun _ _ _ => 0) (upA A) = upA (startOf i A) := by
  unfold start
  by_cases h : i = 0
  · rw [if_pos h]
    exact upA_congr fun j _ f _ c _ => (if_pos h).symm
  · rw [if_neg h]
    exact upA_congr fun j _ f _ c _ => (if_neg h).symm

/-- A grid point's values: the query block's gradient, and the accumulators with the query block's share added. -/
theorem point_up (H : Head) {i : ℕ} (hi : i < 16) (A B : ℕ → ℕ → ℕ → ℝ) : point (rowReal H i) i (upA A) (upA B) =
    { dq := up2 (φ := .bf16) fun r f => (∑ s ∈ range (512 * i + r), H.dz (512 * i + r) s * H.k s f) * scale
      dk := upA fun j f c => startOf i A j f c + dkPart H i j f c
      dv := upA fun j f c => startOf i B j f c + dvPart H i j f c } := by
  unfold point
  dsimp only
  rw [pay4_up, pay5_up, start_up, start_up, own1_state H i _ _ hi, own0_state H i _ _ hi, loop1_state H i _ _ hi _ le_rfl]
  show Out.mk (k0_pay2 (up2 (φ := .f32) fun r f => dqAt' H i 0 r f) (k0_pay55 (up2 (φ := .f32) fun r f => dqAt' H i 0 r f))) _ _ = _
  rw [pay55_up, pay2_up]
  have e : (up2 (φ := .bf16) fun r f => (if r < 256 then dqAt' H i 0 r f else dqAt' H i 0 r f) * scale) =
      (up2 (φ := .bf16) fun r f => (∑ s ∈ range (512 * i + r), H.dz (512 * i + r) s * H.k s f) * scale : FVec Ideal S512x128 .bf16) :=
    up2_congr fun r _ f _ => by rw [ite_self]; unfold dqAt'; rw [Nat.mul_zero, Finset.range_eq_Ico]
  rw [e]
  have ek : (stateAt H i 0 (startOf i A) (startOf i B)).dk = upA fun j f c => startOf i A j f c + dkPart H i j f c := by
    show (upA fun j f c => startOf i A j f c + if 0 ≤ j then dkPart H i j f c else 0) = _
    exact upA_congr fun j _ f _ c _ => by rw [if_pos (Nat.zero_le _)]
  have ev : (stateAt H i 0 (startOf i A) (startOf i B)).dv = upA fun j f c => startOf i B j f c + dvPart H i j f c := by
    show (upA fun j f c => startOf i B j f c + if 0 ≤ j then dvPart H i j f c else 0) = _
    exact upA_congr fun j _ f _ c _ => by rw [if_pos (Nat.zero_le _)]
  rw [← ek, ← ev]
  rfl

/-- The accumulators after the first `n` query blocks. -/
def dkSum (H : Head) (n j f c : ℕ) : ℝ := ∑ i ∈ range n, dkPart H i j f c
def dvSum (H : Head) (n j f c : ℕ) : ℝ := ∑ i ∈ range n, dvPart H i j f c

theorem startOf_sum (D : ℕ → ℕ → ℕ → ℕ → ℝ) (i : ℕ) (j f c : ℕ) :
    startOf i (fun j f c => ∑ i' ∈ range i, D i' j f c) j f c + D i j f c = ∑ i' ∈ range (i + 1), D i' j f c := by
  rw [Finset.sum_range_succ]
  unfold startOf
  by_cases h : i = 0
  · subst h; rw [if_pos rfl, Finset.sum_range_zero]
  · rw [if_neg h]

/-- The same over the 16 query blocks of 512 rows: the sum over all rows. -/
theorem sum_rows (x : ℕ → ℝ) (n : ℕ) : ∑ i ∈ range n, ∑ r ∈ range 512, x (512 * i + r) = ∑ t ∈ range (512 * n), x t := by
  induction n with
  | zero => simp
  | succ n ih => rw [Finset.sum_range_succ, ih, Nat.mul_succ, Finset.sum_range_add]

end Cert.Proof.SbBwd

end
-- ==== Proof.Arrays.lean ====
/-
  The four result arrays, from the real values of the launch's arrays.  Grid point `t` is query block `t % 16` of head `t / 16`;
  `dq` and the gate gradient are written back at every point, the two accumulators at their head's last point.
-/
module

public import proofs.«01_k».proof.Proof.Run
public import proofs.«01_k».proof.Proof.Walk
public import Idealize.ShloMosaic.Lib.Pipeline.ValueKit
public import Idealize.ShloMosaic.Lib.Pipeline.Covers

@[expose] public section

set_option backward.isDefEq.respectTransparency false

noncomputable section

namespace Cert.Proof.SbBwd

open Cert.KernelIdeal Cert.KernelIdeal.Gen
open Idealize.ShloMosaic Idealize.ShloMosaic.TcCoe
open Finset (range Ico)

/-- The first `n` columns of `x` are the reals `X`. -/
def IsReal {a b : ℕ} {φ : FTy} (x : FVec Ideal ⟨2, ![a, b]⟩ φ) (n : ℕ) (X : ℕ → ℕ → ℝ) : Prop :=
  ∀ i, (i 1).val < n → x i = ((X (i 0).val (i 1).val : ℝ) : EReal)

/-- Head `h`'s gate, and the gradient of its output: the launch's gradient through the swish of the gate. -/
def gOf (p : ℕ → ℕ → ℝ) (h t f : ℕ) : ℝ := p t (1536 + 128 * h + f)
def dOf (dy p : ℕ → ℕ → ℝ) (h t f : ℕ) : ℝ := dy t (128 * h + f) * (gOf p h t f * sgf (gOf p h) t f)

/-- Head `h` of the launch. -/
def headOf (dy p kv o : ℕ → ℕ → ℝ) (h : ℕ) : Head where
  q t f := p t (128 * h + f)
  k s f := kv s (128 * h + f)
  v s f := kv s (1536 + 128 * h + f)
  o t f := o t (128 * h + f)
  d := dOf dy p h

variable (m : (ℓ : Loc nD τ sig) → Buf (Elt Ideal) ℓ)

/-- The real values of what the kernel finds in device `c`'s arrays. -/
structure Inputs (c : Dev nD) (dy p kv o : ℕ → ℕ → ℝ) : Prop where
  dy : IsReal (φ := .f32) (a := 8192) (b := 2048) (V m c main_arg0) 1536 dy
  p : IsReal (φ := .f32) (a := 8192) (b := 4096) (V m c main_arg1) 3072 p
  kv : IsReal (φ := .bf16) (a := 8192) (b := 3072) (V m c main_arg2) 3072 kv
  o : IsReal (φ := .f32) (a := 8192) (b := 1536) (V m c main_v30) 1536 o

/-! ## The blocks -/

theorem N_lt (t : Fin (cfg0 (F := Ideal)).N) : t.val < 192 := lt_of_lt_of_eq t.isLt (by decide : grid0.N = 192)

theorem idx0 : ∀ t : Fin grid0.N, cc0_transform_0 (grid0.coords t) = ![t.val % 16, t.val / 16] := by decide +kernel
theorem idx1 : ∀ t : Fin grid0.N, cc0_transform_1 (grid0.coords t) = ![t.val % 16, t.val / 16] := by decide +kernel
theorem idx2 : ∀ t : Fin grid0.N, cc0_transform_2 (grid0.coords t) = ![t.val % 16, 12 + t.val / 16] := by decide +kernel
theorem idx3 : ∀ t : Fin grid0.N, cc0_transform_3 (grid0.coords t) = ![0, t.val / 16] := by decide +kernel
theorem idx4 : ∀ t : Fin grid0.N, cc0_transform_4 (grid0.coords t) = ![0, 12 + t.val / 16] := by decide +kernel
theorem idx5 : ∀ t : Fin grid0.N, cc0_transform_5 (grid0.coords t) = ![t.val % 16, t.val / 16] := by decide +kernel
theorem idx6 : ∀ t : Fin grid0.N, cc0_transform_6 (grid0.coords t) = ![t.val % 16, t.val / 16] := by decide +kernel
theorem idx7 : ∀ t : Fin grid0.N, cc0_transform_7 (grid0.coords t) = ![t.val % 16, t.val / 16] := by decide +kernel
theorem idx8 : ∀ t : Fin grid0.N, cc0_transform_8 (grid0.coords t) = ![t.val / 16, 0, 0, 0] := by decide +kernel
theorem idx9 : ∀ t : Fin grid0.N, cc0_transform_9 (grid0.coords t) = ![t.val / 16, 0, 0, 0] := by decide +kernel

/-- A block of an array of real values. -/
theorem block_up {A B a b n : ℕ} {φ : FTy} (x : FVec Ideal ⟨2, ![A, B]⟩ φ) {X : ℕ → ℕ → ℝ} (hx : IsReal x n X)
    (e : (⟨2, ![a, b]⟩ : Shape).Idx → (⟨2, ![A, B]⟩ : Shape).Idx) (r₀ c₀ : ℕ) (h0 : ∀ y, (e y 0).val = r₀ + (y 0).val)
    (h1 : ∀ y, (e y 1).val = c₀ + (y 1).val) (hn : c₀ + b ≤ n) : (fun y => x (e y)) = (up2 fun r f => X (r₀ + r) (c₀ + f) : FVec Ideal _ φ) := by
  funext y
  have hy : (y 1).val < b := (y 1).isLt
  refine (hx _ (by rw [h1]; omega)).trans ?_
  rw [h0, h1]
  rfl

section Blocks
variable {m} {c : Dev nD} {dy p kv o : ℕ → ℕ → ℝ} (H : Inputs m c dy p kv o) (t : Fin (cfg0 (F := Ideal)).N)
include H

theorem iblk0_up : iblk m c 0 t = (up2 (φ := .f32) fun r f => dy (512 * (t.val % 16) + r) (128 * (t.val / 16) + f)) :=
  block_up _ H.dy (fun y => ((cfg0 (F := Ideal)).win 0).blk t |>.view.emb y) (512 * (t.val % 16)) (128 * (t.val / 16))
    (fun y => by
      show cc0_transform_0 (grid0.coords t) 0 * 512 + 1 * (y 0).val = _
      rw [idx0]; show t.val % 16 * 512 + _ = _; omega)
    (fun y => by
      show cc0_transform_0 (grid0.coords t) 1 * 128 + 1 * (y 1).val = _
      rw [idx0]; show t.val / 16 * 128 + _ = _; omega)
    (by have := N_lt t; omega)

theorem iblk1_up : iblk m c 1 t = (up2 (φ := .f32) fun r f => p (512 * (t.val % 16) + r) (128 * (t.val / 16) + f)) :=
  block_up _ H.p (fun y => ((cfg0 (F := Ideal)).win 1).blk t |>.view.emb y) (512 * (t.val % 16)) (128 * (t.val / 16))
    (fun y => by
      show cc0_transform_1 (grid0.coords t) 0 * 512 + 1 * (y 0).val = _
      rw [idx1]; show t.val % 16 * 512 + _ = _; omega)
    (fun y => by
      show cc0_transform_1 (grid0.coords t) 1 * 128 + 1 * (y 1).val = _
      rw [idx1]; show t.val / 16 * 128 + _ = _; omega)
    (by have := N_lt t; omega)

theorem iblk2_up : iblk m c 2 t = (up2 (φ := .f32) fun r f => p (512 * (t.val % 16) + r) (1536 + 128 * (t.val / 16) + f)) :=
  block_up _ H.p (fun y => ((cfg0 (F := Ideal)).win 2).blk t |>.view.emb y) (512 * (t.val % 16)) (1536 + 128 * (t.val / 16))
    (fun y => by
      show cc0_transform_2 (grid0.coords t) 0 * 512 + 1 * (y 0).val = _
      rw [idx2]; show t.val % 16 * 512 + _ = _; omega)
    (fun y => by
      show cc0_transform_2 (grid0.coords t) 1 * 128 + 1 * (y 1).val = _
      rw [idx2]; show (12 + t.val / 16) * 128 + _ = _; omega)
    (by have := N_lt t; omega)

theorem iblk3_up : iblk m c 3 t = (up2 (φ := .bf16) fun r f => kv (0 + r) (128 * (t.val / 16) + f)) :=
  block_up _ H.kv (fun y => ((cfg0 (F := Ideal)).win 3).blk t |>.view.emb y) 0 (128 * (t.val / 16))
    (fun y => by
      show cc0_transform_3 (grid0.coords t) 0 * 8192 + 1 * (y 0).val = _
      rw [idx3]; show 0 * 8192 + _ = _; omega)
    (fun y => by
      show cc0_transform_3 (grid0.coords t) 1 * 128 + 1 * (y 1).val = _
      rw [idx3]; show t.val / 16 * 128 + _ = _; omega)
    (by have := N_lt t; omega)

theorem iblk4_up : iblk m c 4 t = (up2 (φ := .bf16) fun r f => kv (0 + r) (1536 + 128 * (t.val / 16) + f)) :=
  block_up _ H.kv (fun y => ((cfg0 (F := Ideal)).win 4).blk t |>.view.emb y) 0 (1536 + 128 * (t.val / 16))
    (fun y => by
      show cc0_transform_4 (grid0.coords t) 0 * 8192 + 1 * (y 0).val = _
      rw [idx4]; show 0 * 8192 + _ = _; omega)
    (fun y => by
      show cc0_transform_4 (grid0.coords t) 1 * 128 + 1 * (y 1).val = _
      rw [idx4]; show (12 + t.val / 16) * 128 + _ = _; omega)
    (by have := N_lt t; omega)

theorem iblk5_up : iblk m c 5 t = (up2 (φ := .f32) fun r f => o (512 * (t.val % 16) + r) (128 * (t.val / 16) + f)) :=
  block_up _ H.o (fun y => ((cfg0 (F := Ideal)).win 5).blk t |>.view.emb y) (512 * (t.val % 16)) (128 * (t.val / 16))
    (fun y => by
      show cc0_transform_5 (grid0.coords t) 0 * 512 + 1 * (y 0).val = _
      rw [idx5]; show t.val % 16 * 512 + _ = _; omega)
    (fun y => by
      show cc0_transform_5 (grid0.coords t) 1 * 128 + 1 * (y 1).val = _
      rw [idx5]; show t.val / 16 * 128 + _ = _; omega)
    (by have := N_lt t; omega)

/-- The point's prepared operands. -/
theorem rowAt_up : rowAt m c t = rowReal (headOf dy p kv o (t.val / 16)) (t.val % 16) := by
  unfold rowAt
  rw [iblk0_up H, iblk1_up H, iblk2_up H, iblk3_up H, iblk4_up H, iblk5_up H]
  unfold rowOf
  simp only [pay6_up, pay7_up, pay8_tri, pay13_up, pay14_up, pay10_up, pay15_up, Nat.zero_add]
  rfl

theorem pointAt_up (A B : ℕ → ℕ → ℕ → ℝ) : pointAt m c t (upA A, upA B) =
    { dq := up2 (φ := .bf16) fun r f => (∑ s ∈ range (512 * (t.val % 16) + r), (headOf dy p kv o (t.val / 16)).dz (512 * (t.val % 16) + r) s *
        (headOf dy p kv o (t.val / 16)).k s f) * scale
      dk := upA fun j f c => startOf (t.val % 16) A j f c + dkPart (headOf dy p kv o (t.val / 16)) (t.val % 16) j f c
      dv := upA fun j f c => startOf (t.val % 16) B j f c + dvPart (headOf dy p kv o (t.val / 16)) (t.val % 16) j f c } := by
  unfold pointAt
  rw [rowAt_up H, coord1]
  exact point_up _ (Nat.mod_lt _ (by decide)) A B

/-- The accumulators after each point. -/
theorem accs_up : ∀ (n : ℕ) (hn : n < (cfg0 (F := Ideal)).N), accs m c n =
    (upA (dkSum (headOf dy p kv o (n / 16)) (n % 16 + 1)), upA (dvSum (headOf dy p kv o (n / 16)) (n % 16 + 1))) := by
  intro n
  induction n with
  | zero =>
    intro hn
    rw [accs_eq m c ⟨0, hn⟩ (upA fun _ _ _ => 0, upA fun _ _ _ => 0) (fun h => absurd rfl h), pointAt_up H]
    dsimp only
    refine congrArg₂ Prod.mk (upA_congr fun j _ f _ c _ => ?_) (upA_congr fun j _ f _ c _ => ?_)
    · exact startOf_sum (dkPart _) 0 j f c
    · exact startOf_sum (dvPart _) 0 j f c
  | succ n ih =>
    intro hn
    have e := ih (by omega)
    by_cases h : (n + 1) % 16 = 0
    · rw [accs_eq m c ⟨n + 1, hn⟩ (upA fun _ _ _ => 0, upA fun _ _ _ => 0) (fun h' => absurd h h'), pointAt_up H]
      dsimp only
      rw [h]
      refine congrArg₂ Prod.mk (upA_congr fun j _ f _ c _ => ?_) (upA_congr fun j _ f _ c _ => ?_)
      · exact startOf_sum (dkPart _) 0 j f c
      · exact startOf_sum (dvPart _) 0 j f c
    · have hq : n / 16 = (n + 1) / 16 := by omega
      have hr : n % 16 + 1 = (n + 1) % 16 := by omega
      rw [hq, hr] at e
      rw [accs_eq m c ⟨n + 1, hn⟩ _ (fun _ => e.symm), pointAt_up H]
      dsimp only
      refine congrArg₂ Prod.mk (upA_congr fun j _ f _ c _ => ?_) (upA_congr fun j _ f _ c _ => ?_)
      · exact startOf_sum (dkPart _) _ j f c
      · exact startOf_sum (dvPart _) _ j f c

/-- Whatever the point starts from, its `dq`. -/
theorem dqAt_up : dqAt m c t = up2 (φ := .bf16) fun r f => (∑ s ∈ range (512 * (t.val % 16) + r),
    (headOf dy p kv o (t.val / 16)).dz (512 * (t.val % 16) + r) s * (headOf dy p kv o (t.val / 16)).k s f) * scale := by
  by_cases h : t.val % 16 = 0
  · rw [← dqAt_eq m c t (upA fun _ _ _ => 0, upA fun _ _ _ => 0) (fun h' => absurd h h'), pointAt_up H]
  · have e := accs_up H (t.val - 1) (by have := t.isLt; omega)
    unfold dqAt prev
    rw [e, pointAt_up H]

/-- The gate gradient's block. -/
theorem gateAt_up : gateOf (iblk m c 0 t) (iblk m c 2 t) (iblk m c 5 t) = up2 (φ := .bf16) fun r f =>
    dy (512 * (t.val % 16) + r) (128 * (t.val / 16) + f) * o (512 * (t.val % 16) + r) (128 * (t.val / 16) + f) *
      (sgf (gOf p (t.val / 16)) (512 * (t.val % 16) + r) f *
        (1 + gOf p (t.val / 16) (512 * (t.val % 16) + r) f * (1 - sgf (gOf p (t.val / 16)) (512 * (t.val % 16) + r) f))) := by
  unfold gateOf
  rw [iblk0_up H, iblk2_up H, iblk5_up H, pay11_up]
  rfl

end Blocks

/-! ## The arrays -/

section Results
variable (dy p kv o : ℕ → ℕ → ℝ)

def dqReal (t c : ℕ) : ℝ := (∑ s ∈ range t, (headOf dy p kv o (c / 128)).dz t s * kv s c) * scale
def gateReal (t c : ℕ) : ℝ := dy t c * o t c * (sgf (gOf p (c / 128)) t (c % 128) *
  (1 + p t (1536 + c) * (1 - sgf (gOf p (c / 128)) t (c % 128))))
def dkReal (h j f c : ℕ) : ℝ := (∑ t ∈ range 8192, p t (128 * h + f) * (headOf dy p kv o h).dz t (256 * j + c)) * scale
def dvReal (h j f c : ℕ) : ℝ := ∑ t ∈ range 8192, dOf dy p h t f * (headOf dy p kv o h).wt t (256 * j + c)

theorem dkSum_all (h j f c : ℕ) : dkSum (headOf dy p kv o h) 16 j f c = dkReal dy p kv o h j f c := by
  unfold dkSum dkPart dkReal
  rw [← Finset.sum_mul, sum_rows (fun t => (headOf dy p kv o h).q t f * (headOf dy p kv o h).dz t (256 * j + c))]
  rfl
theorem dvSum_all (h j f c : ℕ) : dvSum (headOf dy p kv o h) 16 j f c = dvReal dy p kv o h j f c := by
  unfold dvSum dvPart dvReal
  rw [sum_rows (fun t => (headOf dy p kv o h).d t f * (headOf dy p kv o h).wt t (256 * j + c))]
  rfl

variable {m} {c : Dev nD} {dy p kv o} (H : Inputs m c dy p kv o)

theorem covers6 : ((cfg0 (F := Ideal)).win 6).Covers := by decide +kernel
theorem covers7 : ((cfg0 (F := Ideal)).win 7).Covers := by decide +kernel
theorem covers8 : ((cfg0 (F := Ideal)).win 8).Covers := by decide +kernel
theorem covers9 : ((cfg0 (F := Ideal)).win 9).Covers := by decide +kernel

include H

theorem arr6 : (dats m 0 c).arrAt 6 (cfg0 (F := Ideal)).N = (up2 (dqReal dy p kv o) : FVec Ideal S8192x1536 .bf16) := by
  refine (dats m 0 c).arrAt_eq_of_covers 6 _ covers6 fun t _ y => ?_
  have h1 : (y 1).val < 128 := (y 1).isLt
  have e0 : ((((cfg0 (F := Ideal)).win 6).blk t).view.emb y 0).val = 512 * (t.val % 16) + (y 0).val := by
    show cc0_transform_6 (grid0.coords t) 0 * 512 + 1 * (y 0).val = _
    rw [idx6]; show t.val % 16 * 512 + _ = _; omega
  have e1 : ((((cfg0 (F := Ideal)).win 6).blk t).view.emb y 1).val = 128 * (t.val / 16) + (y 1).val := by
    show cc0_transform_6 (grid0.coords t) 1 * 128 + 1 * (y 1).val = _
    rw [idx6]; show t.val / 16 * 128 + _ = _; omega
  rw [after0_6, dqAt_up H]
  show (((∑ s ∈ range (512 * (t.val % 16) + (y 0).val), _ * _) * scale : ℝ) : EReal) = ((dqReal dy p kv o _ _ : ℝ) : EReal)
  rw [e0, e1]
  unfold dqReal
  rw [show (128 * (t.val / 16) + (y 1).val) / 128 = t.val / 16 from by omega]
  rfl

theorem arr7 : (dats m 0 c).arrAt 7 (cfg0 (F := Ideal)).N = (up2 (gateReal dy p o) : FVec Ideal S8192x1536 .bf16) := by
  refine (dats m 0 c).arrAt_eq_of_covers 7 _ covers7 fun t _ y => ?_
  have h1 : (y 1).val < 128 := (y 1).isLt
  have e0 : ((((cfg0 (F := Ideal)).win 7).blk t).view.emb y 0).val = 512 * (t.val % 16) + (y 0).val := by
    show cc0_transform_7 (grid0.coords t) 0 * 512 + 1 * (y 0).val = _
    rw [idx7]; show t.val % 16 * 512 + _ = _; omega
  have e1 : ((((cfg0 (F := Ideal)).win 7).blk t).view.emb y 1).val = 128 * (t.val / 16) + (y 1).val := by
    show cc0_transform_7 (grid0.coords t) 1 * 128 + 1 * (y 1).val = _
    rw [idx7]; show t.val / 16 * 128 + _ = _; omega
  rw [after0_7, gateAt_up H]
  show (((dy (512 * (t.val % 16) + (y 0).val) (128 * (t.val / 16) + (y 1).val) * _ * _ : ℝ)) : EReal) = ((gateReal dy p o _ _ : ℝ) : EReal)
  rw [e0, e1]
  unfold gateReal
  rw [show (128 * (t.val / 16) + (y 1).val) / 128 = t.val / 16 from by omega,
    show (128 * (t.val / 16) + (y 1).val) % 128 = (y 1).val from by omega, ← Nat.add_assoc]
  rfl

theorem arr8 : (dats m 0 c).arrAt 8 (cfg0 (F := Ideal)).N = (up4 (dkReal dy p kv o) : FVec Ideal S12x32x128x256 .f32) := by
  refine (dats m 0 c).arrAt_eq_of_covers 8 _ covers8 fun t hf y => ?_
  have hm : t.val % 16 = 15 := (flush0_8 t).1 hf
  have h0 : (y 0).val = 0 := Nat.lt_one_iff.1 (y 0).isLt
  have e0 : ((((cfg0 (F := Ideal)).win 8).blk t).view.emb y 0).val = t.val / 16 := by
    show cc0_transform_8 (grid0.coords t) 0 * 1 + 1 * (y 0).val = _
    rw [idx8]; show t.val / 16 * 1 + _ = _; omega
  have e1 : ((((cfg0 (F := Ideal)).win 8).blk t).view.emb y 1).val = (y 1).val := by
    show cc0_transform_8 (grid0.coords t) 1 * 32 + 1 * (y 1).val = _
    rw [idx8]; show 0 * 32 + _ = _; omega
  have e2 : ((((cfg0 (F := Ideal)).win 8).blk t).view.emb y 2).val = (y 2).val := by
    show cc0_transform_8 (grid0.coords t) 2 * 128 + 1 * (y 2).val = _
    rw [idx8]; show 0 * 128 + _ = _; omega
  have e3 : ((((cfg0 (F := Ideal)).win 8).blk t).view.emb y 3).val = (y 3).val := by
    show cc0_transform_8 (grid0.coords t) 3 * 256 + 1 * (y 3).val = _
    rw [idx8]; show 0 * 256 + _ = _; omega
  rw [after0_8, accs_up H t.val t.isLt, hm]
  show ((dkSum _ 16 (y 1).val (y 2).val (y 3).val : ℝ) : EReal) = ((dkReal dy p kv o _ _ _ _ : ℝ) : EReal)
  rw [e0, e1, e2, e3, dkSum_all]

theorem arr9 : (dats m 0 c).arrAt 9 (cfg0 (F := Ideal)).N = (up4 (dvReal dy p kv o) : FVec Ideal S12x32x128x256 .f32) := by
  refine (dats m 0 c).arrAt_eq_of_covers 9 _ covers9 fun t hf y => ?_
  have hm : t.val % 16 = 15 := (flush0_9 t).1 hf
  have h0 : (y 0).val = 0 := Nat.lt_one_iff.1 (y 0).isLt
  have e0 : ((((cfg0 (F := Ideal)).win 9).blk t).view.emb y 0).val = t.val / 16 := by
    show cc0_transform_9 (grid0.coords t) 0 * 1 + 1 * (y 0).val = _
    rw [idx9]; show t.val / 16 * 1 + _ = _; omega
  have e1 : ((((cfg0 (F := Ideal)).win 9).blk t).view.emb y 1).val = (y 1).val := by
    show cc0_transform_9 (grid0.coords t) 1 * 32 + 1 * (y 1).val = _
    rw [idx9]; show 0 * 32 + _ = _; omega
  have e2 : ((((cfg0 (F := Ideal)).win 9).blk t).view.emb y 2).val = (y 2).val := by
    show cc0_transform_9 (grid0.coords t) 2 * 128 + 1 * (y 2).val = _
    rw [idx9]; show 0 * 128 + _ = _; omega
  have e3 : ((((cfg0 (F := Ideal)).win 9).blk t).view.emb y 3).val = (y 3).val := by
    show cc0_transform_9 (grid0.coords t) 3 * 256 + 1 * (y 3).val = _
    rw [idx9]; show 0 * 256 + _ = _; omega
  rw [after0_9, accs_up H t.val t.isLt, hm]
  show ((dvSum _ 16 (y 1).val (y 2).val (y 3).val : ℝ) : EReal) = ((dvReal dy p kv o _ _ _ _ : ℝ) : EReal)
  rw [e0, e1, e2, e3, dvSum_all]

end Results

end Cert.Proof.SbBwd

end
-- ==== Proof.Reference.lean ====
/-
  The reference's four results on real arguments: the gradients the kernel's arrays hold.
-/
module

public import proofs.«01_k».proof.Proof.Attended
public import proofs.«01_k».proof.Proof.Arrays
public import proofs.«01_k».proof.Proof.Gen.ReferenceIdeal.Run

@[expose] public section

set_option backward.isDefEq.respectTransparency false

noncomputable section

namespace Cert.Proof.SbBwd

open Cert.ReferenceIdeal Cert.ReferenceIdeal.Gen Cert.ReferenceIdeal.Value
open Idealize.ShloMosaic Idealize.ShloMosaic.StableHlo Idealize.SL.Sem
open Finset (range Ico)

/-- A slice of an array, within its real columns. -/
theorem slice_real {φ : FTy} {a b n l b' : ℕ} {x : FVec Ideal ⟨2, ![a, b]⟩ φ} {X : ℕ → ℕ → ℝ} (hx : IsReal x n X)
    (h : (⟨2, ![a, b]⟩ : Shape).Slices ![0, l] ⟨2, ![a, b']⟩) (hn : l + b' ≤ n) :
    extractStridedSlice ⟨2, ![a, b']⟩ ![0, l] x h = (up2 (fun t c => X t (l + c)) : FVec Ideal ⟨2, ![a, b']⟩ φ) := by
  funext j
  have h1 : (j 1).val < b' := (j 1).isLt
  refine (hx _ (show l + (j 1).val < n by omega)).trans ?_
  show ((X (0 + (j 0).val) (l + (j 1).val) : ℝ) : EReal) = _
  rw [Nat.zero_add]; rfl

theorem sgf_eq (g : ℕ → ℕ → ℝ) (r f : ℕ) : sgf g r f = 1 / (1 + Real.exp (-g r f)) := by
  have key : ∀ y : ℝ, 1 / 2 * Real.tanh (1 / 2 * y) + 1 / 2 = 1 / (1 + Real.exp (-y)) := fun y => by
    have e1 : Real.exp (-y) = Real.exp (-(1 / 2 * y)) / Real.exp (1 / 2 * y) := by rw [← Real.exp_sub]; congr 1; ring
    have p1 := Real.exp_pos (1 / 2 * y)
    have p2 := Real.exp_pos (-(1 / 2 * y))
    rw [Real.tanh_eq_sinh_div_cosh, Real.sinh_eq, Real.cosh_eq, e1]
    field_simp
    ring
  exact key _

/-! ## The arithmetic of one head's gradient -/

section Arith
variable (H : Head) (t s : ℕ)

/-- What the softplus's derivative makes of the gradients: the reference adds the two branches, the kernel has them in one. -/
theorem dz_arith (er up σ : ℝ) : -(-(-(-er + up) * σ)) + -(-er * (1 - σ)) = er - up * σ := by ring

/-- The row's total is the sum of the products, when the forward output is the sum of the values by weight. -/
theorem tot_eq (ho : ∀ f < 128, H.o t f = ∑ s ∈ range 8192, H.wt t s * H.v s f) (ht : t < 8192) :
    H.tot t = ∑ s ∈ range t, H.er t s := by
  have h1 : H.tot t = ∑ s ∈ range 8192, H.er t s := by
    unfold Head.tot
    rw [Finset.sum_congr rfl fun f hf => by rw [ho f (Finset.mem_range.1 hf), Finset.mul_sum], Finset.sum_comm]
    refine Finset.sum_congr rfl fun s _ => ?_
    unfold Head.er prod
    rw [Finset.sum_mul]
    exact Finset.sum_congr rfl fun f _ => by ring
  rw [h1]
  symm
  refine Finset.sum_subset (fun x hx => by simp only [Finset.mem_range] at hx ⊢; omega) fun x _ hx => H.er_of_le ?_
  simpa using hx

theorem dz_eq (ho : ∀ f < 128, H.o t f = ∑ s ∈ range 8192, H.wt t s * H.v s f) (ht : t < 8192) (hs : s < t) :
    H.dz t s = H.er t s - (∑ s' ∈ range (s + 1), H.er t s') * Real.exp (zf H.q H.k t s - H.sp t s) := by
  unfold Head.dz
  rw [if_pos hs, tot_eq H t ho ht, ← Finset.sum_range_add_sum_Ico _ (Nat.succ_le_of_lt hs)]
  ring

end Arith

/-! ## The arguments -/

section Launch
variable {V0 : Valuation τ sig (Elt Ideal)} {dy p kv : ℕ → ℕ → ℝ}

/-- The real values of the reference's arguments. -/
structure RealArgs (V0 : Valuation τ sig (Elt Ideal)) (dy p kv : ℕ → ℕ → ℝ) : Prop where
  dy : IsReal (φ := .f32) (a := 8192) (b := 2048) (V0 (Proc.devRef .tc main_arg0)) 1536 dy
  p : IsReal (φ := .f32) (a := 8192) (b := 4096) (V0 (Proc.devRef .tc main_arg1)) 3072 p
  kv : IsReal (φ := .bf16) (a := 8192) (b := 3072) (V0 (Proc.devRef .tc main_arg2)) 3072 kv

/-- The logits. -/
def zOf (p kv : ℕ → ℕ → ℝ) (h : ℕ) : ℕ → ℕ → ℝ := zf (fun t f => p t (128 * h + f)) (fun s f => kv s (128 * h + f))
/-- The forward pass's output. -/
def oOf (p kv : ℕ → ℕ → ℝ) (t c : ℕ) : ℝ :=
  ∑ s ∈ range 8192, (if s < t then stopf (zOf p kv) (c / 128) t s else 0) * kv s (1536 + (128 * (c / 128) + c % 128))

variable (A : RealArgs V0 dy p kv)
include A

theorem v1_up : res_main_v1 V0 = (up2 (fun t c => p t (1536 + c)) : FVec Ideal S8192x1536 .f32) := slice_real A.p _ (by decide)
theorem v34_up : res_main_v34 V0 = (up2 dy : FVec Ideal S8192x1536 .f32) := by
  refine (slice_real A.dy _ (by decide)).trans ?_
  simp only [Nat.zero_add]
theorem v6_up : res_main_v6 V0 = (up3 (fun h t f => p t (128 * h + f)) : FVec Ideal S12x8192x128 .f32) := by
  refine (congrArg heads (slice_real A.p slices_S8192x4096_S8192x1536_0_0 (by decide))).trans ?_
  rw [heads_up]; simp only [Nat.zero_add]
theorem v8_up : res_main_v8 V0 = (up3 (fun h s f => kv s (128 * h + f)) : FVec Ideal S12x8192x128 .f32) := by
  refine (congrArg heads (slice_real (φ := .f32) (x := res_main_v0 V0) A.kv slices_S8192x3072_S8192x1536_0_0 (by decide))).trans ?_
  rw [heads_up]; simp only [Nat.zero_add]
theorem v10_up : res_main_v10 V0 = (up3 (fun h s f => kv s (1536 + (128 * h + f))) : FVec Ideal S12x8192x128 .f32) := by
  refine (congrArg heads (slice_real (φ := .f32) (x := res_main_v0 V0) A.kv slices_S8192x3072_S8192x1536_0_1536 (by decide))).trans ?_
  rw [heads_up]

/-! ## The forward pass -/

theorem v19_up : res_main_v19 V0 = (up3 (zOf p kv) : FVec Ideal S12x8192x8192 .f32) := by
  refine (show _ = logits (res_main_v6 V0) (res_main_v8 V0) from rfl).trans ?_
  rw [v6_up A, v8_up A, logits_up3]; rfl
theorem v27_up : res_main_v27 V0 = (up3 (stopf (zOf p kv)) : FVec Ideal S12x8192x8192 .f32) := by
  refine (show _ = stops (res_main_v19 V0) from rfl).trans ?_
  rw [v19_up A, stops_up3]
theorem v28_up : res_main_v28_0 V0 = (up3 (fun h t s => if s < t then stopf (zOf p kv) h t s else 0) : FVec Ideal S12x8192x8192 .f32) := by
  refine (show _ = weights (res_main_v19 V0) from rfl).trans ?_
  rw [v19_up A, weights_up3]
theorem v31_up : res_main_v31 V0 = (up2 (oOf p kv) : FVec Ideal S8192x1536 .f32) := by
  refine (show _ = attended (res_main_v6 V0) (res_main_v8 V0) (res_main_v10 V0) from rfl).trans ?_
  rw [v6_up A, v8_up A, v10_up A, attended_up3]; rfl

/-! ## The gate -/

omit A in
theorem whole2_one : (broadcastInDim S8192x1536 ![] bcast_S_S8192x1536 (constant S_ .f32 0x3F800000#32) : FVec Ideal S8192x1536 .f32) = up2 (fun _ _ => 1) :=
  funext fun _ => ofBits_one
theorem v32_up : res_main_v32_2 V0 = (up2 (fun t c => sgf (gOf p (c / 128)) t (c % 128)) : FVec Ideal S8192x1536 .f32) := by
  unfold res_main_v32_2
  rw [v1_up A, whole2_one, host_negf_up2, host_exp_up2, addf_up2, host_divf_up2 _ _ (fun _ _ => by positivity)]
  refine up2_congr fun t _ c _ => ?_
  rw [sgf_eq, gOf, Nat.add_assoc, Nat.div_add_mod]

theorem v32_0_up : res_main_v32_0 V0 = (up2 (fun t c => p t (1536 + c) * sgf (gOf p (c / 128)) t (c % 128)) : FVec Ideal S8192x1536 .f32) := by
  unfold res_main_v32_0
  rw [v1_up A, v32_up A, mulf_up2]
theorem v35_up : res_main_v35 V0 = (up2 (fun t c => oOf p kv t c * dy t c) : FVec Ideal S8192x1536 .f32) := by
  unfold res_main_v35
  rw [v31_up A, v34_up A, mulf_up2]
theorem v39_up : res_main_v39 V0 = (up3 (dOf dy p) : FVec Ideal S12x8192x128 .f32) := by
  refine (show _ = heads (mulf (res_main_v34 V0) (res_main_v32_0 V0)) from rfl).trans ?_
  rw [v34_up A, v32_0_up A, mulf_up2, heads_up]
  refine up3_congr fun h _ t _ f hf => ?_
  rw [show (128 * h + f) / 128 = h by omega, show (128 * h + f) % 128 = f by omega, ← Nat.add_assoc]
  rfl

/-! ## The logits' gradient -/

omit A in
theorem wt_head (o : ℕ → ℕ → ℝ) (h t s : ℕ) : (headOf dy p kv o h).wt t s = if s < t then stopf (zOf p kv) h t s else 0 := rfl

theorem v44_up : res_main_v44 V0 = (up3 (fun h => (headOf dy p kv (oOf p kv) h).er) : FVec Ideal S12x8192x8192 .f32) := by
  refine (show _ = mulf (select seen (Host.dotGeneral Cert.KernelIdeal.dot_S12x8192x128_S12x8192x128_S12x8192x8192_2_2_1_1_0_0 none
    (res_main_v39 V0) (res_main_v10 V0)) (whole 0x00000000#32)) (res_main_v27 V0) from rfl).trans ?_
  rw [v39_up A, v10_up A, v27_up A, dot_keys, whole_zero, seen_eq, select_low3, mulf_up3]
  refine up3_congr fun h _ t _ s _ => ?_
  unfold Head.er
  rw [wt_head]
  by_cases hs : s < t
  · rw [if_pos hs, if_pos hs]; simp only [← Nat.add_assoc]; rfl
  · rw [if_neg hs, if_neg hs, zero_mul, mul_zero]

/-- The sums up to each place. -/
def sumsUpTo (x : FVec Ideal S12x8192x8192 .f32) : FVec Ideal S12x8192x8192 .f32 :=
  Host.reduceWindowAdd ![1, 1, 8192] ![1, 1, 1] ![0, 0, 8191] ![0, 0, 0] x (broadcastInDim S_ ![] bcast_S_S_ (constant S_ .f32 0x00000000#32))
    reduceWindows_S12x8192x8192_S12x8192x8192_w1s1p0_0_w1s1p0_0_w8192s1p8191_0 h_S_
omit A in
theorem sumsUpTo_up3 (x : ℕ → ℕ → ℕ → ℝ) : sumsUpTo (up3 x) = up3 (fun h t s => ∑ s' ∈ range (s + 1), x h t s') := by
  unfold sumsUpTo
  rw [rowSums_up3 8191 0 x _ _ zero_init]
  exact up3_congr fun h _ t _ s hs => sum_upTo 8191 (x h t) s hs

/-- The derivative of a softplus `y` of `x`. -/
def slope (x y : FVec Ideal S12x8192x8192 .f32) : FVec Ideal S12x8192x8192 .f32 :=
  Host.exp (subf (select (cmpf .oeq x (whole 0x7F800000#32)) (whole 0x00000000#32) x) (select (cmpf .oeq y (whole 0x7F800000#32)) (whole 0x00000000#32) y))
omit A in
theorem slope_up3 (x y : ℕ → ℕ → ℕ → ℝ) : slope (up3 x) (up3 y) = up3 (fun h t s => Real.exp (x h t s - y h t s)) := by
  unfold slope
  rw [whole_inf, select_oeq, select_oeq, subf_up3, exp_up3]

omit A in
theorem o_at (o : ℕ → ℕ → ℝ) (h t f : ℕ) : (headOf dy p kv o h).o t f = o t (128 * h + f) := rfl
omit A in
theorem v_at (o : ℕ → ℕ → ℝ) (h s f : ℕ) : (headOf dy p kv o h).v s f = kv s (1536 + 128 * h + f) := rfl

omit A in
theorem o_head (h : ℕ) (t f : ℕ) (hf : f < 128) : (headOf dy p kv (oOf p kv) h).o t f =
    ∑ s ∈ range 8192, (headOf dy p kv (oOf p kv) h).wt t s * (headOf dy p kv (oOf p kv) h).v s f := by
  rw [o_at, oOf]
  rw [show (128 * h + f) / 128 = h by omega, show (128 * h + f) % 128 = f by omega]
  refine Finset.sum_congr rfl fun s _ => ?_
  rw [wt_head, v_at, ← Nat.add_assoc]

theorem v54_up : res_main_v54 V0 = (up3 (fun h t s => (headOf dy p kv (oOf p kv) h).dz t s * scale) : FVec Ideal S12x8192x8192 .f32) := by
  refine (show _ = mulf (addf
      (Host.negf (Host.negf (mulf (Host.negf (select seen (addf (Host.negf (res_main_v44 V0)) (sumsUpTo (res_main_v44 V0))) (whole 0x00000000#32)))
        (slope (Host.negf (Host.negf (res_main_v19 V0))) (splus (Host.negf (Host.negf (res_main_v19 V0))))))))
      (Host.negf (mulf (Host.negf (res_main_v44 V0)) (slope (Host.negf (res_main_v19 V0)) (splus (Host.negf (res_main_v19 V0)))))))
    (whole 0x3DB504F3#32) from rfl).trans ?_
  rw [v44_up A, v19_up A, sumsUpTo_up3, whole_zero, whole_scale, seen_eq]
  simp only [negf_up3, splus_up3, slope_up3, addf_up3, select_low3, mulf_up3]
  refine up3_congr fun h _ t ht s _ => ?_
  congr 1
  have e1 : - -zOf p kv h t s = zOf p kv h t s := neg_neg _
  rw [e1, softplus_neg, show -zOf p kv h t s - (Real.log (1 + Real.exp (zOf p kv h t s)) - zOf p kv h t s) =
    -Real.log (1 + Real.exp (zOf p kv h t s)) by ring, exp_neg_softplus]
  by_cases hs : s < t
  · rw [if_pos hs, dz_arith, dz_eq _ t s (fun f hf => o_head h t f hf) ht hs]
    rfl
  · rw [if_neg hs, Head.er_of_le _ (not_lt.1 hs), Head.dz_of_le _ (not_lt.1 hs)]; ring

/-! ## The results -/

omit A in
theorem zero_pad : (constant S_ .f32 0x00000000#32 : FVec Ideal S_ .f32) = fun _ => ((0 : ℝ) : EReal) := funext fun _ => ofBits_zero

theorem v65_up : res_main_v65 V0 = (up2 (fun s c =>
    (if 1536 ≤ c ∧ c - 1536 < 1536 then
      ∑ t ∈ range 8192, dOf dy p ((c - 1536) / 128) t ((c - 1536) % 128) * (headOf dy p kv (oOf p kv) ((c - 1536) / 128)).wt t s else 0) +
    (if 0 ≤ c ∧ c - 0 < 1536 then
      ∑ t ∈ range 8192, (headOf dy p kv (oOf p kv) ((c - 0) / 128)).dz t s * scale * p t (128 * ((c - 0) / 128) + (c - 0) % 128) else 0))
    : FVec Ideal S8192x3072 .f32) := by
  unfold res_main_v65
  rw [v39_up A, v28_up A, v54_up A, v6_up A]
  rw [dot_up3 (K := 8192) dot_S12x8192x128_S12x8192x8192_S12x128x8192_1_1_2_2_0_0 none rfl rfl _ _ (fun h f _ t => dOf dy p h t f)
    (fun h _ s t => if s < t then stopf (zOf p kv) h t s else 0)
    (fun j e => congrArg (up3 (dOf dy p)) (show _ = ValueIdx.ix3 (j 0) e (j 1) from funext fun a => by fin_cases a <;> rfl))
    (fun j e => congrArg (up3 _) (show _ = ValueIdx.ix3 (j 0) e (j 2) from funext fun a => by fin_cases a <;> rfl)),
   dot_up3 (K := 8192) dot_S12x8192x8192_S12x8192x128_S12x8192x128_1_1_2_2_0_0 none rfl rfl _ _
    (fun h s _ t => (headOf dy p kv (oOf p kv) h).dz t s * scale) (fun h _ f t => p t (128 * h + f))
    (fun j e => congrArg (up3 _) (show _ = ValueIdx.ix3 (j 0) e (j 1) from funext fun a => by fin_cases a <;> rfl))
    (fun j e => congrArg (up3 _) (show _ = ValueIdx.ix3 (j 0) e (j 2) from funext fun a => by fin_cases a <;> rfl))]
  rw [transpose_up3, unheads_up3 (W := 1536) _ rfl, unheads_up3 (W := 1536) _ rfl, pad_up2 _ _ _ _ zero_pad, pad_up2 _ _ _ _ zero_pad, addf_up2]
  rfl

theorem v69_up : res_main_v69 V0 = (up2 (fun t c =>
    (if 0 ≤ c ∧ c - 0 < 1536 then
      ∑ s ∈ range 8192, (headOf dy p kv (oOf p kv) ((c - 0) / 128)).dz t s * scale * kv s (128 * ((c - 0) / 128) + (c - 0) % 128) else 0) +
    (if 1536 ≤ c ∧ c - 1536 < 1536 then gateReal dy p (oOf p kv) t (c - 1536) else 0))
    : FVec Ideal S8192x4096 .bf16) := by
  unfold res_main_v69
  rw [v54_up A, v8_up A, v35_up A, v32_up A, v1_up A, whole2_one]
  rw [dot_up3 (K := 8192) dot_S12x8192x8192_S12x8192x128_S12x8192x128_2_1_1_2_0_0 none rfl rfl _ _
    (fun h t _ s => (headOf dy p kv (oOf p kv) h).dz t s * scale) (fun h _ f s => kv s (128 * h + f))
    (fun j e => congrArg (up3 _) (show _ = ValueIdx.ix3 (j 0) (j 1) e from funext fun a => by fin_cases a <;> rfl))
    (fun j e => congrArg (up3 _) (show _ = ValueIdx.ix3 (j 0) e (j 2) from funext fun a => by fin_cases a <;> rfl))]
  rw [unheads_up3 (W := 1536) _ rfl]
  simp only [mulf_up2, subf_up2, addf_up2]
  rw [pad_up2 _ _ _ _ zero_pad, pad_up2 _ _ _ _ zero_pad, addf_up2, truncf_up2]
  refine up2_congr fun t _ c _ => ?_
  congr 1
  by_cases hc : 1536 ≤ c ∧ c - 1536 < 1536
  · rw [if_pos hc, if_pos hc]; unfold gateReal; ring
  · rw [if_neg hc, if_neg hc]

/-- The queries' gradient, -/
theorem dq_up : extractStridedSlice S8192x1536 ![0, 0] (res_main_v69 V0) slices_S8192x4096_S8192x1536_0_0 =
    (up2 (dqReal dy p kv (oOf p kv)) : FVec Ideal S8192x1536 .bf16) := by
  rw [v69_up A, slice_up2]
  refine up2_congr fun t ht c hc => ?_
  simp only [Nat.zero_add, Nat.sub_zero]
  rw [if_pos ⟨Nat.zero_le _, hc⟩, if_neg (by omega), add_zero, Nat.div_add_mod]
  unfold dqReal
  rw [Finset.sum_mul]
  refine Eq.trans (Finset.sum_congr rfl fun s _ => mul_right_comm _ _ _) (Finset.sum_subset (fun x hx => ?_) fun s _ hs => ?_).symm
  · simp only [Finset.mem_range] at hx ⊢; omega
  · rw [Head.dz_of_le _ (by simpa using hs)]; ring
/-- the gate's, -/
theorem gate_up : extractStridedSlice S8192x1536 ![0, 1536] (res_main_v69 V0) slices_S8192x4096_S8192x1536_0_1536 =
    (up2 (gateReal dy p (oOf p kv)) : FVec Ideal S8192x1536 .bf16) := by
  rw [v69_up A, slice_up2]
  refine up2_congr fun t ht c hc => ?_
  rw [Nat.zero_add, if_neg (by omega), if_pos (by omega), zero_add, Nat.add_sub_cancel_left]
/-- the keys' -/
theorem dk_up : transpose S12x32x128x256 [2, 0, 3, 1] (shapeCast S32x256x12x128 (extractStridedSlice S8192x1536 ![0, 0] (res_main_v65 V0)
    slices_S8192x3072_S8192x1536_0_0) shapeCasts_S8192x1536_S32x256x12x128) transposes_S32x256x12x128_S12x32x128x256_2_0_3_1 =
    (up4 (dkReal dy p kv (oOf p kv)) : FVec Ideal S12x32x128x256 .f32) := by
  rw [v65_up A, slice_up2, blocks_up2 _ rfl rfl]
  refine up4_congr fun h hh j hj f hf c hc => ?_
  simp only [Nat.zero_add, Nat.sub_zero]
  rw [if_neg (by omega), if_pos (by omega), zero_add, show (128 * h + f) / 128 = h by omega, show (128 * h + f) % 128 = f by omega]
  unfold dkReal
  rw [Finset.sum_mul]
  exact Finset.sum_congr rfl fun t _ => by ring
/-- and the values'. -/
theorem dv_up : transpose S12x32x128x256 [2, 0, 3, 1] (shapeCast S32x256x12x128 (extractStridedSlice S8192x1536 ![0, 1536] (res_main_v65 V0)
    slices_S8192x3072_S8192x1536_0_1536) shapeCasts_S8192x1536_S32x256x12x128) transposes_S32x256x12x128_S12x32x128x256_2_0_3_1 =
    (up4 (dvReal dy p kv (oOf p kv)) : FVec Ideal S12x32x128x256 .f32) := by
  rw [v65_up A, slice_up2, blocks_up2 _ rfl rfl]
  refine up4_congr fun h hh j hj f hf c hc => ?_
  rw [if_pos (by omega), if_neg (by omega), add_zero, Nat.add_sub_cancel_left, Nat.zero_add, show (128 * h + f) / 128 = h by omega,
    show (128 * h + f) % 128 = f by omega]
  rfl

end Launch

end Cert.Proof.SbBwd

end
-- ==== Proof.Finite.lean ====
/-
  What the precondition gives: every element of the columns the kernel reads is a real number.
-/
module

public import proofs.«01_k».proof.Pre_finite
public import proofs.«01_k».proof.Proof.Arrays
public import Idealize.ShloMosaic.Lib.ReduceAll
public import Idealize.ShloMosaic.Lib.KernelVsHost

@[expose] public section

set_option backward.isDefEq.respectTransparency false

noncomputable section

namespace Cert.Proof.SbBwd

open Cert.Pre_finite Cert.Pre_finite.Facts
open Idealize.ShloMosaic

instance facts_finite : Cert.Pre_finite.Facts where
  slices_S8192x2048_S8192x1536_0_0 := by decide
  bcast_S_S8192x1536 := by decide
  reducesTo_S8192x1536_S_d0_1 := by decide
  h_S_ := by decide
  slices_S8192x4096_S8192x3072_0_0 := by decide
  bcast_S_S8192x3072 := by decide
  reducesTo_S8192x3072_S_d0_1 := by decide

theorem ofBits_inf_bf16 : (Ideal.ofBits .bf16 0x7F80#16 : EReal) = ⊤ := by
  simp [Ideal.ofBits, Ideal.ieee]

/-- A number whose absolute value is below `⊤` is real. -/
theorem real_of_olt {φ : FTy} (x : EReal) (h : FloatOps.cmpf (F := Ideal) (φ := φ) .olt (max x (-x)) ⊤ = 1#1) : x = ((x.toReal : ℝ) : EReal) := by
  have h' : BitVec.ofBool (decide (max x (-x) < ⊤)) = 1#1 := h
  have hlt : max x (-x) < ⊤ := by
    by_contra hn
    rw [decide_eq_false hn] at h'
    exact absurd h' (by decide)
  refine (EReal.coe_toReal ?_ ?_).symm
  · rintro rfl; simp at hlt
  · rintro rfl; simp at hlt

/-- The real values of an array. -/
def realOf {φ : FTy} {a b : ℕ} (x : FVec Ideal ⟨2, ![a, b]⟩ φ) (t c : ℕ) : ℝ :=
  if h : t < a ∧ c < b then EReal.toReal (x (ValueIdx.ix2 ⟨t, h.1⟩ ⟨c, h.2⟩)) else 0

theorem isReal_of {φ : FTy} {a b n : ℕ} (x : FVec Ideal ⟨2, ![a, b]⟩ φ) (h : ∀ i : (⟨2, ![a, b]⟩ : Shape).Idx, (i 1).val < n →
    FloatOps.cmpf (F := Ideal) (φ := φ) .olt (max (x i) (-(x i))) ⊤ = 1#1) : IsReal x n (realOf x) := fun i hi => by
  rw [real_of_olt _ (h i hi)]
  unfold realOf
  rw [dif_pos ⟨(i 0).isLt, (i 1).isLt⟩]
  exact congrArg (fun j => ((EReal.toReal (x j) : ℝ) : EReal)) (funext fun d => by fin_cases d <;> rfl)

instance : Subsingleton (S_.Idx) := ⟨fun a b => funext fun d => d.elim0⟩

/-- A slice's first columns are the array's. -/
theorem slice_at {φ : FTy} {a b n : ℕ} (x : FVec Ideal ⟨2, ![a, b]⟩ φ) (h : (⟨2, ![a, b]⟩ : Shape).Slices ![0, 0] ⟨2, ![a, n]⟩)
    (i : (⟨2, ![a, b]⟩ : Shape).Idx) (hi : (i 1).val < n) :
    extractStridedSlice ⟨2, ![a, n]⟩ ![0, 0] x h (ValueIdx.ix2 (i 0) ⟨(i 1).val, hi⟩) = x i :=
  congrArg x (funext fun d => by
    fin_cases d
    · exact Fin.ext (Nat.zero_add _)
    · exact Fin.ext (Nat.zero_add _))

theorem inputs_of_finite (x0 : FVec Ideal S8192x2048 .f32) (x1 : FVec Ideal S8192x4096 .f32) (x2 : FVec Ideal S8192x3072 .bf16)
    (h : Cert.Pre_finite.fn x0 x1 x2 = fun _ => 1#1) :
    IsReal x0 1536 (realOf x0) ∧ IsReal x1 3072 (realOf x1) ∧ IsReal x2 3072 (realOf x2) := by
  have h' := congrFun h ValueIdx.ix0
  dsimp only [Cert.Pre_finite.fn] at h'
  obtain ⟨h01, h2⟩ := IntOp.andi_eq_one.1 h'
  obtain ⟨h0, h1⟩ := IntOp.andi_eq_one.1 h01
  refine ⟨isReal_of _ fun i hi => ?_, isReal_of _ fun i hi => ?_, isReal_of _ fun i hi => ?_⟩
  · have e := Host.reduce_andi_all _ _ _ _ _ h0 (ValueIdx.ix2 (i 0) ⟨(i 1).val, hi⟩)
    rw [ValueIdx.cmpf_apply] at e
    rw [← ofBits_inf, ← slice_at x0 slices_S8192x2048_S8192x1536_0_0 i hi]
    exact e
  · have e := Host.reduce_andi_all _ _ _ _ _ h1 (ValueIdx.ix2 (i 0) ⟨(i 1).val, hi⟩)
    rw [ValueIdx.cmpf_apply] at e
    rw [← ofBits_inf, ← slice_at x1 slices_S8192x4096_S8192x3072_0_0 i hi]
    exact e
  · have e := Host.reduce_andi_all _ _ _ _ _ h2 i
    rw [ValueIdx.cmpf_apply] at e
    rw [← ofBits_inf_bf16]
    exact e

end Cert.Proof.SbBwd

end
-- ==== Proof.Value.lean ====
/-
  The kernel's four arrays at the end of its run are the reference's four results.
-/
module

public import proofs.«01_k».proof.Proof.Reference
public import proofs.«01_k».proof.Proof.Finite

@[expose] public section

set_option backward.isDefEq.respectTransparency false

noncomputable section

namespace Cert.Proof.SbBwd

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (c : Dev nD)

/-- What the kernel finds, from what `main` is given. -/
theorem inputs_of_args {dy p kv : ℕ → ℕ → ℝ}
    (hdy : IsReal (φ := .f32) (a := 8192) (b := 2048) (m ((c.tc : Thread nD τ).loc main_arg0)) 1536 dy)
    (hp : IsReal (φ := .f32) (a := 8192) (b := 4096) (m ((c.tc : Thread nD τ).loc main_arg1)) 3072 p)
    (hkv : IsReal (φ := .bf16) (a := 8192) (b := 3072) (m ((c.tc : Thread nD τ).loc main_arg2)) 3072 kv) :
    Inputs m c dy p kv (oOf p kv) where
  dy := by rw [V_main_arg0]; exact hdy
  p := by rw [V_main_arg1]; exact hp
  kv := by rw [V_main_arg2]; exact hkv
  o := fun i _ => by
    have e : V m c main_v30 = (up2 (oOf p kv) : FVec Ideal S8192x1536 .f32) := by
      have hkv' : IsReal (φ := .f32) (a := 8192) (b := 3072) (extf .f32 (m ((c.tc : Thread nD τ).loc main_arg2)) bitsLt_bf16_f32) 3072 kv := hkv
      rw [V_main_v30, slice_real hp slices_S8192x4096_S8192x1536_0_0 (by decide), slice_real hkv' slices_S8192x3072_S8192x1536_0_0 (by decide),
        slice_real hkv' slices_S8192x3072_S8192x1536_0_1536 (by decide), heads_up, heads_up, heads_up, attended_up3]
      simp only [Nat.zero_add]
      rfl
    rw [e]; rfl

end Cert.Proof.SbBwd

end
-- ==== Proof.Countdown.lean ====
/-
  A kernel loop that counts key blocks down, over any program: as a function (`walk`), and as the specification a label that
  calls itself meets (`walk_spec_le`), by induction on the blocks left.  Before that, loads and stores of owned memrefs over
  any program.
-/
module

public import proofs.«01_k».proof.Proof.Body

@[expose] public section

noncomputable section

namespace Cert.Proof.Countdown

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-! ## The walk -/

/-- From state `s` with `n` blocks left: it stops at 0 or when the state is dead, and says how many are left. -/
def walk {S : Type} (alive : S → BitVec 32) (step : ℕ → S → S) : ℕ → S → ℕ × S
  | 0, s => (0, s)
  | n + 1, s => if Scalar.cmpi .sgt (alive s) 0#32 = 1#1 then walk alive step n (step n s) else (n + 1, s)

/-- It leaves at most the blocks it was given. -/
theorem walk_le {S : Type} (alive : S → BitVec 32) (step : ℕ → S → S) : ∀ (n : ℕ) (s : S), (walk alive step n s).1 ≤ n
  | 0, _ => le_rfl
  | n + 1, s => by
    rw [walk]; split
    · exact (walk_le alive step n _).trans (Nat.le_succ n)
    · exact le_rfl

/-- While the state before every block is alive it goes through all of them. -/
theorem walk_all {S : Type} (alive : S → BitVec 32) (step : ℕ → S → S) (st : ℕ → S)
    (ha : ∀ n, Scalar.cmpi .sgt (alive (st n)) 0#32 = 1#1) (hst : ∀ n, step n (st (n + 1)) = st n) :
    ∀ n, walk alive step n (st n) = (0, st 0)
  | 0 => rfl
  | n + 1 => by rw [walk, if_pos (ha _), hst n]; exact walk_all alive step st ha hst n

/-! ## Loads and stores of owned memrefs -/

variable {nD : ℕ} {τ : Topo} {sig : RefSig} {F : FTy → Type} {Λ : Labels}

local notation "𝕄" => MT nD τ sig Unit (Elt F) ℕ (UR sig nD τ) ℕ

variable (D : Defs nD τ sig (Elt F) Λ) (c : Dev nD) (bd : Option Variants.nat.V) (E : Set ℕ)

section Access

variable {s : Shape} {e : EltTy}

/-- A load of a block of an owned memref reads that block of its contents. -/
theorem wp_load_block {α : Type} {Q : α → sProp 𝕄} {M : Memref sig .tc .vmem s e} {q : PosShare TreeShare} {X : s.Idx → Elt F e}
    {off off' size : Fin s.rank → ℕ} (inb : ∀ a, off a + size a ≤ s.size a) (h : off = off') (inb' : ∀ a, off' a + size a ≤ s.size a)
    {hl : M.view.LoadsAt (Rect.unit off size inb).toLoadRect}
    {k : ((Rect.unit off size inb).shape.Idx → Elt F e) → Prog (TpuEff nD τ sig (Elt F) Λ .tc) α} :
    (owns (c : Thread nD τ) M q X : sProp 𝕄)
      ⊢ iprop((owns (c : Thread nD τ) M q X
          -∗ wp frame (wpE D Variants.nat (c : Thread nD τ) bd) E (k (VecWindow.window X off' size inb')) Q)
        -∗ wp frame (wpE D Variants.nat (c : Thread nD τ) bd) E (.op (.load M (Rect.unit off size inb).toLoadRect hl) k) Q) := by
  unfold owns
  iintro ⟨%f, %hf, H⟩
  iintro Hk
  iapply (wp_load Variants.nat (c : Thread nD τ) bd E (m := M) (View.setOn_subset_set _ _)) $$ H
  iintro H
  rw [View.readAt_unit M.view f inb h inb', hf]
  iapply Hk
  iexists f
  isplitr
  · ipureintro; exact hf
  · iexact H

/-- A load of all of an owned memref reads its contents. -/
theorem wp_load_all {α : Type} {Q : α → sProp 𝕄} {M : Memref sig .tc .vmem s e} {q : PosShare TreeShare} {X : s.Idx → Elt F e}
    {off : Fin s.rank → ℕ} (inb : ∀ a, off a + s.size a ≤ s.size a)
    {hl : M.view.LoadsAt (Rect.unit off s.size inb).toLoadRect}
    {k : ((Rect.unit off s.size inb).shape.Idx → Elt F e) → Prog (TpuEff nD τ sig (Elt F) Λ .tc) α} :
    (owns (c : Thread nD τ) M q X : sProp 𝕄)
      ⊢ iprop((owns (c : Thread nD τ) M q X
          -∗ wp frame (wpE D Variants.nat (c : Thread nD τ) bd) E (k X) Q)
        -∗ wp frame (wpE D Variants.nat (c : Thread nD τ) bd) E (.op (.load M (Rect.unit off s.size inb).toLoadRect hl) k) Q) := by
  unfold owns
  iintro ⟨%f, %hf, H⟩
  iintro Hk
  iapply (wp_load Variants.nat (c : Thread nD τ) bd E (m := M) (View.setOn_subset_set _ _)) $$ H
  iintro H
  rw [View.readAt_full M.view f inb, hf]
  iapply Hk
  iexists f
  isplitr
  · ipureintro; exact hf
  · iexact H

/-- A store over all of an owned memref. -/
theorem wp_store_all {α : Type} {Q : α → sProp 𝕄} {M : Memref sig .tc .vmem s e} {X : s.Idx → Elt F e}
    {off : Fin s.rank → ℕ} (inb : ∀ a, off a + s.size a ≤ s.size a)
    {w : (Rect.unit off s.size inb).shape.Idx → Elt F e} {hx : (M.access (Rect.unit off s.size inb)).Stores Finset.univ}
    {hm : Finset.univ = Finset.univ ∨ ∀ a, (Rect.unit off s.size inb).stride a = 1}
    {k : PUnit → Prog (TpuEff nD τ sig (Elt F) Λ .tc) α} :
    (owns (c : Thread nD τ) M fullShare X : sProp 𝕄)
      ⊢ iprop((owns (c : Thread nD τ) M fullShare w
          -∗ wp frame (wpE D Variants.nat (c : Thread nD τ) bd) E (k ⟨⟩) Q)
        -∗ wp frame (wpE D Variants.nat (c : Thread nD τ) bd) E (.op (.store M (Rect.unit off s.size inb) w Finset.univ hx hm) k) Q) := by
  unfold owns
  iintro ⟨%f, %hf, H⟩
  iintro Hk
  iapply (wp_store_writes₀ Variants.nat (c : Thread nD τ) bd E (m := M) (View.set_slice_subset _ _)) $$ H
  iintro H
  iapply Hk
  iexists _
  isplitr
  · ipureintro
    exact View.read_writes_full M.view f inb w []
  · iexact H

end Access

/-! ## The walk as a label's specification -/

section Label

variable {S : Type} (alive : S → BitVec 32) (step : ℕ → S → S) (ℓ : Λ.Label) (arg : ℕ → S → Λ.Args ℓ) (res : ℕ × S → Λ.Result ℓ)

/-- With `n` blocks left from state `s`, over what the loop reads (`H`). -/
def walkSpec (H : sProp 𝕄) (n : ℕ) (s : S) : sWPT 𝕄 (Λ.Result ℓ) := do
  sWPT.consume H
  sWPT.produce H
  pure (res (walk alive step n s))

theorem walkSpec_apply (H : sProp 𝕄) (n : ℕ) (s : S) (K : Λ.Result ℓ → sProp 𝕄) :
    (walkSpec alive step ℓ res H n s : (Λ.Result ℓ → sProp 𝕄) → sProp 𝕄) K = iprop(H ∗ (H -∗ K (res (walk alive step n s)))) := rfl

/-- A label meets the specification if it returns at 0 and at a dead state and, at a live one, does one step and calls itself. -/
theorem walkSpec_le (H : sProp 𝕄)
    (hzero : ∀ s, D .tc ℓ (arg 0 s) = .ret (res (0, s)))
    (hdead : ∀ n < 32, ∀ s, ¬Scalar.cmpi .sgt (alive s) 0#32 = 1#1 → D .tc ℓ (arg (n + 1) s) = .ret (res (n + 1, s)))
    (hstep : ∀ n < 32, ∀ s, Scalar.cmpi .sgt (alive s) 0#32 = 1#1 → ∀ K : Λ.Result ℓ → sProp 𝕄,
      iprop(H ∗ (H -∗ wp frame (wpE D Variants.nat (c : Thread nD τ) (some (n + 1))) E (.op (.call ℓ (arg n (step n s))) .ret) K))
        ⊢ wp frame (wpE D Variants.nat (c : Thread nD τ) (some (n + 1))) E (D .tc ℓ (arg (n + 1) s)) K) :
    ∀ (n : ℕ), n ≤ 32 → ∀ (s : S) (K : Λ.Result ℓ → sProp 𝕄), (walkSpec alive step ℓ res H n s K : sProp 𝕄)
      ⊢ wp frame (wpE D Variants.nat (c : Thread nD τ) (some n)) E (D .tc ℓ (arg n s)) K := by
  intro n
  induction n with
  | zero =>
    intro _ s K
    rw [walkSpec_apply, hzero s, walk]
    iintro ⟨H, Hk⟩
    rw [wp_ret]; imodintro
    iapply Hk
    iexact H
  | succ n ih =>
    intro hn s K
    rw [walkSpec_apply]
    by_cases ha : Scalar.cmpi .sgt (alive s) 0#32 = 1#1
    · refine BIBase.Entails.trans ?_ (hstep n hn s ha K)
      rw [walk, if_pos ha]
      iintro ⟨H, Hk⟩
      isplitl [H]; · iexact H
      iintro H
      iapply (wp_call_spec Variants.nat (c : Thread nD τ) (some (n + 1)) E (walkSpec alive step ℓ res H n (step n s)) n
        (fun u hu => by cases hu; exact Nat.lt_succ_self n) (ih (by omega) (step n s)))
      rw [walkSpec_apply]
      isplitl [H]; · iexact H
      iintro H
      rw [wp_ret]; imodintro
      iapply Hk
      iexact H
    · rw [hdead n hn s ha, walk, if_neg ha]
      iintro ⟨H, Hk⟩
      rw [wp_ret]; imodintro
      iapply Hk
      iexact H

end Label

/-! ## What the forward pass's two programs share -/

/-- The values a loop carries: whether a row is alive, the sums passed and the lines attended so far. -/
structure Carried (F : FTy → Type) (a b : Shape) where
  alive : BitVec 32
  gone : FVec F a .f32
  acc : FVec F b .f32

end Cert.Proof.Countdown

end
-- ==== Proof.PrintedFwd.lean ====
/-
  The printed forward kernel's frame.  Its loop records and labels are its own declarations, so its functions, its body's
  triple and its launch are stated over them; the loads, the stores and the walk are `Countdown.lean`'s.
-/
module

public import proofs.«01_k».proof.Proof.Countdown
public import proofs.«01_k».proof.Proof.Gen.Kernel13.Skeleton
public import proofs.«01_k».proof.Proof.Gen.Kernel13.Launch
public import proofs.«01_k».proof.Proof.Gen.Kernel13.Points
public import Idealize.ShloMosaic.Lib.Pipeline.FrameSuffix
public import Idealize.ShloMosaic.Lib.Claim

@[expose] public section

noncomputable section

namespace Cert.Proof.SbFwdBits

open Cert.Kernel13 Cert.Kernel13.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof.SbBwd (Keys KBlk kblk ctr kofs kofs_inb ctr_zero_test ctr_succ ctr_succ_test sub_one ctr_start)
open Cert.Proof.Countdown

variable {F : FTy → Type} [FloatOps F]

local notation "𝕄" => MT nD τ sig Unit (Elt F) ℕ (UR sig nD τ) ℕ

/-! ## What a grid point computes -/

/-- Whether a least `gone` is still below the threshold, as the loops carry it. -/
def below (x : F .f32) : BitVec 32 := Scalar.extui (Scalar.cmpf .olt x (Scalar.ofBits .f32 0x42DC0000#32))

abbrev Tall (F : FTy → Type) := Carried F S512x1 S512x128
abbrev Half (F : FTy → Type) := Carried F S256x1 S256x128

def step1 (q : FVec F S512x128 .bf16) (k v : Keys F) (n : ℕ) (s : Tall F) : Tall F :=
  ⟨below (k0_pay4 (k0_pay35 q s.gone (kblk k n))), k0_pay33 q s.gone (kblk k n),
    k0_pay34 q (k0_pay7 (F := F)) s.gone s.acc (kblk k n) (kblk v n)⟩

def step2 (q : FVec F S512x128 .bf16) (k v : Keys F) (n : ℕ) (s : Half F) : Half F :=
  ⟨below (k0_pay5 (k0_pay40 q s.gone (kblk k n))), k0_pay38 q s.gone (kblk k n),
    k0_pay39 q (k0_pay7 (F := F)) s.gone s.acc (kblk k n) (kblk v n)⟩

def own1 (q : Vec F S512x128 .f32) (k v : Keys F) (n : ℕ) : Tall F :=
  ⟨1#32, k0_pay17 (k0_pay8 (F := F)) (k0_pay10 (F := F)) (k0_pay15 q (kblk k n)),
    k0_pay18 (k0_pay7 (F := F)) (k0_pay9 (F := F)) (k0_pay10 (F := F)) (k0_pay11 (F := F)) k0_pay12 (kblk v n)
      (k0_pay13 q (kblk k n)) (k0_pay14 q (kblk k n)) (k0_pay16 q (kblk k n))⟩

def own0 (q : FVec F S512x128 .bf16) (k v : Keys F) (n : ℕ) (s : Tall F) : Tall F :=
  ⟨below (k0_pay27 s.gone k0_pay19 (k0_pay20 q (kblk k n)) (k0_pay21 q (kblk k n)) (k0_pay22 q (kblk k n))),
    k0_pay25 s.gone k0_pay19 (k0_pay20 q (kblk k n)) (k0_pay21 q (kblk k n)) (k0_pay22 q (kblk k n)),
    k0_pay26 (k0_pay7 (F := F)) s.gone s.acc k0_pay19 (kblk v n) (k0_pay20 q (kblk k n)) (k0_pay21 q (kblk k n)) (k0_pay22 q (kblk k n))⟩

def lower (s : Tall F) : Half F := ⟨below (k0_pay1 (k0_pay30 s.gone)), k0_pay28 s.gone, k0_pay29 s.acc⟩

def after0 (q : Vec F S512x128 .f32) (k v : Keys F) (i : ℕ) : Tall F := own0 (k0_pay6 q) k v (2 * i) (own1 q k v (2 * i + 1))
def after1 (q : Vec F S512x128 .f32) (k v : Keys F) (i : ℕ) : ℕ × Tall F :=
  walk Carried.alive (step1 (k0_pay6 q) k v) (2 * i) (after0 q k v i)
def after2 (q : Vec F S512x128 .f32) (k v : Keys F) (i : ℕ) : ℕ × Half F :=
  walk Carried.alive (step2 (k0_pay6 q) k v) (after1 q k v i).1 (lower (after1 q k v i).2)

/-! ## The loops' labels -/

section Labels

variable (c : Dev nD) (E : Set ℕ) (i : grid0.Coords)
  (arg4 : Memref sig .tc .vmem S8192x128 .bf16) (harg4 : arg4.IsWhole) (arg5 : Memref sig .tc .vmem S8192x128 .bf16) (harg5 : arg5.IsWhole)
  (q : FVec F S512x128 .bf16) (k v : Keys F)

def held : sProp 𝕄 := iprop(owns (c : Thread nD τ) arg4 fullShare k ∗ owns (c : Thread nD τ) arg5 fullShare v)

def args1 (n : ℕ) (s : Tall F) : (Λ₀ F).Args (1 : (Λ₀ F).Label) := ⟨i, arg4, harg4, arg5, harg5, q, k0_pay7 (F := F), ctr n, s.alive, s.gone, s.acc⟩
def args2 (n : ℕ) (s : Half F) : (Λ₀ F).Args (2 : (Λ₀ F).Label) := ⟨i, arg4, harg4, arg5, harg5, q, k0_pay7 (F := F), ctr n, s.alive, s.gone, s.acc⟩
def res1 (s : ℕ × Tall F) : (Λ₀ F).Result (1 : (Λ₀ F).Label) := (ctr s.1, s.2.alive, s.2.gone, s.2.acc)
def res2 (s : ℕ × Half F) : (Λ₀ F).Result (2 : (Λ₀ F).Label) := (ctr s.1, s.2.alive, s.2.gone, s.2.acc)

/-- Both loops read key block `n` at `kofs n`, in range. -/
theorem blocks : ∀ n < 32, (k0_off2 (BitVec.ofNat 32 n) = kofs n ∧ k0_chk1 (BitVec.ofNat 32 n))
    ∧ k0_off3 (BitVec.ofNat 32 n) = kofs n ∧ k0_chk2 (BitVec.ofNat 32 n) := fun n hn =>
  (by decide : ∀ n : Fin 32, (k0_off2 (BitVec.ofNat 32 n.val) = kofs n.val ∧ k0_chk1 (BitVec.ofNat 32 n.val))
    ∧ k0_off3 (BitVec.ofNat 32 n.val) = kofs n.val ∧ k0_chk2 (BitVec.ofNat 32 n.val)) ⟨n, hn⟩

theorem own_blocks (i : grid0.Coords) : k0_off1 i 1#32 = kofs (2 * (i 1).val + 1) ∧ k0_off1 i 0#32 = kofs (2 * (i 1).val) := by
  have h : ∀ j : Fin 16, k0_off1 (fun | 0 => (0 : Fin 12) | 1 => j) 1#32 = kofs (2 * j.val + 1)
      ∧ k0_off1 (fun | 0 => (0 : Fin 12) | 1 => j) 0#32 = kofs (2 * j.val) := by decide
  exact h (i 1)

theorem loop1_le (n : ℕ) (hn : n ≤ 32) (s : Tall F) (K : (Λ₀ F).Result (1 : (Λ₀ F).Label) → sProp 𝕄) :
    (walkSpec Carried.alive (step1 q k v) (1 : (Λ₀ F).Label) res1 (held c arg4 arg5 k v) n s K : sProp 𝕄)
      ⊢ wp frame (wpE (defs₀ (F := F)) Variants.nat (c : Thread nD τ) (some n)) E
          (defs₀ (F := F) .tc (1 : (Λ₀ F).Label) (args1 i arg4 harg4 arg5 harg5 q n s)) K := by
  refine walkSpec_le (defs₀ (F := F)) c E Carried.alive (step1 q k v) (1 : (Λ₀ F).Label)
    (args1 i arg4 harg4 arg5 harg5 q) res1 (held c arg4 arg5 k v) (fun s => ?_) (fun n hn s ha => ?_) (fun n hn s ha K => ?_) n hn s K
  · show cc0_while1 i arg4 harg4 arg5 harg5 q _ (ctr 0) s.alive s.gone s.acc = _
    simp only [cc0_while1_eq_skeleton]; unfold cc0_while1_skel
    simp only [ctr_zero_test s.alive, ↓reduceIte, Prog.pure_eq_ret]; rfl
  · show cc0_while1 i arg4 harg4 arg5 harg5 q _ (ctr (n + 1)) s.alive s.gone s.acc = _
    rw [ctr_succ n hn]
    simp only [cc0_while1_eq_skeleton]; unfold cc0_while1_skel
    simp only [(ctr_succ_test n hn s.alive).not.mpr ha, ↓reduceIte, Prog.pure_eq_ret]
    rw [← ctr_succ n hn]; rfl
  · show _ ⊢ wp frame (wpE (defs₀ (F := F)) Variants.nat (c : Thread nD τ) (some (n + 1))) E
      (cc0_while1 i arg4 harg4 arg5 harg5 q _ (ctr (n + 1)) s.alive s.gone s.acc) K
    rw [ctr_succ n hn]
    simp only [cc0_while1_eq_skeleton]; unfold cc0_while1_skel
    simp only [(ctr_succ_test n hn s.alive).mpr ha, ↓reduceIte, k0_part4_eq_skeleton]
    unfold k0_part4_skel held
    simp only [Prog.lift, Prog.bind_op, Prog.bind_ret, Prog.pure_eq_ret, sub_one]
    iintro ⟨⟨H4, H5⟩, Hk⟩
    iapply (wp_assume Variants.nat (c : Thread nD τ) (some (n + 1)) E (blocks n hn).1.2)
    iapply (wp_load_block _ c (some (n + 1)) E _ (blocks n hn).1.1 (kofs_inb n)) $$ H4; iintro H4
    iapply (wp_load_block _ c (some (n + 1)) E _ (blocks n hn).1.1 (kofs_inb n)) $$ H5; iintro H5
    iapply Hk
    isplitl [H4]; · iexact H4
    iexact H5

theorem loop2_le (n : ℕ) (hn : n ≤ 32) (s : Half F) (K : (Λ₀ F).Result (2 : (Λ₀ F).Label) → sProp 𝕄) :
    (walkSpec Carried.alive (step2 q k v) (2 : (Λ₀ F).Label) res2 (held c arg4 arg5 k v) n s K : sProp 𝕄)
      ⊢ wp frame (wpE (defs₀ (F := F)) Variants.nat (c : Thread nD τ) (some n)) E
          (defs₀ (F := F) .tc (2 : (Λ₀ F).Label) (args2 i arg4 harg4 arg5 harg5 q n s)) K := by
  refine walkSpec_le (defs₀ (F := F)) c E Carried.alive (step2 q k v) (2 : (Λ₀ F).Label)
    (args2 i arg4 harg4 arg5 harg5 q) res2 (held c arg4 arg5 k v) (fun s => ?_) (fun n hn s ha => ?_) (fun n hn s ha K => ?_) n hn s K
  · show cc0_while2 i arg4 harg4 arg5 harg5 q _ (ctr 0) s.alive s.gone s.acc = _
    simp only [cc0_while2_eq_skeleton]; unfold cc0_while2_skel
    simp only [ctr_zero_test s.alive, ↓reduceIte, Prog.pure_eq_ret]; rfl
  · show cc0_while2 i arg4 harg4 arg5 harg5 q _ (ctr (n + 1)) s.alive s.gone s.acc = _
    rw [ctr_succ n hn]
    simp only [cc0_while2_eq_skeleton]; unfold cc0_while2_skel
    simp only [(ctr_succ_test n hn s.alive).not.mpr ha, ↓reduceIte, Prog.pure_eq_ret]
    rw [← ctr_succ n hn]; rfl
  · show _ ⊢ wp frame (wpE (defs₀ (F := F)) Variants.nat (c : Thread nD τ) (some (n + 1))) E
      (cc0_while2 i arg4 harg4 arg5 harg5 q _ (ctr (n + 1)) s.alive s.gone s.acc) K
    rw [ctr_succ n hn]
    simp only [cc0_while2_eq_skeleton]; unfold cc0_while2_skel
    simp only [(ctr_succ_test n hn s.alive).mpr ha, ↓reduceIte, k0_part5_eq_skeleton]
    unfold k0_part5_skel held
    simp only [Prog.lift, Prog.bind_op, Prog.bind_ret, Prog.pure_eq_ret, sub_one]
    iintro ⟨⟨H4, H5⟩, Hk⟩
    iapply (wp_assume Variants.nat (c : Thread nD τ) (some (n + 1)) E (blocks n hn).2.2)
    iapply (wp_load_block _ c (some (n + 1)) E _ (blocks n hn).2.1 (kofs_inb n)) $$ H4; iintro H4
    iapply (wp_load_block _ c (some (n + 1)) E _ (blocks n hn).2.1 (kofs_inb n)) $$ H5; iintro H5
    iapply Hk
    isplitl [H4]; · iexact H4
    iexact H5

end Labels

/-! ## The body -/

theorem sound_kernel (c : Dev nD) (E : Set ℕ) (i : grid0.Coords)
    (arg2 : Memref sig .tc .vmem S512x128 .f32) (harg2 : arg2.IsWhole) (arg3 : Memref sig .tc .vmem S512x128 .f32) (harg3 : arg3.IsWhole)
    (arg4 : Memref sig .tc .vmem S8192x128 .bf16) (harg4 : arg4.IsWhole) (arg5 : Memref sig .tc .vmem S8192x128 .bf16) (harg5 : arg5.IsWhole)
    (arg6 : Memref sig .tc .vmem S512x128 .bf16) (harg6 : arg6.IsWhole) (arg7 : Memref sig .tc .vmem S512x128 .f32) (harg7 : arg7.IsWhole)
    (q g : Vec F S512x128 .f32) (k v : Keys F) (X6 : Vec F S512x128 .bf16) (X7 : Vec F S512x128 .f32) :
    iprop(owns (c : Thread nD τ) arg2 fullShare q ∗ owns (c : Thread nD τ) arg3 fullShare g
        ∗ owns (c : Thread nD τ) arg4 fullShare k ∗ owns (c : Thread nD τ) arg5 fullShare v
        ∗ owns (c : Thread nD τ) arg6 fullShare X6 ∗ owns (c : Thread nD τ) arg7 fullShare X7 : sProp 𝕄)
      ⊢ wp frame (wpE (defs₀ (F := F)) Variants.nat (c : Thread nD τ) none) E
          (cc0_sb_fwd (F := F) i arg2 harg2 arg3 harg3 arg4 harg4 arg5 harg5 arg6 harg6 arg7 harg7)
          (fun _ => iprop(owns (c : Thread nD τ) arg2 fullShare q ∗ owns (c : Thread nD τ) arg3 fullShare g
            ∗ owns (c : Thread nD τ) arg4 fullShare k ∗ owns (c : Thread nD τ) arg5 fullShare v
            ∗ owns (c : Thread nD τ) arg6 fullShare (k0_pay3 (after1 q k v (i 1).val).2.acc (after2 q k v (i 1).val).2.acc g)
            ∗ owns (c : Thread nD τ) arg7 fullShare (k0_pay2 (after1 q k v (i 1).val).2.acc (after2 q k v (i 1).val).2.acc))) := by
  have hi : (i 1).val < 16 := (i 1).isLt
  have hle : (after1 q k v (i 1).val).1 ≤ 32 := (walk_le _ _ _ _).trans (by omega)
  simp only [cc0_sb_fwd_eq_skeleton]; unfold cc0_sb_fwd_skel
  simp only [k0_part1_eq_skeleton, k0_part2_eq_skeleton, k0_part3_eq_skeleton]
  unfold k0_part1_skel k0_part2_skel k0_part3_skel
  simp only [Prog.lift, Prog.bind_op, Prog.bind_ret, Prog.pure_eq_ret, ctr_start]
  iintro ⟨H2, H3, H4, H5, H6, H7⟩
  iapply (wp_load_all _ c none E _) $$ H2; iintro H2
  iapply (wp_load_block _ c none E _ (own_blocks i).1 (kofs_inb _)) $$ H4; iintro H4
  iapply (wp_load_block _ c none E _ (own_blocks i).1 (kofs_inb _)) $$ H5; iintro H5
  iapply (wp_load_block _ c none E _ (own_blocks i).2 (kofs_inb _)) $$ H4; iintro H4
  iapply (wp_load_block _ c none E _ (own_blocks i).2 (kofs_inb _)) $$ H5; iintro H5
  iapply (wp_call_spec Variants.nat (c : Thread nD τ) none E
    (walkSpec Carried.alive (step1 (k0_pay6 q) k v) (1 : (Λ₀ F).Label) res1 (held c arg4 arg5 k v) (2 * (i 1).val) (after0 q k v (i 1).val))
    (2 * (i 1).val) (fun u hu => nomatch hu)
    (loop1_le c E i arg4 harg4 arg5 harg5 (k0_pay6 q) k v (2 * (i 1).val) (by omega) (after0 q k v (i 1).val)))
  rw [walkSpec_apply]; unfold held
  isplitl [H4 H5]
  · isplitl [H4]; · iexact H4
    iexact H5
  iintro ⟨H4, H5⟩
  iapply (wp_call_spec Variants.nat (c : Thread nD τ) none E
    (walkSpec Carried.alive (step2 (k0_pay6 q) k v) (2 : (Λ₀ F).Label) res2 (held c arg4 arg5 k v) (after1 q k v (i 1).val).1
      (lower (after1 q k v (i 1).val).2))
    (after1 q k v (i 1).val).1 (fun u hu => nomatch hu)
    (loop2_le c E i arg4 harg4 arg5 harg5 (k0_pay6 q) k v (after1 q k v (i 1).val).1 hle (lower (after1 q k v (i 1).val).2)))
  rw [walkSpec_apply]; unfold held
  isplitl [H4 H5]
  · isplitl [H4]; · iexact H4
    iexact H5
  iintro ⟨H4, H5⟩
  iapply (wp_load_all _ c none E _) $$ H7; iintro H7
  iapply (wp_store_all _ c none E _) $$ H7; iintro H7
  iapply (wp_load_all _ c none E _) $$ H3; iintro H3
  iapply (wp_load_all _ c none E _) $$ H6; iintro H6
  iapply (wp_store_all _ c none E _) $$ H6; iintro H6
  rw [wp_ret]; imodintro
  isplitl [H2]; · iexact H2
  isplitl [H3]; · iexact H3
  isplitl [H4]; · iexact H4
  isplitl [H5]; · iexact H5
  isplitl [H6]; · iexact H6
  iexact H7

/-! ## The launch -/

variable (m : (ℓ : Loc nD τ sig) → Buf (Elt F) ℓ) (ρ : Dev nD → PrngReg)

/-- A buffer's contents when the kernel starts: no host operation comes before it. -/
def V (c : Dev nD) (b : Ref sig .tc) : Buf (Elt F) ((c.tc : Thread nD τ).loc b) :=
  StableHlo.after ([] : List (HloOp τ sig (Elt F))) (fun b => m (c, b)) b

theorem V_eq (c : Dev nD) (b : Ref sig .tc) : V m c b = m ((c.tc : Thread nD τ).loc b) := rfl

theorem hmain : Pipeline.HMain (Ix := Unit) (Name := ℕ) (U := UR sig nD τ) (Lvl := ℕ) (cfgs (F := F)) 0 (defs₀ (F := F)) Variants.nat m main (V m) :=
  Pipeline.hmain_prefixes (cfgs (F := F)) 0 (defs₀ (F := F)) Variants.nat m main [] trivial trivial main_chain

def iblk (c : Dev nD) (w : Fin (cfg0 (F := F)).W) (t : Fin (cfg0 (F := F)).N) :
    (((cfg0 (F := F)).win w).xblock ((cfg0 (F := F)).grid.coords t)).Idx → Elt F ((cfg0 (F := F)).win w).elt :=
  (((cfg0 (F := F)).win w).blk t).view.read (Elt F) (V m c (Pipeline.arrRef spec0 w))

/-- What the two loops leave at point `t`. -/
def tallAt (c : Dev nD) (t : Fin (cfg0 (F := F)).N) : Tall F := (after1 (iblk m c 0 t) (iblk m c 2 t) (iblk m c 3 t) (grid0.coords t 1).val).2
def halfAt (c : Dev nD) (t : Fin (cfg0 (F := F)).N) : Half F := (after2 (iblk m c 0 t) (iblk m c 2 t) (iblk m c 3 t) (grid0.coords t 1).val).2

def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay3 (tallAt m c t).acc (halfAt m c t).acc (iblk m c 1 t)
    | ⟨5, _⟩ => k0_pay2 (tallAt m c t).acc (halfAt m c t).acc
  Φ _ := Pipeline.ΦA spec0 c
  q w := Pipeline.shareOf spec0 w
  owed _ := 0

theorem A_eq (c : Dev nD) (w : Fin (cfg0 (F := F)).W) : (dats m 0 c).A w = V m c (Pipeline.arrRef spec0 w) := by
  dsimp only [dats]

theorem after0_0 (c : Dev nD) (t : Fin (cfg0 (F := F)).N) : (dats m 0 c).after 0 t = iblk m c 0 t := by dsimp only [dats]; rfl
theorem after0_1 (c : Dev nD) (t : Fin (cfg0 (F := F)).N) : (dats m 0 c).after 1 t = iblk m c 1 t := by dsimp only [dats]; rfl
theorem after0_2 (c : Dev nD) (t : Fin (cfg0 (F := F)).N) : (dats m 0 c).after 2 t = iblk m c 2 t := by dsimp only [dats]; rfl
theorem after0_3 (c : Dev nD) (t : Fin (cfg0 (F := F)).N) : (dats m 0 c).after 3 t = iblk m c 3 t := by dsimp only [dats]; rfl
theorem after0_4 (c : Dev nD) (t : Fin (cfg0 (F := F)).N) :
    (dats m 0 c).after 4 t = k0_pay3 (tallAt m c t).acc (halfAt m c t).acc (iblk m c 1 t) := by dsimp only [dats]; rfl
theorem after0_5 (c : Dev nD) (t : Fin (cfg0 (F := F)).N) :
    (dats m 0 c).after 5 t = k0_pay2 (tallAt m c t).acc (halfAt m c t).acc := by dsimp only [dats]; rfl

theorem before0_0 (c : Dev nD) (t : Fin (cfg0 (F := F)).N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans (by unfold Dat.fetched Dat.blockOf iblk; rw [A_eq]; try rfl)
theorem before0_1 (c : Dev nD) (t : Fin (cfg0 (F := F)).N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans (by unfold Dat.fetched Dat.blockOf iblk; rw [A_eq]; try rfl)
theorem before0_2 (c : Dev nD) (t : Fin (cfg0 (F := F)).N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans (by unfold Dat.fetched Dat.blockOf iblk; rw [A_eq]; try rfl)
theorem before0_3 (c : Dev nD) (t : Fin (cfg0 (F := F)).N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans (by unfold Dat.fetched Dat.blockOf iblk; rw [A_eq]; try rfl)

theorem sound_body (c : Dev nD) (t : Fin (cfg0 (F := F)).N) :
    (iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ d, owns (c : Thread nD τ) (st0_4 t) fullShare ((dats m 0 c).before 4 t d))
      ∗ (∃ d, owns (c : Thread nD τ) (st0_5 t) fullShare ((dats m 0 c).before 5 t d))) : sProp 𝕄)
    ⊢ wp frame (wpE (defs₀ (F := F)) Variants.nat c none) Set.univ (bodyAt0 t) (fun _ =>
      iprop((dats m 0 c).Φ t.succ ∗ (dats m 0 c).owesAt () t.succ
        ∗ owns (c : Thread nD τ) (st0_0 t) fullShare ((dats m 0 c).after 0 t)
        ∗ owns (c : Thread nD τ) (st0_1 t) fullShare ((dats m 0 c).after 1 t)
        ∗ owns (c : Thread nD τ) (st0_2 t) fullShare ((dats m 0 c).after 2 t)
        ∗ owns (c : Thread nD τ) (st0_3 t) fullShare ((dats m 0 c).after 3 t)
        ∗ owns (c : Thread nD τ) (st0_4 t) fullShare ((dats m 0 c).after 4 t)
        ∗ owns (c : Thread nD τ) (st0_5 t) fullShare ((dats m 0 c).after 5 t))) := by
  unfold bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (wp_wand_r frame (wpE (defs₀ (F := F)) Variants.nat (c : Thread nD τ) none) Set.univ)
  isplitl [H0 H1 H2 H3 H4 H5]
  · iapply (sound_kernel c Set.univ (grid0.coords t) _ _ _ _ _ _ _ _ _ _ _ _
      (iblk m c 0 t) (iblk m c 1 t) (iblk m c 2 t) (iblk m c 3 t) _ _)
    isplitl [H0]; · iexact H0
    isplitl [H1]; · iexact H1
    isplitl [H2]; · iexact H2
    isplitl [H3]; · iexact H3
    isplitl [H4]; · iexact H4
    iexact H5
  iintro %r ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.nat () Set.univ := fun t => by
  rw [bigSep_W0, bigSep_W0,
    show defs₀ (F := F) .tc (cfg0 (F := F)).body ((cfg0 (F := F)).bodyArgs t ((cfg0 (F := F)).slots t)) = bodyAt0 t by
      unfold defs₀; rw [Defs.onTc_tc]]
  exact triple_restated (sound_body m c t) rfl .rfl fun _ => .rfl

set_option backward.isDefEq.respectTransparency.types false in
theorem run_quiescent : θ_run defs (onTc (τ := τ) (main (F := F))) (s₀ m ρ)
    (fun r => (Pipeline.FramePost cfgs (dats m) 0 (V m)) r ∧ r.2.sem = fun _ => 0) :=
  Pipeline.θ_run_frame_shared (Q' := _) cfgs (dats m) (0 : Fin 1) launch₀0 defs₀ Variants.nat m ρ main
    (hbody := fun c => (body_obligation m c).loose) (hq := fun _ _ _ => rfl)
    (howed := fun _ _ => rfl) (V := V m) (hmain := hmain m) (hA := A_eq m) (hΦ := fun _ _ => rfl)

/-- The frame. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c =>
    ⟨((h.1 c).1 0).trans (((dats m 0 c).arrAt_in 0 rfl _).trans ((A_eq m c 0).trans (V_eq m c main_arg0))),
      ((h.1 c).1 2).trans (((dats m 0 c).arrAt_in 2 rfl _).trans ((A_eq m c 2).trans (V_eq m c main_arg1)))⟩, h.2⟩) (run_quiescent m ρ)

end Cert.Proof.SbFwdBits

end
-- ==== Proof.FwdFns.lean ====
/-
  What one grid point of the forward pass computes, as plain functions of the blocks it is given.

  The grid is (head, query block).  At a point the kernel walks the key blocks from the query block's own span down to
  block 0 and carries two values per query row: `gone` (the sum of the softplus of the logits of the keys already passed) and
  `acc` (the sum of the weighted values of the keys already passed).  The first loop works on all 512 rows while one of the
  last 256 has `gone` below the threshold; the second goes on with the first 256 rows.
-/
module

public import proofs.«01_k».proof.Proof.Countdown
public import proofs.«01_k».proof.Proof.Gen.Kernel13Ideal.Skeleton
public import proofs.«01_k».proof.Proof.Gen.Kernel13Ideal.Launch
public import proofs.«01_k».proof.Proof.Gen.Kernel13Ideal.Points

@[expose] public section

noncomputable section

namespace Cert.Proof.SbFwd

open Cert.Kernel13Ideal Cert.Kernel13Ideal.Gen
open Idealize.ShloMosaic Idealize.ShloMosaic.TcCoe
open Cert.Proof.SbBwd (Keys KBlk kblk ctr)
open Cert.Proof.Countdown (Carried walk)

variable {F : FTy → Type} [FloatOps F] [Named F]

/-- The carried values over 512 rows and over the first 256. -/
abbrev Tall (F : FTy → Type) := Carried F S512x1 S512x128
abbrev Half (F : FTy → Type) := Carried F S256x1 S256x128

/-- One key block of the first loop, from the query block, the keys and the values. -/
def step1 (q : FVec F S512x128 .bf16) (k v : Keys F) (n : ℕ) (s : Tall F) : Tall F where
  alive := Scalar.extui (Scalar.cmpf .olt (k0_pay4 (k0_pay35 q s.gone (kblk k n))) (Named.named κ "exhausted" 0x42DC0000#32))
  gone := k0_pay33 q s.gone (kblk k n)
  acc := k0_pay34 q (k0_pay7 (F := F)) s.gone s.acc (kblk k n) (kblk v n)

/-- One key block of the second loop. -/
def step2 (q : FVec F S512x128 .bf16) (k v : Keys F) (n : ℕ) (s : Half F) : Half F where
  alive := Scalar.extui (Scalar.cmpf .olt (k0_pay5 (k0_pay40 q s.gone (kblk k n))) (Named.named κ "exhausted" 0x42DC0000#32))
  gone := k0_pay38 q s.gone (kblk k n)
  acc := k0_pay39 q (k0_pay7 (F := F)) s.gone s.acc (kblk k n) (kblk v n)

/-- The own span's later key block: the last 256 rows against it under the mask, the first 256 at zero. -/
def own1 (q : Vec F S512x128 .f32) (k v : Keys F) (n : ℕ) : Tall F where
  alive := 1#32
  gone := k0_pay17 (k0_pay8 (F := F)) (k0_pay10 (F := F)) (k0_pay15 q (kblk k n))
  acc := k0_pay18 (k0_pay7 (F := F)) (k0_pay9 (F := F)) (k0_pay10 (F := F)) (k0_pay11 (F := F)) k0_pay12 (kblk v n)
    (k0_pay13 q (kblk k n)) (k0_pay14 q (kblk k n)) (k0_pay16 q (kblk k n))

/-- The own span's earlier key block, all 512 rows under the mask. -/
def own0 (q : FVec F S512x128 .bf16) (k v : Keys F) (n : ℕ) (s : Tall F) : Tall F where
  alive := Scalar.extui (Scalar.cmpf .olt
    (k0_pay27 s.gone k0_pay19 (k0_pay20 q (kblk k n)) (k0_pay21 q (kblk k n)) (k0_pay22 q (kblk k n)))
    (Named.named κ "exhausted" 0x42DC0000#32))
  gone := k0_pay25 s.gone k0_pay19 (k0_pay20 q (kblk k n)) (k0_pay21 q (kblk k n)) (k0_pay22 q (kblk k n))
  acc := k0_pay26 (k0_pay7 (F := F)) s.gone s.acc k0_pay19 (kblk v n) (k0_pay20 q (kblk k n)) (k0_pay21 q (kblk k n))
    (k0_pay22 q (kblk k n))

/-- The first 256 rows of the carried values, going on alone. -/
def lower (s : Tall F) : Half F where
  alive := Scalar.extui (Scalar.cmpf .olt (k0_pay1 (k0_pay30 s.gone)) (Named.named κ "exhausted" 0x42DC0000#32))
  gone := k0_pay28 s.gone
  acc := k0_pay29 s.acc

/-- The carried values after query block `i`'s own span, after the first loop and after the second. -/
def after0 (q : Vec F S512x128 .f32) (k v : Keys F) (i : ℕ) : Tall F := own0 (k0_pay6 q) k v (2 * i) (own1 q k v (2 * i + 1))
def after1 (q : Vec F S512x128 .f32) (k v : Keys F) (i : ℕ) : ℕ × Tall F :=
  walk Carried.alive (step1 (k0_pay6 q) k v) (2 * i) (after0 q k v i)
def after2 (q : Vec F S512x128 .f32) (k v : Keys F) (i : ℕ) : ℕ × Half F :=
  walk Carried.alive (step2 (k0_pay6 q) k v) (after1 q k v i).1 (lower (after1 q k v i).2)

/-- The lines attended, and the gated lines. -/
def lines (q : Vec F S512x128 .f32) (k v : Keys F) (i : ℕ) : Vec F S512x128 .f32 :=
  k0_pay2 (after1 q k v i).2.acc (after2 q k v i).2.acc
def gated (q : Vec F S512x128 .f32) (k v : Keys F) (g : Vec F S512x128 .f32) (i : ℕ) : Vec F S512x128 .bf16 :=
  k0_pay3 (after1 q k v i).2.acc (after2 q k v i).2.acc g

end Cert.Proof.SbFwd

end
-- ==== Proof.FwdBody.lean ====
/-
  The forward kernel body's triple: from its six staging buffers, read at given contents, a grid point runs, keeps its four
  inputs and leaves the lines attended and the gated lines at `FwdFns.lean`'s functions of what it read.
-/
module

public import proofs.«01_k».proof.Proof.FwdFns

@[expose] public section

noncomputable section

namespace Cert.Proof.SbFwd

open Cert.Kernel13Ideal Cert.Kernel13Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.SbBwd (Keys kblk ctr kofs kofs_inb ctr_zero_test ctr_succ ctr_succ_test sub_one ctr_start)
open Cert.Proof.Countdown

variable {F : FTy → Type} [FloatOps F] [Named F]

local notation "𝕄" => MT nD τ sig Unit (Elt F) ℕ (UR sig nD τ) ℕ

theorem off2_eq (n : ℕ) (hn : n < 32) : k0_off2 (BitVec.ofNat 32 n) = kofs n :=
  (by decide : ∀ n : Fin 32, k0_off2 (BitVec.ofNat 32 n.val) = kofs n.val) ⟨n, hn⟩
theorem off3_eq (n : ℕ) (hn : n < 32) : k0_off3 (BitVec.ofNat 32 n) = kofs n :=
  (by decide : ∀ n : Fin 32, k0_off3 (BitVec.ofNat 32 n.val) = kofs n.val) ⟨n, hn⟩
theorem chk1 (n : ℕ) (hn : n < 32) : k0_chk1 (BitVec.ofNat 32 n) :=
  (by decide : ∀ n : Fin 32, k0_chk1 (BitVec.ofNat 32 n.val)) ⟨n, hn⟩
theorem chk2 (n : ℕ) (hn : n < 32) : k0_chk2 (BitVec.ofNat 32 n) :=
  (by decide : ∀ n : Fin 32, k0_chk2 (BitVec.ofNat 32 n.val)) ⟨n, hn⟩
theorem off1_1 (i : grid0.Coords) : k0_off1 i 1#32 = kofs (2 * (i 1).val + 1) := by
  have h : ∀ j : Fin 16, k0_off1 (fun | 0 => (0 : Fin 12) | 1 => j) 1#32 = kofs (2 * j.val + 1) := by decide
  exact h (i 1)
theorem off1_0 (i : grid0.Coords) : k0_off1 i 0#32 = kofs (2 * (i 1).val) := by
  have h : ∀ j : Fin 16, k0_off1 (fun | 0 => (0 : Fin 12) | 1 => j) 0#32 = kofs (2 * j.val) := by decide
  exact h (i 1)

/-! ## The loops' labels -/

section Labels

variable (c : Dev nD) (E : Set ℕ) (i : grid0.Coords)
  (arg4 : Memref sig .tc .vmem S8192x128 .bf16) (harg4 : arg4.IsWhole) (arg5 : Memref sig .tc .vmem S8192x128 .bf16) (harg5 : arg5.IsWhole)
  (q : FVec F S512x128 .bf16) (k v : Keys F)

/-- The two buffers a loop reads: the head's keys and values. -/
def held : sProp 𝕄 := iprop(owns (c : Thread nD τ) arg4 fullShare k ∗ owns (c : Thread nD τ) arg5 fullShare v)

/-- A loop's arguments and results at a state. -/
def args1 (n : ℕ) (s : Tall F) : (Λ₀ F).Args (1 : (Λ₀ F).Label) := ⟨i, arg4, harg4, arg5, harg5, q, k0_pay7 (F := F), ctr n, s.alive, s.gone, s.acc⟩
def args2 (n : ℕ) (s : Half F) : (Λ₀ F).Args (2 : (Λ₀ F).Label) := ⟨i, arg4, harg4, arg5, harg5, q, k0_pay7 (F := F), ctr n, s.alive, s.gone, s.acc⟩
def res1 (s : ℕ × Tall F) : (Λ₀ F).Result (1 : (Λ₀ F).Label) := (ctr s.1, s.2.alive, s.2.gone, s.2.acc)
def res2 (s : ℕ × Half F) : (Λ₀ F).Result (2 : (Λ₀ F).Label) := (ctr s.1, s.2.alive, s.2.gone, s.2.acc)

theorem loop1_le (n : ℕ) (hn : n ≤ 32) (s : Tall F) (K : (Λ₀ F).Result (1 : (Λ₀ F).Label) → sProp 𝕄) :
    (walkSpec Carried.alive (step1 q k v) (1 : (Λ₀ F).Label) res1 (held c arg4 arg5 k v) n s K : sProp 𝕄)
      ⊢ wp frame (wpE (defs₀ (F := F)) Variants.nat (c : Thread nD τ) (some n)) E
          (defs₀ (F := F) .tc (1 : (Λ₀ F).Label) (args1 i arg4 harg4 arg5 harg5 q n s)) K := walkSpec_le (defs₀ (F := F)) c E Carried.alive (step1 q k v) (1 : (Λ₀ F).Label)
  (args1 i arg4 harg4 arg5 harg5 q) res1 (held c arg4 arg5 k v)
  (fun s => by
    show cc0_while1 i arg4 harg4 arg5 harg5 q _ (ctr 0) s.alive s.gone s.acc = _
    simp only [cc0_while1_eq_skeleton]; unfold cc0_while1_skel
    simp only [ctr_zero_test s.alive, ↓reduceIte, Prog.pure_eq_ret]; rfl)
  (fun n hn s ha => by
    show cc0_while1 i arg4 harg4 arg5 harg5 q _ (ctr (n + 1)) s.alive s.gone s.acc = _
    rw [ctr_succ n hn]
    simp only [cc0_while1_eq_skeleton]; unfold cc0_while1_skel
    simp only [(ctr_succ_test n hn s.alive).not.mpr ha, ↓reduceIte, Prog.pure_eq_ret]
    rw [← ctr_succ n hn]; rfl)
  (fun n hn s ha K => by
    show _ ⊢ wp frame (wpE (defs₀ (F := F)) Variants.nat (c : Thread nD τ) (some (n + 1))) E
      (cc0_while1 i arg4 harg4 arg5 harg5 q _ (ctr (n + 1)) s.alive s.gone s.acc) K
    rw [ctr_succ n hn]
    simp only [cc0_while1_eq_skeleton]; unfold cc0_while1_skel
    simp only [(ctr_succ_test n hn s.alive).mpr ha, ↓reduceIte, k0_part4_eq_skeleton]
    unfold k0_part4_skel held
    simp only [Prog.lift, Prog.bind_op, Prog.bind_ret, Prog.pure_eq_ret, sub_one]
    iintro ⟨⟨H4, H5⟩, Hk⟩
    iapply (wp_assume Variants.nat (c : Thread nD τ) (some (n + 1)) E (chk1 n hn))
    iapply (wp_load_block _ c (some (n + 1)) E _ (off2_eq n hn) (kofs_inb n)) $$ H4; iintro H4
    iapply (wp_load_block _ c (some (n + 1)) E _ (off2_eq n hn) (kofs_inb n)) $$ H5; iintro H5
    iapply Hk
    isplitl [H4]; · iexact H4
    iexact H5) n hn s K

theorem loop2_le (n : ℕ) (hn : n ≤ 32) (s : Half F) (K : (Λ₀ F).Result (2 : (Λ₀ F).Label) → sProp 𝕄) :
    (walkSpec Carried.alive (step2 q k v) (2 : (Λ₀ F).Label) res2 (held c arg4 arg5 k v) n s K : sProp 𝕄)
      ⊢ wp frame (wpE (defs₀ (F := F)) Variants.nat (c : Thread nD τ) (some n)) E
          (defs₀ (F := F) .tc (2 : (Λ₀ F).Label) (args2 i arg4 harg4 arg5 harg5 q n s)) K := walkSpec_le (defs₀ (F := F)) c E Carried.alive (step2 q k v) (2 : (Λ₀ F).Label)
  (args2 i arg4 harg4 arg5 harg5 q) res2 (held c arg4 arg5 k v)
  (fun s => by
    show cc0_while2 i arg4 harg4 arg5 harg5 q _ (ctr 0) s.alive s.gone s.acc = _
    simp only [cc0_while2_eq_skeleton]; unfold cc0_while2_skel
    simp only [ctr_zero_test s.alive, ↓reduceIte, Prog.pure_eq_ret]; rfl)
  (fun n hn s ha => by
    show cc0_while2 i arg4 harg4 arg5 harg5 q _ (ctr (n + 1)) s.alive s.gone s.acc = _
    rw [ctr_succ n hn]
    simp only [cc0_while2_eq_skeleton]; unfold cc0_while2_skel
    simp only [(ctr_succ_test n hn s.alive).not.mpr ha, ↓reduceIte, Prog.pure_eq_ret]
    rw [← ctr_succ n hn]; rfl)
  (fun n hn s ha K => by
    show _ ⊢ wp frame (wpE (defs₀ (F := F)) Variants.nat (c : Thread nD τ) (some (n + 1))) E
      (cc0_while2 i arg4 harg4 arg5 harg5 q _ (ctr (n + 1)) s.alive s.gone s.acc) K
    rw [ctr_succ n hn]
    simp only [cc0_while2_eq_skeleton]; unfold cc0_while2_skel
    simp only [(ctr_succ_test n hn s.alive).mpr ha, ↓reduceIte, k0_part5_eq_skeleton]
    unfold k0_part5_skel held
    simp only [Prog.lift, Prog.bind_op, Prog.bind_ret, Prog.pure_eq_ret, sub_one]
    iintro ⟨⟨H4, H5⟩, Hk⟩
    iapply (wp_assume Variants.nat (c : Thread nD τ) (some (n + 1)) E (chk2 n hn))
    iapply (wp_load_block _ c (some (n + 1)) E _ (off3_eq n hn) (kofs_inb n)) $$ H4; iintro H4
    iapply (wp_load_block _ c (some (n + 1)) E _ (off3_eq n hn) (kofs_inb n)) $$ H5; iintro H5
    iapply Hk
    isplitl [H4]; · iexact H4
    iexact H5) n hn s K

end Labels

/-! ## The body -/

/-- A grid point's triple. -/
theorem sound_kernel (c : Dev nD) (E : Set ℕ) (i : grid0.Coords)
    (arg2 : Memref sig .tc .vmem S512x128 .f32) (harg2 : arg2.IsWhole) (arg3 : Memref sig .tc .vmem S512x128 .f32) (harg3 : arg3.IsWhole)
    (arg4 : Memref sig .tc .vmem S8192x128 .bf16) (harg4 : arg4.IsWhole) (arg5 : Memref sig .tc .vmem S8192x128 .bf16) (harg5 : arg5.IsWhole)
    (arg6 : Memref sig .tc .vmem S512x128 .bf16) (harg6 : arg6.IsWhole) (arg7 : Memref sig .tc .vmem S512x128 .f32) (harg7 : arg7.IsWhole)
    (q g : Vec F S512x128 .f32) (k v : Keys F) (X6 : Vec F S512x128 .bf16) (X7 : Vec F S512x128 .f32) :
    iprop(owns (c : Thread nD τ) arg2 fullShare q ∗ owns (c : Thread nD τ) arg3 fullShare g
        ∗ owns (c : Thread nD τ) arg4 fullShare k ∗ owns (c : Thread nD τ) arg5 fullShare v
        ∗ owns (c : Thread nD τ) arg6 fullShare X6 ∗ owns (c : Thread nD τ) arg7 fullShare X7 : sProp 𝕄)
      ⊢ wp frame (wpE (defs₀ (F := F)) Variants.nat (c : Thread nD τ) none) E
          (cc0_sb_fwd (F := F) i arg2 harg2 arg3 harg3 arg4 harg4 arg5 harg5 arg6 harg6 arg7 harg7)
          (fun _ => iprop(owns (c : Thread nD τ) arg2 fullShare q ∗ owns (c : Thread nD τ) arg3 fullShare g
            ∗ owns (c : Thread nD τ) arg4 fullShare k ∗ owns (c : Thread nD τ) arg5 fullShare v
            ∗ owns (c : Thread nD τ) arg6 fullShare (gated q k v g (i 1).val)
            ∗ owns (c : Thread nD τ) arg7 fullShare (lines q k v (i 1).val))) := by
  have hi : (i 1).val < 16 := (i 1).isLt
  have hle : (after1 q k v (i 1).val).1 ≤ 32 := (walk_le _ _ _ _).trans (by omega)
  simp only [cc0_sb_fwd_eq_skeleton]; unfold cc0_sb_fwd_skel
  simp only [k0_part1_eq_skeleton, k0_part2_eq_skeleton, k0_part3_eq_skeleton]
  unfold k0_part1_skel k0_part2_skel k0_part3_skel
  simp only [Prog.lift, Prog.bind_op, Prog.bind_ret, Prog.pure_eq_ret, ctr_start]
  iintro ⟨H2, H3, H4, H5, H6, H7⟩
  iapply (wp_load_all _ c none E _) $$ H2; iintro H2
  iapply (wp_load_block _ c none E _ (off1_1 i) (kofs_inb _)) $$ H4; iintro H4
  iapply (wp_load_block _ c none E _ (off1_1 i) (kofs_inb _)) $$ H5; iintro H5
  iapply (wp_load_block _ c none E _ (off1_0 i) (kofs_inb _)) $$ H4; iintro H4
  iapply (wp_load_block _ c none E _ (off1_0 i) (kofs_inb _)) $$ H5; iintro H5
  iapply (wp_call_spec Variants.nat (c : Thread nD τ) none E
    (walkSpec Carried.alive (step1 (k0_pay6 q) k v) (1 : (Λ₀ F).Label) res1 (held c arg4 arg5 k v) (2 * (i 1).val) (after0 q k v (i 1).val))
    (2 * (i 1).val) (fun u hu => nomatch hu)
    (loop1_le c E i arg4 harg4 arg5 harg5 (k0_pay6 q) k v (2 * (i 1).val) (by omega) (after0 q k v (i 1).val)))
  rw [walkSpec_apply]; unfold held
  isplitl [H4 H5]
  · isplitl [H4]; · iexact H4
    iexact H5
  iintro ⟨H4, H5⟩
  iapply (wp_call_spec Variants.nat (c : Thread nD τ) none E
    (walkSpec Carried.alive (step2 (k0_pay6 q) k v) (2 : (Λ₀ F).Label) res2 (held c arg4 arg5 k v) (after1 q k v (i 1).val).1
      (lower (after1 q k v (i 1).val).2))
    (after1 q k v (i 1).val).1 (fun u hu => nomatch hu)
    (loop2_le c E i arg4 harg4 arg5 harg5 (k0_pay6 q) k v (after1 q k v (i 1).val).1 hle (lower (after1 q k v (i 1).val).2)))
  rw [walkSpec_apply]; unfold held
  isplitl [H4 H5]
  · isplitl [H4]; · iexact H4
    iexact H5
  iintro ⟨H4, H5⟩
  iapply (wp_load_all _ c none E _) $$ H7; iintro H7
  iapply (wp_store_all _ c none E _) $$ H7; iintro H7
  iapply (wp_load_all _ c none E _) $$ H3; iintro H3
  iapply (wp_load_all _ c none E _) $$ H6; iintro H6
  iapply (wp_store_all _ c none E _) $$ H6; iintro H6
  rw [wp_ret]; imodintro
  isplitl [H2]; · iexact H2
  isplitl [H3]; · iexact H3
  isplitl [H4]; · iexact H4
  isplitl [H5]; · iexact H5
  isplitl [H6]; · iexact H6
  iexact H7

end Cert.Proof.SbFwd

end
-- ==== Proof.FwdRun.lean ====
/-
  The forward pass's launch: the pipeline's proof data (what every staging buffer holds after each grid point), the body
  obligation, the run of `main` and the frame, over any float semantics.
-/
module

public import proofs.«01_k».proof.Proof.FwdBody
public import Idealize.ShloMosaic.Lib.Pipeline.FrameSuffix
public import Idealize.ShloMosaic.Lib.Claim

@[expose] public section

noncomputable section

namespace Cert.Proof.SbFwd

open Cert.Kernel13Ideal Cert.Kernel13Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- A buffer's contents when the kernel starts: no host operation comes before it. -/
def V (c : Dev nD) (b : Ref sig .tc) : Buf (Elt F) ((c.tc : Thread nD τ).loc b) :=
  StableHlo.after ([] : List (HloOp τ sig (Elt F))) (fun b => m (c, b)) b

theorem V_eq (c : Dev nD) (b : Ref sig .tc) : V m c b = m ((c.tc : Thread nD τ).loc b) := rfl

theorem hmain : Pipeline.HMain (Ix := Unit) (Name := ℕ) (U := UR sig nD τ) (Lvl := ℕ) (cfgs (F := F)) 0 (defs₀ (F := F)) Variants.nat m main (V m) :=
  Pipeline.hmain_prefixes (cfgs (F := F)) 0 (defs₀ (F := F)) Variants.nat m main [] trivial trivial main_chain

/-- Window `w`'s block at point `t`, read off its array as the kernel finds it. -/
def iblk (c : Dev nD) (w : Fin (cfg0 (F := F)).W) (t : Fin (cfg0 (F := F)).N) :
    (((cfg0 (F := F)).win w).xblock ((cfg0 (F := F)).grid.coords t)).Idx → Elt F ((cfg0 (F := F)).win w).elt :=
  (((cfg0 (F := F)).win w).blk t).view.read (Elt F) (V m c (Pipeline.arrRef spec0 w))

/-- What point `t` writes. -/
def linesAt (c : Dev nD) (t : Fin (cfg0 (F := F)).N) : Vec F S512x128 .f32 :=
  lines (iblk m c 0 t) (iblk m c 2 t) (iblk m c 3 t) (grid0.coords t 1).val
def gatedAt (c : Dev nD) (t : Fin (cfg0 (F := F)).N) : Vec F S512x128 .bf16 :=
  gated (iblk m c 0 t) (iblk m c 2 t) (iblk m c 3 t) (iblk m c 1 t) (grid0.coords t 1).val

/-- After the body at point `t`: every input at its block, the outputs at the functions above. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => gatedAt m c t
    | ⟨5, _⟩ => linesAt m c t
  Φ _ := Pipeline.ΦA spec0 c
  q w := Pipeline.shareOf spec0 w
  owed _ := 0

theorem A_eq (c : Dev nD) (w : Fin (cfg0 (F := F)).W) : (dats m 0 c).A w = V m c (Pipeline.arrRef spec0 w) := by
  dsimp only [dats]

theorem after0_0 (c : Dev nD) (t : Fin (cfg0 (F := F)).N) : (dats m 0 c).after 0 t = iblk m c 0 t := by dsimp only [dats]; rfl
theorem after0_1 (c : Dev nD) (t : Fin (cfg0 (F := F)).N) : (dats m 0 c).after 1 t = iblk m c 1 t := by dsimp only [dats]; rfl
theorem after0_2 (c : Dev nD) (t : Fin (cfg0 (F := F)).N) : (dats m 0 c).after 2 t = iblk m c 2 t := by dsimp only [dats]; rfl
theorem after0_3 (c : Dev nD) (t : Fin (cfg0 (F := F)).N) : (dats m 0 c).after 3 t = iblk m c 3 t := by dsimp only [dats]; rfl
theorem after0_4 (c : Dev nD) (t : Fin (cfg0 (F := F)).N) : (dats m 0 c).after 4 t = gatedAt m c t := by dsimp only [dats]; rfl
theorem after0_5 (c : Dev nD) (t : Fin (cfg0 (F := F)).N) : (dats m 0 c).after 5 t = linesAt m c t := by dsimp only [dats]; rfl

/-- An input window's buffer holds its block at every point. -/
theorem before0_0 (c : Dev nD) (t : Fin (cfg0 (F := F)).N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans (by unfold Dat.fetched Dat.blockOf iblk; rw [A_eq]; try rfl)
theorem before0_1 (c : Dev nD) (t : Fin (cfg0 (F := F)).N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans (by unfold Dat.fetched Dat.blockOf iblk; rw [A_eq]; try rfl)
theorem before0_2 (c : Dev nD) (t : Fin (cfg0 (F := F)).N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans (by unfold Dat.fetched Dat.blockOf iblk; rw [A_eq]; try rfl)
theorem before0_3 (c : Dev nD) (t : Fin (cfg0 (F := F)).N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans (by unfold Dat.fetched Dat.blockOf iblk; rw [A_eq]; try rfl)

/-! ## The body obligation -/

/-- What the body is called with at point `t`, -/
def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin (cfg0 (F := F)).N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem sound_body (c : Dev nD) (t : Fin (cfg0 (F := F)).N) :
    bodyPre m c t ⊢ wp frame (wpE (defs₀ (F := F)) Variants.nat c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (wp_wand_r frame (wpE (defs₀ (F := F)) Variants.nat (c : Thread nD τ) none) Set.univ)
  isplitl [H0 H1 H2 H3 H4 H5]
  · iapply (sound_kernel c Set.univ (grid0.coords t) _ _ _ _ _ _ _ _ _ _ _ _
      (iblk m c 0 t) (iblk m c 1 t) (iblk m c 2 t) (iblk m c 3 t) _ _)
    isplitl [H0]; · iexact H0
    isplitl [H1]; · iexact H1
    isplitl [H2]; · iexact H2
    isplitl [H3]; · iexact H3
    isplitl [H4]; · iexact H4
    iexact H5
  iintro %r ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.nat () Set.univ := fun t => by
  rw [bigSep_W0, bigSep_W0,
    show defs₀ (F := F) .tc (cfg0 (F := F)).body ((cfg0 (F := F)).bodyArgs t ((cfg0 (F := F)).slots t)) = bodyAt0 t by
      unfold defs₀; rw [Defs.onTc_tc]]
  exact triple_restated (sound_body m c t) rfl .rfl fun _ => .rfl

/-! ## The run and the frame -/

set_option backward.isDefEq.respectTransparency.types false in
/-- The launch: every execution ends with every window's array at what the proof data says, every other buffer as the kernel
    found it, and every semaphore at zero. -/
theorem run_quiescent : θ_run defs (onTc (τ := τ) (main (F := F))) (s₀ m ρ)
    (fun r => (Pipeline.FramePost cfgs (dats m) 0 (V m)) r ∧ r.2.sem = fun _ => 0) :=
  Pipeline.θ_run_frame_shared (Q' := _) cfgs (dats m) (0 : Fin 1) launch₀0 defs₀ Variants.nat m ρ main
    (hbody := fun c => (body_obligation m c).loose) (hq := fun _ _ _ => rfl)
    (howed := fun _ _ => rfl) (V := V m) (hmain := hmain m) (hA := A_eq m) (hΦ := fun _ _ => rfl)

/-- The argument arrays end as they were. -/
theorem args_kept {r : PUnit × MemSt nD τ sig (Elt F)} (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1) :=
  ⟨((h c).1 0).trans (((dats m 0 c).arrAt_in 0 rfl _).trans ((A_eq m c 0).trans (V_eq m c main_arg0))),
    ((h c).1 2).trans (((dats m 0 c).arrAt_in 2 rfl _).trans ((A_eq m c 2).trans (V_eq m c main_arg1)))⟩

/-- The frame. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨args_kept m h.1, h.2⟩) (run_quiescent m ρ)

end Cert.Proof.SbFwd

end
-- ==== Proof.FwdTile.lean ====
/-
  What the forward kernel's block computations are at the ideal values, on real operands.  The logits, softplus, weights and sums
  passed are the backward kernel's terms (`Tile.lean`); what the forward kernel adds is the product of the weights with the
  values, its operand split in a high and a low part as the softplus is.
-/
module

public import proofs.«01_k».proof.Proof.FwdFns
public import proofs.«01_k».proof.Proof.Tile

@[expose] public section

set_option backward.isDefEq.respectTransparency false

noncomputable section

namespace Cert.Proof.SbFwd

open Cert.Kernel13Ideal Cert.Kernel13Ideal.Gen
open Idealize.ShloMosaic Idealize.ShloMosaic.TcCoe
open Cert.Proof.SbBwd
open Finset (range Ico)

/-! ## The weights times the values -/

/-- Weights of 512 rows times values, added to `a`: the kernel stacks the weights' high and low parts, multiplies, and adds both halves. -/
def addFull (w : FVec Ideal S512x256 .f32) (v : FVec Ideal S256x128 .bf16) (a : FVec Ideal S512x128 .f32) : FVec Ideal S512x128 .f32 :=
  addf (addf a (extractStridedSlice S512x128 ![0, 0] (matmul dot_S1024x256_S256x128_S1024x128_1_0_0_1_n_n none
      (concatenate S1024x256 0 [⟨S512x256, truncf .bf16 w bitsLt_bf16_f32⟩,
        ⟨S512x256, truncf .bf16 (subf w (extf .f32 (truncf .bf16 w bitsLt_bf16_f32) bitsLt_bf16_f32)) bitsLt_bf16_f32⟩]
        concatenates_S512x256_S512x256_S1024x256_d0) v (constant S1024x128 .f32 0x00000000#32)) slices_S1024x128_o0_0_S512x128))
    (extractStridedSlice S512x128 ![512, 0] (matmul dot_S1024x256_S256x128_S1024x128_1_0_0_1_n_n none
      (concatenate S1024x256 0 [⟨S512x256, truncf .bf16 w bitsLt_bf16_f32⟩,
        ⟨S512x256, truncf .bf16 (subf w (extf .f32 (truncf .bf16 w bitsLt_bf16_f32) bitsLt_bf16_f32)) bitsLt_bf16_f32⟩]
        concatenates_S512x256_S512x256_S1024x256_d0) v (constant S1024x128 .f32 0x00000000#32)) slices_S1024x128_o512_0_S512x128)

/-- The same of 256 rows. -/
def addHalf (w : FVec Ideal S256x256 .f32) (v : FVec Ideal S256x128 .bf16) (a : FVec Ideal S256x128 .f32) : FVec Ideal S256x128 .f32 :=
  addf (addf a (extractStridedSlice S256x128 ![0, 0] (matmul dot_S512x256_S256x128_S512x128_1_0_0_1_n_n none
      (concatenate S512x256 0 [⟨S256x256, truncf .bf16 w bitsLt_bf16_f32⟩,
        ⟨S256x256, truncf .bf16 (subf w (extf .f32 (truncf .bf16 w bitsLt_bf16_f32) bitsLt_bf16_f32)) bitsLt_bf16_f32⟩]
        concatenates_S256x256_S256x256_S512x256_d0) v (constant S512x128 .f32 0x00000000#32)) slices_S512x128_o0_0_S256x128))
    (extractStridedSlice S256x128 ![256, 0] (matmul dot_S512x256_S256x128_S512x128_1_0_0_1_n_n none
      (concatenate S512x256 0 [⟨S256x256, truncf .bf16 w bitsLt_bf16_f32⟩,
        ⟨S256x256, truncf .bf16 (subf w (extf .f32 (truncf .bf16 w bitsLt_bf16_f32) bitsLt_bf16_f32)) bitsLt_bf16_f32⟩]
        concatenates_S256x256_S256x256_S512x256_d0) v (constant S512x128 .f32 0x00000000#32)) slices_S512x128_o256_0_S256x128)

section
variable (w v a q k g : ℕ → ℕ → ℝ)

/-- A tile's share of the lines attended, added to `a`. -/
def grown (r f : ℕ) : ℝ := a r f + ∑ c ∈ range 256, w r c * v c f

theorem mm_values (n : ℕ) (p : Option ContractPrecision) (d : DotDims ⟨2, ![n, 256]⟩ S256x128 ⟨2, ![n, 128]⟩)
    (hc : d.lhsContracting = [1]) (hL : ∀ j k, d.lhsIdx j (d.contrIdx₁ hc (K := 256) rfl k) = ValueIdx.ix2 (j 0) k)
    (hR : ∀ j k, d.rhsIdx j (d.contrIdx₁ hc (K := 256) rfl k) = ValueIdx.ix2 k (j 1)) :
    matmul d p (up2 (φ := .bf16) w) (up2 (φ := .bf16) v) (constant _ .f32 0x00000000#32) = up2 (fun r c => ∑ k ∈ range 256, w r k * v k c) :=
  matmul_nn w v d p hc hL hR

theorem addFull_up : addFull (up2 w) (up2 v) (up2 a) = up2 (grown w v a) := by
  unfold addFull
  rw [low_part w, truncf_up2, concat_up2, mm_values _ _ 1024 none dot_S1024x256_S256x128_S1024x128_1_0_0_1_n_n rfl
    (fun j k => funext fun a => by fin_cases a <;> rfl) (fun j k => funext fun a => by fin_cases a <;> rfl), slice_up2, slice_up2, addf_up2, addf_up2]
  refine up2_congr fun r hr c hc => ?_
  simp [hr, grown]

theorem addHalf_up : addHalf (up2 w) (up2 v) (up2 a) = up2 (grown w v a) := by
  unfold addHalf
  rw [low_part w, truncf_up2, concat_up2, mm_values _ _ 512 none dot_S512x256_S256x128_S512x128_1_0_0_1_n_n rfl
    (fun j k => funext fun a => by fin_cases a <;> rfl) (fun j k => funext fun a => by fin_cases a <;> rfl), slice_up2, slice_up2, addf_up2, addf_up2]
  refine up2_congr fun r hr c hc => ?_
  simp [hr, grown]

/-! ## The first loop's tile -/

theorem tri_up : k0_pay7 (F := Ideal) = up2 tri := pay8_tri

theorem step_gone : k0_pay33 (F := Ideal) (up2 q) (up2 g) (up2 (φ := .bf16) k) = up2 (fun r c => g r c + ∑ s ∈ range 256, spm true q k r s) := by
  refine (show _ = Cert.KernelIdeal.Gen.k0_pay65 (F := Ideal) (up2 g) (Cert.KernelIdeal.Gen.k0_pay58 (F := Ideal) (up2 q) (up2 (φ := .bf16) k)) from rfl).trans ?_
  rw [pay58_up, pay65_up]

theorem step_acc : k0_pay34 (F := Ideal) (up2 q) (up2 tri) (up2 g) (up2 a) (up2 (φ := .bf16) k) (up2 (φ := .bf16) v) = up2 (grown (wf true q k g) v a) := by
  refine (show _ = addFull (Cert.KernelIdeal.Gen.k0_pay59 (F := Ideal) (up2 q) (up2 tri) (up2 g) (up2 (φ := .bf16) k)) (up2 v) (up2 a) from rfl).trans ?_
  rw [pay59_up, addFull_up]

theorem step_least : (k0_pay4 (F := Ideal) (k0_pay35 (F := Ideal) (up2 q) (up2 g) (up2 (φ := .bf16) k)) : EReal) < ⊤ := by
  simp only [k0_pay4, k0_pay35]
  rw [step_gone]
  simp only [slice_up2]
  exact min_scalar_lt_top _ _ _ _ _ _ _

/-! ## The own span's earlier key block -/

theorem own0_gone : k0_pay25 (F := Ideal) (up2 g) k0_pay19 (k0_pay20 (up2 q) (up2 (φ := .bf16) k)) (k0_pay21 (up2 q) (up2 (φ := .bf16) k))
    (k0_pay22 (up2 q) (up2 (φ := .bf16) k)) = up2 (fun r c => g r c + ∑ s ∈ range 256, spm false q k r s) := by
  refine (show _ = Cert.KernelIdeal.Gen.k0_pay49 (F := Ideal) (up2 g) (Cert.KernelIdeal.Gen.k0_pay41 (F := Ideal) Cert.KernelIdeal.Gen.k0_pay37
    (Cert.KernelIdeal.Gen.k0_pay38 (F := Ideal) (up2 q) (up2 (φ := .bf16) k)) (Cert.KernelIdeal.Gen.k0_pay39 (F := Ideal) (up2 q) (up2 (φ := .bf16) k))) from rfl).trans ?_
  rw [pay38_up, pay39_up, pay37_low, pay41_up, pay49_up]

theorem own0_acc : k0_pay26 (F := Ideal) (up2 tri) (up2 g) (up2 a) k0_pay19 (up2 (φ := .bf16) v) (k0_pay20 (up2 q) (up2 (φ := .bf16) k))
    (k0_pay21 (up2 q) (up2 (φ := .bf16) k)) (k0_pay22 (up2 q) (up2 (φ := .bf16) k)) = up2 (grown (wf false q k g) v a) := by
  refine (show _ = addFull (Cert.KernelIdeal.Gen.k0_pay42 (F := Ideal) (up2 tri) (up2 g) Cert.KernelIdeal.Gen.k0_pay37
    (Cert.KernelIdeal.Gen.k0_pay38 (F := Ideal) (up2 q) (up2 (φ := .bf16) k)) (Cert.KernelIdeal.Gen.k0_pay39 (F := Ideal) (up2 q) (up2 (φ := .bf16) k)))
    (up2 v) (up2 a) from rfl).trans ?_
  rw [pay38_up, pay39_up, pay37_low, pay42_up, addFull_up]

theorem own0_least : (k0_pay27 (F := Ideal) (up2 g) k0_pay19 (k0_pay20 (up2 q) (up2 (φ := .bf16) k)) (k0_pay21 (up2 q) (up2 (φ := .bf16) k))
    (k0_pay22 (up2 q) (up2 (φ := .bf16) k)) : EReal) < ⊤ := by
  simp only [k0_pay27]
  rw [own0_gone]
  simp only [slice_up2]
  exact min_scalar_lt_top _ _ _ _ _ _ _

/-! ## The own span's later key block -/

theorem nil512 : k0_pay8 (F := Ideal) = up2 nil := pay16_up
theorem nil256 : k0_pay10 (F := Ideal) = up2 nil := pay19_up
theorem zero512 : k0_pay9 (F := Ideal) = up2 nil := by simp only [k0_pay9, ofBits_zero, broadcast_coe]; rfl
theorem zero256 : k0_pay11 (F := Ideal) = up2 nil := by simp only [k0_pay11, zero512, slice_up2]; rfl

theorem own1_gone : k0_pay17 (F := Ideal) (up2 nil) (up2 nil) (k0_pay15 (up2 (φ := .f32) q) (up2 (φ := .bf16) k)) =
    up2 (below fun r _ => ∑ s ∈ range 256, spm false (hi q) k r s) := by
  refine (show _ = Cert.KernelIdeal.Gen.k0_pay34 (F := Ideal) (up2 nil) (up2 nil)
    (Cert.KernelIdeal.Gen.k0_pay25 (F := Ideal) (up2 q) (up2 (φ := .bf16) k)) from rfl).trans ?_
  rw [pay25_up, pay34_up]

/-- The weights of the last 256 rows. -/
theorem own1_wt : Cert.KernelIdeal.Gen.k0_pay29 (F := Ideal) (up2 nil) Cert.KernelIdeal.Gen.k0_pay22
    (Cert.KernelIdeal.Gen.k0_pay23 (F := Ideal) (up2 q) (up2 (φ := .bf16) k)) (Cert.KernelIdeal.Gen.k0_pay24 (F := Ideal) (up2 q) (up2 (φ := .bf16) k))
    (Cert.KernelIdeal.Gen.k0_pay27 (F := Ideal) (up2 q) (up2 tri) (up2 (φ := .bf16) k)) (Cert.KernelIdeal.Gen.k0_pay28 (F := Ideal) (up2 q) (up2 tri) (up2 (φ := .bf16) k)) =
      up2 (wf false (hi q) k nil) := by
  simp only [Cert.KernelIdeal.Gen.k0_pay29]
  rw [pay27_28_up, pay22_low, pay23_up, pay24_up]
  simp only [subf_up2, addf_up2, broadcastTo_up2 _ (show 256 ≠ 1 by decide) (show 256 ≠ 1 by decide), exp_up2, ofBits_zero, broadcast_coe, select_low]
  simp only [wf, keep_false]

theorem own1_acc : k0_pay18 (F := Ideal) (up2 tri) (up2 nil) (up2 nil) (up2 nil) k0_pay12 (up2 (φ := .bf16) v)
    (k0_pay13 (up2 (φ := .f32) q) (up2 (φ := .bf16) k)) (k0_pay14 (up2 (φ := .f32) q) (up2 (φ := .bf16) k)) (k0_pay16 (up2 (φ := .f32) q) (up2 (φ := .bf16) k)) =
      up2 (below fun r f => ∑ c ∈ range 256, wf false (hi q) k nil r c * v c f) := by
  refine (show _ = concatenate S512x128 0 [⟨S256x128, extractStridedSlice S256x128 ![0, 0] (up2 nil : FVec Ideal S512x128 .f32) slices_S512x128_o0_0_S256x128⟩,
    ⟨S256x128, addHalf (Cert.KernelIdeal.Gen.k0_pay29 (F := Ideal) (up2 nil) Cert.KernelIdeal.Gen.k0_pay22
      (Cert.KernelIdeal.Gen.k0_pay23 (F := Ideal) (up2 q) (up2 (φ := .bf16) k)) (Cert.KernelIdeal.Gen.k0_pay24 (F := Ideal) (up2 q) (up2 (φ := .bf16) k))
      (Cert.KernelIdeal.Gen.k0_pay27 (F := Ideal) (up2 q) (up2 tri) (up2 (φ := .bf16) k)) (Cert.KernelIdeal.Gen.k0_pay28 (F := Ideal) (up2 q) (up2 tri) (up2 (φ := .bf16) k)))
      (up2 v) (up2 nil)⟩] concatenates_S256x128_S256x128_S512x128_d0 from rfl).trans ?_
  rw [own1_wt, addHalf_up, slice_up2, concat_up2]
  exact up2_congr fun r _ c _ => by simp only [below, nil, grown, zero_add]

/-! ## A grid point's end -/

theorem lines_up : k0_pay2 (F := Ideal) (up2 a) (k0_pay29 (up2 a)) = up2 a := by
  simp only [k0_pay2, k0_pay29, slice_up2]
  rw [concat_up2]
  refine up2_congr fun r _ f _ => ?_
  by_cases h : r < 256
  · rw [if_pos h, Nat.zero_add, Nat.zero_add]
  · rw [if_neg h, Nat.zero_add, Nat.add_sub_cancel' (not_lt.1 h)]

theorem gated_up : k0_pay3 (F := Ideal) (up2 a) (k0_pay29 (up2 a)) (up2 (φ := .f32) g) = up2 (fun r f => a r f * (g r f * sgf g r f)) := by
  simp only [k0_pay3, lines_up, ofBits_half, broadcast_coe, mulf_up2, tanh_up2, addf_up2, truncf_up2]
  rfl

end

end Cert.Proof.SbFwd

end
-- ==== Proof.FwdWalk.lean ====
/-
  The forward kernel's walk over the key blocks at the ideal values: with `n` key blocks left it carries the softplus and the
  weighted values summed over the keys from block `n` on.  No row is found exhausted, so the first loop ends at block 0 and the
  second has no block left.
-/
module

public import proofs.«01_k».proof.Proof.FwdTile
public import proofs.«01_k».proof.Proof.Walk

@[expose] public section

set_option backward.isDefEq.respectTransparency false

noncomputable section

namespace Cert.Proof.SbFwd

open Cert.Kernel13Ideal Cert.Kernel13Ideal.Gen
open Idealize.ShloMosaic Idealize.ShloMosaic.TcCoe
open Cert.Proof.SbBwd hiding Tall Half step1 step2 own1 own0 lower
open Cert.Proof.Countdown (Carried walk walk_all)
open Finset (range Ico)

/-- The values by weight, a key block at a time. -/
theorem tile_o {H : Head} {b : Bool} {n r t : ℕ} {q k d v g e τ : ℕ → ℕ → ℝ} (h : IsTile H b n r t q k d v g e τ) (f : ℕ) :
    ∑ s ∈ Ico (256 * (n + 1)) t, H.wt t s * H.v s f + ∑ c ∈ range 256, wf b q k g r c * v c f =
      ∑ s ∈ Ico (256 * n) t, H.wt t s * H.v s f := by
  rw [sum_block (fun s => H.wt t s * H.v s f) t n, add_comm]
  congr 1
  refine Finset.sum_congr rfl fun c hc => ?_
  rw [tile_w h (Finset.mem_range.1 hc), h.v]
  by_cases hm : 256 * n + c < t
  · rw [if_pos hm]
  · rw [if_neg hm, H.wt_of_le (not_lt.1 hm), zero_mul]

section
variable (H : Head) (i : ℕ)

/-- The carried lines with `n` key blocks left. -/
def linesFrom (n r f : ℕ) : ℝ := ∑ s ∈ Ico (256 * n) (512 * i + r), H.wt (512 * i + r) s * H.v s f

/-- The query block's rows. -/
def rows (r f : ℕ) : ℝ := H.q (512 * i + r) f

/-- The carried values with `n` key blocks left. -/
def stateAt (n : ℕ) : Tall Ideal where
  alive := 1#32
  gone := up2 fun r _ => goneAt H i n r
  acc := up2 (linesFrom H i n)

theorem tall_mk {a a' : BitVec 32} {g g' : FVec Ideal S512x1 .f32} {o o' : FVec Ideal S512x128 .f32} (ha : a = a') (hg : g = g')
    (ho : o = o') : (⟨a, g, o⟩ : Tall Ideal) = ⟨a', g', o'⟩ := by rw [ha, hg, ho]

theorem step1_state {n : ℕ} (hn : n < 2 * i) (hi : i < 16) :
    step1 (up2 (rows H i)) (up2 (φ := .bf16) H.k) (up2 (φ := .bf16) H.v) n (stateAt H i (n + 1)) = stateAt H i n := by
  have hn' : n < 32 := by omega
  have ht := fun r => isTile_full H i true n r fun c hc => ⟨fun _ => by omega, fun _ => Or.inl rfl⟩
  unfold step1
  simp only [stateAt]
  rw [kblk_up _ hn', kblk_up _ hn', tri_up, step_acc, step_gone]
  refine tall_mk ?_ ?_ ?_
  · exact alive_one _ (step_least _ _ _)
  · exact up2_congr fun r _ c _ => tile_gone (ht r)
  · exact up2_congr fun r _ f _ => tile_o (ht r) f

theorem own0_state (hi : i < 16) :
    own0 (up2 (rows H i)) (up2 (φ := .bf16) H.k) (up2 (φ := .bf16) H.v) (2 * i) (stateAt H i (2 * i + 1)) = stateAt H i (2 * i) := by
  have hn' : 2 * i < 32 := by omega
  have ht := fun r => isTile_full H i false (2 * i) r fun c hc =>
    ⟨fun h => by have := h.resolve_left (by decide); omega, fun h => Or.inr (by omega)⟩
  unfold own0
  simp only [stateAt]
  rw [kblk_up _ hn', kblk_up _ hn', tri_up, own0_acc, own0_gone]
  refine tall_mk ?_ ?_ ?_
  · exact alive_one _ (own0_least _ _ _)
  · exact up2_congr fun r _ c _ => tile_gone (ht r)
  · exact up2_congr fun r _ f _ => tile_o (ht r) f

theorem own1_state (hi' : i < 16) :
    own1 (up2 (φ := .f32) (rows H i)) (up2 (φ := .bf16) H.k) (up2 (φ := .bf16) H.v) (2 * i + 1) = stateAt H i (2 * i + 1) := by
  have hn' : 2 * i + 1 < 32 := by omega
  have ht : ∀ r < 256, IsTile H false (2 * i + 1) r (512 * i + (256 + r)) (hi (rows H i))
      (fun c f => H.k (256 * (2 * i + 1) + c) f) (hi fun r f => H.d (512 * i + r) f) (fun c f => H.v (256 * (2 * i + 1) + c) f)
      nil nil (hi fun r _ => H.tot (512 * i + r)) := fun r hr =>
    { mask := fun c _ => ⟨fun h => by have := h.resolve_left (by decide); omega, fun h => Or.inr (by omega)⟩
      q := fun _ => rfl
      d := fun _ => rfl
      k := fun _ _ => rfl
      v := fun _ _ => rfl
      g := by rw [Finset.Ico_eq_empty (by omega)]; rfl
      e := by rw [Finset.Ico_eq_empty (by omega)]; rfl
      τ := rfl }
  unfold own1
  rw [kblk_up _ hn', kblk_up _ hn', tri_up, nil512, nil256, zero512, zero256, own1_gone, own1_acc]
  refine tall_mk rfl ?_ ?_
  · exact below_sum i (fun _ => H.sp) _ fun r hr _ => (zero_add _).symm.trans (tile_gone (ht r hr))
  · refine below_sum i (fun f t s => H.wt t s * H.v s f) _ fun r hr f => ?_
    have h := tile_o (ht r hr) f
    rw [Finset.Ico_eq_empty (by omega), Finset.sum_empty, zero_add] at h
    exact h

theorem after1_up (hi : i < 16) :
    after1 (up2 (φ := .f32) (rows H i)) (up2 (φ := .bf16) H.k) (up2 (φ := .bf16) H.v) i = (0, stateAt H i 0) := by
  have e : ∀ n, n ≤ 2 * i → walk Carried.alive (step1 (up2 (rows H i)) (up2 (φ := .bf16) H.k) (up2 (φ := .bf16) H.v)) n (stateAt H i n) = (0, stateAt H i 0) := by
    intro n
    induction n with
    | zero => intro _; rfl
    | succ n ih => intro hn; rw [walk, if_pos (show Scalar.cmpi .sgt (stateAt H i (n + 1)).alive 0#32 = 1#1 from rfl), step1_state H i (by omega) hi]; exact ih (by omega)
  unfold after1 after0
  rw [own1_state H i hi]
  refine Eq.trans ?_ (e _ le_rfl)
  exact congrArg (walk Carried.alive _ (2 * i)) (own0_state H i hi)

/-- A grid point's lines, and its gated lines under gate `g`. -/
theorem lines_at (hi : i < 16) : lines (F := Ideal) (up2 (φ := .f32) (rows H i)) (up2 (φ := .bf16) H.k) (up2 (φ := .bf16) H.v) i =
    (up2 (linesFrom H i 0) : FVec Ideal S512x128 .f32) := by
  unfold lines after2
  rw [after1_up H i hi]
  exact lines_up _

theorem gated_at (hi : i < 16) (g : ℕ → ℕ → ℝ) :
    gated (F := Ideal) (up2 (φ := .f32) (rows H i)) (up2 (φ := .bf16) H.k) (up2 (φ := .bf16) H.v) (up2 (φ := .f32) g) i =
      (up2 (fun r f => linesFrom H i 0 r f * (g r f * sgf g r f)) : FVec Ideal S512x128 .bf16) := by
  unfold gated after2
  rw [after1_up H i hi]
  exact gated_up _ _

end

end Cert.Proof.SbFwd

end
-- ==== Proof.FwdArrays.lean ====
/-
  The two arrays the forward kernel writes, from the real values of the launch's arrays.  Grid point `t` is query block
  `t % 16` of head `t / 16`; both results are written back at every point, and the gated one's last 512 columns at none.
-/
module

public import proofs.«01_k».proof.Proof.FwdRun
public import proofs.«01_k».proof.Proof.FwdWalk
public import proofs.«01_k».proof.Proof.Reference
public import Idealize.ShloMosaic.Lib.Pipeline.ValueKit
public import Idealize.ShloMosaic.Lib.Pipeline.Covers

@[expose] public section

set_option backward.isDefEq.respectTransparency false

noncomputable section

namespace Cert.Proof.SbFwd

open Cert.Kernel13Ideal Cert.Kernel13Ideal.Gen
open Cert.Proof.SbBwd (IsReal Head headOf gOf zOf oOf sgf up2 up2_congr block_up wt_head stopf)
open Idealize.ShloMosaic Idealize.ShloMosaic.TcCoe
open Finset (range Ico)

variable (m : (ℓ : Loc nD τ sig) → Buf (Elt Ideal) ℓ)

/-- The real values of what the kernel finds in device `c`'s arrays. -/
structure Inputs (c : Dev nD) (p kv : ℕ → ℕ → ℝ) : Prop where
  p : IsReal (φ := .f32) (a := 8192) (b := 4096) (V m c main_arg0) 3072 p
  kv : IsReal (φ := .bf16) (a := 8192) (b := 3072) (V m c main_arg1) 3072 kv

/-- Head `h` of the launch: its forward half is all that is used. -/
def fwdHead (p kv : ℕ → ℕ → ℝ) (h : ℕ) : Head := headOf (fun _ _ => 0) p kv (fun _ _ => 0) h

/-- The gated output. -/
def yReal (p kv : ℕ → ℕ → ℝ) (t c : ℕ) : ℝ := oOf p kv t c * (p t (1536 + c) * sgf (gOf p (c / 128)) t (c % 128))

/-- Nothing at or after its own place has weight in a query's sum. -/
theorem linesFrom_all (p kv : ℕ → ℕ → ℝ) (h i r f : ℕ) (ht : 512 * i + r < 8192) (hf : f < 128) :
    linesFrom (fwdHead p kv h) i 0 r f = oOf p kv (512 * i + r) (128 * h + f) := by
  unfold linesFrom oOf
  rw [show (128 * h + f) / 128 = h by omega, show (128 * h + f) % 128 = f by omega, Nat.mul_zero, Nat.Ico_zero_eq_range]
  refine Eq.trans (Finset.sum_congr rfl fun s _ => ?_)
    (Finset.sum_subset (fun x hx => by simp only [Finset.mem_range] at hx ⊢; omega) fun s _ hs => ?_)
  · rw [← Nat.add_assoc]; rfl
  · rw [if_neg (by simpa using hs), zero_mul]

/-! ## The blocks -/

theorem N_lt (t : Fin (cfg0 (F := Ideal)).N) : t.val < 192 := lt_of_lt_of_eq t.isLt (by decide : grid0.N = 192)
theorem coord1 : ∀ t : Fin grid0.N, (grid0.coords t 1).val = t.val % 16 := by decide +kernel

theorem idx0 : ∀ t : Fin grid0.N, cc0_transform_0 (grid0.coords t) = ![t.val % 16, t.val / 16] := by decide +kernel
theorem idx1 : ∀ t : Fin grid0.N, cc0_transform_1 (grid0.coords t) = ![t.val % 16, 12 + t.val / 16] := by decide +kernel
theorem idx2 : ∀ t : Fin grid0.N, cc0_transform_2 (grid0.coords t) = ![0, t.val / 16] := by decide +kernel
theorem idx3 : ∀ t : Fin grid0.N, cc0_transform_3 (grid0.coords t) = ![0, 12 + t.val / 16] := by decide +kernel
theorem idx4 : ∀ t : Fin grid0.N, cc0_transform_4 (grid0.coords t) = ![t.val % 16, t.val / 16] := by decide +kernel
theorem idx5 : ∀ t : Fin grid0.N, cc0_transform_5 (grid0.coords t) = ![t.val % 16, t.val / 16] := by decide +kernel

section Blocks
variable {m} {c : Dev nD} {p kv : ℕ → ℕ → ℝ} (H : Inputs m c p kv) (t : Fin (cfg0 (F := Ideal)).N)
include H

theorem iblk0_up : iblk m c 0 t = (up2 (rows (fwdHead p kv (t.val / 16)) (t.val % 16)) : FVec Ideal S512x128 .f32) := by
  refine block_up _ H.p (fun y => (((cfg0 (F := Ideal)).win 0).blk t).view.emb y) (512 * (t.val % 16)) (128 * (t.val / 16)) (fun y => ?_) (fun y => ?_)
    (by have := N_lt t; omega)
  · show cc0_transform_0 (grid0.coords t) 0 * 512 + 1 * (y 0).val = _
    rw [idx0]; show t.val % 16 * 512 + _ = _; omega
  · show cc0_transform_0 (grid0.coords t) 1 * 128 + 1 * (y 1).val = _
    rw [idx0]; show t.val / 16 * 128 + _ = _; omega

theorem iblk1_up : iblk m c 1 t =
    (up2 (fun r f => gOf p (t.val / 16) (512 * (t.val % 16) + r) f) : FVec Ideal S512x128 .f32) := by
  refine (block_up _ H.p (fun y => (((cfg0 (F := Ideal)).win 1).blk t).view.emb y) (512 * (t.val % 16)) (1536 + 128 * (t.val / 16)) (fun y => ?_) (fun y => ?_)
    (by have := N_lt t; omega))
  · show cc0_transform_1 (grid0.coords t) 0 * 512 + 1 * (y 0).val = _
    rw [idx1]; show t.val % 16 * 512 + _ = _; omega
  · show cc0_transform_1 (grid0.coords t) 1 * 128 + 1 * (y 1).val = _
    rw [idx1]; show (12 + t.val / 16) * 128 + _ = _; omega

theorem iblk2_up : iblk m c 2 t = (up2 (fwdHead p kv (t.val / 16)).k : FVec Ideal S8192x128 .bf16) := by
  refine (block_up _ H.kv (fun y => (((cfg0 (F := Ideal)).win 2).blk t).view.emb y) 0 (128 * (t.val / 16)) (fun y => ?_) (fun y => ?_)
    (by have := N_lt t; omega)).trans (up2_congr fun r _ f _ => ?_)
  · show cc0_transform_2 (grid0.coords t) 0 * 8192 + 1 * (y 0).val = _
    rw [idx2]; show 0 * 8192 + _ = _; omega
  · show cc0_transform_2 (grid0.coords t) 1 * 128 + 1 * (y 1).val = _
    rw [idx2]; show t.val / 16 * 128 + _ = _; omega
  · rw [Nat.zero_add]; rfl

theorem iblk3_up : iblk m c 3 t = (up2 (fwdHead p kv (t.val / 16)).v : FVec Ideal S8192x128 .bf16) := by
  refine (block_up _ H.kv (fun y => (((cfg0 (F := Ideal)).win 3).blk t).view.emb y) 0 (1536 + 128 * (t.val / 16)) (fun y => ?_) (fun y => ?_)
    (by have := N_lt t; omega)).trans (up2_congr fun r _ f _ => ?_)
  · show cc0_transform_3 (grid0.coords t) 0 * 8192 + 1 * (y 0).val = _
    rw [idx3]; show 0 * 8192 + _ = _; omega
  · show cc0_transform_3 (grid0.coords t) 1 * 128 + 1 * (y 1).val = _
    rw [idx3]; show (12 + t.val / 16) * 128 + _ = _; omega
  · rw [Nat.zero_add]; rfl

theorem linesAt_up : linesAt m c t = (up2 (linesFrom (fwdHead p kv (t.val / 16)) (t.val % 16) 0) : FVec Ideal S512x128 .f32) := by
  unfold linesAt
  rw [iblk0_up H, iblk2_up H, iblk3_up H, coord1]
  exact lines_at _ _ (Nat.mod_lt _ (by decide))

theorem gatedAt_up : gatedAt m c t = (up2 (fun r f => linesFrom (fwdHead p kv (t.val / 16)) (t.val % 16) 0 r f *
    (gOf p (t.val / 16) (512 * (t.val % 16) + r) f * sgf (fun r f => gOf p (t.val / 16) (512 * (t.val % 16) + r) f) r f)) :
      FVec Ideal S512x128 .bf16) := by
  unfold gatedAt
  rw [iblk0_up H, iblk1_up H, iblk2_up H, iblk3_up H, coord1]
  exact gated_at _ _ (Nat.mod_lt _ (by decide)) _

end Blocks

/-! ## The arrays -/

theorem covers5 : ((cfg0 (F := Ideal)).win 5).Covers := by decide +kernel
/-- The blocks of the gated result that are written: the first 12 of each row of blocks. -/
theorem covers4 : ((cfg0 (F := Ideal)).win 4).CoversWhere (fun β => β (1 : Fin 2) < 12) := by decide +kernel

section Results
variable {m} {c : Dev nD} {p kv : ℕ → ℕ → ℝ} (H : Inputs m c p kv)
include H

theorem arr5 : (dats m 0 c).arrAt 5 (cfg0 (F := Ideal)).N = (up2 (oOf p kv) : FVec Ideal S8192x1536 .f32) := by
  refine (dats m 0 c).arrAt_eq_of_covers 5 _ covers5 fun t _ y => ?_
  have h0 : (y 0).val < 512 := (y 0).isLt
  have h1 : (y 1).val < 128 := (y 1).isLt
  have e0 : ((((cfg0 (F := Ideal)).win 5).blk t).view.emb y 0).val = 512 * (t.val % 16) + (y 0).val := by
    show cc0_transform_5 (grid0.coords t) 0 * 512 + 1 * (y 0).val = _
    rw [idx5]; show t.val % 16 * 512 + _ = _; omega
  have e1 : ((((cfg0 (F := Ideal)).win 5).blk t).view.emb y 1).val = 128 * (t.val / 16) + (y 1).val := by
    show cc0_transform_5 (grid0.coords t) 1 * 128 + 1 * (y 1).val = _
    rw [idx5]; show t.val / 16 * 128 + _ = _; omega
  rw [after0_5, linesAt_up H]
  show ((linesFrom _ _ 0 (y 0).val (y 1).val : ℝ) : EReal) = ((oOf p kv _ _ : ℝ) : EReal)
  rw [e0, e1, linesFrom_all _ _ _ _ _ _ (by omega) h1]

theorem arr4 (i : S8192x2048.Idx) (hi : (i 1).val < 1536) :
    (dats m 0 c).arrAt 4 (cfg0 (F := Ideal)).N i = (up2 (yReal p kv) : FVec Ideal S8192x2048 .bf16) i := by
  refine ((dats m 0 c).arrAt_apply_of_coversWhere 4 (up2 (yReal p kv) : FVec Ideal S8192x2048 .bf16)
    (P := fun i => (i (1 : Fin 2)).val / 128 < 12) (fun β => β (1 : Fin 2) < 12) covers4 (fun t _ y => ?_) (fun j => Iff.rfl) i).trans
    (if_pos (by show (i 1).val / 128 < 12; omega))
  have h0 : (y 0).val < 512 := (y 0).isLt
  have h1 : (y 1).val < 128 := (y 1).isLt
  have e0 : ((((cfg0 (F := Ideal)).win 4).blk t).view.emb y 0).val = 512 * (t.val % 16) + (y 0).val := by
    show cc0_transform_4 (grid0.coords t) 0 * 512 + 1 * (y 0).val = _
    rw [idx4]; show t.val % 16 * 512 + _ = _; omega
  have e1 : ((((cfg0 (F := Ideal)).win 4).blk t).view.emb y 1).val = 128 * (t.val / 16) + (y 1).val := by
    show cc0_transform_4 (grid0.coords t) 1 * 128 + 1 * (y 1).val = _
    rw [idx4]; show t.val / 16 * 128 + _ = _; omega
  rw [after0_4, gatedAt_up H]
  show ((linesFrom _ _ 0 (y 0).val (y 1).val * _ : ℝ) : EReal) = ((yReal p kv _ _ : ℝ) : EReal)
  rw [e0, e1, linesFrom_all _ _ _ _ _ _ (by omega) h1]
  unfold yReal
  rw [show (128 * (t.val / 16) + (y 1).val) / 128 = t.val / 16 from by omega,
    show (128 * (t.val / 16) + (y 1).val) % 128 = (y 1).val from by omega, ← Nat.add_assoc]
  rfl

end Results

end Cert.Proof.SbFwd

end
-- ==== Proof.FwdReference.lean ====
/-
  The forward reference's two results on real arguments: the arrays the kernel writes.
-/
module

public import proofs.«01_k».proof.Proof.FwdArrays
public import proofs.«01_k».proof.Proof.Gen.Reference13Ideal.Run

@[expose] public section

set_option backward.isDefEq.respectTransparency false

noncomputable section

namespace Cert.Proof.SbFwd

open Cert.Reference13Ideal Cert.Reference13Ideal.Gen Cert.Reference13Ideal.Value
open Cert.Proof.SbBwd (IsReal gOf zOf oOf sgf sgf_eq up2 up2_congr heads heads_up attended attended_up3 slice_real whole2_one
  host_negf_up2 host_exp_up2 addf_up2 host_divf_up2 mulf_up2 truncf_up2)
open Idealize.ShloMosaic Idealize.ShloMosaic.StableHlo Idealize.SL.Sem
open Finset (range Ico)

variable (m : (ℓ : Loc nD τ sig) → Buf (Elt Ideal) ℓ) (c : Dev nD) {p kv : ℕ → ℕ → ℝ}

/-- The real values of the reference's arguments. -/
structure RealArgs (c : Dev nD) (p kv : ℕ → ℕ → ℝ) : Prop where
  p : IsReal (φ := .f32) (a := 8192) (b := 4096) (m ((c.tc : Thread nD τ).loc main_arg0)) 3072 p
  kv : IsReal (φ := .bf16) (a := 8192) (b := 3072) (m ((c.tc : Thread nD τ).loc main_arg1)) 3072 kv

/-- The two arguments' column ranges: queries and gate, keys and values. -/
def queries : FVec Ideal S8192x1536 .f32 :=
  extractStridedSlice S8192x1536 ![0, 0] (m ((c.tc : Thread nD τ).loc main_arg0)) slices_S8192x4096_S8192x1536_0_0
def gate : FVec Ideal S8192x1536 .f32 :=
  extractStridedSlice S8192x1536 ![0, 1536] (m ((c.tc : Thread nD τ).loc main_arg0)) slices_S8192x4096_S8192x1536_0_1536
def keys : FVec Ideal S8192x1536 .f32 :=
  extractStridedSlice S8192x1536 ![0, 0] (extf .f32 (m ((c.tc : Thread nD τ).loc main_arg1)) bitsLt_bf16_f32) slices_S8192x3072_S8192x1536_0_0
def values : FVec Ideal S8192x1536 .f32 :=
  extractStridedSlice S8192x1536 ![0, 1536] (extf .f32 (m ((c.tc : Thread nD τ).loc main_arg1)) bitsLt_bf16_f32) slices_S8192x3072_S8192x1536_0_1536

/-- The attention, and its swish gate. -/
def lined : FVec Ideal S8192x1536 .f32 := attended (heads (queries m c)) (heads (keys m c)) (heads (values m c))
def swish (g : FVec Ideal S8192x1536 .f32) : FVec Ideal S8192x1536 .f32 :=
  mulf g (Host.divf (broadcastInDim S8192x1536 ![] bcast_S_S8192x1536 (constant S_ .f32 0x3F800000#32))
    (addf (broadcastInDim S8192x1536 ![] bcast_S_S8192x1536 (constant S_ .f32 0x3F800000#32)) (Host.exp (Host.negf g))))

theorem v66_eq : res_main_v66 m c = lined m c := rfl
theorem v36_eq : res_main_v36 m c = concatenate S8192x2048 1
    [⟨S8192x1536, truncf .bf16 (mulf (lined m c) (swish (gate m c))) bitsLt_bf16_f32⟩,
      ⟨S8192x512, broadcastInDim S8192x512 ![] bcast_S_S8192x512 (constant S_ .bf16 0x0000#16)⟩]
    concatenates_S8192x1536_S8192x512_S8192x2048_d1 := rfl

section Values
variable {m c} (A : RealArgs m c p kv)
include A

theorem lined_up : lined m c = (up2 (oOf p kv) : FVec Ideal S8192x1536 .f32) := by
  have hkv : IsReal (φ := .f32) (a := 8192) (b := 3072) (extf .f32 (m ((c.tc : Thread nD τ).loc main_arg1)) bitsLt_bf16_f32) 3072 kv := A.kv
  unfold lined queries keys values
  rw [slice_real A.p slices_S8192x4096_S8192x1536_0_0 (by decide), slice_real hkv slices_S8192x3072_S8192x1536_0_0 (by decide),
    slice_real hkv slices_S8192x3072_S8192x1536_0_1536 (by decide), heads_up, heads_up, heads_up, attended_up3]
  simp only [Nat.zero_add]
  rfl

theorem swish_up : swish (gate m c) = (up2 (fun t c => p t (1536 + c) * sgf (gOf p (c / 128)) t (c % 128)) : FVec Ideal S8192x1536 .f32) := by
  unfold swish gate
  rw [slice_real A.p slices_S8192x4096_S8192x1536_0_1536 (by decide), whole2_one, host_negf_up2, host_exp_up2, addf_up2,
    host_divf_up2 _ _ (fun _ _ => by positivity), mulf_up2]
  refine up2_congr fun t _ c _ => ?_
  rw [sgf_eq, gOf, Nat.add_assoc, Nat.div_add_mod]

theorem v66_up : res_main_v66 m c = (up2 (oOf p kv) : FVec Ideal S8192x1536 .f32) := (v66_eq m c).trans (lined_up A)

theorem v36_up (i : S8192x2048.Idx) (hi : (i 1).val < 1536) :
    res_main_v36 m c i = (up2 (yReal p kv) : FVec Ideal S8192x2048 .bf16) i := by
  refine (congrFun (v36_eq m c) i).trans ?_
  rw [concatenate_pair_apply_left (s₁ := S8192x1536) (s₂ := S8192x512) 1 _ _ _ i rfl (ValueIdx.ix2 (i 0) ⟨(i 1).val, hi⟩ : S8192x1536.Idx) (fun b => by fin_cases b <;> rfl),
    lined_up A, swish_up A, mulf_up2]
  rfl

end Values

end Cert.Proof.SbFwd

end
-- ==== Proof.FwdFinite.lean ====
/-
  What the forward claim's precondition and mask give: every element of the columns the kernel reads is a real number, and
  the columns compared are those the kernel writes.
-/
module

public import proofs.«01_k».proof.Pre_finite13
public import proofs.«01_k».proof.On_written
public import proofs.«01_k».proof.Proof.Finite
public import proofs.«01_k».proof.Proof.Attended

@[expose] public section

set_option backward.isDefEq.respectTransparency false

noncomputable section

namespace Cert.Proof.SbFwd

open Idealize.ShloMosaic
open Cert.Proof.SbBwd (IsReal realOf isReal_of ofBits_inf ofBits_inf_bf16 slice_at slt_words)

instance facts_finite13 : Cert.Pre_finite13.Facts where
  slices_S8192x4096_S8192x3072_0_0 := by decide
  bcast_S_S8192x3072 := by decide
  reducesTo_S8192x3072_S_d0_1 := by decide
  h_S_ := by decide

instance facts_written : Cert.On_written.Facts where
  bcast_S_S2048 := by decide
  bcast_S2048_S8192x2048_1 := by decide
  bcast_S_S8192x1536 := by decide

section Finite
open Cert.Pre_finite13 Cert.Pre_finite13.Facts

theorem inputs_of_finite13 (x0 : FVec Ideal S8192x4096 .f32) (x1 : FVec Ideal S8192x3072 .bf16)
    (h : Cert.Pre_finite13.fn x0 x1 = fun _ => 1#1) : IsReal x0 3072 (realOf x0) ∧ IsReal x1 3072 (realOf x1) := by
  have h' := congrFun h ValueIdx.ix0
  dsimp only [Cert.Pre_finite13.fn] at h'
  obtain ⟨h0, h1⟩ := IntOp.andi_eq_one.1 h'
  refine ⟨isReal_of _ fun i hi => ?_, isReal_of _ fun i hi => ?_⟩
  · have e := Host.reduce_andi_all _ _ _ _ _ h0 (ValueIdx.ix2 (i 0) ⟨(i 1).val, hi⟩)
    rw [ValueIdx.cmpf_apply] at e
    rw [← ofBits_inf, ← slice_at x0 slices_S8192x4096_S8192x3072_0_0 i hi]
    exact e
  · have e := Host.reduce_andi_all _ _ _ _ _ h1 i
    rw [ValueIdx.cmpf_apply] at e
    rw [← ofBits_inf_bf16]
    exact e

end Finite

section Mask
open Cert.On_written Cert.On_written.Facts

theorem written_lt (x0 : FVec Ideal S8192x4096 .f32) (x1 : FVec Ideal S8192x3072 .bf16) (i : S8192x2048.Idx)
    (h : (Cert.On_written.fn x0 x1).1 i = 1#1) : (i 1).val < 1536 := by
  have h1 : (i 1).val < 2048 := (i 1).isLt
  dsimp only [Cert.On_written.fn] at h
  rw [broadcastInDim_apply _ bcast_S2048_S8192x2048_1 _ i (ValueIdx.ix1 (i 1)) (fun a => by fin_cases a; rfl)] at h
  have h' : IntOp.cmpi .slt (BitVec.ofNat 32 (i 1).val) (BitVec.ofNat 32 1536) = 1#1 := h
  rw [slt_words _ _ (by omega) (by decide)] at h'
  by_contra hn
  rw [if_neg hn] at h'
  exact absurd h' (by decide)

end Mask

end Cert.Proof.SbFwd

end
-- ==== Proof.RowSlope.lean ====
/-
  The gradient of the row normalisation: the kernel's closed form `r (a - h r · mean (a h r))` and the chain rule's
  `a r + 2 h · (Σ h a) (-r³/2) / 2048` agree at every extended real, because `r` is a nonnegative real whatever the row holds:
  such a factor distributes over sums, and products commute and associate.
-/
module

public import proofs.«01_k».proof.Proof.RowNorm

@[expose] public section

set_option backward.isDefEq.respectTransparency false

noncomputable section

namespace Cert.Proof.Product

open Idealize.ShloMosaic
open Finset (range)

/-! ## Extended reals -/

theorem mul_self_nonneg' (x : EReal) : 0 ≤ x * x := by
  induction x using EReal.rec with
  | bot => simp
  | top => simp
  | coe x => exact_mod_cast mul_self_nonneg x

theorem real_mul_add {c : ℝ} (hc : 0 ≤ c) (x y : EReal) : (c : EReal) * (x + y) = c * x + c * y :=
  EReal.left_distrib_of_nonneg_of_ne_top (EReal.coe_nonneg.2 hc) (EReal.coe_ne_top c) x y

theorem real_mul_sum {c : ℝ} (hc : 0 ≤ c) (s : Finset ℕ) (f : ℕ → EReal) : (c : EReal) * ∑ k ∈ s, f k = ∑ k ∈ s, (c : EReal) * f k := by
  induction s using Finset.cons_induction with
  | empty => simp
  | cons a s h ih => rw [Finset.sum_cons, Finset.sum_cons, real_mul_add hc, ih]

theorem add_self_eq (x : EReal) : x + x = x * ((2 : ℝ) : EReal) := by
  induction x using EReal.rec with
  | bot => rw [EReal.bot_mul_coe_of_pos (by norm_num)]; rfl
  | top => rw [EReal.top_mul_coe_of_pos (by norm_num)]; rfl
  | coe x => rw [← EReal.coe_add, ← EReal.coe_mul, mul_two]

/-! ## The constants -/

theorem ofBits_width : (Scalar.ofBits .f32 0x45000000#32 : Ideal .f32) = ((2048 : ℝ) : EReal) := by
  show Ideal.ofBits .f32 0x45000000#32 = _
  simp [Ideal.ofBits, Ideal.ieee, ← EReal.coe_mul, -EReal.coe_mul]
  norm_num
theorem ofBits_minus_half : (Scalar.ofBits .f32 0xBF000000#32 : Ideal .f32) = ((-(1 / 2) : ℝ) : EReal) := by
  show Ideal.ofBits .f32 0xBF000000#32 = _
  simp [Ideal.ofBits, Ideal.ieee, ← EReal.coe_mul, -EReal.coe_mul]
  norm_num
theorem ofBits_eps : ∃ e : ℝ, 0 < e ∧ (Scalar.ofBits .f32 0x358637BD#32 : Ideal .f32) = (e : EReal) := by
  refine ⟨(Ideal.ofBits .f32 0x358637BD#32).toReal, ?_, (EReal.coe_toReal ?_ ?_).symm⟩ <;>
    simp [Ideal.ofBits, Ideal.ieee, ← EReal.coe_mul, -EReal.coe_mul]

theorem div_width (x : EReal) : Ideal.div x (Scalar.ofBits .f32 0x45000000#32 : Ideal .f32) = x * ((2048⁻¹ : ℝ) : EReal) := by
  rw [ofBits_width]
  unfold Ideal.div
  rw [if_neg (by norm_num), ← EReal.coe_inv]

/-! ## A row's scale -/

/-- The row's mean square and `ε`. -/
def moment (h : ℕ → ℕ → EReal) (r : ℕ) : EReal :=
  Ideal.div (∑ k ∈ range 2048, h r k * h r k) (Scalar.ofBits (F := Ideal) .f32 0x45000000#32) + Scalar.ofBits (F := Ideal) .f32 0x358637BD#32

/-- Whatever the row holds its scale is a nonnegative real, and the scale over the moment is its cube. -/
theorem scale_real (h : ℕ → ℕ → EReal) (r : ℕ) :
    ∃ ρ : ℝ, 0 ≤ ρ ∧ scale h r = (ρ : EReal) ∧ Ideal.div (Ideal.rsqrt (moment h r)) (moment h r) = ((ρ ^ 3 : ℝ) : EReal) := by
  obtain ⟨e, he, hE⟩ := ofBits_eps
  have hS : 0 ≤ ∑ k ∈ range 2048, h r k * h r k := Finset.sum_nonneg fun k _ => mul_self_nonneg' _
  have hm : moment h r = (∑ k ∈ range 2048, h r k * h r k) * ((2048⁻¹ : ℝ) : EReal) + (e : EReal) := by
    unfold moment
    rw [div_width, hE]
  have hs : scale h r = Ideal.rsqrt (moment h r) := rfl
  rw [hs, hm]
  generalize (∑ k ∈ range 2048, h r k * h r k) = S at hS ⊢
  induction S using EReal.rec with
  | bot => simp at hS
  | top =>
    refine ⟨0, le_rfl, ?_, ?_⟩
    · rw [EReal.top_mul_coe_of_pos (by norm_num), EReal.top_add_coe]; rfl
    · rw [EReal.top_mul_coe_of_pos (by norm_num), EReal.top_add_coe]
      show Ideal.div 0 ⊤ = _
      unfold Ideal.div
      simp
  | coe s =>
    have hs : 0 ≤ s := by exact_mod_cast hS
    have ha : 0 < s * 2048⁻¹ + e := by positivity
    rw [← EReal.coe_mul, ← EReal.coe_add]
    generalize s * 2048⁻¹ + e = a at ha ⊢
    have hr : Ideal.rsqrt (a : EReal) = (((Real.sqrt a)⁻¹ : ℝ) : EReal) := by
      show (if a < 0 then ⊥ else if a = 0 then ⊤ else (((Real.sqrt a)⁻¹ : ℝ) : EReal)) = _
      rw [if_neg (not_lt.2 ha.le), if_neg ha.ne']
    refine ⟨(Real.sqrt a)⁻¹, inv_nonneg.2 (Real.sqrt_nonneg a), hr, ?_⟩
    rw [hr]
    unfold Ideal.div
    rw [if_neg (by exact_mod_cast ha.ne'), ← EReal.coe_inv, ← EReal.coe_mul, inv_pow, pow_succ, Real.sq_sqrt ha.le, mul_inv, mul_comm]

/-! ## The gradient -/

section Slope
variable (u h : ℕ → ℕ → EReal) (g : ℕ → EReal)

/-- What reaches the normalised rows. -/
def reach (r c : ℕ) : EReal := u r c * g c
/-- The kernel's closed form. -/
def slope (r c : ℕ) : EReal :=
  scale h r * (reach u g r c - h r c * scale h r *
    Ideal.div (∑ k ∈ range 2048, reach u g r k * (h r k * scale h r)) (Scalar.ofBits (F := Ideal) .f32 0x45000000#32))
/-- The chain rule's row term: the gradient of the moment. -/
def pull (r : ℕ) : EReal :=
  Ideal.div ((∑ k ∈ range 2048, h r k * reach u g r k) *
    (Scalar.ofBits (F := Ideal) .f32 0xBF000000#32 * Ideal.div (Ideal.rsqrt (moment h r)) (moment h r))) (Scalar.ofBits (F := Ideal) .f32 0x45000000#32)

theorem slope_eq (r c : ℕ) : slope u h g r c = reach u g r c * scale h r + h r c * pull u h g r + pull u h g r * h r c := by
  obtain ⟨ρ, hρ, hs, hd⟩ := scale_real h r
  unfold slope pull
  rw [hd, hs, ofBits_minus_half, div_width, div_width]
  rw [show (∑ k ∈ range 2048, reach u g r k * (h r k * (ρ : EReal))) = ρ * ∑ k ∈ range 2048, h r k * reach u g r k by
    rw [real_mul_sum hρ]
    exact Finset.sum_congr rfl fun k _ => by ac_rfl]
  generalize (∑ k ∈ range 2048, h r k * reach u g r k) = S
  generalize reach u g r c = a
  generalize h r c = x
  rw [← EReal.coe_mul, sub_eq_add_neg, real_mul_add hρ, add_assoc, mul_comm (S * _ * _) x, add_self_eq]
  refine congrArg₂ (· + ·) (mul_comm _ _) ?_
  rw [show -(x * (ρ : EReal) * (ρ * S * ((2048⁻¹ : ℝ) : EReal))) = x * S * ((-(ρ * ρ * 2048⁻¹) : ℝ) : EReal) by
    rw [EReal.coe_neg, mul_neg, EReal.coe_mul, EReal.coe_mul]
    exact congrArg _ (by ac_rfl)]
  rw [show (ρ : EReal) * (x * S * ((-(ρ * ρ * 2048⁻¹) : ℝ) : EReal)) = x * S * ((ρ * -(ρ * ρ * 2048⁻¹) : ℝ) : EReal) by
    rw [EReal.coe_mul]; ac_rfl]
  rw [show x * (S * ((-(1 / 2) * ρ ^ 3 : ℝ) : EReal) * ((2048⁻¹ : ℝ) : EReal)) * ((2 : ℝ) : EReal) =
      x * S * ((-(1 / 2) * ρ ^ 3 * 2048⁻¹ * 2 : ℝ) : EReal) by
    rw [EReal.coe_mul _ (2 : ℝ), EReal.coe_mul _ (2048⁻¹ : ℝ)]; ac_rfl]
  congr 2
  ring

end Slope

/-! ## The kernel's operations -/

theorem colSum_e2 {n m : ℕ} (x : ℕ → ℕ → EReal) (hr : (⟨2, ![n, m]⟩ : Shape).Reduces [0] ⟨1, ![m]⟩) (hb) (hi)
    (hc : (⟨1, ![m]⟩ : Shape).ShapeCasts ⟨2, ![1, m]⟩) :
    shapeCast ⟨2, ![1, m]⟩ (multiReduction .add [0] ⟨1, ![m]⟩ (e2 x : FVec Ideal ⟨2, ![n, m]⟩ .f32) 0x00000000#32 hr hb hi) hc =
      (e2 (fun _ c => ∑ r ∈ range n, x r c) : FVec Ideal _ .f32) := by
  funext j
  rw [shapeCast_apply _ hc j (ValueIdx.ix1 (j 1)) (by
    rw [Shape.rowMajor_val_one, Shape.rowMajor_val_two]
    have e0 : (j 0).val = 0 := Nat.lt_one_iff.1 (j 0).isLt
    show (j 1).val = (j 0).val * m + (j 1).val
    rw [e0]; simp)]
  rw [Ideal.multiReduction_add_single]
  exact Fin.sum_univ_eq_sum_range (fun r => x r (j 1).val) n

/-- One grid point's block of the gradient. -/
theorem slope_e2 {n : ℕ} (hn : n ≠ 1) (u h g s : ℕ → ℕ → EReal) (hr : (⟨2, ![n, 2048]⟩ : Shape).Reduces [1] ⟨1, ![n]⟩) (hb) (hi)
    (hc : (⟨1, ![n]⟩ : Shape).ShapeCasts ⟨2, ![n, 1]⟩) (h₁ : (⟨2, ![n, 1]⟩ : Shape).Broadcasts ⟨2, ![n, 2048]⟩)
    (h₂ : (⟨2, ![1, 2048]⟩ : Shape).Broadcasts ⟨2, ![n, 2048]⟩) (h₃ : (⟨2, ![1, 2048]⟩ : Shape).ShapeCasts ⟨2, ![1, 2048]⟩) :
    addf (e2 s : FVec Ideal ⟨2, ![n, 2048]⟩ .f32) (mulf (broadcastTo ⟨2, ![n, 2048]⟩ (e2 (fun r _ => scale h r) : FVec Ideal ⟨2, ![n, 1]⟩ .f32) h₁)
      (subf (mulf (e2 u) (broadcastTo ⟨2, ![n, 2048]⟩ (shapeCast ⟨2, ![1, 2048]⟩ (e2 g : FVec Ideal ⟨2, ![1, 2048]⟩ .f32) h₃) h₂))
        (mulf (e2 (fun r c => h r c * scale h r)) (broadcastTo ⟨2, ![n, 2048]⟩ (divf (shapeCast ⟨2, ![n, 1]⟩ (multiReduction .add [1] ⟨1, ![n]⟩
          (mulf (mulf (e2 u) (broadcastTo ⟨2, ![n, 2048]⟩ (shapeCast ⟨2, ![1, 2048]⟩ (e2 g : FVec Ideal ⟨2, ![1, 2048]⟩ .f32) h₃) h₂))
            (e2 (fun r c => h r c * scale h r)) : FVec Ideal ⟨2, ![n, 2048]⟩ .f32) 0x00000000#32 hr hb hi) hc)
          (broadcast ⟨2, ![n, 1]⟩ (Scalar.ofBits .f32 0x45000000#32))) h₁)))) =
    (e2 (fun r c => s r c + slope u h (g 0) r c) : FVec Ideal ⟨2, ![n, 2048]⟩ .f32) := by
  rw [shapeCast_self, broadcastTo_row_e2 (by omega), mulf_e2, mulf_e2, rowSum_e2, broadcastTo_column_e2 hn]
  change addf _ (mulf _ (subf _ (mulf _ (broadcastTo ⟨2, ![n, 2048]⟩ (e2 (fun r _ => Ideal.div (∑ k ∈ range 2048, u r k * g 0 k * (h r k * scale h r))
    (Scalar.ofBits (F := Ideal) .f32 0x45000000#32)) : FVec Ideal ⟨2, ![n, 1]⟩ .f32) h₁)))) = _
  rw [broadcastTo_column_e2 hn]
  rfl

/-! ## The host's -/

theorem hostColSum_e2 {n m : ℕ} (x : ℕ → ℕ → EReal) (h : (⟨2, ![n, m]⟩ : Shape).ReducesTo [0] ⟨1, ![m]⟩) (hk : (⟨2, ![n, m]⟩ : Shape).Reduces [0] ⟨1, ![m]⟩)
    (hu) (hc : (⟨1, ![m]⟩ : Shape).ShapeCasts ⟨2, ![1, m]⟩) :
    shapeCast ⟨2, ![1, m]⟩ (Host.reduceAdd (e2 x : FVec Ideal ⟨2, ![n, m]⟩ .f32) (constant ⟨0, ![]⟩ .f32 0x00000000#32) h hu) hc =
      (e2 (fun _ c => ∑ r ∈ range n, x r c) : FVec Ideal _ .f32) := by
  rw [← multiReduction_add_eq_hostReduceAdd (e2 x : FVec Ideal ⟨2, ![n, m]⟩ .f32) 0x00000000#32 hk (.inl rfl) rfl _ h hu Ideal.ofBits_zero_f32]
  exact colSum_e2 x hk _ _ hc

theorem hostRowSumCast_e2 {n m : ℕ} (x : ℕ → ℕ → EReal) (h : (⟨2, ![n, m]⟩ : Shape).ReducesTo [1] ⟨1, ![n]⟩) (hk : (⟨2, ![n, m]⟩ : Shape).Reduces [1] ⟨1, ![n]⟩)
    (hu) (hc : (⟨1, ![n]⟩ : Shape).ShapeCasts ⟨2, ![n, 1]⟩) :
    shapeCast ⟨2, ![n, 1]⟩ (Host.reduceAdd (e2 x : FVec Ideal ⟨2, ![n, m]⟩ .f32) (constant ⟨0, ![]⟩ .f32 0x00000000#32) h hu) hc =
      (e2 (fun r _ => ∑ c ∈ range m, x r c) : FVec Ideal _ .f32) := by
  rw [← multiReduction_add_eq_hostReduceAdd (e2 x : FVec Ideal ⟨2, ![n, m]⟩ .f32) 0x00000000#32 hk (.inl rfl) rfl _ h hu Ideal.ofBits_zero_f32]
  exact rowSum_e2 x hk _ _ hc

/-- A column summed along its one element and put in every column. -/
theorem hostColumn_e2 {n m : ℕ} (hn : n ≠ 1) (x : ℕ → ℕ → EReal) (h : (⟨2, ![n, 1]⟩ : Shape).ReducesTo [1] ⟨1, ![n]⟩)
    (hk : (⟨2, ![n, 1]⟩ : Shape).Reduces [1] ⟨1, ![n]⟩) (hu) (hb : (⟨1, ![n]⟩ : Shape).BroadcastsInDim ⟨2, ![n, m]⟩ ![0]) :
    broadcastInDim ⟨2, ![n, m]⟩ ![0] hb (Host.reduceAdd (e2 x : FVec Ideal ⟨2, ![n, 1]⟩ .f32) (constant ⟨0, ![]⟩ .f32 0x00000000#32) h hu) =
      (e2 (fun r _ => x r 0) : FVec Ideal _ .f32) := by
  funext j
  rw [← multiReduction_add_eq_hostReduceAdd (e2 x : FVec Ideal ⟨2, ![n, 1]⟩ .f32) 0x00000000#32 hk (.inl rfl) rfl _ h hu Ideal.ofBits_zero_f32,
    broadcastInDim_apply _ hb _ j (ValueIdx.ix1 (j 0)) (fun a => by
      fin_cases a
      show (j 0).val = if n = 1 then 0 else (j 0).val
      rw [if_neg hn]),
    Ideal.multiReduction_add_single]
  exact (Fin.sum_univ_eq_sum_range (fun c => x (j 0).val c) 1).trans (Finset.sum_range_one _)

theorem hostMoment_e2 {n : ℕ} (h : ℕ → ℕ → EReal) (hb) (hb') :
    addf (Host.divf (e2 (fun r _ => ∑ c ∈ range 2048, h r c * h r c) : FVec Ideal ⟨2, ![n, 1]⟩ .f32)
      (broadcastInDim ⟨2, ![n, 1]⟩ ![] hb (constant ⟨0, ![]⟩ .f32 0x45000000#32)))
      (broadcastInDim ⟨2, ![n, 1]⟩ ![] hb' (constant ⟨0, ![]⟩ .f32 0x358637BD#32)) =
      (e2 (fun r _ => moment h r) : FVec Ideal _ .f32) := rfl

theorem hostScaleMoment_e2 {n : ℕ} (h : ℕ → ℕ → EReal) :
    Host.rsqrt (e2 (fun r _ => moment h r) : FVec Ideal ⟨2, ![n, 1]⟩ .f32) = (e2 (fun r _ => scale h r) : FVec Ideal _ .f32) := rfl

theorem hostPull_e2 {n : ℕ} (u h : ℕ → ℕ → EReal) (g : ℕ → EReal) (hb) (hb') :
    Host.divf (mulf (e2 (fun r _ => ∑ k ∈ range 2048, h r k * (u r k * g k)) : FVec Ideal ⟨2, ![n, 1]⟩ .f32)
      (mulf (broadcastInDim ⟨2, ![n, 1]⟩ ![] hb (constant ⟨0, ![]⟩ .f32 0xBF000000#32))
        (Host.divf (e2 (fun r _ => scale h r)) (e2 (fun r _ => moment h r)))))
      (broadcastInDim ⟨2, ![n, 1]⟩ ![] hb' (constant ⟨0, ![]⟩ .f32 0x45000000#32)) = (e2 (fun r _ => pull u h g r) : FVec Ideal _ .f32) := rfl

end Cert.Proof.Product

end
-- ==== Proof.NormGradient.lean ====
/-
  The gradient of the row normalisation: each grid point holds 256 whole rows, adds their gradient to the stream's and adds
  their share of the gain's gradient into the one block every point writes.
-/
module

public import proofs.«01_k».proof.Defs
public import proofs.«01_k».proof.Proof.RowSlope
public import proofs.«01_k».proof.Proof.Tiles
public import proofs.«01_k».proof.Proof.Gen.Kernel14Ideal.Frame
public import proofs.«01_k».proof.Proof.Gen.Reference14Ideal.Run
public import Idealize.ShloMosaic.Lib.Pipeline.Covers

@[expose] public section

set_option backward.isDefEq.respectTransparency false

noncomputable section

namespace Cert.Proof.Product.NormGradient

open Cert.Kernel14Ideal Cert.Kernel14Ideal.Gen
open Idealize.ShloMosaic Idealize.ShloMosaic.TcCoe Idealize.ShloMosaic.Tactic
open Finset (range)

/-! ## One grid point -/

section Point
variable (c : Dev nD) (i : grid0.Coords) (a0 : Memref sig .tc .vmem S256x2048 .f32) (h0 : a0.IsWhole) (a1 : Memref sig .tc .vmem S256x2048 .f32)
  (h1 : a1.IsWhole) (a2 : Memref sig .tc .vmem S1x2048 .f32) (h2 : a2.IsWhole) (a3 : Memref sig .tc .vmem S256x2048 .f32) (h3 : a3.IsWhole)
  (a4 : Memref sig .tc .vmem S256x2048 .f32) (h4 : a4.IsWhole) (a5 : Memref sig .tc .vmem S1x2048 .f32) (h5 : a5.IsWhole)
  (u h : Vec Ideal S256x2048 .f32) (g : Vec Ideal S1x2048 .f32) (s : Vec Ideal S256x2048 .f32) (acc : Vec Ideal S1x2048 .f32)

theorem rows_first (hc : cond0_0 i) : out0_A_4 c i a0 h0 a1 h1 a2 h2 a3 h3 a4 h4 a5 h5 hc u h g s = k0_pay5 h u g s := by
  unfold out0_A_4
  rw [View.read_writes_eq_canon _ _ _ (cover0_A_4 c i a0 h0 a1 h1 a2 h2 a3 h3 a4 h4 a5 h5 hc u h g s)]
  dsimp only [kernelRun0_A]
  sl_unfold_words
  rw [View.canon_unit_zero hz]
  simp only [View.readAt_eq_ld, h0.read_unread, h1.read_unread, h2.read_unread, h3.read_unread, View.ld_unit_zero (S := S256x2048) hz,
    View.ld_unit_zero (S := S1x2048) hz]

theorem rows_later (hc : ¬cond0_0 i) : out0_B_4 c i a0 h0 a1 h1 a2 h2 a3 h3 a4 h4 a5 h5 hc u h g s acc = k0_pay5 h u g s := by
  unfold out0_B_4
  rw [View.read_writes_eq_canon _ _ _ (cover0_B_4 c i a0 h0 a1 h1 a2 h2 a3 h3 a4 h4 a5 h5 hc u h g s acc)]
  dsimp only [kernelRun0_B]
  sl_unfold_words
  rw [View.canon_unit_zero hz]
  simp only [View.readAt_eq_ld, h0.read_unread, h1.read_unread, h2.read_unread, h3.read_unread, View.ld_unit_zero (S := S256x2048) hz,
    View.ld_unit_zero (S := S1x2048) hz]

/-- The first point clears the gain's block and adds its share. -/
theorem gain_first (hc : cond0_0 i) :
    out0_A_5 c i a0 h0 a1 h1 a2 h2 a3 h3 a4 h4 a5 h5 hc u h g s = k0_pay1 (k0_pay6 (k0_pay2 (F := Ideal))) (k0_pay7 h u) := by
  unfold out0_A_5
  rw [View.read_writes_eq_canon _ _ _ (cover0_A_5 c i a0 h0 a1 h1 a2 h2 a3 h3 a4 h4 a5 h5 hc u h g s)]
  dsimp only [kernelRun0_A]
  sl_unfold_words
  rw [View.canon_cons_unit_zero (S := S1x2048) hz, View.readCov_unit_zero (S := S1x2048) _ hz]
  simp only [View.readAt_eq_ld, h0.read_unread, h1.read_unread, View.ld_unit_zero (S := S256x2048) hz, View.ld_unit_zero (S := S1x2048) hz]

/-- A later point adds its share. -/
theorem gain_later (hc : ¬cond0_0 i) :
    out0_B_5 c i a0 h0 a1 h1 a2 h2 a3 h3 a4 h4 a5 h5 hc u h g s acc = k0_pay1 (k0_pay6 acc) (k0_pay7 h u) := by
  unfold out0_B_5
  rw [View.read_writes_eq_canon _ _ _ (cover0_B_5 c i a0 h0 a1 h1 a2 h2 a3 h3 a4 h4 a5 h5 hc u h g s acc)]
  dsimp only [kernelRun0_B]
  sl_unfold_words
  rw [View.canon_unit_zero hz]
  simp only [View.readAt_eq_ld, h0.read_unread, h1.read_unread, h5.read_unread, View.ld_unit_zero (S := S256x2048) hz,
    View.ld_unit_zero (S := S1x2048) hz]

end Point

/-- A row's share of the gain's gradient. -/
def share (u h : ℕ → ℕ → EReal) (r c : ℕ) : EReal := u r c * (h r c * scale h r)

section Values
variable (u h g s : ℕ → ℕ → EReal)

theorem pay3_e2 : k0_pay3 (F := Ideal) (e2 h : FVec Ideal S256x2048 .f32) = (e2 (fun r _ => scale h r) : FVec Ideal S256x1 .f32) := by
  unfold k0_pay3
  dsimp only
  rw [mulf_e2, rowSum_e2, scale_e2]

theorem pay4_e2 : k0_pay4 (F := Ideal) (e2 h : FVec Ideal S256x2048 .f32) = (e2 (fun r c => h r c * scale h r) : FVec Ideal S256x2048 .f32) := by
  unfold k0_pay4
  dsimp only
  rw [pay3_e2, broadcastTo_column_e2 (by decide), mulf_e2]

theorem pay5_e2 :
    k0_pay5 (F := Ideal) (e2 h : FVec Ideal S256x2048 .f32) (e2 u : FVec Ideal S256x2048 .f32) (e2 g : FVec Ideal S1x2048 .f32)
      (e2 s : FVec Ideal S256x2048 .f32) = (e2 (fun r c => s r c + slope u h (g 0) r c) : FVec Ideal S256x2048 .f32) := by
  unfold k0_pay5
  rw [pay4_e2, pay3_e2]
  exact slope_e2 (by decide) _ _ _ _ _ _ _ _ _ _ _

theorem pay7_e2 :
    k0_pay7 (F := Ideal) (e2 h : FVec Ideal S256x2048 .f32) (e2 u : FVec Ideal S256x2048 .f32) =
      (e2 (fun _ c => ∑ r ∈ range 256, share u h r c) : FVec Ideal S1x2048 .f32) := by
  unfold k0_pay7
  rw [pay4_e2, mulf_e2]
  exact colSum_e2 _ _ _ _ _

theorem add_share (x y : ℕ → ℕ → EReal) :
    k0_pay1 (F := Ideal) (k0_pay6 (e2 x : FVec Ideal S1x2048 .f32)) (e2 y : FVec Ideal S1x2048 .f32) = (e2 (fun r c => x r c + y r c) : FVec Ideal _ .f32) := by
  unfold k0_pay1 k0_pay6
  rw [shapeCast_self, addf_e2]

theorem pay2_e2 : k0_pay2 (F := Ideal) = (e2 (fun _ _ => 0) : FVec Ideal S1x2048 .f32) := by
  unfold k0_pay2
  funext j
  exact Ideal.ofBits_zero_f32

end Values

/-! ## The arrays -/

section Blocks
variable (u h : ℕ → ℕ → EReal) (g s : ℕ → ℕ → EReal)

theorem scale_tile (p r : ℕ) : scale (fun r k => h (256 * p + r) (2048 * 0 + k)) r = scale h (256 * p + r) :=
  scale_congr fun k _ => by rw [Nat.mul_zero, Nat.zero_add]

/-- A row lies in one block, so its gradient there is that of the whole row. -/
theorem slope_tile (p r c : ℕ) :
    s (256 * p + r) (2048 * 0 + c) + slope (fun r k => u (256 * p + r) (2048 * 0 + k)) (fun r k => h (256 * p + r) (2048 * 0 + k))
      (fun k => g (1 * 0 + 0) (2048 * 0 + k)) r c =
      s (256 * p + r) (2048 * 0 + c) + slope u h (g 0) (256 * p + r) (2048 * 0 + c) := by
  unfold slope reach
  rw [scale_tile]
  simp only [Nat.mul_zero, Nat.zero_add]

/-- The gain's gradient from the rows of the points up to `n`. -/
def gathered (n : ℕ) (_ c : ℕ) : EReal := ∑ r ∈ range (256 * (n + 1)), share u h r c

theorem share_tile (p c : ℕ) :
    ∑ r ∈ range 256, share (fun r k => u (256 * p + r) (2048 * 0 + k)) (fun r k => h (256 * p + r) (2048 * 0 + k)) r c =
      ∑ r ∈ range 256, share u h (256 * p + r) c := by
  refine Finset.sum_congr rfl fun r _ => ?_
  unfold share
  rw [scale_tile]
  simp only [Nat.mul_zero, Nat.zero_add]

theorem gathered_tile (n r c : ℕ) : gathered u h n r c = gathered u h n (1 * 0 + r) (2048 * 0 + c) := by
  unfold gathered
  simp only [Nat.mul_zero, Nat.zero_add]

theorem gathered_first (n r c : ℕ) (hn : n = 0) : 0 + ∑ r ∈ range 256, share u h (256 * n + r) c = gathered u h n r c := by
  subst hn
  unfold gathered
  rw [zero_add]
  exact Finset.sum_congr rfl fun r _ => by rw [Nat.mul_zero, Nat.zero_add]

theorem gathered_next (n r c : ℕ) (hn : n ≠ 0) :
    gathered u h (n - 1) r c + ∑ r ∈ range 256, share u h (256 * n + r) c = gathered u h n r c := by
  unfold gathered
  rw [show n - 1 + 1 = n from by omega, Nat.mul_succ, Finset.sum_range_add]

end Blocks

variable (m : (ℓ : Loc nD τ sig) → Buf (Elt Ideal) ℓ) (c : Dev nD)

/-- The arguments by coordinates. -/
def gradient : ℕ → ℕ → EReal := at2 (n := 8192) (m := 2048) (φ := .f32) (V m c main_arg0)
def rows : ℕ → ℕ → EReal := at2 (n := 8192) (m := 2048) (φ := .f32) (V m c main_arg1)
def gain : ℕ → ℕ → EReal := at2 (n := 1) (m := 2048) (φ := .f32) (V m c main_v0)
def stream : ℕ → ℕ → EReal := at2 (n := 8192) (m := 2048) (φ := .f32) (V m c main_arg3)

theorem V_main_v0 : V m c main_v0 = shapeCast S1x2048 (m ((c : Thread nD τ).loc main_arg2)) shapeCasts_S2048_S1x2048 := by
  show StableHlo.after hostOps0 _ _ = _
  simp only [hostOps0]
  after_results_simp
  all_goals rfl

theorem idx0 : ∀ t : Fin grid0.N, cc0_transform_0 (grid0.coords t) = ![t.val, 0] := by decide +kernel
theorem idx1 : ∀ t : Fin grid0.N, cc0_transform_1 (grid0.coords t) = ![t.val, 0] := by decide +kernel
theorem idx2 : ∀ t : Fin grid0.N, cc0_transform_2 (grid0.coords t) = ![0, 0] := by decide +kernel
theorem idx3 : ∀ t : Fin grid0.N, cc0_transform_3 (grid0.coords t) = ![t.val, 0] := by decide +kernel
theorem idx4 : ∀ t : Fin grid0.N, cc0_transform_4 (grid0.coords t) = ![t.val, 0] := by decide +kernel
theorem idx5 : ∀ t : Fin grid0.N, cc0_transform_5 (grid0.coords t) = ![0, 0] := by decide +kernel

theorem iblk0_e2 (t : Fin cfg0.N) :
    iblk m c 0 t = (e2 fun r k => gradient m c (256 * t.val + r) (2048 * 0 + k) : FVec Ideal S256x2048 .f32) :=
  tile_e2 (V m c main_arg0) (fun y => (cfg0.win 0).blk t |>.view.emb y) (idx0 t) (fun _ => rfl) (fun _ => rfl)
theorem iblk1_e2 (t : Fin cfg0.N) :
    iblk m c 1 t = (e2 fun r k => rows m c (256 * t.val + r) (2048 * 0 + k) : FVec Ideal S256x2048 .f32) :=
  tile_e2 (V m c main_arg1) (fun y => (cfg0.win 1).blk t |>.view.emb y) (idx1 t) (fun _ => rfl) (fun _ => rfl)
theorem iblk2_e2 (t : Fin cfg0.N) :
    iblk m c 2 t = (e2 fun r k => gain m c (1 * 0 + r) (2048 * 0 + k) : FVec Ideal S1x2048 .f32) :=
  tile_e2 (V m c main_v0) (fun y => (cfg0.win 2).blk t |>.view.emb y) (idx2 t) (fun _ => rfl) (fun _ => rfl)
theorem iblk3_e2 (t : Fin cfg0.N) :
    iblk m c 3 t = (e2 fun r k => stream m c (256 * t.val + r) (2048 * 0 + k) : FVec Ideal S256x2048 .f32) :=
  tile_e2 (V m c main_arg3) (fun y => (cfg0.win 3).blk t |>.view.emb y) (idx3 t) (fun _ => rfl) (fun _ => rfl)

theorem rows_eq (t : Fin cfg0.N) :
    (outsAt0 m c t.val t.isLt).1 = k0_pay5 (F := Ideal) (iblk m c 1 t) (iblk m c 0 t) (iblk m c 2 t) (iblk m c 3 t) := by
  by_cases h : t.val % 32 = 0
  · rw [outsAt0_A m c t h]
    dsimp only
    rw [rows_first]
  · rw [outsAt0_B m c t h]
    dsimp only
    rw [rows_later]

/-- What the gain's block holds after each point. -/
theorem gain_eq : ∀ (n : ℕ) (hn : n < cfg0.N),
    (outsAt0 m c n hn).2 = (e2 (gathered (gradient m c) (rows m c) n) : FVec Ideal S1x2048 .f32) := by
  intro n
  induction n with
  | zero =>
    intro hn
    rw [outsAt0_A m c ⟨0, hn⟩ rfl]
    dsimp only
    rw [gain_first, iblk0_e2, iblk1_e2, pay7_e2, pay2_e2, add_share]
    exact e2_congr fun r _ q _ => by rw [share_tile]; exact gathered_first _ _ 0 r q rfl
  | succ n ih =>
    intro hn
    have hN : n + 1 < 32 := lt_of_lt_of_eq hn (show cfg0.N = 32 from N_0)
    rw [outsAt0_B m c ⟨n + 1, hn⟩ (by dsimp only; omega)]
    dsimp only
    rw [gain_later, iblk0_e2, iblk1_e2, pay7_e2]
    refine (congrArg (fun z => k0_pay1 (F := Ideal) (k0_pay6 z) _) (ih (Nat.lt_of_succ_lt hn))).trans ?_
    rw [add_share]
    exact e2_congr fun r _ q _ => by rw [share_tile]; exact gathered_next _ _ (n + 1) r q (Nat.succ_ne_zero n)

theorem covers4 : (cfg0.win 4).Covers := by decide +kernel
theorem covers5 : (cfg0.win 5).Covers := by decide +kernel
theorem flush5 : ∀ t : Fin cfg0.N, (cfg0.win 5).flush t = true → t.val = 31 := by decide +kernel

theorem arr4 : (dats m 0 c).arrAt 4 cfg0.N =
    (e2 (fun r k => stream m c r k + slope (gradient m c) (rows m c) (gain m c 0) r k) : FVec Ideal S8192x2048 .f32) := by
  refine (dats m 0 c).arrAt_eq_of_covers 4 _ covers4 fun t _ y => ?_
  rw [after0_4, rows_eq, iblk0_e2, iblk1_e2, iblk2_e2, iblk3_e2, pay5_e2]
  exact e2_tile (f := fun r k => stream m c r k + slope (gradient m c) (rows m c) (gain m c 0) r k)
    (fun y => (cfg0.win 4).blk t |>.view.emb y) (idx4 t) (fun _ => rfl) (fun _ => rfl)
    (fun r _ k _ => slope_tile (gradient m c) (rows m c) (gain m c) (stream m c) t.val r k) y

theorem arr5 : (dats m 0 c).arrAt 5 cfg0.N = (e2 (gathered (gradient m c) (rows m c) 31) : FVec Ideal S1x2048 .f32) := by
  refine (dats m 0 c).arrAt_eq_of_covers 5 _ covers5 fun t hf y => ?_
  rw [after0_5, gain_eq, ← flush5 t hf]
  exact e2_tile (fun y => (cfg0.win 5).blk t |>.view.emb y) (idx5 t) (fun _ => rfl) (fun _ => rfl)
    (fun r _ k _ => gathered_tile (gradient m c) (rows m c) t.val r k) y

/-! ## The reference -/

section Reference
open Cert.Reference14Ideal Cert.Reference14Ideal.Gen
variable (u : ℕ → ℕ → EReal) (h : FVec Ideal Cert.Reference14Ideal.S8192x2048 .f32) (g : FVec Ideal Cert.Reference14Ideal.S2048 .f32)

/-- The gain by coordinates. -/
def gainOf : ℕ → EReal := at2 (shapeCast Cert.Reference14Ideal.S1x2048 g Cert.Reference14Ideal.Gen.shapeCasts_S2048_S1x2048) 0

theorem moment_reference :
    addf (Host.divf (broadcastInDim Cert.Reference14Ideal.S8192x1 ![0] bcast_S8192_S8192x1_0 (Host.reduceAdd (mulf h h)
      (constant Cert.Reference14Ideal.S_ .f32 0x00000000#32) reducesTo_S8192x2048_S8192_d1 h_S_))
      (broadcastInDim Cert.Reference14Ideal.S8192x1 ![] bcast_S_S8192x1 (constant Cert.Reference14Ideal.S_ .f32 0x45000000#32)))
      (broadcastInDim Cert.Reference14Ideal.S8192x1 ![] bcast_S_S8192x1 (constant Cert.Reference14Ideal.S_ .f32 0x358637BD#32)) =
    (e2 (fun r _ => moment (at2 h) r) : FVec Ideal Cert.Reference14Ideal.S8192x1 .f32) := by
  conv_lhs => rw [← e2_at2 h]
  rw [mulf_e2, hostRowSum_e2 _ _ (by decide) (by decide)]
  rfl

theorem reach_reference :
    mulf (e2 u) (broadcastInDim Cert.Reference14Ideal.S8192x2048 ![0, 1] bcast_S1x2048_S8192x2048_0_1
      (broadcastInDim Cert.Reference14Ideal.S1x2048 ![1] bcast_S2048_S1x2048_1 g)) =
    (e2 (reach u (gainOf g)) : FVec Ideal Cert.Reference14Ideal.S8192x2048 .f32) := by
  rw [broadcastInDim_row_e2 (by omega) g _ _ Cert.Reference14Ideal.Gen.shapeCasts_S2048_S1x2048, mulf_e2]
  rfl

theorem pull_reference :
    broadcastInDim Cert.Reference14Ideal.S8192x2048 ![0] bcast_S8192_S8192x2048_0 (Host.reduceAdd (Host.divf (mulf
      (shapeCast Cert.Reference14Ideal.S8192x1 (Host.reduceAdd (mulf h (e2 (reach u (gainOf g))))
        (constant Cert.Reference14Ideal.S_ .f32 0x00000000#32) reducesTo_S8192x2048_S8192_d1 h_S_) shapeCasts_S8192_S8192x1)
      (mulf (broadcastInDim Cert.Reference14Ideal.S8192x1 ![] bcast_S_S8192x1 (constant Cert.Reference14Ideal.S_ .f32 0xBF000000#32))
        (Host.divf (Host.rsqrt (e2 (fun r _ => moment (at2 h) r))) (e2 (fun r _ => moment (at2 h) r)))))
      (broadcastInDim Cert.Reference14Ideal.S8192x1 ![] bcast_S_S8192x1 (constant Cert.Reference14Ideal.S_ .f32 0x45000000#32)))
      (constant Cert.Reference14Ideal.S_ .f32 0x00000000#32) reducesTo_S8192x1_S8192_d1 h_S_) =
    (e2 (fun r _ => pull u (at2 h) (gainOf g) r) : FVec Ideal Cert.Reference14Ideal.S8192x2048 .f32) := by
  conv_lhs => pattern mulf h _; arg 1; rw [← e2_at2 h]
  rw [mulf_e2, hostRowSumCast_e2 _ _ (by decide)]
  exact hostColumn_e2 (by decide) (fun r _ => pull u (at2 h) (gainOf g) r) _ (by decide) _ _

/-- The chain rule's gradient of the rows. -/
theorem chain_reference :
    addf (addf (mulf (e2 (reach u (gainOf g))) (broadcastInDim Cert.Reference14Ideal.S8192x2048 ![0, 1] bcast_S8192x1_S8192x2048_0_1
      (Host.rsqrt (e2 (fun r _ => moment (at2 h) r))))) (mulf h (e2 (fun r _ => pull u (at2 h) (gainOf g) r))))
      (mulf (e2 (fun r _ => pull u (at2 h) (gainOf g) r)) h) =
    (e2 (slope u (at2 h) (gainOf g)) : FVec Ideal Cert.Reference14Ideal.S8192x2048 .f32) := by
  have e : (e2 (slope u (at2 h) (gainOf g)) : FVec Ideal Cert.Reference14Ideal.S8192x2048 .f32) =
      e2 fun r k => reach u (gainOf g) r k * scale (at2 h) r + at2 h r k * pull u (at2 h) (gainOf g) r +
        pull u (at2 h) (gainOf g) r * at2 h r k :=
    e2_congr fun r _ k _ => slope_eq _ _ _ r k
  rw [e, hostScaleMoment_e2, broadcastInDim_column_e2 (by decide)]
  conv_lhs => enter [1, 2, 1]; rw [← e2_at2 h]
  conv_lhs => enter [2, 2]; rw [← e2_at2 h]
  rfl

theorem gain_reference :
    shapeCast Cert.Reference14Ideal.S1x2048 (Host.reduceAdd (shapeCast Cert.Reference14Ideal.S1x2048 (Host.reduceAdd (mulf (mulf h
      (broadcastInDim Cert.Reference14Ideal.S8192x2048 ![0, 1] bcast_S8192x1_S8192x2048_0_1 (Host.rsqrt (e2 (fun r _ => moment (at2 h) r))))) (e2 u))
      (constant Cert.Reference14Ideal.S_ .f32 0x00000000#32) reducesTo_S8192x2048_S2048_d0 h_S_) Cert.Reference14Ideal.Gen.shapeCasts_S2048_S1x2048)
      (constant Cert.Reference14Ideal.S_ .f32 0x00000000#32) reducesTo_S1x2048_S2048_d0 h_S_) Cert.Reference14Ideal.Gen.shapeCasts_S2048_S1x2048 =
    (e2 (gathered u (at2 h) 31) : FVec Ideal Cert.Reference14Ideal.S1x2048 .f32) := by
  rw [hostScaleMoment_e2, broadcastInDim_column_e2 (by decide)]
  conv_lhs => enter [2, 1, 2, 1, 1, 1]; rw [← e2_at2 h]
  rw [mulf_e2, mulf_e2, hostColSum_e2 _ _ (by decide), hostColSum_e2 _ _ (by decide)]
  refine e2_congr fun r _ k _ => ?_
  rw [Finset.sum_range_one]
  exact Finset.sum_congr rfl fun r _ => mul_comm _ _

end Reference

/-! ## The claims -/

theorem frame_reference : Cert.quiescent_Reference14Ideal (hReference14Ideal := Cert.Reference14Ideal.Gen.facts) := fun m g _ =>
  run_frame (P := fun r c => _ ∧ _) ((θ_run _ _ _).mono (fun r h c => and_assoc.2 (h c)) (Cert.Reference14Ideal.Value.run (F := Ideal) m g)) (by decide)

theorem algebraic : Cert.algebraic_Kernel14Ideal_Reference14Ideal (hKernel14Ideal := facts)
    (hReference14Ideal := Cert.Reference14Ideal.Gen.facts) := fun m g m' g' _ hag =>
  ⟨fun c => _, fun c => _,
    (θ_run _ _ _).mono (fun r h c => and_assoc.1 (h c))
      (run_results (run_main m g) (unchanged m g) fun r h c => ⟨((h c).1 4).trans (arr4 m c), ((h c).1 5).trans (arr5 m c)⟩),
    (θ_run _ _ _).mono (fun r h c => ⟨(h c).1.trans (by
        beta_reduce
        rw [(hag c).1, (hag c).2.1, (hag c).2.2.1, (hag c).2.2.2, ← e2_at2 (n := 8192) (m := 2048) (φ := .f32) (m ((c : Thread nD τ).loc main_arg0)),
          moment_reference, reach_reference, pull_reference, chain_reference,
          ← e2_at2 (n := 8192) (m := 2048) (φ := .f32) (m ((c : Thread nD τ).loc main_arg3)), addf_e2]
        unfold stream gradient rows gain gainOf
        rw [V_main_arg0, V_main_arg1, V_main_arg3, V_main_v0]), (h c).2.1.trans (by
        beta_reduce
        rw [(hag c).1, (hag c).2.1, ← e2_at2 (n := 8192) (m := 2048) (φ := .f32) (m ((c : Thread nD τ).loc main_arg0)), moment_reference, gain_reference]
        unfold gradient rows
        rw [V_main_arg0, V_main_arg1]), (h c).2.2⟩)
      (Cert.Reference14Ideal.Value.run (F := Ideal) m' g')⟩

end Cert.Proof.Product.NormGradient

end
-- ==== Proof.Norm.lean ====
/-
  The step's first normalisation: each grid point holds whole rows and normalises them.
-/
module

public import proofs.«01_k».proof.Defs
public import proofs.«01_k».proof.Proof.Tiles
public import proofs.«01_k».proof.Proof.Gen.Kernel15Ideal.Frame
public import proofs.«01_k».proof.Proof.Gen.Reference15Ideal.Run
public import Idealize.ShloMosaic.Lib.Pipeline.Covers

@[expose] public section

set_option backward.isDefEq.respectTransparency false

noncomputable section

namespace Cert.Proof.Product.Norm

open Cert.Kernel15Ideal Cert.Kernel15Ideal.Gen
open Idealize.ShloMosaic Idealize.ShloMosaic.TcCoe

/-- One grid point's block, from its block of the rows. -/
theorem out2_e2 (h g : ℕ → ℕ → EReal) :
    out0_2 (F := Ideal) (e2 h : FVec Ideal S512x2048 .f32) (e2 g : FVec Ideal S1x2048 .f32) = (e2 (normed h (g 0)) : FVec Ideal S512x2048 .bf16) := by
  unfold out0_2
  rw [View.canon_unit_zero hz]
  unfold r0_0 r0_1
  simp only [View.ld_unit_zero (S := S512x2048) hz, View.ld_unit_zero (S := S1x2048) hz]
  unfold k0_pay1
  exact normed_e2 (by decide) _ _ _ _ _ _ _ _ _ _

/-- A row lies in one block, so its scale there is that of the whole row. -/
theorem rows_tile (h g : ℕ → ℕ → EReal) (p r k : ℕ) :
    normed (fun r k => h (512 * p + r) (2048 * 0 + k)) (fun k => g (1 * 0 + 0) (2048 * 0 + k)) r k =
      normed h (g 0) (512 * p + r) (2048 * 0 + k) := by
  unfold normed
  rw [scale_congr (h' := h) (r' := 512 * p + r) fun k _ => by rw [Nat.mul_zero, Nat.zero_add]]

variable (m : (ℓ : Loc nD τ sig) → Buf (Elt Ideal) ℓ) (c : Dev nD)

/-- The arguments by coordinates. -/
def rows : ℕ → ℕ → EReal := at2 (n := 8192) (m := 2048) (φ := .f32) (V m c main_arg0)
def gain : ℕ → ℕ → EReal := at2 (n := 1) (m := 2048) (φ := .f32) (V m c main_v0)

theorem V_main_v0 : V m c main_v0 = shapeCast S1x2048 (m ((c : Thread nD τ).loc main_arg1)) shapeCasts_S2048_S1x2048 := by
  show StableHlo.after hostOps0 _ _ = _
  simp only [hostOps0]
  after_results_simp
  all_goals rfl

theorem idx0 : ∀ t : Fin grid0.N, cc0_transform_0 (grid0.coords t) = ![t.val, 0] := by decide +kernel
theorem idx1 : ∀ t : Fin grid0.N, cc0_transform_1 (grid0.coords t) = ![0, 0] := by decide +kernel
theorem idx2 : ∀ t : Fin grid0.N, cc0_transform_2 (grid0.coords t) = ![t.val, 0] := by decide +kernel

theorem iblk0_e2 (t : Fin cfg0.N) :
    iblk m c 0 t = (e2 fun r k => rows m c (512 * t.val + r) (2048 * 0 + k) : FVec Ideal S512x2048 .f32) :=
  tile_e2 (V m c main_arg0) (fun y => (cfg0.win 0).blk t |>.view.emb y) (idx0 t) (fun _ => rfl) (fun _ => rfl)
theorem iblk1_e2 (t : Fin cfg0.N) :
    iblk m c 1 t = (e2 fun r k => gain m c (1 * 0 + r) (2048 * 0 + k) : FVec Ideal S1x2048 .f32) :=
  tile_e2 (V m c main_v0) (fun y => (cfg0.win 1).blk t |>.view.emb y) (idx1 t) (fun _ => rfl) (fun _ => rfl)

theorem covers2 : (cfg0.win 2).Covers := by decide +kernel

theorem arr2 : (dats m 0 c).arrAt 2 cfg0.N = (e2 (normed (rows m c) (gain m c 0)) : FVec Ideal S8192x2048 .bf16) := by
  refine (dats m 0 c).arrAt_eq_of_covers 2 _ covers2 fun t _ y => ?_
  rw [after0_2, iblk0_e2, iblk1_e2, out2_e2]
  exact e2_tile (fun y => (cfg0.win 2).blk t |>.view.emb y) (idx2 t) (fun _ => rfl) (fun _ => rfl)
    (fun r _ k _ => rows_tile (rows m c) (gain m c) t.val r k) y

theorem frame_reference : Cert.quiescent_Reference15Ideal (hReference15Ideal := Cert.Reference15Ideal.Gen.facts) := fun m g _ =>
  run_frame (Cert.Reference15Ideal.Value.run (F := Ideal) m g) (by decide)

theorem algebraic : Cert.algebraic_Kernel15Ideal_Reference15Ideal (hKernel15Ideal := facts)
    (hReference15Ideal := Cert.Reference15Ideal.Gen.facts) := fun m g m' g' _ hag =>
  ⟨fun c => _, run_results (run_main m g) (unchanged m g) fun r h c => ((h c).1 2).trans (arr2 m c),
    (θ_run _ _ _).mono (fun r h c => (h c).imp_left fun h => h.trans (by
      beta_reduce
      rw [(hag c).1, (hag c).2]
      unfold rows gain
      rw [V_main_arg0, V_main_v0]
      conv_lhs => rw [← e2_at2 (n := 8192) (m := 2048) (φ := .f32) (m ((c : Thread nD τ).loc main_arg0))]
      exact hostNormed_e2 (by decide) _ _ _ (by decide) _ _ _ _ _ _ _ _ _))
      (Cert.Reference15Ideal.Value.run (F := Ideal) m' g')⟩

end Cert.Proof.Product.Norm

end
-- ==== Proof.LossHead.lean ====
/-
  The loss head: each grid point holds 256 whole rows, writes their gradient and adds their share of the gain's gradient and
  of the columns' squared errors into the blocks every point writes; the host sums the columns to the loss.
-/
module

public import proofs.«01_k».proof.Proof.NormGradient
public import proofs.«01_k».proof.Proof.Gen.Kernel16Ideal.Frame
public import proofs.«01_k».proof.Proof.Gen.Reference16Ideal.Run
public import Idealize.ShloMosaic.Lib.ValueIdxCore

@[expose] public section

set_option backward.isDefEq.respectTransparency false

noncomputable section

namespace Cert.Proof.Product.LossHead

open Cert.Kernel16Ideal Cert.Kernel16Ideal.Gen
open Idealize.ShloMosaic Idealize.ShloMosaic.TcCoe Idealize.ShloMosaic.Tactic
open Finset (range)
open NormGradient (share gainOf moment_reference reach_reference pull_reference chain_reference gain_reference)

/-! ## One grid point -/

section Point
variable (c : Dev nD) (i : grid0.Coords) (a0 : Memref sig .tc .vmem S256x2048 .f32) (h0 : a0.IsWhole) (a1 : Memref sig .tc .vmem S1x2048 .f32)
  (h1 : a1.IsWhole) (a2 : Memref sig .tc .vmem S256x2048 .f32) (h2 : a2.IsWhole) (a3 : Memref sig .tc .vmem S256x2048 .f32) (h3 : a3.IsWhole)
  (a4 : Memref sig .tc .vmem S1x2048 .f32) (h4 : a4.IsWhole) (a5 : Memref sig .tc .vmem S1x2048 .f32) (h5 : a5.IsWhole)
  (h : Vec Ideal S256x2048 .f32) (g : Vec Ideal S1x2048 .f32) (t : Vec Ideal S256x2048 .f32) (dg sq : Vec Ideal S1x2048 .f32)

theorem rows_first (hc : cond0_0 i) :
    out0_A_3 c i a0 h0 a1 h1 a2 h2 a3 h3 a4 h4 a5 h5 hc h g t = k0_pay1 (k0_pay6 h) (k0_pay11 h g t) (k0_pay12 h g t) := by
  unfold out0_A_3
  rw [View.read_writes_eq_canon _ _ _ (cover0_A_3 c i a0 h0 a1 h1 a2 h2 a3 h3 a4 h4 a5 h5 hc h g t)]
  dsimp only [kernelRun0_A]
  sl_unfold_words
  rw [View.canon_unit_zero hz]
  simp only [View.readAt_eq_ld, h0.read_unread, h1.read_unread, h2.read_unread, View.ld_unit_zero (S := S256x2048) hz,
    View.ld_unit_zero (S := S1x2048) hz]

theorem rows_later (hc : ¬cond0_0 i) :
    out0_B_3 c i a0 h0 a1 h1 a2 h2 a3 h3 a4 h4 a5 h5 hc h g t dg sq = k0_pay1 (k0_pay6 h) (k0_pay11 h g t) (k0_pay12 h g t) := by
  unfold out0_B_3
  rw [View.read_writes_eq_canon _ _ _ (cover0_B_3 c i a0 h0 a1 h1 a2 h2 a3 h3 a4 h4 a5 h5 hc h g t dg sq)]
  dsimp only [kernelRun0_B]
  sl_unfold_words
  rw [View.canon_unit_zero hz]
  simp only [View.readAt_eq_ld, h0.read_unread, h1.read_unread, h2.read_unread, View.ld_unit_zero (S := S256x2048) hz,
    View.ld_unit_zero (S := S1x2048) hz]

/-- The first point clears both blocks and adds its shares. -/
theorem gain_first (hc : cond0_0 i) :
    out0_A_4 c i a0 h0 a1 h1 a2 h2 a3 h3 a4 h4 a5 h5 hc h g t = k0_pay2 (k0_pay7 h) (k0_pay10 h g t) (k0_pay3 (F := Ideal)) := by
  unfold out0_A_4
  rw [View.read_writes_eq_canon _ _ _ (cover0_A_4 c i a0 h0 a1 h1 a2 h2 a3 h3 a4 h4 a5 h5 hc h g t)]
  dsimp only [kernelRun0_A]
  sl_unfold_words
  rw [View.canon_cons_unit_zero (S := S1x2048) hz, View.readCov_unit_zero (S := S1x2048) _ hz]
  simp only [View.readAt_eq_ld, h0.read_unread, h1.read_unread, h2.read_unread, View.ld_unit_zero (S := S256x2048) hz,
    View.ld_unit_zero (S := S1x2048) hz]

theorem square_first (hc : cond0_0 i) :
    out0_A_5 c i a0 h0 a1 h1 a2 h2 a3 h3 a4 h4 a5 h5 hc h g t = k0_pay9 h g t (k0_pay4 (F := Ideal)) := by
  unfold out0_A_5
  rw [View.read_writes_eq_canon _ _ _ (cover0_A_5 c i a0 h0 a1 h1 a2 h2 a3 h3 a4 h4 a5 h5 hc h g t)]
  dsimp only [kernelRun0_A]
  sl_unfold_words
  rw [View.canon_cons_unit_zero (S := S1x2048) hz, View.readCov_unit_zero (S := S1x2048) _ hz]
  simp only [View.readAt_eq_ld, h0.read_unread, h1.read_unread, h2.read_unread, View.ld_unit_zero (S := S256x2048) hz,
    View.ld_unit_zero (S := S1x2048) hz]

/-- A later point adds its shares. -/
theorem gain_later (hc : ¬cond0_0 i) :
    out0_B_4 c i a0 h0 a1 h1 a2 h2 a3 h3 a4 h4 a5 h5 hc h g t dg sq = k0_pay2 (k0_pay7 h) (k0_pay10 h g t) dg := by
  unfold out0_B_4
  rw [View.read_writes_eq_canon _ _ _ (cover0_B_4 c i a0 h0 a1 h1 a2 h2 a3 h3 a4 h4 a5 h5 hc h g t dg sq)]
  dsimp only [kernelRun0_B]
  sl_unfold_words
  rw [View.canon_unit_zero hz]
  simp only [View.readAt_eq_ld, h0.read_unread, h1.read_unread, h2.read_unread, h4.read_unread, View.ld_unit_zero (S := S256x2048) hz,
    View.ld_unit_zero (S := S1x2048) hz]

theorem square_later (hc : ¬cond0_0 i) :
    out0_B_5 c i a0 h0 a1 h1 a2 h2 a3 h3 a4 h4 a5 h5 hc h g t dg sq = k0_pay9 h g t sq := by
  unfold out0_B_5
  rw [View.read_writes_eq_canon _ _ _ (cover0_B_5 c i a0 h0 a1 h1 a2 h2 a3 h3 a4 h4 a5 h5 hc h g t dg sq)]
  dsimp only [kernelRun0_B]
  sl_unfold_words
  rw [View.canon_unit_zero hz]
  simp only [View.readAt_eq_ld, h0.read_unread, h1.read_unread, h2.read_unread, h5.read_unread, View.ld_unit_zero (S := S256x2048) hz,
    View.ld_unit_zero (S := S1x2048) hz]

end Point

/-! ## A row's error -/

section Error
variable (h : ℕ → ℕ → EReal) (g : ℕ → EReal) (t : ℕ → ℕ → EReal)

def error (r k : ℕ) : EReal := normed h g r k - t r k
/-- The loss's gradient at the normalised rows. -/
def pressed (r k : ℕ) : EReal := error h g t r k * Scalar.ofBits (F := Ideal) .f32 0x3A000000#32
/-- The squared error. -/
def square (r k : ℕ) : EReal := error h g t r k * error h g t r k

theorem error_congr {h' : ℕ → ℕ → EReal} {g' : ℕ → EReal} {t' : ℕ → ℕ → EReal} {r r' : ℕ} (eh : ∀ k, h r k = h' r' k) (eg : ∀ k, g k = g' k)
    (et : ∀ k, t r k = t' r' k) (k : ℕ) : error h g t r k = error h' g' t' r' k := by
  unfold error normed
  rw [scale_congr fun k _ => eh k, eh, eg, et]

end Error

/-- The sum of `f` over the rows of the points up to `n`. -/
def upTo (f : ℕ → ℕ → EReal) (n : ℕ) (_ k : ℕ) : EReal := ∑ r ∈ range (256 * (n + 1)), f r k

theorem upTo_first (f : ℕ → ℕ → EReal) (r k : ℕ) : 0 + ∑ r ∈ range 256, f (256 * 0 + r) k = upTo f 0 r k := by
  unfold upTo
  rw [zero_add]
  exact Finset.sum_congr rfl fun r _ => by rw [Nat.mul_zero, Nat.zero_add]

theorem upTo_next (f : ℕ → ℕ → EReal) (n r k : ℕ) : upTo f n r k + ∑ r ∈ range 256, f (256 * (n + 1) + r) k = upTo f (n + 1) r k := by
  unfold upTo
  rw [Nat.mul_succ 256 (n + 1), Finset.sum_range_add]

theorem upTo_tile (f : ℕ → ℕ → EReal) (n r k : ℕ) : upTo f n r k = upTo f n (1 * 0 + r) (2048 * 0 + k) := by
  unfold upTo
  rw [Nat.mul_zero, Nat.zero_add]

section Values
variable (h g t a : ℕ → ℕ → EReal)

theorem pay6_e2 : k0_pay6 (F := Ideal) (e2 h : FVec Ideal S256x2048 .f32) = (e2 (fun r _ => scale h r) : FVec Ideal S256x1 .f32) := by
  unfold k0_pay6
  dsimp only
  rw [mulf_e2, rowSum_e2, scale_e2]

theorem pay7_e2 : k0_pay7 (F := Ideal) (e2 h : FVec Ideal S256x2048 .f32) = (e2 (fun r k => h r k * scale h r) : FVec Ideal S256x2048 .f32) := by
  unfold k0_pay7
  dsimp only
  rw [pay6_e2, broadcastTo_column_e2 (by decide), mulf_e2]

theorem pay8_e2 : k0_pay8 (F := Ideal) (e2 h : FVec Ideal S256x2048 .f32) (e2 g : FVec Ideal S1x2048 .f32) (e2 t : FVec Ideal S256x2048 .f32) =
    (e2 (error h (g 0) t) : FVec Ideal S256x2048 .f32) := by
  unfold k0_pay8 k0_pay5
  dsimp only
  rw [pay7_e2, shapeCast_self, broadcastTo_row_e2 (by decide), mulf_e2]
  rfl

theorem pay10_e2 : k0_pay10 (F := Ideal) (e2 h : FVec Ideal S256x2048 .f32) (e2 g : FVec Ideal S1x2048 .f32) (e2 t : FVec Ideal S256x2048 .f32) =
    (e2 (pressed h (g 0) t) : FVec Ideal S256x2048 .f32) := by
  unfold k0_pay10
  dsimp only
  rw [pay8_e2]
  rfl

theorem pay11_e2 : k0_pay11 (F := Ideal) (e2 h : FVec Ideal S256x2048 .f32) (e2 g : FVec Ideal S1x2048 .f32) (e2 t : FVec Ideal S256x2048 .f32) =
    (e2 (reach (pressed h (g 0) t) (g 0)) : FVec Ideal S256x2048 .f32) := by
  unfold k0_pay11 k0_pay5
  dsimp only
  rw [pay10_e2, shapeCast_self, broadcastTo_row_e2 (by decide), mulf_e2]
  rfl

/-- A row's mean of its gradient along the normalised row. -/
def along (u : ℕ → ℕ → EReal) (g : ℕ → EReal) (r : ℕ) : EReal :=
  Ideal.div (∑ k ∈ range 2048, reach u g r k * (h r k * scale h r)) (Scalar.ofBits (F := Ideal) .f32 0x45000000#32)

theorem pay12_e2 : k0_pay12 (F := Ideal) (e2 h : FVec Ideal S256x2048 .f32) (e2 g : FVec Ideal S1x2048 .f32) (e2 t : FVec Ideal S256x2048 .f32) =
    (e2 (fun r k => h r k * scale h r * along h (pressed h (g 0) t) (g 0) r) : FVec Ideal S256x2048 .f32) := by
  unfold k0_pay12
  dsimp only
  rw [pay11_e2, pay7_e2, mulf_e2, rowSum_e2]
  change mulf _ (broadcastTo _ (e2 (fun r _ => along h (pressed h (g 0) t) (g 0) r) : FVec Ideal S256x1 .f32) _) = _
  rw [broadcastTo_column_e2 (by decide), mulf_e2]

theorem rows_e2 :
    k0_pay1 (F := Ideal) (k0_pay6 (e2 h : FVec Ideal S256x2048 .f32)) (k0_pay11 (e2 h : FVec Ideal S256x2048 .f32) (e2 g : FVec Ideal S1x2048 .f32)
      (e2 t : FVec Ideal S256x2048 .f32)) (k0_pay12 (e2 h : FVec Ideal S256x2048 .f32) (e2 g : FVec Ideal S1x2048 .f32)
      (e2 t : FVec Ideal S256x2048 .f32)) = (e2 (slope (pressed h (g 0) t) h (g 0)) : FVec Ideal S256x2048 .f32) := by
  rw [pay6_e2, pay11_e2, pay12_e2]
  unfold k0_pay1
  dsimp only
  rw [broadcastTo_column_e2 (by decide)]
  rfl

theorem gain_e2 :
    k0_pay2 (F := Ideal) (k0_pay7 (e2 h : FVec Ideal S256x2048 .f32)) (k0_pay10 (e2 h : FVec Ideal S256x2048 .f32) (e2 g : FVec Ideal S1x2048 .f32)
      (e2 t : FVec Ideal S256x2048 .f32)) (e2 a : FVec Ideal S1x2048 .f32) =
    (e2 (fun r k => a r k + ∑ r ∈ range 256, share (pressed h (g 0) t) h r k) : FVec Ideal S1x2048 .f32) := by
  rw [pay7_e2, pay10_e2]
  unfold k0_pay2
  dsimp only
  rw [mulf_e2, colSum_e2, shapeCast_self, addf_e2]
  rfl

theorem square_e2 :
    k0_pay9 (F := Ideal) (e2 h : FVec Ideal S256x2048 .f32) (e2 g : FVec Ideal S1x2048 .f32) (e2 t : FVec Ideal S256x2048 .f32)
      (e2 a : FVec Ideal S1x2048 .f32) = (e2 (fun r k => a r k + ∑ r ∈ range 256, square h (g 0) t r k) : FVec Ideal S1x2048 .f32) := by
  unfold k0_pay9
  dsimp only
  rw [pay8_e2, mulf_e2, colSum_e2, shapeCast_self, addf_e2]
  rfl

theorem pay3_e2 : k0_pay3 (F := Ideal) = (e2 (fun _ _ => 0) : FVec Ideal S1x2048 .f32) := by
  unfold k0_pay3
  funext j
  exact Ideal.ofBits_zero_f32
theorem pay4_e2 : k0_pay4 (F := Ideal) = (e2 (fun _ _ => 0) : FVec Ideal S1x2048 .f32) := by
  unfold k0_pay4
  funext j
  exact Ideal.ofBits_zero_f32

end Values

/-! ## A row lies in one block -/

section Blocks
variable (h g t : ℕ → ℕ → EReal) (p r k : ℕ)

theorem pressed_tile :
    pressed (fun r k => h (256 * p + r) (2048 * 0 + k)) (fun k => g (1 * 0 + 0) (2048 * 0 + k)) (fun r k => t (256 * p + r) (2048 * 0 + k)) r k =
      pressed h (g 0) t (256 * p + r) k := by
  unfold pressed
  rw [error_congr (h' := h) (g' := g 0) (t' := t) (r' := 256 * p + r)] <;> simp

theorem square_tile :
    square (fun r k => h (256 * p + r) (2048 * 0 + k)) (fun k => g (1 * 0 + 0) (2048 * 0 + k)) (fun r k => t (256 * p + r) (2048 * 0 + k)) r k =
      square h (g 0) t (256 * p + r) k := by
  unfold square
  rw [error_congr (h' := h) (g' := g 0) (t' := t) (r' := 256 * p + r)] <;> simp

theorem share_tile :
    share (pressed (fun r k => h (256 * p + r) (2048 * 0 + k)) (fun k => g (1 * 0 + 0) (2048 * 0 + k)) (fun r k => t (256 * p + r) (2048 * 0 + k)))
      (fun r k => h (256 * p + r) (2048 * 0 + k)) r k = share (pressed h (g 0) t) h (256 * p + r) k := by
  unfold share
  rw [pressed_tile, NormGradient.scale_tile]
  simp only [Nat.mul_zero, Nat.zero_add]

theorem slope_tile :
    slope (pressed (fun r k => h (256 * p + r) (2048 * 0 + k)) (fun k => g (1 * 0 + 0) (2048 * 0 + k)) (fun r k => t (256 * p + r) (2048 * 0 + k)))
      (fun r k => h (256 * p + r) (2048 * 0 + k)) (fun k => g (1 * 0 + 0) (2048 * 0 + k)) r k =
      slope (pressed h (g 0) t) h (g 0) (256 * p + r) (2048 * 0 + k) := by
  unfold slope reach
  simp only [pressed_tile, NormGradient.scale_tile]
  simp only [Nat.mul_zero, Nat.zero_add]

end Blocks

/-! ## The arrays -/

variable (m : (ℓ : Loc nD τ sig) → Buf (Elt Ideal) ℓ) (c : Dev nD)

/-- The arguments by coordinates. -/
def rows : ℕ → ℕ → EReal := at2 (n := 8192) (m := 2048) (φ := .f32) (V m c main_arg0)
def gain : ℕ → ℕ → EReal := at2 (n := 1) (m := 2048) (φ := .f32) (V m c main_v0)
def target : ℕ → ℕ → EReal := at2 (n := 8192) (m := 2048) (φ := .f32) (V m c main_arg2)
/-- The results' terms by coordinates. -/
def force : ℕ → ℕ → EReal := pressed (rows m c) (gain m c 0) (target m c)
def squares : ℕ → ℕ → EReal := square (rows m c) (gain m c 0) (target m c)

theorem V_main_v0 : V m c main_v0 = shapeCast S1x2048 (m ((c : Thread nD τ).loc main_arg1)) shapeCasts_S2048_S1x2048 := by
  show StableHlo.after hostOps0 _ _ = _
  simp only [hostOps0]
  after_results_simp
  all_goals rfl

theorem idx0 : ∀ t : Fin grid0.N, cc0_transform_0 (grid0.coords t) = ![t.val, 0] := by decide +kernel
theorem idx1 : ∀ t : Fin grid0.N, cc0_transform_1 (grid0.coords t) = ![0, 0] := by decide +kernel
theorem idx2 : ∀ t : Fin grid0.N, cc0_transform_2 (grid0.coords t) = ![t.val, 0] := by decide +kernel
theorem idx3 : ∀ t : Fin grid0.N, cc0_transform_3 (grid0.coords t) = ![t.val, 0] := by decide +kernel
theorem idx4 : ∀ t : Fin grid0.N, cc0_transform_4 (grid0.coords t) = ![0, 0] := by decide +kernel
theorem idx5 : ∀ t : Fin grid0.N, cc0_transform_5 (grid0.coords t) = ![0, 0] := by decide +kernel

theorem iblk0_e2 (t : Fin cfg0.N) :
    iblk m c 0 t = (e2 fun r k => rows m c (256 * t.val + r) (2048 * 0 + k) : FVec Ideal S256x2048 .f32) :=
  tile_e2 (V m c main_arg0) (fun y => (cfg0.win 0).blk t |>.view.emb y) (idx0 t) (fun _ => rfl) (fun _ => rfl)
theorem iblk1_e2 (t : Fin cfg0.N) :
    iblk m c 1 t = (e2 fun r k => gain m c (1 * 0 + r) (2048 * 0 + k) : FVec Ideal S1x2048 .f32) :=
  tile_e2 (V m c main_v0) (fun y => (cfg0.win 1).blk t |>.view.emb y) (idx1 t) (fun _ => rfl) (fun _ => rfl)
theorem iblk2_e2 (t : Fin cfg0.N) :
    iblk m c 2 t = (e2 fun r k => target m c (256 * t.val + r) (2048 * 0 + k) : FVec Ideal S256x2048 .f32) :=
  tile_e2 (V m c main_arg2) (fun y => (cfg0.win 2).blk t |>.view.emb y) (idx2 t) (fun _ => rfl) (fun _ => rfl)

theorem rows_eq (t : Fin cfg0.N) :
    (outsAt0 m c t.val t.isLt).1 = k0_pay1 (F := Ideal) (k0_pay6 (iblk m c 0 t)) (k0_pay11 (iblk m c 0 t) (iblk m c 1 t) (iblk m c 2 t))
      (k0_pay12 (iblk m c 0 t) (iblk m c 1 t) (iblk m c 2 t)) := by
  by_cases h : t.val % 32 = 0
  · rw [outsAt0_A m c t h]
    dsimp only
    rw [rows_first]
  · rw [outsAt0_B m c t h]
    dsimp only
    rw [rows_later]

/-- What the two blocks hold after each point. -/
theorem sums_eq : ∀ (n : ℕ) (hn : n < cfg0.N),
    (outsAt0 m c n hn).2.1 = (e2 (upTo (share (force m c) (rows m c)) n) : FVec Ideal S1x2048 .f32) ∧
      (outsAt0 m c n hn).2.2 = (e2 (upTo (squares m c) n) : FVec Ideal S1x2048 .f32) := by
  intro n
  induction n with
  | zero =>
    intro hn
    rw [outsAt0_A m c ⟨0, hn⟩ rfl]
    dsimp only
    rw [gain_first, square_first, iblk0_e2, iblk1_e2, iblk2_e2, pay3_e2, pay4_e2, gain_e2, square_e2]
    simp only [share_tile, square_tile]
    exact ⟨e2_congr fun r _ k _ => upTo_first _ r k, e2_congr fun r _ k _ => upTo_first _ r k⟩
  | succ n ih =>
    intro hn
    have hN : n + 1 < 32 := lt_of_lt_of_eq hn (show cfg0.N = 32 from N_0)
    obtain ⟨i₁, i₂⟩ := ih (Nat.lt_of_succ_lt hn)
    rw [outsAt0_B m c ⟨n + 1, hn⟩ (by dsimp only; omega)]
    dsimp only
    rw [gain_later, square_later, iblk0_e2, iblk1_e2, iblk2_e2]
    refine ⟨(congrArg (k0_pay2 (F := Ideal) _ _) i₁).trans ?_, (congrArg (k0_pay9 (F := Ideal) _ _ _) i₂).trans ?_⟩
    · rw [gain_e2]
      simp only [share_tile]
      exact e2_congr fun r _ k _ => upTo_next _ n r k
    · rw [square_e2]
      simp only [square_tile]
      exact e2_congr fun r _ k _ => upTo_next _ n r k

theorem covers3 : (cfg0.win 3).Covers := by decide +kernel
theorem covers4 : (cfg0.win 4).Covers := by decide +kernel
theorem covers5 : (cfg0.win 5).Covers := by decide +kernel
theorem flush4 : ∀ t : Fin cfg0.N, (cfg0.win 4).flush t = true → t.val = 31 := by decide +kernel
theorem flush5 : ∀ t : Fin cfg0.N, (cfg0.win 5).flush t = true → t.val = 31 := by decide +kernel

theorem arr3 : (dats m 0 c).arrAt 3 cfg0.N = (e2 (slope (force m c) (rows m c) (gain m c 0)) : FVec Ideal S8192x2048 .f32) := by
  refine (dats m 0 c).arrAt_eq_of_covers 3 _ covers3 fun t _ y => ?_
  rw [after0_3, rows_eq, iblk0_e2, iblk1_e2, iblk2_e2, rows_e2]
  exact e2_tile (f := slope (force m c) (rows m c) (gain m c 0)) (fun y => (cfg0.win 3).blk t |>.view.emb y) (idx3 t) (fun _ => rfl) (fun _ => rfl)
    (fun r _ k _ => slope_tile (rows m c) (gain m c) (target m c) t.val r k) y

theorem arr4 : (dats m 0 c).arrAt 4 cfg0.N = (e2 (upTo (share (force m c) (rows m c)) 31) : FVec Ideal S1x2048 .f32) := by
  refine (dats m 0 c).arrAt_eq_of_covers 4 _ covers4 fun t hf y => ?_
  rw [after0_4, (sums_eq m c t.val t.isLt).1, ← flush4 t hf]
  exact e2_tile (fun y => (cfg0.win 4).blk t |>.view.emb y) (idx4 t) (fun _ => rfl) (fun _ => rfl) (fun r _ k _ => upTo_tile _ t.val r k) y

theorem arr5 : (dats m 0 c).arrAt 5 cfg0.N = (e2 (upTo (squares m c) 31) : FVec Ideal S1x2048 .f32) := by
  refine (dats m 0 c).arrAt_eq_of_covers 5 _ covers5 fun t hf y => ?_
  rw [after0_5, (sums_eq m c t.val t.isLt).2, ← flush5 t hf]
  exact e2_tile (fun y => (cfg0.win 5).blk t |>.view.emb y) (idx5 t) (fun _ => rfl) (fun _ => rfl) (fun r _ k _ => upTo_tile _ t.val r k) y

/-! ## The loss -/

/-- Half the sum over the rows of their mean square. -/
def lossOf (f : ℕ → ℕ → EReal) : EReal :=
  Scalar.ofBits (F := Ideal) .f32 0x3F000000#32 *
    ∑ r ∈ range 8192, Ideal.div (∑ k ∈ range 2048, f r k) (Scalar.ofBits (F := Ideal) .f32 0x45000000#32)

/-- The columns' sums summed, halved and divided by the width. -/
theorem lossOf_columns (f : ℕ → ℕ → EReal) :
    Ideal.div (Scalar.ofBits (F := Ideal) .f32 0x3F000000#32 * ∑ k ∈ range 2048, upTo f 31 0 k) (Scalar.ofBits (F := Ideal) .f32 0x45000000#32) = lossOf f := by
  unfold lossOf upTo
  simp only [div_width]
  rw [mul_assoc, Finset.sum_comm, mul_comm _ ((2048⁻¹ : ℝ) : EReal), real_mul_sum (by norm_num)]
  exact congrArg _ (Finset.sum_congr rfl fun r _ => mul_comm _ _)

theorem sum_columns (f : ℕ → ℕ → EReal) (h : S1x2048.ReducesTo [0, 1] S_) (hu) :
    Host.reduceAdd (e2 f : FVec Ideal S1x2048 .f32) (constant S_ .f32 0x00000000#32) h hu = fun _ => ∑ k ∈ range 2048, f 0 k := by
  funext j
  show Ideal.hostReduceAdd _ _ _ j = _
  rw [Ideal.hostReduceAdd_total h (fun b => b.elim0), show constant (F := Ideal) S_ .f32 0x00000000#32 (Shape.Idx.first hu) = 0 from Ideal.ofBits_zero_f32,
    zero_add, ValueIdx.sum_idx2, Fin.sum_univ_one]
  exact Fin.sum_univ_eq_sum_range (fun k => f 0 k) 2048

/-- The loss after the host's lines. -/
theorem loss_eq : Pipeline.afterTail₀ cfgs (dats m) 0 (V0 m) [hostOps1] c main_v4 = fun _ => lossOf (squares m c) := by
  unfold Pipeline.afterTail₀
  simp only [hostOps1, List.flatten_cons, List.flatten_nil, List.append_nil]
  after_results_simp
  have e : Pipeline.withArrays (cfgs 0).spec c (V0 m c) (fun w => (dats m 0 c).arrAt w (cfgs 0).N) (Proc.tc.devRef main_v1_2) =
      (e2 (upTo (squares m c) 31) : FVec Ideal S1x2048 .f32) :=
    (Pipeline.withArrays_arr spec0 (by decide) c _ _ 5).trans (arr5 m c)
  rw [e, sum_columns]
  funext j
  exact lossOf_columns _

/-! ## The reference -/

theorem ofBits_half : (Scalar.ofBits .f32 0x3F000000#32 : Ideal .f32) = ((1 / 2 : ℝ) : EReal) := by
  show Ideal.ofBits .f32 0x3F000000#32 = _
  simp [Ideal.ofBits, Ideal.ieee, ← EReal.coe_mul, -EReal.coe_mul]
  norm_num
theorem ofBits_one : (Scalar.ofBits .f32 0x3F800000#32 : Ideal .f32) = ((1 : ℝ) : EReal) := by
  show Ideal.ofBits .f32 0x3F800000#32 = _
  simp [Ideal.ofBits, Ideal.ieee, ← EReal.coe_mul, -EReal.coe_mul]
  norm_num
theorem ofBits_two : (Scalar.ofBits .f32 0x40000000#32 : Ideal .f32) = ((2 : ℝ) : EReal) := by
  show Ideal.ofBits .f32 0x40000000#32 = _
  simp [Ideal.ofBits, Ideal.ieee, ← EReal.coe_mul, -EReal.coe_mul]
  norm_num
theorem ofBits_part : (Scalar.ofBits .f32 0x3A000000#32 : Ideal .f32) = ((1 / 2048 : ℝ) : EReal) := by
  show Ideal.ofBits .f32 0x3A000000#32 = _
  simp [Ideal.ofBits, Ideal.ieee, ← EReal.coe_mul, -EReal.coe_mul]
  norm_num

section Reference
open Cert.Reference16Ideal Cert.Reference16Ideal.Gen
variable (f : ℕ → ℕ → EReal) (h : FVec Ideal Cert.Reference16Ideal.S8192x2048 .f32) (g : FVec Ideal Cert.Reference16Ideal.S2048 .f32)
  (t : FVec Ideal Cert.Reference16Ideal.S8192x2048 .f32)

theorem error_reference :
    subf (mulf (mulf h (broadcastInDim Cert.Reference16Ideal.S8192x2048 ![0, 1] bcast_S8192x1_S8192x2048_0_1
      (Host.rsqrt (e2 (fun r _ => moment (at2 h) r))))) (broadcastInDim Cert.Reference16Ideal.S8192x2048 ![0, 1] bcast_S1x2048_S8192x2048_0_1
      (broadcastInDim Cert.Reference16Ideal.S1x2048 ![1] bcast_S2048_S1x2048_1 g))) t =
    (e2 (error (at2 h) (gainOf g) (at2 t)) : FVec Ideal Cert.Reference16Ideal.S8192x2048 .f32) := by
  rw [hostScaleMoment_e2, broadcastInDim_column_e2 (by decide)]
  conv_lhs => enter [1, 1, 1]; rw [← e2_at2 h]
  conv_lhs => enter [2]; rw [← e2_at2 t]
  rw [mulf_e2, broadcastInDim_row_e2 (by omega) g _ _ Cert.Reference16Ideal.Gen.shapeCasts_S2048_S1x2048, mulf_e2]
  rfl

/-- Twice the error by half a row's weight in the loss. -/
theorem pressed_reference :
    mulf (broadcastInDim Cert.Reference16Ideal.S8192x2048 ![0] bcast_S8192_S8192x2048_0 (Host.divf
      (broadcastInDim Cert.Reference16Ideal.S8192 ![] bcast_S_S8192 (mulf (constant Cert.Reference16Ideal.S_ .f32 0x3F000000#32)
        (constant Cert.Reference16Ideal.S_ .f32 0x3F800000#32)))
      (broadcastInDim Cert.Reference16Ideal.S8192 ![] bcast_S_S8192 (constant Cert.Reference16Ideal.S_ .f32 0x45000000#32))))
      (mulf (broadcastInDim Cert.Reference16Ideal.S8192x2048 ![] bcast_S_S8192x2048 (constant Cert.Reference16Ideal.S_ .f32 0x40000000#32))
        (e2 (error (at2 h) (gainOf g) (at2 t)))) =
    (e2 (pressed (at2 h) (gainOf g) (at2 t)) : FVec Ideal Cert.Reference16Ideal.S8192x2048 .f32) := by
  funext j
  show Ideal.div (Scalar.ofBits (F := Ideal) .f32 0x3F000000#32 * Scalar.ofBits (F := Ideal) .f32 0x3F800000#32)
      (Scalar.ofBits (F := Ideal) .f32 0x45000000#32) * (Scalar.ofBits (F := Ideal) .f32 0x40000000#32 * error _ _ _ (j 0).val (j 1).val) =
    error _ _ _ (j 0).val (j 1).val * Scalar.ofBits (F := Ideal) .f32 0x3A000000#32
  rw [div_width, ofBits_half, ofBits_one, ofBits_two, ofBits_part, ← mul_assoc, ← EReal.coe_mul, ← EReal.coe_mul, ← EReal.coe_mul, mul_comm]
  norm_num

theorem loss_reference :
    mulf (constant Cert.Reference16Ideal.S_ .f32 0x3F000000#32) (Host.reduceAdd (Host.divf (Host.reduceAdd (e2 f : FVec Ideal Cert.Reference16Ideal.S8192x2048 .f32)
      (constant Cert.Reference16Ideal.S_ .f32 0x00000000#32) reducesTo_S8192x2048_S8192_d1 Cert.Reference16Ideal.Gen.h_S_)
      (broadcastInDim Cert.Reference16Ideal.S8192 ![] bcast_S_S8192 (constant Cert.Reference16Ideal.S_ .f32 0x45000000#32)))
      (constant Cert.Reference16Ideal.S_ .f32 0x00000000#32) reducesTo_S8192_S_d0 Cert.Reference16Ideal.Gen.h_S_) = fun _ => lossOf f := by
  rw [← multiReduction_add_eq_hostReduceAdd (e2 f : FVec Ideal Cert.Reference16Ideal.S8192x2048 .f32) 0x00000000#32 (by decide) (.inl rfl) rfl _
    reducesTo_S8192x2048_S8192_d1 Cert.Reference16Ideal.Gen.h_S_ Ideal.ofBits_zero_f32]
  funext j
  show Scalar.ofBits (F := Ideal) .f32 0x3F000000#32 * Ideal.hostReduceAdd _ _ _ j = _
  rw [Ideal.hostReduceAdd_total _ (fun b => b.elim0), show constant (F := Ideal) Cert.Reference16Ideal.S_ .f32 0x00000000#32 (Shape.Idx.first Cert.Reference16Ideal.Gen.h_S_) = 0 from
    Ideal.ofBits_zero_f32, zero_add]
  refine congrArg _ ((Finset.sum_congr rfl fun i _ => ?_).trans (Fin.sum_idx1_range ![8192] fun r =>
    Ideal.div (∑ k ∈ range 2048, f r k) (Scalar.ofBits (F := Ideal) .f32 0x45000000#32)))
  refine congrArg (Ideal.div · (Scalar.ofBits (F := Ideal) .f32 0x45000000#32)) ?_
  rw [Ideal.multiReduction_add_single]
  exact Fin.sum_univ_eq_sum_range (fun k => f (i 0).val k) 2048

end Reference

/-! ## The claims -/

theorem frame_reference : Cert.quiescent_Reference16Ideal (hReference16Ideal := Cert.Reference16Ideal.Gen.facts) := fun m g _ =>
  run_frame (P := fun r c => _ ∧ _ ∧ _) ((θ_run _ _ _).mono (fun r h c => ⟨⟨(h c).1, (h c).2.1, (h c).2.2.1⟩, (h c).2.2.2⟩)
    (Cert.Reference16Ideal.Value.run (F := Ideal) m g)) (by decide)

theorem algebraic : Cert.algebraic_Kernel16Ideal_Reference16Ideal (hKernel16Ideal := facts)
    (hReference16Ideal := Cert.Reference16Ideal.Gen.facts) := fun m g m' g' _ hag =>
  ⟨fun c => _, fun c => _, fun c => _,
    (θ_run _ _ _).mono (fun r h c => ⟨(h c).1.1, (h c).1.2.1, (h c).1.2.2, (h c).2⟩)
      (run_results (P := fun r c => _ ∧ _ ∧ _) (run_main m g) (unchanged m g) fun r h c =>
        ⟨((h c).2 main_v4 (Pipeline.mem_restRefs_of main_v4 rfl (by decide))).trans (loss_eq m c), ((h c).1 3).trans (arr3 m c),
          ((h c).1 4).trans (arr4 m c)⟩),
    (θ_run _ _ _).mono (fun r h c => ⟨(h c).1.trans (by
        beta_reduce
        rw [(hag c).1, (hag c).2.1, (hag c).2.2, moment_reference, error_reference, mulf_e2, loss_reference]
        unfold squares rows gain target gainOf
        rw [V_main_arg0, V_main_arg2, V_main_v0]
        rfl), (h c).2.1.trans (by
        unfold Cert.Reference16Ideal.Value.res_main_v50
        beta_reduce
        rw [(hag c).1, (hag c).2.1, (hag c).2.2, moment_reference, error_reference, pressed_reference, reach_reference, pull_reference, chain_reference]
        unfold force rows gain target gainOf
        rw [V_main_arg0, V_main_arg2, V_main_v0]), (h c).2.2.1.trans (by
        beta_reduce
        rw [(hag c).1, (hag c).2.1, (hag c).2.2, moment_reference, error_reference, pressed_reference, gain_reference]
        unfold force rows gain target gainOf
        rw [V_main_arg0, V_main_arg2, V_main_v0]
        rfl), (h c).2.2.2⟩)
      (Cert.Reference16Ideal.Value.run (F := Ideal) m' g')⟩

end Cert.Proof.Product.LossHead

end
-- ==== Proof.Optimiser.lean ====
/-
  The optimiser's step of one weight: each grid point sums the devices' shares of 128 rows and moves the moments and the update
  there.  The rates stay the constants both programs write.
-/
module

public import proofs.«01_k».proof.Defs
public import proofs.«01_k».proof.Proof.RowNorm
public import proofs.«01_k».proof.Proof.Tiles
public import proofs.«01_k».proof.Proof.Gen.Kernel17Ideal.Frame
public import proofs.«01_k».proof.Proof.Gen.Reference17Ideal.Run
public import Idealize.ShloMosaic.Lib.Pipeline.Covers

@[expose] public section

set_option backward.isDefEq.respectTransparency false

noncomputable section

namespace Cert.Proof.Product.Optimiser

open Cert.Kernel17Ideal Cert.Kernel17Ideal.Gen
open Idealize.ShloMosaic Idealize.ShloMosaic.TcCoe
open Finset (range)

/-! ## The step at one coordinate -/

/-- The gradient that the devices' shares sum to. -/
def total (p : ℕ → ℕ → ℕ → EReal) (r k : ℕ) : EReal := ∑ s ∈ range 8, p s r k
/-- The first moment after gradient `g`. -/
def first (x g : EReal) : EReal :=
  Scalar.ofBits (F := Ideal) .f32 0x3F666666#32 * x + Scalar.ofBits (F := Ideal) .f32 0x3DCCCCCD#32 * g
/-- The second. -/
def second (x g : EReal) : EReal :=
  Scalar.ofBits (F := Ideal) .f32 0x3F7FBE77#32 * x + Scalar.ofBits (F := Ideal) .f32 0x3A83126F#32 * (g * g)
/-- The update of weight `w`. -/
def update (w x y g : EReal) : EReal :=
  Scalar.ofBits (F := Ideal) .f32 0xBA83126F#32 * (Ideal.div (Ideal.div (first x g) (Scalar.ofBits (F := Ideal) .f32 0x3F26BD02#32))
    (Ideal.sqrt (Ideal.div (second y g) (Scalar.ofBits (F := Ideal) .f32 0x3C231ACC#32)) + Scalar.ofBits (F := Ideal) .f32 0x322BCC77#32) +
    Scalar.ofBits (F := Ideal) .f32 0x3C23D70A#32 * w)

/-! ## One grid point -/

section Point
variable (p : ℕ → ℕ → ℕ → EReal) (w x y : ℕ → ℕ → EReal) (W X Y : FVec Ideal S128x384 .f32)

/-- The shares added one after the other. -/
theorem pay5_e2 : k0_pay5 (F := Ideal) (e3 p : FVec Ideal S8x128x384 .bf16) W X Y = (e2 (total p) : FVec Ideal S128x384 .f32) := by
  unfold k0_pay5 k0_pay4 r0_0 r0_1 r0_2 r0_3 r0_4 r0_5 r0_6 r0_7
  simp only [ld_e3, shapeCast_drop_e3, extf_e2, addf_e2, Nat.zero_add, Nat.add_zero]
  refine e2_congr fun r _ k _ => ?_
  unfold total
  simp only [Finset.sum_range_succ, Finset.sum_range_zero, zero_add]

theorem out4_e2 : out0_4 (F := Ideal) (e3 p : FVec Ideal S8x128x384 .bf16) W X Y = (e2 (total p) : FVec Ideal S128x384 .f32) := by
  unfold out0_4
  rw [View.canon_unit_zero hz, pay5_e2]

theorem out5_e2 : out0_5 (F := Ideal) (e3 p : FVec Ideal S8x128x384 .bf16) (e2 w : FVec Ideal S128x384 .f32) (e2 x : FVec Ideal S128x384 .f32)
    (e2 y : FVec Ideal S128x384 .f32) = (e2 (fun r k => update (w r k) (x r k) (y r k) (total p r k)) : FVec Ideal S128x384 .f32) := by
  unfold out0_5
  rw [View.canon_unit_zero hz, pay5_e2]
  unfold r0_8
  simp only [View.ld_unit_zero (S := S128x384) hz]
  rfl

theorem out6_e2 : out0_6 (F := Ideal) (e3 p : FVec Ideal S8x128x384 .bf16) W (e2 x : FVec Ideal S128x384 .f32) Y =
    (e2 (fun r k => first (x r k) (total p r k)) : FVec Ideal S128x384 .f32) := by
  unfold out0_6
  rw [View.canon_unit_zero hz, pay5_e2]
  unfold r0_8
  simp only [View.ld_unit_zero (S := S128x384) hz]
  rfl

theorem out7_e2 : out0_7 (F := Ideal) (e3 p : FVec Ideal S8x128x384 .bf16) W X (e2 y : FVec Ideal S128x384 .f32) =
    (e2 (fun r k => second (y r k) (total p r k)) : FVec Ideal S128x384 .f32) := by
  unfold out0_7
  rw [View.canon_unit_zero hz, pay5_e2]
  unfold r0_8
  simp only [View.ld_unit_zero (S := S128x384) hz]
  rfl

end Point

/-! ## The arrays -/

variable (m : (ℓ : Loc nD τ sig) → Buf (Elt Ideal) ℓ) (c : Dev nD)

/-- The arguments by coordinates. -/
def shares : ℕ → ℕ → ℕ → EReal := at3 (a := 8) (n := 2048) (m := 384) (φ := .bf16) (V m c main_arg0)
def weight : ℕ → ℕ → EReal := at2 (n := 2048) (m := 384) (φ := .f32) (V m c main_arg1)
def moment₁ : ℕ → ℕ → EReal := at2 (n := 2048) (m := 384) (φ := .f32) (V m c main_arg2)
def moment₂ : ℕ → ℕ → EReal := at2 (n := 2048) (m := 384) (φ := .f32) (V m c main_arg3)

theorem idx0 : ∀ t : Fin grid0.N, cc0_transform_0 (grid0.coords t) = ![0, t.val, 0] := by decide +kernel
theorem idx1 : ∀ t : Fin grid0.N, cc0_transform_1 (grid0.coords t) = ![t.val, 0] := by decide +kernel
theorem idx2 : ∀ t : Fin grid0.N, cc0_transform_2 (grid0.coords t) = ![t.val, 0] := by decide +kernel
theorem idx3 : ∀ t : Fin grid0.N, cc0_transform_3 (grid0.coords t) = ![t.val, 0] := by decide +kernel
theorem idx4 : ∀ t : Fin grid0.N, cc0_transform_4 (grid0.coords t) = ![t.val, 0] := by decide +kernel
theorem idx5 : ∀ t : Fin grid0.N, cc0_transform_5 (grid0.coords t) = ![t.val, 0] := by decide +kernel
theorem idx6 : ∀ t : Fin grid0.N, cc0_transform_6 (grid0.coords t) = ![t.val, 0] := by decide +kernel
theorem idx7 : ∀ t : Fin grid0.N, cc0_transform_7 (grid0.coords t) = ![t.val, 0] := by decide +kernel

theorem iblk0_e3 (t : Fin cfg0.N) :
    iblk m c 0 t = (e3 fun s r k => shares m c (8 * 0 + s) (128 * t.val + r) (384 * 0 + k) : FVec Ideal S8x128x384 .bf16) :=
  tile_e3 (V m c main_arg0) (fun y => (cfg0.win 0).blk t |>.view.emb y) (idx0 t) (fun _ => rfl) (fun _ => rfl) (fun _ => rfl)
theorem iblk1_e2 (t : Fin cfg0.N) :
    iblk m c 1 t = (e2 fun r k => weight m c (128 * t.val + r) (384 * 0 + k) : FVec Ideal S128x384 .f32) :=
  tile_e2 (V m c main_arg1) (fun y => (cfg0.win 1).blk t |>.view.emb y) (idx1 t) (fun _ => rfl) (fun _ => rfl)
theorem iblk2_e2 (t : Fin cfg0.N) :
    iblk m c 2 t = (e2 fun r k => moment₁ m c (128 * t.val + r) (384 * 0 + k) : FVec Ideal S128x384 .f32) :=
  tile_e2 (V m c main_arg2) (fun y => (cfg0.win 2).blk t |>.view.emb y) (idx2 t) (fun _ => rfl) (fun _ => rfl)
theorem iblk3_e2 (t : Fin cfg0.N) :
    iblk m c 3 t = (e2 fun r k => moment₂ m c (128 * t.val + r) (384 * 0 + k) : FVec Ideal S128x384 .f32) :=
  tile_e2 (V m c main_arg3) (fun y => (cfg0.win 3).blk t |>.view.emb y) (idx3 t) (fun _ => rfl) (fun _ => rfl)

theorem total_tile (p : ℕ → ℕ → ℕ → EReal) (t r k : ℕ) :
    total (fun s r k => p (8 * 0 + s) (128 * t + r) (384 * 0 + k)) r k = total p (128 * t + r) (384 * 0 + k) := by
  unfold total
  simp only [Nat.mul_zero, Nat.zero_add]

/-- The results by coordinates. -/
def sum : ℕ → ℕ → EReal := total (shares m c)
def delta (r k : ℕ) : EReal := update (weight m c r k) (moment₁ m c r k) (moment₂ m c r k) (sum m c r k)
def next₁ (r k : ℕ) : EReal := first (moment₁ m c r k) (sum m c r k)
def next₂ (r k : ℕ) : EReal := second (moment₂ m c r k) (sum m c r k)

theorem covers4 : (cfg0.win 4).Covers := by decide +kernel
theorem covers5 : (cfg0.win 5).Covers := by decide +kernel
theorem covers6 : (cfg0.win 6).Covers := by decide +kernel
theorem covers7 : (cfg0.win 7).Covers := by decide +kernel

theorem arr4 : (dats m 0 c).arrAt 4 cfg0.N = (e2 (sum m c) : FVec Ideal S2048x384 .f32) := by
  refine (dats m 0 c).arrAt_eq_of_covers 4 _ covers4 fun t _ y => ?_
  rw [after0_4, iblk0_e3, out4_e2]
  exact e2_tile (fun y => (cfg0.win 4).blk t |>.view.emb y) (idx4 t) (fun _ => rfl) (fun _ => rfl) (fun r _ k _ => total_tile _ _ r k) y

theorem arr5 : (dats m 0 c).arrAt 5 cfg0.N = (e2 (delta m c) : FVec Ideal S2048x384 .f32) := by
  refine (dats m 0 c).arrAt_eq_of_covers 5 _ covers5 fun t _ y => ?_
  rw [after0_5, iblk0_e3, iblk1_e2, iblk2_e2, iblk3_e2, out5_e2]
  exact e2_tile (f := delta m c) (fun y => (cfg0.win 5).blk t |>.view.emb y) (idx5 t) (fun _ => rfl) (fun _ => rfl)
    (fun r _ k _ => congrArg (update _ _ _) (total_tile _ _ r k)) y

theorem arr6 : (dats m 0 c).arrAt 6 cfg0.N = (e2 (next₁ m c) : FVec Ideal S2048x384 .f32) := by
  refine (dats m 0 c).arrAt_eq_of_covers 6 _ covers6 fun t _ y => ?_
  rw [after0_6, iblk0_e3, iblk2_e2, out6_e2]
  exact e2_tile (f := next₁ m c) (fun y => (cfg0.win 6).blk t |>.view.emb y) (idx6 t) (fun _ => rfl) (fun _ => rfl)
    (fun r _ k _ => congrArg (first _) (total_tile _ _ r k)) y

theorem arr7 : (dats m 0 c).arrAt 7 cfg0.N = (e2 (next₂ m c) : FVec Ideal S2048x384 .f32) := by
  refine (dats m 0 c).arrAt_eq_of_covers 7 _ covers7 fun t _ y => ?_
  rw [after0_7, iblk0_e3, iblk3_e2, out7_e2]
  exact e2_tile (f := next₂ m c) (fun y => (cfg0.win 7).blk t |>.view.emb y) (idx7 t) (fun _ => rfl) (fun _ => rfl)
    (fun r _ k _ => congrArg (second _) (total_tile _ _ r k)) y

/-! ## The reference -/

/-- The host's sum over the leading axis. -/
theorem hostTotal_e3 (p : FVec Ideal Cert.Reference17Ideal.S8x2048x384 .bf16) (hb) (h : Cert.Reference17Ideal.S8x2048x384.ReducesTo [0] Cert.Reference17Ideal.S2048x384)
    (hk : Cert.Reference17Ideal.S8x2048x384.Reduces [0] Cert.Reference17Ideal.S2048x384) (hu) :
    Host.reduceAdd (extf .f32 p hb) (constant Cert.Reference17Ideal.S_ .f32 0x00000000#32) h hu =
      (e2 (total (at3 p)) : FVec Ideal Cert.Reference17Ideal.S2048x384 .f32) := by
  conv_lhs => rw [← e3_at3 p, extf_e3]
  rw [← multiReduction_add_eq_hostReduceAdd _ 0x00000000#32 hk (.inl rfl) rfl _ h hu Ideal.ofBits_zero_f32]
  funext j
  rw [Ideal.multiReduction_add_single]
  exact Fin.sum_univ_eq_sum_range (fun s => at3 p s (j 0).val (j 1).val) 8

/-! ## The claims -/

theorem frame_reference : Cert.quiescent_Reference17Ideal (hReference17Ideal := Cert.Reference17Ideal.Gen.facts) := fun m g _ =>
  run_frame (P := fun r c => _ ∧ _ ∧ _ ∧ _) ((θ_run _ _ _).mono (fun r h c => ⟨⟨(h c).1, (h c).2.1, (h c).2.2.1, (h c).2.2.2.1⟩, (h c).2.2.2.2⟩)
    (Cert.Reference17Ideal.Value.run (F := Ideal) m g)) (by decide)

theorem algebraic : Cert.algebraic_Kernel17Ideal_Reference17Ideal (hKernel17Ideal := facts)
    (hReference17Ideal := Cert.Reference17Ideal.Gen.facts) := fun m g m' g' _ hag =>
  ⟨fun c => _, fun c => _, fun c => _, fun c => _,
    (θ_run _ _ _).mono (fun r h c => ⟨(h c).1.1, (h c).1.2.1, (h c).1.2.2.1, (h c).1.2.2.2, (h c).2⟩)
      (run_results (P := fun r c => _ ∧ _ ∧ _ ∧ _) (run_main m g) (unchanged m g) fun r h c =>
        ⟨((h c).1 4).trans (arr4 m c), ((h c).1 5).trans (arr5 m c), ((h c).1 6).trans (arr6 m c), ((h c).1 7).trans (arr7 m c)⟩),
    (θ_run _ _ _).mono (fun r h c => ⟨(h c).1.trans (by
        beta_reduce
        rw [(hag c).1, hostTotal_e3 _ _ _ (by decide)]
        rfl), (h c).2.1.trans (by
        beta_reduce
        rw [(hag c).1, (hag c).2.1, (hag c).2.2.1, (hag c).2.2.2, hostTotal_e3 _ _ _ (by decide)]
        rw [← e2_at2 (n := 2048) (m := 384) (φ := .f32) (m ((c : Thread nD τ).loc main_arg1)),
          ← e2_at2 (n := 2048) (m := 384) (φ := .f32) (m ((c : Thread nD τ).loc main_arg2)),
          ← e2_at2 (n := 2048) (m := 384) (φ := .f32) (m ((c : Thread nD τ).loc main_arg3))]
        rfl), (h c).2.2.1.trans (by
        beta_reduce
        rw [(hag c).1, (hag c).2.2.1, hostTotal_e3 _ _ _ (by decide),
          ← e2_at2 (n := 2048) (m := 384) (φ := .f32) (m ((c : Thread nD τ).loc main_arg2))]
        rfl), (h c).2.2.2.1.trans (by
        beta_reduce
        rw [(hag c).1, (hag c).2.2.2, hostTotal_e3 _ _ _ (by decide),
          ← e2_at2 (n := 2048) (m := 384) (φ := .f32) (m ((c : Thread nD τ).loc main_arg3))]
        rfl), (h c).2.2.2.2⟩)
      (Cert.Reference17Ideal.Value.run (F := Ideal) m' g')⟩

end Cert.Proof.Product.Optimiser

end
-- ==== Proof.lean ====
/-
  The claims put together.  Of the stick-breaking attention's backward pass: the runs (Proof/PrintedRun.lean, Proof/Run.lean) give
  both frames of the kernel, the reference's run (host operations only) gives its frame, and the two programs' results are the same
  real arrays (Proof/Arrays.lean, Proof/Reference.lean).  Of its forward pass the same, with the modules whose names begin with Fwd
  and Proof/PrintedFwd.lean.  Of the products, the norms, the loss head and the optimiser: each has its module, over Proof/Sums.lean,
  Proof/RowNorm.lean, Proof/RowSlope.lean and Proof/Tiles.lean.
-/
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.Gen.Kernel8.Frame
public import proofs.«01_k».proof.Proof.Gen.Kernel9.Frame
public import proofs.«01_k».proof.Proof.Gen.Kernel10.Frame
public import proofs.«01_k».proof.Proof.Gen.Kernel11.Frame
public import proofs.«01_k».proof.Proof.Gen.Kernel12.Frame
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Reference13Ideal
public import proofs.«01_k».proof.Proof.Gen.Reference13Ideal.Run
public import proofs.«01_k».proof.Proof.Gen.Kernel14.Frame
public import proofs.«01_k».proof.Proof.Gen.Kernel15.Frame
public import proofs.«01_k».proof.Proof.Gen.Kernel14Ideal.Frame
public import proofs.«01_k».proof.Proof.Gen.Kernel15Ideal.Frame
public import proofs.«01_k».proof.Proof.Gen.Reference14Ideal.Run
public import proofs.«01_k».proof.Proof.Gen.Reference15Ideal.Run
public import proofs.«01_k».proof.Proof.Gen.Kernel16.Frame
public import proofs.«01_k».proof.Proof.Gen.Kernel17.Frame
public import proofs.«01_k».proof.Proof.Gen.Kernel16Ideal.Frame
public import proofs.«01_k».proof.Proof.Gen.Kernel17Ideal.Frame
public import proofs.«01_k».proof.Proof.Gen.Reference16Ideal.Run
public import proofs.«01_k».proof.Proof.Gen.Reference17Ideal.Run
public import proofs.«01_k».proof.Proof.InGradient
public import proofs.«01_k».proof.Proof.InWeight
public import proofs.«01_k».proof.Proof.InProjection
public import proofs.«01_k».proof.Proof.OutGradient
public import proofs.«01_k».proof.Proof.OutWeight
public import proofs.«01_k».proof.Proof.KvGradient
public import proofs.«01_k».proof.Proof.KvWeight
public import proofs.«01_k».proof.Proof.KvProjection
public import proofs.«01_k».proof.Proof.OutNorm
public import proofs.«01_k».proof.Proof.OutNorms
public import proofs.«01_k».proof.Proof.OutLast
public import proofs.«01_k».proof.Proof.PrintedRun
public import proofs.«01_k».proof.Proof.Run
public import proofs.«01_k».proof.Proof.Value
public import proofs.«01_k».proof.Proof.PrintedFwd
public import proofs.«01_k».proof.Proof.FwdReference
public import proofs.«01_k».proof.Proof.FwdFinite
public import proofs.«01_k».proof.Proof.NormGradient
public import proofs.«01_k».proof.Proof.Norm
public import proofs.«01_k».proof.Proof.LossHead
public import proofs.«01_k».proof.Proof.Optimiser

@[expose] public section

noncomputable section

namespace Cert.Proof

open Idealize.ShloMosaic Idealize.SL.Sem

theorem frame_kernel : Cert.quiescent_Kernel (hKernel := Cert.Kernel.Gen.facts) := fun m g _ =>
  SbBwdBits.frame_run (F := Bits) m g

theorem frame_kernelIdeal : Cert.quiescent_KernelIdeal (hKernelIdeal := Cert.KernelIdeal.Gen.facts) := fun m g _ =>
  SbBwd.frame_run (F := Ideal) m g

theorem frame_kernelIdeal_finite : Cert.quiescent_KernelIdeal_pre_finite (hKernelIdeal := Cert.KernelIdeal.Gen.facts)
    (hPre_finite := SbBwd.facts_finite) := fun m g _ =>
  SbBwd.frame_run (F := Ideal) m g

theorem frame_referenceIdeal : Cert.quiescent_ReferenceIdeal (hReferenceIdeal := Cert.ReferenceIdeal.Gen.facts) := fun m g _ =>
  (θ_run Cert.ReferenceIdeal.defs _ _).mono (fun r h => ⟨fun c => (h c).2.2.2.2, sem_eq_zero_of_no_sems (by decide) r.2⟩)
    (Cert.ReferenceIdeal.Value.run (F := Ideal) m g)

theorem frame_referenceIdeal_finite : Cert.quiescent_ReferenceIdeal_pre_finite (hReferenceIdeal := Cert.ReferenceIdeal.Gen.facts)
    (hPre_finite := SbBwd.facts_finite) := fun m g _ =>
  frame_referenceIdeal m g trivial

theorem preserves : Cert.preserves_Kernel_KernelIdeal :=
  ⟨IdealRules.named_const.statement _ _ _ _ _ rfl, IdealRules.named_const.statement _ _ _ _ _ rfl⟩

theorem algebraic : Cert.algebraic_KernelIdeal_ReferenceIdeal_pre_finite (hKernelIdeal := Cert.KernelIdeal.Gen.facts)
    (hReferenceIdeal := Cert.ReferenceIdeal.Gen.facts) (hPre_finite := SbBwd.facts_finite) := by
  intro m g m' g' hpre hag
  have hin := fun c => SbBwd.inputs_of_finite _ _ _ (hpre c)
  have hI := fun c => SbBwd.inputs_of_args m c (hin c).1 (hin c).2.1 (hin c).2.2
  have hA : ∀ c : Dev Cert.ReferenceIdeal.nD, SbBwd.RealArgs (StableHlo.launchContents m' c) _ _ _ := fun c =>
    ⟨fun i hi => (congrFun (hag c).1 i).trans ((hin c).1 i hi), fun i hi => (congrFun (hag c).2.1 i).trans ((hin c).2.1 i hi),
      fun i hi => (congrFun (hag c).2.2 i).trans ((hin c).2.2 i hi)⟩
  refine ⟨fun c => _, fun c => _, fun c => _, fun c => _,
    (θ_run _ _ _).mono (fun r h c => ⟨((h.1 c).1 6).trans (SbBwd.arr6 (hI c)), ((h.1 c).1 7).trans (SbBwd.arr7 (hI c)),
      ((h.1 c).1 8).trans (SbBwd.arr8 (hI c)), ((h.1 c).1 9).trans (SbBwd.arr9 (hI c)), SbBwd.args_kept m h.1 c⟩)
      (SbBwd.run_quiescent (F := Ideal) m g),
    (θ_run _ _ _).mono (fun r h c => ⟨(h c).1.trans (SbBwd.dq_up (hA c)), (h c).2.1.trans (SbBwd.gate_up (hA c)),
      (h c).2.2.1.trans (SbBwd.dk_up (hA c)), (h c).2.2.2.1.trans (SbBwd.dv_up (hA c)), (h c).2.2.2.2⟩)
      (Cert.ReferenceIdeal.Value.run (F := Ideal) m' g')⟩

theorem frame_kernel13 : Cert.quiescent_Kernel13 (hKernel13 := Cert.Kernel13.Gen.facts) := fun m g _ =>
  SbFwdBits.frame_run (F := Bits) m g

theorem frame_kernel13Ideal : Cert.quiescent_Kernel13Ideal (hKernel13Ideal := Cert.Kernel13Ideal.Gen.facts) := fun m g _ =>
  SbFwd.frame_run (F := Ideal) m g

theorem frame_kernel13Ideal_finite13 : Cert.quiescent_Kernel13Ideal_pre_finite13 (hKernel13Ideal := Cert.Kernel13Ideal.Gen.facts)
    (hPre_finite13 := SbFwd.facts_finite13) := fun m g _ =>
  SbFwd.frame_run (F := Ideal) m g

theorem frame_reference13Ideal : Cert.quiescent_Reference13Ideal (hReference13Ideal := Cert.Reference13Ideal.Gen.facts) := fun m g _ =>
  (θ_run Cert.Reference13Ideal.defs _ _).mono (fun r h => ⟨fun c => (h c).2.2, sem_eq_zero_of_no_sems (by decide) r.2⟩)
    (Cert.Reference13Ideal.Value.run (F := Ideal) m g)

theorem frame_reference13Ideal_finite13 : Cert.quiescent_Reference13Ideal_pre_finite13
    (hReference13Ideal := Cert.Reference13Ideal.Gen.facts) (hPre_finite13 := SbFwd.facts_finite13) := fun m g _ =>
  frame_reference13Ideal m g trivial

theorem preserves13 : Cert.preserves_Kernel13_Kernel13Ideal :=
  ⟨IdealRules.named_const.statement _ _ _ _ _ rfl, IdealRules.named_const.statement _ _ _ _ _ rfl⟩

/-- The forward pass's claim: the gated result on the columns that are written, the attention's output everywhere. -/
theorem algebraic13 : Cert.algebraic_Kernel13Ideal_Reference13Ideal_on_written_pre_finite13
    (hKernel13Ideal := Cert.Kernel13Ideal.Gen.facts) (hReference13Ideal := Cert.Reference13Ideal.Gen.facts)
    (hPre_finite13 := SbFwd.facts_finite13) (hOn_written := SbFwd.facts_written) := by
  intro m g m' g' hpre hag
  have hin := fun c => SbFwd.inputs_of_finite13 _ _ (hpre c)
  have hI : ∀ c : Dev Cert.Kernel13Ideal.nD, SbFwd.Inputs m c _ _ := fun c => ⟨(hin c).1, (hin c).2⟩
  have hA : ∀ c : Dev Cert.Reference13Ideal.nD, SbFwd.RealArgs m' c _ _ := fun c =>
    ⟨fun i hi => (congrFun (hag c).1 i).trans ((hin c).1 i hi), fun i hi => (congrFun (hag c).2 i).trans ((hin c).2 i hi)⟩
  refine ⟨fun c => _, fun c => _,
    (θ_run _ _ _).mono (fun r h c => ⟨fun i hi => (congrFun ((h.1 c).1 4) i).trans (SbFwd.arr4 (hI c) i (SbFwd.written_lt _ _ i hi)),
      fun i _ => congrFun (((h.1 c).1 5).trans (SbFwd.arr5 (hI c))) i, SbFwd.args_kept m h.1 c⟩)
      (SbFwd.run_quiescent (F := Ideal) m g),
    (θ_run _ _ _).mono (fun r h c => ⟨fun i hi => (congrFun (h c).1 i).trans (SbFwd.v36_up (hA c) i (SbFwd.written_lt _ _ i hi)),
      fun i _ => congrFun ((h c).2.1.trans (SbFwd.v66_up (hA c))) i, (h c).2.2⟩)
      (Cert.Reference13Ideal.Value.run (F := Ideal) m' g')⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  SbBwd.facts_finite, SbFwd.facts_finite13, SbFwd.facts_written,
  frame_kernel, frame_kernelIdeal, frame_kernelIdeal_finite, frame_referenceIdeal, frame_referenceIdeal_finite,
  fun m g _ => Cert.Kernel2.Gen.frame (F := Bits) m g, fun m g _ => Cert.Kernel2Ideal.Gen.frame (F := Ideal) m g, Product.InGradient.frame_reference,
  fun m g _ => Cert.Kernel3.Gen.frame (F := Bits) m g, fun m g _ => Cert.Kernel3Ideal.Gen.frame (F := Ideal) m g, Product.InWeight.frame_reference,
  fun m g _ => Cert.Kernel4.Gen.frame (F := Bits) m g, fun m g _ => Cert.Kernel4Ideal.Gen.frame (F := Ideal) m g, Product.InProjection.frame_reference,
  fun m g _ => Cert.Kernel5.Gen.frame (F := Bits) m g, fun m g _ => Cert.Kernel5Ideal.Gen.frame (F := Ideal) m g, Product.OutGradient.frame_reference,
  fun m g _ => Cert.Kernel6.Gen.frame (F := Bits) m g, fun m g _ => Cert.Kernel6Ideal.Gen.frame (F := Ideal) m g, Product.OutWeight.frame_reference,
  fun m g _ => Cert.Kernel7.Gen.frame (F := Bits) m g, fun m g _ => Cert.Kernel7Ideal.Gen.frame (F := Ideal) m g, Product.KvGradient.frame_reference,
  fun m g _ => Cert.Kernel8.Gen.frame (F := Bits) m g, fun m g _ => Cert.Kernel8Ideal.Gen.frame (F := Ideal) m g, Product.KvWeight.frame_reference,
  fun m g _ => Cert.Kernel9.Gen.frame (F := Bits) m g, fun m g _ => Cert.Kernel9Ideal.Gen.frame (F := Ideal) m g, Product.KvProjection.frame_reference,
  fun m g _ => Cert.Kernel10.Gen.frame (F := Bits) m g, fun m g _ => Cert.Kernel10Ideal.Gen.frame (F := Ideal) m g, Product.OutNorm.frame_reference,
  fun m g _ => Cert.Kernel11.Gen.frame (F := Bits) m g, fun m g _ => Cert.Kernel11Ideal.Gen.frame (F := Ideal) m g, Product.OutNorms.frame_reference,
  fun m g _ => Cert.Kernel12.Gen.frame (F := Bits) m g, fun m g _ => Cert.Kernel12Ideal.Gen.frame (F := Ideal) m g, Product.OutLast.frame_reference,
  frame_kernel13, frame_kernel13Ideal, frame_kernel13Ideal_finite13, frame_reference13Ideal, frame_reference13Ideal_finite13,
  fun m g _ => Cert.Kernel14.Gen.frame (F := Bits) m g, fun m g _ => Cert.Kernel14Ideal.Gen.frame (F := Ideal) m g, Product.NormGradient.frame_reference,
  fun m g _ => Cert.Kernel15.Gen.frame (F := Bits) m g, fun m g _ => Cert.Kernel15Ideal.Gen.frame (F := Ideal) m g, Product.Norm.frame_reference,
  fun m g _ => Cert.Kernel16.Gen.frame (F := Bits) m g, fun m g _ => Cert.Kernel16Ideal.Gen.frame (F := Ideal) m g, Product.LossHead.frame_reference,
  fun m g _ => Cert.Kernel17.Gen.frame (F := Bits) m g, fun m g _ => Cert.Kernel17Ideal.Gen.frame (F := Ideal) m g, Product.Optimiser.frame_reference,
  preserves, algebraic,
  trivial, Product.InGradient.algebraic, trivial, Product.InWeight.algebraic, trivial, Product.InProjection.algebraic,
  trivial, Product.OutGradient.algebraic, trivial, Product.OutWeight.algebraic, trivial, Product.KvGradient.algebraic,
  trivial, Product.KvWeight.algebraic, trivial, Product.KvProjection.algebraic, trivial, Product.OutNorm.algebraic,
  trivial, Product.OutNorms.algebraic, trivial, Product.OutLast.algebraic, preserves13, algebraic13,
  trivial, Product.NormGradient.algebraic, trivial, Product.Norm.algebraic,
  trivial, Product.LossHead.algebraic, trivial, Product.Optimiser.algebraic⟩

end Cert.Proof

end
